-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_WOutGrad (m : (ℓ : Loc Cert.WOutGrad.nD Cert.WOutGrad.τ Cert.WOutGrad.sig) → Buf (Elt Bits) ℓ) : Prop :=
  True

def Pre_WOutGradIdeal (m : (ℓ : Loc Cert.WOutGradIdeal.nD Cert.WOutGradIdeal.τ Cert.WOutGradIdeal.sig) → Buf (Elt Ideal) ℓ) : Prop :=
  True

def Pre_WOutGradReferenceIdeal (m : (ℓ : Loc Cert.WOutGradReferenceIdeal.nD Cert.WOutGradReferenceIdeal.τ Cert.WOutGradReferenceIdeal.sig) → Buf (Elt Ideal) ℓ) : Prop :=
  True

def Pre_OutProjGrad (m : (ℓ : Loc Cert.OutProjGrad.nD Cert.OutProjGrad.τ Cert.OutProjGrad.sig) → Buf (Elt Bits) ℓ) : Prop :=
  True

def Pre_OutProjGradIdeal (m : (ℓ : Loc Cert.OutProjGradIdeal.nD Cert.OutProjGradIdeal.τ Cert.OutProjGradIdeal.sig) → Buf (Elt Ideal) ℓ) : Prop :=
  True

def Pre_OutProjGradReferenceIdeal (m : (ℓ : Loc Cert.OutProjGradReferenceIdeal.nD Cert.OutProjGradReferenceIdeal.τ Cert.OutProjGradReferenceIdeal.sig) → Buf (Elt Ideal) ℓ) : Prop :=
  True

def Pre_InProjOdd (m : (ℓ : Loc Cert.InProjOdd.nD Cert.InProjOdd.τ Cert.InProjOdd.sig) → Buf (Elt Bits) ℓ) : Prop :=
  True

def Pre_InProjOddIdeal (m : (ℓ : Loc Cert.InProjOddIdeal.nD Cert.InProjOddIdeal.τ Cert.InProjOddIdeal.sig) → Buf (Elt Ideal) ℓ) : Prop :=
  True

def Pre_InProjOddReferenceIdeal (m : (ℓ : Loc Cert.InProjOddReferenceIdeal.nD Cert.InProjOddReferenceIdeal.τ Cert.InProjOddReferenceIdeal.sig) → Buf (Elt Ideal) ℓ) : Prop :=
  True

def Pre_InProjGrad (m : (ℓ : Loc Cert.InProjGrad.nD Cert.InProjGrad.τ Cert.InProjGrad.sig) → Buf (Elt Bits) ℓ) : Prop :=
  True

def Pre_InProjGradIdeal (m : (ℓ : Loc Cert.InProjGradIdeal.nD Cert.InProjGradIdeal.τ Cert.InProjGradIdeal.sig) → Buf (Elt Ideal) ℓ) : Prop :=
  True

def Pre_InProjGradReferenceIdeal (m : (ℓ : Loc Cert.InProjGradReferenceIdeal.nD Cert.InProjGradReferenceIdeal.τ Cert.InProjGradReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaReferenceIdeal (m : (ℓ : Loc Cert.AdamAdaReferenceIdeal.nD Cert.AdamAdaReferenceIdeal.τ Cert.AdamAdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_WOutGrad [hWOutGrad : Cert.WOutGrad.Facts] : Prop :=
  ∀ (m : (ℓ : Loc Cert.WOutGrad.nD Cert.WOutGrad.τ Cert.WOutGrad.sig) → Buf (Elt Bits) ℓ) (g : Dev Cert.WOutGrad.nD → PrngReg), Pre_WOutGrad m →
    θ_run (Cert.WOutGrad.defs (F := Bits)) (onTc (τ := Cert.WOutGrad.τ) (Cert.WOutGrad.main (F := Bits))) ⟨m, fun _ => 0, g⟩ (fun r => (∀ c : Dev Cert.WOutGrad.nD,
      r.2.mem ((c.tc : Thread Cert.WOutGrad.nD Cert.WOutGrad.τ).loc Cert.WOutGrad.main_arg0) = m ((c.tc : Thread Cert.WOutGrad.nD Cert.WOutGrad.τ).loc Cert.WOutGrad.main_arg0)
      ∧ r.2.mem ((c.tc : Thread Cert.WOutGrad.nD Cert.WOutGrad.τ).loc Cert.WOutGrad.main_arg1) = m ((c.tc : Thread Cert.WOutGrad.nD Cert.WOutGrad.τ).loc Cert.WOutGrad.main_arg1))
      ∧ r.2.sem = fun _ => 0)

def quiescent_WOutGradIdeal [hWOutGradIdeal : Cert.WOutGradIdeal.Facts] : Prop :=
  ∀ (m : (ℓ : Loc Cert.WOutGradIdeal.nD Cert.WOutGradIdeal.τ Cert.WOutGradIdeal.sig) → Buf (Elt Ideal) ℓ) (g : Dev Cert.WOutGradIdeal.nD → PrngReg), Pre_WOutGradIdeal m →
    θ_run (Cert.WOutGradIdeal.defs (F := Ideal)) (onTc (τ := Cert.WOutGradIdeal.τ) (Cert.WOutGradIdeal.main (F := Ideal))) ⟨m, fun _ => 0, g⟩ (fun r => (∀ c : Dev Cert.WOutGradIdeal.nD,
      r.2.mem ((c.tc : Thread Cert.WOutGradIdeal.nD Cert.WOutGradIdeal.τ).loc Cert.WOutGradIdeal.main_arg0) = m ((c.tc : Thread Cert.WOutGradIdeal.nD Cert.WOutGradIdeal.τ).loc Cert.WOutGradIdeal.main_arg0)
      ∧ r.2.mem ((c.tc : Thread Cert.WOutGradIdeal.nD Cert.WOutGradIdeal.τ).loc Cert.WOutGradIdeal.main_arg1) = m ((c.tc : Thread Cert.WOutGradIdeal.nD Cert.WOutGradIdeal.τ).loc Cert.WOutGradIdeal.main_arg1))
      ∧ r.2.sem = fun _ => 0)

def quiescent_WOutGradReferenceIdeal [hWOutGradReferenceIdeal : Cert.WOutGradReferenceIdeal.Facts] : Prop :=
  ∀ (m : (ℓ : Loc Cert.WOutGradReferenceIdeal.nD Cert.WOutGradReferenceIdeal.τ Cert.WOutGradReferenceIdeal.sig) → Buf (Elt Ideal) ℓ) (g : Dev Cert.WOutGradReferenceIdeal.nD → PrngReg), Pre_WOutGradReferenceIdeal m →
    θ_run (Cert.WOutGradReferenceIdeal.defs (F := Ideal)) (onTc (τ := Cert.WOutGradReferenceIdeal.τ) (Cert.WOutGradReferenceIdeal.main (F := Ideal))) ⟨m, fun _ => 0, g⟩ (fun r => (∀ c : Dev Cert.WOutGradReferenceIdeal.nD,
      r.2.mem ((c.tc : Thread Cert.WOutGradReferenceIdeal.nD Cert.WOutGradReferenceIdeal.τ).loc Cert.WOutGradReferenceIdeal.main_arg0) = m ((c.tc : Thread Cert.WOutGradReferenceIdeal.nD Cert.WOutGradReferenceIdeal.τ).loc Cert.WOutGradReferenceIdeal.main_arg0)
      ∧ r.2.mem ((c.tc : Thread Cert.WOutGradReferenceIdeal.nD Cert.WOutGradReferenceIdeal.τ).loc Cert.WOutGradReferenceIdeal.main_arg1) = m ((c.tc : Thread Cert.WOutGradReferenceIdeal.nD Cert.WOutGradReferenceIdeal.τ).loc Cert.WOutGradReferenceIdeal.main_arg1))
      ∧ r.2.sem = fun _ => 0)

def quiescent_OutProjGrad [hOutProjGrad : Cert.OutProjGrad.Facts] : Prop :=
  ∀ (m : (ℓ : Loc Cert.OutProjGrad.nD Cert.OutProjGrad.τ Cert.OutProjGrad.sig) → Buf (Elt Bits) ℓ) (g : Dev Cert.OutProjGrad.nD → PrngReg), Pre_OutProjGrad m →
    θ_run (Cert.OutProjGrad.defs (F := Bits)) (onTc (τ := Cert.OutProjGrad.τ) (Cert.OutProjGrad.main (F := Bits))) ⟨m, fun _ => 0, g⟩ (fun r => (∀ c : Dev Cert.OutProjGrad.nD,
      r.2.mem ((c.tc : Thread Cert.OutProjGrad.nD Cert.OutProjGrad.τ).loc Cert.OutProjGrad.main_arg0) = m ((c.tc : Thread Cert.OutProjGrad.nD Cert.OutProjGrad.τ).loc Cert.OutProjGrad.main_arg0)
      ∧ r.2.mem ((c.tc : Thread Cert.OutProjGrad.nD Cert.OutProjGrad.τ).loc Cert.OutProjGrad.main_arg1) = m ((c.tc : Thread Cert.OutProjGrad.nD Cert.OutProjGrad.τ).loc Cert.OutProjGrad.main_arg1)
      ∧ r.2.mem ((c.tc : Thread Cert.OutProjGrad.nD Cert.OutProjGrad.τ).loc Cert.OutProjGrad.main_arg2) = m ((c.tc : Thread Cert.OutProjGrad.nD Cert.OutProjGrad.τ).loc Cert.OutProjGrad.main_arg2))
      ∧ r.2.sem = fun _ => 0)

def quiescent_OutProjGradIdeal [hOutProjGradIdeal : Cert.OutProjGradIdeal.Facts] : Prop :=
  ∀ (m : (ℓ : Loc Cert.OutProjGradIdeal.nD Cert.OutProjGradIdeal.τ Cert.OutProjGradIdeal.sig) → Buf (Elt Ideal) ℓ) (g : Dev Cert.OutProjGradIdeal.nD → PrngReg), Pre_OutProjGradIdeal m →
    θ_run (Cert.OutProjGradIdeal.defs (F := Ideal)) (onTc (τ := Cert.OutProjGradIdeal.τ) (Cert.OutProjGradIdeal.main (F := Ideal))) ⟨m, fun _ => 0, g⟩ (fun r => (∀ c : Dev Cert.OutProjGradIdeal.nD,
      r.2.mem ((c.tc : Thread Cert.OutProjGradIdeal.nD Cert.OutProjGradIdeal.τ).loc Cert.OutProjGradIdeal.main_arg0) = m ((c.tc : Thread Cert.OutProjGradIdeal.nD Cert.OutProjGradIdeal.τ).loc Cert.OutProjGradIdeal.main_arg0)
      ∧ r.2.mem ((c.tc : Thread Cert.OutProjGradIdeal.nD Cert.OutProjGradIdeal.τ).loc Cert.OutProjGradIdeal.main_arg1) = m ((c.tc : Thread Cert.OutProjGradIdeal.nD Cert.OutProjGradIdeal.τ).loc Cert.OutProjGradIdeal.main_arg1)
      ∧ r.2.mem ((c.tc : Thread Cert.OutProjGradIdeal.nD Cert.OutProjGradIdeal.τ).loc Cert.OutProjGradIdeal.main_arg2) = m ((c.tc : Thread Cert.OutProjGradIdeal.nD Cert.OutProjGradIdeal.τ).loc Cert.OutProjGradIdeal.main_arg2))
      ∧ r.2.sem = fun _ => 0)

def quiescent_OutProjGradReferenceIdeal [hOutProjGradReferenceIdeal : Cert.OutProjGradReferenceIdeal.Facts] : Prop :=
  ∀ (m : (ℓ : Loc Cert.OutProjGradReferenceIdeal.nD Cert.OutProjGradReferenceIdeal.τ Cert.OutProjGradReferenceIdeal.sig) → Buf (Elt Ideal) ℓ) (g : Dev Cert.OutProjGradReferenceIdeal.nD → PrngReg), Pre_OutProjGradReferenceIdeal m →
    θ_run (Cert.OutProjGradReferenceIdeal.defs (F := Ideal)) (onTc (τ := Cert.OutProjGradReferenceIdeal.τ) (Cert.OutProjGradReferenceIdeal.main (F := Ideal))) ⟨m, fun _ => 0, g⟩ (fun r => (∀ c : Dev Cert.OutProjGradReferenceIdeal.nD,
      r.2.mem ((c.tc : Thread Cert.OutProjGradReferenceIdeal.nD Cert.OutProjGradReferenceIdeal.τ).loc Cert.OutProjGradReferenceIdeal.main_arg0) = m ((c.tc : Thread Cert.OutProjGradReferenceIdeal.nD Cert.OutProjGradReferenceIdeal.τ).loc Cert.OutProjGradReferenceIdeal.main_arg0)
      ∧ r.2.mem ((c.tc : Thread Cert.OutProjGradReferenceIdeal.nD Cert.OutProjGradReferenceIdeal.τ).loc Cert.OutProjGradReferenceIdeal.main_arg1) = m ((c.tc : Thread Cert.OutProjGradReferenceIdeal.nD Cert.OutProjGradReferenceIdeal.τ).loc Cert.OutProjGradReferenceIdeal.main_arg1)
      ∧ r.2.mem ((c.tc : Thread Cert.OutProjGradReferenceIdeal.nD Cert.OutProjGradReferenceIdeal.τ).loc Cert.OutProjGradReferenceIdeal.main_arg2) = m ((c.tc : Thread Cert.OutProjGradReferenceIdeal.nD Cert.OutProjGradReferenceIdeal.τ).loc Cert.OutProjGradReferenceIdeal.main_arg2))
      ∧ r.2.sem = fun _ => 0)

def quiescent_InProjOdd [hInProjOdd : Cert.InProjOdd.Facts] : Prop :=
  ∀ (m : (ℓ : Loc Cert.InProjOdd.nD Cert.InProjOdd.τ Cert.InProjOdd.sig) → Buf (Elt Bits) ℓ) (g : Dev Cert.InProjOdd.nD → PrngReg), Pre_InProjOdd m →
    θ_run (Cert.InProjOdd.defs (F := Bits)) (onTc (τ := Cert.InProjOdd.τ) (Cert.InProjOdd.main (F := Bits))) ⟨m, fun _ => 0, g⟩ (fun r => (∀ c : Dev Cert.InProjOdd.nD,
      r.2.mem ((c.tc : Thread Cert.InProjOdd.nD Cert.InProjOdd.τ).loc Cert.InProjOdd.main_arg0) = m ((c.tc : Thread Cert.InProjOdd.nD Cert.InProjOdd.τ).loc Cert.InProjOdd.main_arg0)
      ∧ r.2.mem ((c.tc : Thread Cert.InProjOdd.nD Cert.InProjOdd.τ).loc Cert.InProjOdd.main_arg1) = m ((c.tc : Thread Cert.InProjOdd.nD Cert.InProjOdd.τ).loc Cert.InProjOdd.main_arg1)
      ∧ r.2.mem ((c.tc : Thread Cert.InProjOdd.nD Cert.InProjOdd.τ).loc Cert.InProjOdd.main_arg2) = m ((c.tc : Thread Cert.InProjOdd.nD Cert.InProjOdd.τ).loc Cert.InProjOdd.main_arg2)
      ∧ r.2.mem ((c.tc : Thread Cert.InProjOdd.nD Cert.InProjOdd.τ).loc Cert.InProjOdd.main_arg3) = m ((c.tc : Thread Cert.InProjOdd.nD Cert.InProjOdd.τ).loc Cert.InProjOdd.main_arg3))
      ∧ r.2.sem = fun _ => 0)

def quiescent_InProjOddIdeal [hInProjOddIdeal : Cert.InProjOddIdeal.Facts] : Prop :=
  ∀ (m : (ℓ : Loc Cert.InProjOddIdeal.nD Cert.InProjOddIdeal.τ Cert.InProjOddIdeal.sig) → Buf (Elt Ideal) ℓ) (g : Dev Cert.InProjOddIdeal.nD → PrngReg), Pre_InProjOddIdeal m →
    θ_run (Cert.InProjOddIdeal.defs (F := Ideal)) (onTc (τ := Cert.InProjOddIdeal.τ) (Cert.InProjOddIdeal.main (F := Ideal))) ⟨m, fun _ => 0, g⟩ (fun r => (∀ c : Dev Cert.InProjOddIdeal.nD,
      r.2.mem ((c.tc : Thread Cert.InProjOddIdeal.nD Cert.InProjOddIdeal.τ).loc Cert.InProjOddIdeal.main_arg0) = m ((c.tc : Thread Cert.InProjOddIdeal.nD Cert.InProjOddIdeal.τ).loc Cert.InProjOddIdeal.main_arg0)
      ∧ r.2.mem ((c.tc : Thread Cert.InProjOddIdeal.nD Cert.InProjOddIdeal.τ).loc Cert.InProjOddIdeal.main_arg1) = m ((c.tc : Thread Cert.InProjOddIdeal.nD Cert.InProjOddIdeal.τ).loc Cert.InProjOddIdeal.main_arg1)
      ∧ r.2.mem ((c.tc : Thread Cert.InProjOddIdeal.nD Cert.InProjOddIdeal.τ).loc Cert.InProjOddIdeal.main_arg2) = m ((c.tc : Thread Cert.InProjOddIdeal.nD Cert.InProjOddIdeal.τ).loc Cert.InProjOddIdeal.main_arg2)
      ∧ r.2.mem ((c.tc : Thread Cert.InProjOddIdeal.nD Cert.InProjOddIdeal.τ).loc Cert.InProjOddIdeal.main_arg3) = m ((c.tc : Thread Cert.InProjOddIdeal.nD Cert.InProjOddIdeal.τ).loc Cert.InProjOddIdeal.main_arg3))
      ∧ r.2.sem = fun _ => 0)

def quiescent_InProjOddReferenceIdeal [hInProjOddReferenceIdeal : Cert.InProjOddReferenceIdeal.Facts] : Prop :=
  ∀ (m : (ℓ : Loc Cert.InProjOddReferenceIdeal.nD Cert.InProjOddReferenceIdeal.τ Cert.InProjOddReferenceIdeal.sig) → Buf (Elt Ideal) ℓ) (g : Dev Cert.InProjOddReferenceIdeal.nD → PrngReg), Pre_InProjOddReferenceIdeal m →
    θ_run (Cert.InProjOddReferenceIdeal.defs (F := Ideal)) (onTc (τ := Cert.InProjOddReferenceIdeal.τ) (Cert.InProjOddReferenceIdeal.main (F := Ideal))) ⟨m, fun _ => 0, g⟩ (fun r => (∀ c : Dev Cert.InProjOddReferenceIdeal.nD,
      r.2.mem ((c.tc : Thread Cert.InProjOddReferenceIdeal.nD Cert.InProjOddReferenceIdeal.τ).loc Cert.InProjOddReferenceIdeal.main_arg0) = m ((c.tc : Thread Cert.InProjOddReferenceIdeal.nD Cert.InProjOddReferenceIdeal.τ).loc Cert.InProjOddReferenceIdeal.main_arg0)
      ∧ r.2.mem ((c.tc : Thread Cert.InProjOddReferenceIdeal.nD Cert.InProjOddReferenceIdeal.τ).loc Cert.InProjOddReferenceIdeal.main_arg1) = m ((c.tc : Thread Cert.InProjOddReferenceIdeal.nD Cert.InProjOddReferenceIdeal.τ).loc Cert.InProjOddReferenceIdeal.main_arg1)
      ∧ r.2.mem ((c.tc : Thread Cert.InProjOddReferenceIdeal.nD Cert.InProjOddReferenceIdeal.τ).loc Cert.InProjOddReferenceIdeal.main_arg2) = m ((c.tc : Thread Cert.InProjOddReferenceIdeal.nD Cert.InProjOddReferenceIdeal.τ).loc Cert.InProjOddReferenceIdeal.main_arg2)
      ∧ r.2.mem ((c.tc : Thread Cert.InProjOddReferenceIdeal.nD Cert.InProjOddReferenceIdeal.τ).loc Cert.InProjOddReferenceIdeal.main_arg3) = m ((c.tc : Thread Cert.InProjOddReferenceIdeal.nD Cert.InProjOddReferenceIdeal.τ).loc Cert.InProjOddReferenceIdeal.main_arg3))
      ∧ r.2.sem = fun _ => 0)

def quiescent_InProjGrad [hInProjGrad : Cert.InProjGrad.Facts] : Prop :=
  ∀ (m : (ℓ : Loc Cert.InProjGrad.nD Cert.InProjGrad.τ Cert.InProjGrad.sig) → Buf (Elt Bits) ℓ) (g : Dev Cert.InProjGrad.nD → PrngReg), Pre_InProjGrad m →
    θ_run (Cert.InProjGrad.defs (F := Bits)) (onTc (τ := Cert.InProjGrad.τ) (Cert.InProjGrad.main (F := Bits))) ⟨m, fun _ => 0, g⟩ (fun r => (∀ c : Dev Cert.InProjGrad.nD,
      r.2.mem ((c.tc : Thread Cert.InProjGrad.nD Cert.InProjGrad.τ).loc Cert.InProjGrad.main_arg0) = m ((c.tc : Thread Cert.InProjGrad.nD Cert.InProjGrad.τ).loc Cert.InProjGrad.main_arg0)
      ∧ r.2.mem ((c.tc : Thread Cert.InProjGrad.nD Cert.InProjGrad.τ).loc Cert.InProjGrad.main_arg1) = m ((c.tc : Thread Cert.InProjGrad.nD Cert.InProjGrad.τ).loc Cert.InProjGrad.main_arg1)
      ∧ r.2.mem ((c.tc : Thread Cert.InProjGrad.nD Cert.InProjGrad.τ).loc Cert.InProjGrad.main_arg2) = m ((c.tc : Thread Cert.InProjGrad.nD Cert.InProjGrad.τ).loc Cert.InProjGrad.main_arg2)
      ∧ r.2.mem ((c.tc : Thread Cert.InProjGrad.nD Cert.InProjGrad.τ).loc Cert.InProjGrad.main_arg3) = m ((c.tc : Thread Cert.InProjGrad.nD Cert.InProjGrad.τ).loc Cert.InProjGrad.main_arg3)
      ∧ r.2.mem ((c.tc : Thread Cert.InProjGrad.nD Cert.InProjGrad.τ).loc Cert.InProjGrad.main_arg4) = m ((c.tc : Thread Cert.InProjGrad.nD Cert.InProjGrad.τ).loc Cert.InProjGrad.main_arg4)
      ∧ r.2.mem ((c.tc : Thread Cert.InProjGrad.nD Cert.InProjGrad.τ).loc Cert.InProjGrad.main_arg5) = m ((c.tc : Thread Cert.InProjGrad.nD Cert.InProjGrad.τ).loc Cert.InProjGrad.main_arg5))
      ∧ r.2.sem = fun _ => 0)

def quiescent_InProjGradIdeal [hInProjGradIdeal : Cert.InProjGradIdeal.Facts] : Prop :=
  ∀ (m : (ℓ : Loc Cert.InProjGradIdeal.nD Cert.InProjGradIdeal.τ Cert.InProjGradIdeal.sig) → Buf (Elt Ideal) ℓ) (g : Dev Cert.InProjGradIdeal.nD → PrngReg), Pre_InProjGradIdeal m →
    θ_run (Cert.InProjGradIdeal.defs (F := Ideal)) (onTc (τ := Cert.InProjGradIdeal.τ) (Cert.InProjGradIdeal.main (F := Ideal))) ⟨m, fun _ => 0, g⟩ (fun r => (∀ c : Dev Cert.InProjGradIdeal.nD,
      r.2.mem ((c.tc : Thread Cert.InProjGradIdeal.nD Cert.InProjGradIdeal.τ).loc Cert.InProjGradIdeal.main_arg0) = m ((c.tc : Thread Cert.InProjGradIdeal.nD Cert.InProjGradIdeal.τ).loc Cert.InProjGradIdeal.main_arg0)
      ∧ r.2.mem ((c.tc : Thread Cert.InProjGradIdeal.nD Cert.InProjGradIdeal.τ).loc Cert.InProjGradIdeal.main_arg1) = m ((c.tc : Thread Cert.InProjGradIdeal.nD Cert.InProjGradIdeal.τ).loc Cert.InProjGradIdeal.main_arg1)
      ∧ r.2.mem ((c.tc : Thread Cert.InProjGradIdeal.nD Cert.InProjGradIdeal.τ).loc Cert.InProjGradIdeal.main_arg2) = m ((c.tc : Thread Cert.InProjGradIdeal.nD Cert.InProjGradIdeal.τ).loc Cert.InProjGradIdeal.main_arg2)
      ∧ r.2.mem ((c.tc : Thread Cert.InProjGradIdeal.nD Cert.InProjGradIdeal.τ).loc Cert.InProjGradIdeal.main_arg3) = m ((c.tc : Thread Cert.InProjGradIdeal.nD Cert.InProjGradIdeal.τ).loc Cert.InProjGradIdeal.main_arg3)
      ∧ r.2.mem ((c.tc : Thread Cert.InProjGradIdeal.nD Cert.InProjGradIdeal.τ).loc Cert.InProjGradIdeal.main_arg4) = m ((c.tc : Thread Cert.InProjGradIdeal.nD Cert.InProjGradIdeal.τ).loc Cert.InProjGradIdeal.main_arg4)
      ∧ r.2.mem ((c.tc : Thread Cert.InProjGradIdeal.nD Cert.InProjGradIdeal.τ).loc Cert.InProjGradIdeal.main_arg5) = m ((c.tc : Thread Cert.InProjGradIdeal.nD Cert.InProjGradIdeal.τ).loc Cert.InProjGradIdeal.main_arg5))
      ∧ r.2.sem = fun _ => 0)

def quiescent_InProjGradReferenceIdeal [hInProjGradReferenceIdeal : Cert.InProjGradReferenceIdeal.Facts] : Prop :=
  ∀ (m : (ℓ : Loc Cert.InProjGradReferenceIdeal.nD Cert.InProjGradReferenceIdeal.τ Cert.InProjGradReferenceIdeal.sig) → Buf (Elt Ideal) ℓ) (g : Dev Cert.InProjGradReferenceIdeal.nD → PrngReg), Pre_InProjGradReferenceIdeal m →
    θ_run (Cert.InProjGradReferenceIdeal.defs (F := Ideal)) (onTc (τ := Cert.InProjGradReferenceIdeal.τ) (Cert.InProjGradReferenceIdeal.main (F := Ideal))) ⟨m, fun _ => 0, g⟩ (fun r => (∀ c : Dev Cert.InProjGradReferenceIdeal.nD,
      r.2.mem ((c.tc : Thread Cert.InProjGradReferenceIdeal.nD Cert.InProjGradReferenceIdeal.τ).loc Cert.InProjGradReferenceIdeal.main_arg0) = m ((c.tc : Thread Cert.InProjGradReferenceIdeal.nD Cert.InProjGradReferenceIdeal.τ).loc Cert.InProjGradReferenceIdeal.main_arg0)
      ∧ r.2.mem ((c.tc : Thread Cert.InProjGradReferenceIdeal.nD Cert.InProjGradReferenceIdeal.τ).loc Cert.InProjGradReferenceIdeal.main_arg1) = m ((c.tc : Thread Cert.InProjGradReferenceIdeal.nD Cert.InProjGradReferenceIdeal.τ).loc Cert.InProjGradReferenceIdeal.main_arg1)
      ∧ r.2.mem ((c.tc : Thread Cert.InProjGradReferenceIdeal.nD Cert.InProjGradReferenceIdeal.τ).loc Cert.InProjGradReferenceIdeal.main_arg2) = m ((c.tc : Thread Cert.InProjGradReferenceIdeal.nD Cert.InProjGradReferenceIdeal.τ).loc Cert.InProjGradReferenceIdeal.main_arg2)
      ∧ r.2.mem ((c.tc : Thread Cert.InProjGradReferenceIdeal.nD Cert.InProjGradReferenceIdeal.τ).loc Cert.InProjGradReferenceIdeal.main_arg3) = m ((c.tc : Thread Cert.InProjGradReferenceIdeal.nD Cert.InProjGradReferenceIdeal.τ).loc Cert.InProjGradReferenceIdeal.main_arg3)
      ∧ r.2.mem ((c.tc : Thread Cert.InProjGradReferenceIdeal.nD Cert.InProjGradReferenceIdeal.τ).loc Cert.InProjGradReferenceIdeal.main_arg4) = m ((c.tc : Thread Cert.InProjGradReferenceIdeal.nD Cert.InProjGradReferenceIdeal.τ).loc Cert.InProjGradReferenceIdeal.main_arg4)
      ∧ r.2.mem ((c.tc : Thread Cert.InProjGradReferenceIdeal.nD Cert.InProjGradReferenceIdeal.τ).loc Cert.InProjGradReferenceIdeal.main_arg5) = m ((c.tc : Thread Cert.InProjGradReferenceIdeal.nD Cert.InProjGradReferenceIdeal.τ).loc Cert.InProjGradReferenceIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4)
      ∧ r.2.mem ((c.tc : Thread Cert.LossHead.nD Cert.LossHead.τ).loc Cert.LossHead.main_arg5) = m ((c.tc : Thread Cert.LossHead.nD Cert.LossHead.τ).loc Cert.LossHead.main_arg5))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
      ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2)
      ∧ r.2.mem ((c.tc : Thread Cert.LossHeadReferenceIdeal.nD Cert.LossHeadReferenceIdeal.τ).loc Cert.LossHeadReferenceIdeal.main_arg3) = m ((c.tc : Thread Cert.LossHeadReferenceIdeal.nD Cert.LossHeadReferenceIdeal.τ).loc Cert.LossHeadReferenceIdeal.main_arg3)
      ∧ r.2.mem ((c.tc : Thread Cert.LossHeadReferenceIdeal.nD Cert.LossHeadReferenceIdeal.τ).loc Cert.LossHeadReferenceIdeal.main_arg4) = m ((c.tc : Thread Cert.LossHeadReferenceIdeal.nD Cert.LossHeadReferenceIdeal.τ).loc Cert.LossHeadReferenceIdeal.main_arg4)
      ∧ r.2.mem ((c.tc : Thread Cert.LossHeadReferenceIdeal.nD Cert.LossHeadReferenceIdeal.τ).loc Cert.LossHeadReferenceIdeal.main_arg5) = m ((c.tc : Thread Cert.LossHeadReferenceIdeal.nD Cert.LossHeadReferenceIdeal.τ).loc Cert.LossHeadReferenceIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_AdamAdaReferenceIdeal [hAdamAdaReferenceIdeal : Cert.AdamAdaReferenceIdeal.Facts] : Prop :=
  ∀ (m : (ℓ : Loc Cert.AdamAdaReferenceIdeal.nD Cert.AdamAdaReferenceIdeal.τ Cert.AdamAdaReferenceIdeal.sig) → Buf (Elt Ideal) ℓ) (g : Dev Cert.AdamAdaReferenceIdeal.nD → PrngReg), Pre_AdamAdaReferenceIdeal m →
    θ_run (Cert.AdamAdaReferenceIdeal.defs (F := Ideal)) (onTc (τ := Cert.AdamAdaReferenceIdeal.τ) (Cert.AdamAdaReferenceIdeal.main (F := Ideal))) ⟨m, fun _ => 0, g⟩ (fun r => (∀ c : Dev Cert.AdamAdaReferenceIdeal.nD,
      r.2.mem ((c.tc : Thread Cert.AdamAdaReferenceIdeal.nD Cert.AdamAdaReferenceIdeal.τ).loc Cert.AdamAdaReferenceIdeal.main_arg0) = m ((c.tc : Thread Cert.AdamAdaReferenceIdeal.nD Cert.AdamAdaReferenceIdeal.τ).loc Cert.AdamAdaReferenceIdeal.main_arg0)
      ∧ r.2.mem ((c.tc : Thread Cert.AdamAdaReferenceIdeal.nD Cert.AdamAdaReferenceIdeal.τ).loc Cert.AdamAdaReferenceIdeal.main_arg1) = m ((c.tc : Thread Cert.AdamAdaReferenceIdeal.nD Cert.AdamAdaReferenceIdeal.τ).loc Cert.AdamAdaReferenceIdeal.main_arg1)
      ∧ r.2.mem ((c.tc : Thread Cert.AdamAdaReferenceIdeal.nD Cert.AdamAdaReferenceIdeal.τ).loc Cert.AdamAdaReferenceIdeal.main_arg2) = m ((c.tc : Thread Cert.AdamAdaReferenceIdeal.nD Cert.AdamAdaReferenceIdeal.τ).loc Cert.AdamAdaReferenceIdeal.main_arg2)
      ∧ r.2.mem ((c.tc : Thread Cert.AdamAdaReferenceIdeal.nD Cert.AdamAdaReferenceIdeal.τ).loc Cert.AdamAdaReferenceIdeal.main_arg3) = m ((c.tc : Thread Cert.AdamAdaReferenceIdeal.nD Cert.AdamAdaReferenceIdeal.τ).loc Cert.AdamAdaReferenceIdeal.main_arg3)
      ∧ r.2.mem ((c.tc : Thread Cert.AdamAdaReferenceIdeal.nD Cert.AdamAdaReferenceIdeal.τ).loc Cert.AdamAdaReferenceIdeal.main_arg4) = m ((c.tc : Thread Cert.AdamAdaReferenceIdeal.nD Cert.AdamAdaReferenceIdeal.τ).loc Cert.AdamAdaReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78_0)) (v1 : (c : Dev Cert.KernelIdeal.nD) → Buf (Elt Ideal) ((c.tc : Thread Cert.KernelIdeal.nD Cert.KernelIdeal.τ).loc Cert.KernelIdeal.main_v78_1)) (v2 : (c : Dev Cert.KernelIdeal.nD) → Buf (Elt Ideal) ((c.tc : Thread Cert.KernelIdeal.nD Cert.KernelIdeal.τ).loc Cert.KernelIdeal.main_v78_2)) (v3 : (c : Dev Cert.KernelIdeal.nD) → Buf (Elt Ideal) ((c.tc : Thread Cert.KernelIdeal.nD Cert.KernelIdeal.τ).loc Cert.KernelIdeal.main_v78_3)) (v4 : (c : Dev Cert.KernelIdeal.nD) → Buf (Elt Ideal) ((c.tc : Thread Cert.KernelIdeal.nD Cert.KernelIdeal.τ).loc Cert.KernelIdeal.main_v78_4)) (v5 : (c : Dev Cert.KernelIdeal.nD) → Buf (Elt Ideal) ((c.tc : Thread Cert.KernelIdeal.nD Cert.KernelIdeal.τ).loc Cert.KernelIdeal.main_v78_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78_0) = v0 c
          ∧ r.2.mem ((c.tc : Thread Cert.KernelIdeal.nD Cert.KernelIdeal.τ).loc Cert.KernelIdeal.main_v78_1) = v1 c
          ∧ r.2.mem ((c.tc : Thread Cert.KernelIdeal.nD Cert.KernelIdeal.τ).loc Cert.KernelIdeal.main_v78_2) = v2 c
          ∧ r.2.mem ((c.tc : Thread Cert.KernelIdeal.nD Cert.KernelIdeal.τ).loc Cert.KernelIdeal.main_v78_3) = v3 c
          ∧ r.2.mem ((c.tc : Thread Cert.KernelIdeal.nD Cert.KernelIdeal.τ).loc Cert.KernelIdeal.main_v78_4) = v4 c
          ∧ r.2.mem ((c.tc : Thread Cert.KernelIdeal.nD Cert.KernelIdeal.τ).loc Cert.KernelIdeal.main_v78_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_v268) = v1 c
          ∧ r.2.mem ((c.tc : Thread Cert.ReferenceIdeal.nD Cert.ReferenceIdeal.τ).loc Cert.ReferenceIdeal.main_v208) = v2 c
          ∧ r.2.mem ((c.tc : Thread Cert.ReferenceIdeal.nD Cert.ReferenceIdeal.τ).loc Cert.ReferenceIdeal.main_v207) = v3 c
          ∧ r.2.mem ((c.tc : Thread Cert.ReferenceIdeal.nD Cert.ReferenceIdeal.τ).loc Cert.ReferenceIdeal.main_v279) = v4 c
          ∧ r.2.mem ((c.tc : Thread Cert.ReferenceIdeal.nD Cert.ReferenceIdeal.τ).loc Cert.ReferenceIdeal.main_v280) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_WOutGrad_WOutGradIdeal : Prop :=
  True

def algebraic_WOutGradIdeal_WOutGradReferenceIdeal [hWOutGradIdeal : Cert.WOutGradIdeal.Facts] [hWOutGradReferenceIdeal : Cert.WOutGradReferenceIdeal.Facts] : Prop :=
  ∀ (m : (ℓ : Loc Cert.WOutGradIdeal.nD Cert.WOutGradIdeal.τ Cert.WOutGradIdeal.sig) → Buf (Elt Ideal) ℓ) (g : Dev Cert.WOutGradIdeal.nD → PrngReg)
    (m' : (ℓ : Loc Cert.WOutGradReferenceIdeal.nD Cert.WOutGradReferenceIdeal.τ Cert.WOutGradReferenceIdeal.sig) → Buf (Elt Ideal) ℓ) (g' : Dev Cert.WOutGradReferenceIdeal.nD → PrngReg), Pre_WOutGradIdeal m →
    (∀ c : Dev Cert.WOutGradIdeal.nD,
      m' ((c.tc : Thread Cert.WOutGradReferenceIdeal.nD Cert.WOutGradReferenceIdeal.τ).loc Cert.WOutGradReferenceIdeal.main_arg0) = m ((c.tc : Thread Cert.WOutGradIdeal.nD Cert.WOutGradIdeal.τ).loc Cert.WOutGradIdeal.main_arg0)
      ∧ m' ((c.tc : Thread Cert.WOutGradReferenceIdeal.nD Cert.WOutGradReferenceIdeal.τ).loc Cert.WOutGradReferenceIdeal.main_arg1) = m ((c.tc : Thread Cert.WOutGradIdeal.nD Cert.WOutGradIdeal.τ).loc Cert.WOutGradIdeal.main_arg1)) →
    ∃ (v0 : (c : Dev Cert.WOutGradIdeal.nD) → Buf (Elt Ideal) ((c.tc : Thread Cert.WOutGradIdeal.nD Cert.WOutGradIdeal.τ).loc Cert.WOutGradIdeal.main_v0)),
      θ_run (Cert.WOutGradIdeal.defs (F := Ideal)) (onTc (τ := Cert.WOutGradIdeal.τ) (Cert.WOutGradIdeal.main (F := Ideal))) ⟨m, fun _ => 0, g⟩ (fun r => ∀ c : Dev Cert.WOutGradIdeal.nD,
          r.2.mem ((c.tc : Thread Cert.WOutGradIdeal.nD Cert.WOutGradIdeal.τ).loc Cert.WOutGradIdeal.main_v0) = v0 c
          ∧ r.2.mem ((c.tc : Thread Cert.WOutGradIdeal.nD Cert.WOutGradIdeal.τ).loc Cert.WOutGradIdeal.main_arg0) = m ((c.tc : Thread Cert.WOutGradIdeal.nD Cert.WOutGradIdeal.τ).loc Cert.WOutGradIdeal.main_arg0)
          ∧ r.2.mem ((c.tc : Thread Cert.WOutGradIdeal.nD Cert.WOutGradIdeal.τ).loc Cert.WOutGradIdeal.main_arg1) = m ((c.tc : Thread Cert.WOutGradIdeal.nD Cert.WOutGradIdeal.τ).loc Cert.WOutGradIdeal.main_arg1))
      ∧ θ_run (Cert.WOutGradReferenceIdeal.defs (F := Ideal)) (onTc (τ := Cert.WOutGradReferenceIdeal.τ) (Cert.WOutGradReferenceIdeal.main (F := Ideal))) ⟨m', fun _ => 0, g'⟩ (fun r => ∀ c : Dev Cert.WOutGradReferenceIdeal.nD,
          r.2.mem ((c.tc : Thread Cert.WOutGradReferenceIdeal.nD Cert.WOutGradReferenceIdeal.τ).loc Cert.WOutGradReferenceIdeal.main_v6) = v0 c
          ∧ r.2.mem ((c.tc : Thread Cert.WOutGradReferenceIdeal.nD Cert.WOutGradReferenceIdeal.τ).loc Cert.WOutGradReferenceIdeal.main_arg0) = m' ((c.tc : Thread Cert.WOutGradReferenceIdeal.nD Cert.WOutGradReferenceIdeal.τ).loc Cert.WOutGradReferenceIdeal.main_arg0)
          ∧ r.2.mem ((c.tc : Thread Cert.WOutGradReferenceIdeal.nD Cert.WOutGradReferenceIdeal.τ).loc Cert.WOutGradReferenceIdeal.main_arg1) = m' ((c.tc : Thread Cert.WOutGradReferenceIdeal.nD Cert.WOutGradReferenceIdeal.τ).loc Cert.WOutGradReferenceIdeal.main_arg1))

def preserves_OutProjGrad_OutProjGradIdeal : Prop :=
  True

def algebraic_OutProjGradIdeal_OutProjGradReferenceIdeal [hOutProjGradIdeal : Cert.OutProjGradIdeal.Facts] [hOutProjGradReferenceIdeal : Cert.OutProjGradReferenceIdeal.Facts] : Prop :=
  ∀ (m : (ℓ : Loc Cert.OutProjGradIdeal.nD Cert.OutProjGradIdeal.τ Cert.OutProjGradIdeal.sig) → Buf (Elt Ideal) ℓ) (g : Dev Cert.OutProjGradIdeal.nD → PrngReg)
    (m' : (ℓ : Loc Cert.OutProjGradReferenceIdeal.nD Cert.OutProjGradReferenceIdeal.τ Cert.OutProjGradReferenceIdeal.sig) → Buf (Elt Ideal) ℓ) (g' : Dev Cert.OutProjGradReferenceIdeal.nD → PrngReg), Pre_OutProjGradIdeal m →
    (∀ c : Dev Cert.OutProjGradIdeal.nD,
      m' ((c.tc : Thread Cert.OutProjGradReferenceIdeal.nD Cert.OutProjGradReferenceIdeal.τ).loc Cert.OutProjGradReferenceIdeal.main_arg0) = m ((c.tc : Thread Cert.OutProjGradIdeal.nD Cert.OutProjGradIdeal.τ).loc Cert.OutProjGradIdeal.main_arg0)
      ∧ m' ((c.tc : Thread Cert.OutProjGradReferenceIdeal.nD Cert.OutProjGradReferenceIdeal.τ).loc Cert.OutProjGradReferenceIdeal.main_arg1) = m ((c.tc : Thread Cert.OutProjGradIdeal.nD Cert.OutProjGradIdeal.τ).loc Cert.OutProjGradIdeal.main_arg1)
      ∧ m' ((c.tc : Thread Cert.OutProjGradReferenceIdeal.nD Cert.OutProjGradReferenceIdeal.τ).loc Cert.OutProjGradReferenceIdeal.main_arg2) = m ((c.tc : Thread Cert.OutProjGradIdeal.nD Cert.OutProjGradIdeal.τ).loc Cert.OutProjGradIdeal.main_arg2)) →
    ∃ (v0 : (c : Dev Cert.OutProjGradIdeal.nD) → Buf (Elt Ideal) ((c.tc : Thread Cert.OutProjGradIdeal.nD Cert.OutProjGradIdeal.τ).loc Cert.OutProjGradIdeal.main_v0)),
      θ_run (Cert.OutProjGradIdeal.defs (F := Ideal)) (onTc (τ := Cert.OutProjGradIdeal.τ) (Cert.OutProjGradIdeal.main (F := Ideal))) ⟨m, fun _ => 0, g⟩ (fun r => ∀ c : Dev Cert.OutProjGradIdeal.nD,
          r.2.mem ((c.tc : Thread Cert.OutProjGradIdeal.nD Cert.OutProjGradIdeal.τ).loc Cert.OutProjGradIdeal.main_v0) = v0 c
          ∧ r.2.mem ((c.tc : Thread Cert.OutProjGradIdeal.nD Cert.OutProjGradIdeal.τ).loc Cert.OutProjGradIdeal.main_arg0) = m ((c.tc : Thread Cert.OutProjGradIdeal.nD Cert.OutProjGradIdeal.τ).loc Cert.OutProjGradIdeal.main_arg0)
          ∧ r.2.mem ((c.tc : Thread Cert.OutProjGradIdeal.nD Cert.OutProjGradIdeal.τ).loc Cert.OutProjGradIdeal.main_arg1) = m ((c.tc : Thread Cert.OutProjGradIdeal.nD Cert.OutProjGradIdeal.τ).loc Cert.OutProjGradIdeal.main_arg1)
          ∧ r.2.mem ((c.tc : Thread Cert.OutProjGradIdeal.nD Cert.OutProjGradIdeal.τ).loc Cert.OutProjGradIdeal.main_arg2) = m ((c.tc : Thread Cert.OutProjGradIdeal.nD Cert.OutProjGradIdeal.τ).loc Cert.OutProjGradIdeal.main_arg2))
      ∧ θ_run (Cert.OutProjGradReferenceIdeal.defs (F := Ideal)) (onTc (τ := Cert.OutProjGradReferenceIdeal.τ) (Cert.OutProjGradReferenceIdeal.main (F := Ideal))) ⟨m', fun _ => 0, g'⟩ (fun r => ∀ c : Dev Cert.OutProjGradReferenceIdeal.nD,
          r.2.mem ((c.tc : Thread Cert.OutProjGradReferenceIdeal.nD Cert.OutProjGradReferenceIdeal.τ).loc Cert.OutProjGradReferenceIdeal.main_v4) = v0 c
          ∧ r.2.mem ((c.tc : Thread Cert.OutProjGradReferenceIdeal.nD Cert.OutProjGradReferenceIdeal.τ).loc Cert.OutProjGradReferenceIdeal.main_arg0) = m' ((c.tc : Thread Cert.OutProjGradReferenceIdeal.nD Cert.OutProjGradReferenceIdeal.τ).loc Cert.OutProjGradReferenceIdeal.main_arg0)
          ∧ r.2.mem ((c.tc : Thread Cert.OutProjGradReferenceIdeal.nD Cert.OutProjGradReferenceIdeal.τ).loc Cert.OutProjGradReferenceIdeal.main_arg1) = m' ((c.tc : Thread Cert.OutProjGradReferenceIdeal.nD Cert.OutProjGradReferenceIdeal.τ).loc Cert.OutProjGradReferenceIdeal.main_arg1)
          ∧ r.2.mem ((c.tc : Thread Cert.OutProjGradReferenceIdeal.nD Cert.OutProjGradReferenceIdeal.τ).loc Cert.OutProjGradReferenceIdeal.main_arg2) = m' ((c.tc : Thread Cert.OutProjGradReferenceIdeal.nD Cert.OutProjGradReferenceIdeal.τ).loc Cert.OutProjGradReferenceIdeal.main_arg2))

def preserves_InProjOdd_InProjOddIdeal : Prop :=
  True

def algebraic_InProjOddIdeal_InProjOddReferenceIdeal [hInProjOddIdeal : Cert.InProjOddIdeal.Facts] [hInProjOddReferenceIdeal : Cert.InProjOddReferenceIdeal.Facts] : Prop :=
  ∀ (m : (ℓ : Loc Cert.InProjOddIdeal.nD Cert.InProjOddIdeal.τ Cert.InProjOddIdeal.sig) → Buf (Elt Ideal) ℓ) (g : Dev Cert.InProjOddIdeal.nD → PrngReg)
    (m' : (ℓ : Loc Cert.InProjOddReferenceIdeal.nD Cert.InProjOddReferenceIdeal.τ Cert.InProjOddReferenceIdeal.sig) → Buf (Elt Ideal) ℓ) (g' : Dev Cert.InProjOddReferenceIdeal.nD → PrngReg), Pre_InProjOddIdeal m →
    (∀ c : Dev Cert.InProjOddIdeal.nD,
      m' ((c.tc : Thread Cert.InProjOddReferenceIdeal.nD Cert.InProjOddReferenceIdeal.τ).loc Cert.InProjOddReferenceIdeal.main_arg0) = m ((c.tc : Thread Cert.InProjOddIdeal.nD Cert.InProjOddIdeal.τ).loc Cert.InProjOddIdeal.main_arg0)
      ∧ m' ((c.tc : Thread Cert.InProjOddReferenceIdeal.nD Cert.InProjOddReferenceIdeal.τ).loc Cert.InProjOddReferenceIdeal.main_arg1) = m ((c.tc : Thread Cert.InProjOddIdeal.nD Cert.InProjOddIdeal.τ).loc Cert.InProjOddIdeal.main_arg1)
      ∧ m' ((c.tc : Thread Cert.InProjOddReferenceIdeal.nD Cert.InProjOddReferenceIdeal.τ).loc Cert.InProjOddReferenceIdeal.main_arg2) = m ((c.tc : Thread Cert.InProjOddIdeal.nD Cert.InProjOddIdeal.τ).loc Cert.InProjOddIdeal.main_arg2)
      ∧ m' ((c.tc : Thread Cert.InProjOddReferenceIdeal.nD Cert.InProjOddReferenceIdeal.τ).loc Cert.InProjOddReferenceIdeal.main_arg3) = m ((c.tc : Thread Cert.InProjOddIdeal.nD Cert.InProjOddIdeal.τ).loc Cert.InProjOddIdeal.main_arg3)) →
    ∃ (v0 : (c : Dev Cert.InProjOddIdeal.nD) → Buf (Elt Ideal) ((c.tc : Thread Cert.InProjOddIdeal.nD Cert.InProjOddIdeal.τ).loc Cert.InProjOddIdeal.main_v0)),
      θ_run (Cert.InProjOddIdeal.defs (F := Ideal)) (onTc (τ := Cert.InProjOddIdeal.τ) (Cert.InProjOddIdeal.main (F := Ideal))) ⟨m, fun _ => 0, g⟩ (fun r => ∀ c : Dev Cert.InProjOddIdeal.nD,
          r.2.mem ((c.tc : Thread Cert.InProjOddIdeal.nD Cert.InProjOddIdeal.τ).loc Cert.InProjOddIdeal.main_v0) = v0 c
          ∧ r.2.mem ((c.tc : Thread Cert.InProjOddIdeal.nD Cert.InProjOddIdeal.τ).loc Cert.InProjOddIdeal.main_arg0) = m ((c.tc : Thread Cert.InProjOddIdeal.nD Cert.InProjOddIdeal.τ).loc Cert.InProjOddIdeal.main_arg0)
          ∧ r.2.mem ((c.tc : Thread Cert.InProjOddIdeal.nD Cert.InProjOddIdeal.τ).loc Cert.InProjOddIdeal.main_arg1) = m ((c.tc : Thread Cert.InProjOddIdeal.nD Cert.InProjOddIdeal.τ).loc Cert.InProjOddIdeal.main_arg1)
          ∧ r.2.mem ((c.tc : Thread Cert.InProjOddIdeal.nD Cert.InProjOddIdeal.τ).loc Cert.InProjOddIdeal.main_arg2) = m ((c.tc : Thread Cert.InProjOddIdeal.nD Cert.InProjOddIdeal.τ).loc Cert.InProjOddIdeal.main_arg2)
          ∧ r.2.mem ((c.tc : Thread Cert.InProjOddIdeal.nD Cert.InProjOddIdeal.τ).loc Cert.InProjOddIdeal.main_arg3) = m ((c.tc : Thread Cert.InProjOddIdeal.nD Cert.InProjOddIdeal.τ).loc Cert.InProjOddIdeal.main_arg3))
      ∧ θ_run (Cert.InProjOddReferenceIdeal.defs (F := Ideal)) (onTc (τ := Cert.InProjOddReferenceIdeal.τ) (Cert.InProjOddReferenceIdeal.main (F := Ideal))) ⟨m', fun _ => 0, g'⟩ (fun r => ∀ c : Dev Cert.InProjOddReferenceIdeal.nD,
          r.2.mem ((c.tc : Thread Cert.InProjOddReferenceIdeal.nD Cert.InProjOddReferenceIdeal.τ).loc Cert.InProjOddReferenceIdeal.main_v10) = v0 c
          ∧ r.2.mem ((c.tc : Thread Cert.InProjOddReferenceIdeal.nD Cert.InProjOddReferenceIdeal.τ).loc Cert.InProjOddReferenceIdeal.main_arg0) = m' ((c.tc : Thread Cert.InProjOddReferenceIdeal.nD Cert.InProjOddReferenceIdeal.τ).loc Cert.InProjOddReferenceIdeal.main_arg0)
          ∧ r.2.mem ((c.tc : Thread Cert.InProjOddReferenceIdeal.nD Cert.InProjOddReferenceIdeal.τ).loc Cert.InProjOddReferenceIdeal.main_arg1) = m' ((c.tc : Thread Cert.InProjOddReferenceIdeal.nD Cert.InProjOddReferenceIdeal.τ).loc Cert.InProjOddReferenceIdeal.main_arg1)
          ∧ r.2.mem ((c.tc : Thread Cert.InProjOddReferenceIdeal.nD Cert.InProjOddReferenceIdeal.τ).loc Cert.InProjOddReferenceIdeal.main_arg2) = m' ((c.tc : Thread Cert.InProjOddReferenceIdeal.nD Cert.InProjOddReferenceIdeal.τ).loc Cert.InProjOddReferenceIdeal.main_arg2)
          ∧ r.2.mem ((c.tc : Thread Cert.InProjOddReferenceIdeal.nD Cert.InProjOddReferenceIdeal.τ).loc Cert.InProjOddReferenceIdeal.main_arg3) = m' ((c.tc : Thread Cert.InProjOddReferenceIdeal.nD Cert.InProjOddReferenceIdeal.τ).loc Cert.InProjOddReferenceIdeal.main_arg3))

def preserves_InProjGrad_InProjGradIdeal : Prop :=
  True

def algebraic_InProjGradIdeal_InProjGradReferenceIdeal [hInProjGradIdeal : Cert.InProjGradIdeal.Facts] [hInProjGradReferenceIdeal : Cert.InProjGradReferenceIdeal.Facts] : Prop :=
  ∀ (m : (ℓ : Loc Cert.InProjGradIdeal.nD Cert.InProjGradIdeal.τ Cert.InProjGradIdeal.sig) → Buf (Elt Ideal) ℓ) (g : Dev Cert.InProjGradIdeal.nD → PrngReg)
    (m' : (ℓ : Loc Cert.InProjGradReferenceIdeal.nD Cert.InProjGradReferenceIdeal.τ Cert.InProjGradReferenceIdeal.sig) → Buf (Elt Ideal) ℓ) (g' : Dev Cert.InProjGradReferenceIdeal.nD → PrngReg), Pre_InProjGradIdeal m →
    (∀ c : Dev Cert.InProjGradIdeal.nD,
      m' ((c.tc : Thread Cert.InProjGradReferenceIdeal.nD Cert.InProjGradReferenceIdeal.τ).loc Cert.InProjGradReferenceIdeal.main_arg0) = m ((c.tc : Thread Cert.InProjGradIdeal.nD Cert.InProjGradIdeal.τ).loc Cert.InProjGradIdeal.main_arg0)
      ∧ m' ((c.tc : Thread Cert.InProjGradReferenceIdeal.nD Cert.InProjGradReferenceIdeal.τ).loc Cert.InProjGradReferenceIdeal.main_arg1) = m ((c.tc : Thread Cert.InProjGradIdeal.nD Cert.InProjGradIdeal.τ).loc Cert.InProjGradIdeal.main_arg1)
      ∧ m' ((c.tc : Thread Cert.InProjGradReferenceIdeal.nD Cert.InProjGradReferenceIdeal.τ).loc Cert.InProjGradReferenceIdeal.main_arg2) = m ((c.tc : Thread Cert.InProjGradIdeal.nD Cert.InProjGradIdeal.τ).loc Cert.InProjGradIdeal.main_arg2)
      ∧ m' ((c.tc : Thread Cert.InProjGradReferenceIdeal.nD Cert.InProjGradReferenceIdeal.τ).loc Cert.InProjGradReferenceIdeal.main_arg3) = m ((c.tc : Thread Cert.InProjGradIdeal.nD Cert.InProjGradIdeal.τ).loc Cert.InProjGradIdeal.main_arg3)
      ∧ m' ((c.tc : Thread Cert.InProjGradReferenceIdeal.nD Cert.InProjGradReferenceIdeal.τ).loc Cert.InProjGradReferenceIdeal.main_arg4) = m ((c.tc : Thread Cert.InProjGradIdeal.nD Cert.InProjGradIdeal.τ).loc Cert.InProjGradIdeal.main_arg4)
      ∧ m' ((c.tc : Thread Cert.InProjGradReferenceIdeal.nD Cert.InProjGradReferenceIdeal.τ).loc Cert.InProjGradReferenceIdeal.main_arg5) = m ((c.tc : Thread Cert.InProjGradIdeal.nD Cert.InProjGradIdeal.τ).loc Cert.InProjGradIdeal.main_arg5)) →
    ∃ (v0 : (c : Dev Cert.InProjGradIdeal.nD) → Buf (Elt Ideal) ((c.tc : Thread Cert.InProjGradIdeal.nD Cert.InProjGradIdeal.τ).loc Cert.InProjGradIdeal.main_v0_0)) (v1 : (c : Dev Cert.InProjGradIdeal.nD) → Buf (Elt Ideal) ((c.tc : Thread Cert.InProjGradIdeal.nD Cert.InProjGradIdeal.τ).loc Cert.InProjGradIdeal.main_v0_1)) (v2 : (c : Dev Cert.InProjGradIdeal.nD) → Buf (Elt Ideal) ((c.tc : Thread Cert.InProjGradIdeal.nD Cert.InProjGradIdeal.τ).loc Cert.InProjGradIdeal.main_v0_2)) (v3 : (c : Dev Cert.InProjGradIdeal.nD) → Buf (Elt Ideal) ((c.tc : Thread Cert.InProjGradIdeal.nD Cert.InProjGradIdeal.τ).loc Cert.InProjGradIdeal.main_v0_3)),
      θ_run (Cert.InProjGradIdeal.defs (F := Ideal)) (onTc (τ := Cert.InProjGradIdeal.τ) (Cert.InProjGradIdeal.main (F := Ideal))) ⟨m, fun _ => 0, g⟩ (fun r => ∀ c : Dev Cert.InProjGradIdeal.nD,
          r.2.mem ((c.tc : Thread Cert.InProjGradIdeal.nD Cert.InProjGradIdeal.τ).loc Cert.InProjGradIdeal.main_v0_0) = v0 c
          ∧ r.2.mem ((c.tc : Thread Cert.InProjGradIdeal.nD Cert.InProjGradIdeal.τ).loc Cert.InProjGradIdeal.main_v0_1) = v1 c
          ∧ r.2.mem ((c.tc : Thread Cert.InProjGradIdeal.nD Cert.InProjGradIdeal.τ).loc Cert.InProjGradIdeal.main_v0_2) = v2 c
          ∧ r.2.mem ((c.tc : Thread Cert.InProjGradIdeal.nD Cert.InProjGradIdeal.τ).loc Cert.InProjGradIdeal.main_v0_3) = v3 c
          ∧ r.2.mem ((c.tc : Thread Cert.InProjGradIdeal.nD Cert.InProjGradIdeal.τ).loc Cert.InProjGradIdeal.main_arg0) = m ((c.tc : Thread Cert.InProjGradIdeal.nD Cert.InProjGradIdeal.τ).loc Cert.InProjGradIdeal.main_arg0)
          ∧ r.2.mem ((c.tc : Thread Cert.InProjGradIdeal.nD Cert.InProjGradIdeal.τ).loc Cert.InProjGradIdeal.main_arg1) = m ((c.tc : Thread Cert.InProjGradIdeal.nD Cert.InProjGradIdeal.τ).loc Cert.InProjGradIdeal.main_arg1)
          ∧ r.2.mem ((c.tc : Thread Cert.InProjGradIdeal.nD Cert.InProjGradIdeal.τ).loc Cert.InProjGradIdeal.main_arg2) = m ((c.tc : Thread Cert.InProjGradIdeal.nD Cert.InProjGradIdeal.τ).loc Cert.InProjGradIdeal.main_arg2)
          ∧ r.2.mem ((c.tc : Thread Cert.InProjGradIdeal.nD Cert.InProjGradIdeal.τ).loc Cert.InProjGradIdeal.main_arg3) = m ((c.tc : Thread Cert.InProjGradIdeal.nD Cert.InProjGradIdeal.τ).loc Cert.InProjGradIdeal.main_arg3)
          ∧ r.2.mem ((c.tc : Thread Cert.InProjGradIdeal.nD Cert.InProjGradIdeal.τ).loc Cert.InProjGradIdeal.main_arg4) = m ((c.tc : Thread Cert.InProjGradIdeal.nD Cert.InProjGradIdeal.τ).loc Cert.InProjGradIdeal.main_arg4)
          ∧ r.2.mem ((c.tc : Thread Cert.InProjGradIdeal.nD Cert.InProjGradIdeal.τ).loc Cert.InProjGradIdeal.main_arg5) = m ((c.tc : Thread Cert.InProjGradIdeal.nD Cert.InProjGradIdeal.τ).loc Cert.InProjGradIdeal.main_arg5))
      ∧ θ_run (Cert.InProjGradReferenceIdeal.defs (F := Ideal)) (onTc (τ := Cert.InProjGradReferenceIdeal.τ) (Cert.InProjGradReferenceIdeal.main (F := Ideal))) ⟨m', fun _ => 0, g'⟩ (fun r => ∀ c : Dev Cert.InProjGradReferenceIdeal.nD,
          r.2.mem ((c.tc : Thread Cert.InProjGradReferenceIdeal.nD Cert.InProjGradReferenceIdeal.τ).loc Cert.InProjGradReferenceIdeal.main_v59) = v0 c
          ∧ r.2.mem ((c.tc : Thread Cert.InProjGradReferenceIdeal.nD Cert.InProjGradReferenceIdeal.τ).loc Cert.InProjGradReferenceIdeal.main_v32) = v1 c
          ∧ r.2.mem ((c.tc : Thread Cert.InProjGradReferenceIdeal.nD Cert.InProjGradReferenceIdeal.τ).loc Cert.InProjGradReferenceIdeal.main_v35) = v2 c
          ∧ r.2.mem ((c.tc : Thread Cert.InProjGradReferenceIdeal.nD Cert.InProjGradReferenceIdeal.τ).loc Cert.InProjGradReferenceIdeal.main_v58) = v3 c
          ∧ r.2.mem ((c.tc : Thread Cert.InProjGradReferenceIdeal.nD Cert.InProjGradReferenceIdeal.τ).loc Cert.InProjGradReferenceIdeal.main_arg0) = m' ((c.tc : Thread Cert.InProjGradReferenceIdeal.nD Cert.InProjGradReferenceIdeal.τ).loc Cert.InProjGradReferenceIdeal.main_arg0)
          ∧ r.2.mem ((c.tc : Thread Cert.InProjGradReferenceIdeal.nD Cert.InProjGradReferenceIdeal.τ).loc Cert.InProjGradReferenceIdeal.main_arg1) = m' ((c.tc : Thread Cert.InProjGradReferenceIdeal.nD Cert.InProjGradReferenceIdeal.τ).loc Cert.InProjGradReferenceIdeal.main_arg1)
          ∧ r.2.mem ((c.tc : Thread Cert.InProjGradReferenceIdeal.nD Cert.InProjGradReferenceIdeal.τ).loc Cert.InProjGradReferenceIdeal.main_arg2) = m' ((c.tc : Thread Cert.InProjGradReferenceIdeal.nD Cert.InProjGradReferenceIdeal.τ).loc Cert.InProjGradReferenceIdeal.main_arg2)
          ∧ r.2.mem ((c.tc : Thread Cert.InProjGradReferenceIdeal.nD Cert.InProjGradReferenceIdeal.τ).loc Cert.InProjGradReferenceIdeal.main_arg3) = m' ((c.tc : Thread Cert.InProjGradReferenceIdeal.nD Cert.InProjGradReferenceIdeal.τ).loc Cert.InProjGradReferenceIdeal.main_arg3)
          ∧ r.2.mem ((c.tc : Thread Cert.InProjGradReferenceIdeal.nD Cert.InProjGradReferenceIdeal.τ).loc Cert.InProjGradReferenceIdeal.main_arg4) = m' ((c.tc : Thread Cert.InProjGradReferenceIdeal.nD Cert.InProjGradReferenceIdeal.τ).loc Cert.InProjGradReferenceIdeal.main_arg4)
          ∧ r.2.mem ((c.tc : Thread Cert.InProjGradReferenceIdeal.nD Cert.InProjGradReferenceIdeal.τ).loc Cert.InProjGradReferenceIdeal.main_arg5) = m' ((c.tc : Thread Cert.InProjGradReferenceIdeal.nD Cert.InProjGradReferenceIdeal.τ).loc Cert.InProjGradReferenceIdeal.main_arg5))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)
      ∧ m' ((c.tc : Thread Cert.LossHeadReferenceIdeal.nD Cert.LossHeadReferenceIdeal.τ).loc Cert.LossHeadReferenceIdeal.main_arg2) = m ((c.tc : Thread Cert.LossHeadIdeal.nD Cert.LossHeadIdeal.τ).loc Cert.LossHeadIdeal.main_arg2)
      ∧ m' ((c.tc : Thread Cert.LossHeadReferenceIdeal.nD Cert.LossHeadReferenceIdeal.τ).loc Cert.LossHeadReferenceIdeal.main_arg3) = m ((c.tc : Thread Cert.LossHeadIdeal.nD Cert.LossHeadIdeal.τ).loc Cert.LossHeadIdeal.main_arg3)
      ∧ m' ((c.tc : Thread Cert.LossHeadReferenceIdeal.nD Cert.LossHeadReferenceIdeal.τ).loc Cert.LossHeadReferenceIdeal.main_arg4) = m ((c.tc : Thread Cert.LossHeadIdeal.nD Cert.LossHeadIdeal.τ).loc Cert.LossHeadIdeal.main_arg4)
      ∧ m' ((c.tc : Thread Cert.LossHeadReferenceIdeal.nD Cert.LossHeadReferenceIdeal.τ).loc Cert.LossHeadReferenceIdeal.main_arg5) = m ((c.tc : Thread Cert.LossHeadIdeal.nD Cert.LossHeadIdeal.τ).loc Cert.LossHeadIdeal.main_arg5)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)) (v4 : (c : Dev Cert.LossHeadIdeal.nD) → Buf (Elt Ideal) ((c.tc : Thread Cert.LossHeadIdeal.nD Cert.LossHeadIdeal.τ).loc Cert.LossHeadIdeal.main_v0_4)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_v0_4) = v4 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
          ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v58) = v0 c
          ∧ r.2.mem ((c.tc : Thread Cert.LossHeadReferenceIdeal.nD Cert.LossHeadReferenceIdeal.τ).loc Cert.LossHeadReferenceIdeal.main_v65) = v1 c
          ∧ r.2.mem ((c.tc : Thread Cert.LossHeadReferenceIdeal.nD Cert.LossHeadReferenceIdeal.τ).loc Cert.LossHeadReferenceIdeal.main_v59) = v2 c
          ∧ r.2.mem ((c.tc : Thread Cert.LossHeadReferenceIdeal.nD Cert.LossHeadReferenceIdeal.τ).loc Cert.LossHeadReferenceIdeal.main_v64) = v3 c
          ∧ r.2.mem ((c.tc : Thread Cert.LossHeadReferenceIdeal.nD Cert.LossHeadReferenceIdeal.τ).loc Cert.LossHeadReferenceIdeal.main_v66) = v4 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2)
          ∧ r.2.mem ((c.tc : Thread Cert.LossHeadReferenceIdeal.nD Cert.LossHeadReferenceIdeal.τ).loc Cert.LossHeadReferenceIdeal.main_arg3) = m' ((c.tc : Thread Cert.LossHeadReferenceIdeal.nD Cert.LossHeadReferenceIdeal.τ).loc Cert.LossHeadReferenceIdeal.main_arg3)
          ∧ r.2.mem ((c.tc : Thread Cert.LossHeadReferenceIdeal.nD Cert.LossHeadReferenceIdeal.τ).loc Cert.LossHeadReferenceIdeal.main_arg4) = m' ((c.tc : Thread Cert.LossHeadReferenceIdeal.nD Cert.LossHeadReferenceIdeal.τ).loc Cert.LossHeadReferenceIdeal.main_arg4)
          ∧ r.2.mem ((c.tc : Thread Cert.LossHeadReferenceIdeal.nD Cert.LossHeadReferenceIdeal.τ).loc Cert.LossHeadReferenceIdeal.main_arg5) = m' ((c.tc : Thread Cert.LossHeadReferenceIdeal.nD Cert.LossHeadReferenceIdeal.τ).loc Cert.LossHeadReferenceIdeal.main_arg5))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_arg1) = v0 c
          ∧ r.2.mem ((c.tc : Thread Cert.AdamOutReferenceIdeal.nD Cert.AdamOutReferenceIdeal.τ).loc Cert.AdamOutReferenceIdeal.main_v23) = v1 c
          ∧ r.2.mem ((c.tc : Thread Cert.AdamOutReferenceIdeal.nD Cert.AdamOutReferenceIdeal.τ).loc Cert.AdamOutReferenceIdeal.main_v4) = v2 c
          ∧ r.2.mem ((c.tc : Thread Cert.AdamOutReferenceIdeal.nD Cert.AdamOutReferenceIdeal.τ).loc Cert.AdamOutReferenceIdeal.main_v10) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_arg1) = v0 c
          ∧ r.2.mem ((c.tc : Thread Cert.AdamInReferenceIdeal.nD Cert.AdamInReferenceIdeal.τ).loc Cert.AdamInReferenceIdeal.main_v23) = v1 c
          ∧ r.2.mem ((c.tc : Thread Cert.AdamInReferenceIdeal.nD Cert.AdamInReferenceIdeal.τ).loc Cert.AdamInReferenceIdeal.main_v4) = v2 c
          ∧ r.2.mem ((c.tc : Thread Cert.AdamInReferenceIdeal.nD Cert.AdamInReferenceIdeal.τ).loc Cert.AdamInReferenceIdeal.main_v10) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamAda_AdamAdaIdeal : Prop :=
  True

def algebraic_AdamAdaIdeal_AdamAdaReferenceIdeal [hAdamAdaIdeal : Cert.AdamAdaIdeal.Facts] [hAdamAdaReferenceIdeal : Cert.AdamAdaReferenceIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaReferenceIdeal.nD Cert.AdamAdaReferenceIdeal.τ Cert.AdamAdaReferenceIdeal.sig) → Buf (Elt Ideal) ℓ) (g' : Dev Cert.AdamAdaReferenceIdeal.nD → PrngReg), Pre_AdamAdaIdeal m →
    (∀ c : Dev Cert.AdamAdaIdeal.nD,
      m' ((c.tc : Thread Cert.AdamAdaReferenceIdeal.nD Cert.AdamAdaReferenceIdeal.τ).loc Cert.AdamAdaReferenceIdeal.main_arg0) = m ((c.tc : Thread Cert.AdamAdaIdeal.nD Cert.AdamAdaIdeal.τ).loc Cert.AdamAdaIdeal.main_arg0)
      ∧ m' ((c.tc : Thread Cert.AdamAdaReferenceIdeal.nD Cert.AdamAdaReferenceIdeal.τ).loc Cert.AdamAdaReferenceIdeal.main_arg1) = m ((c.tc : Thread Cert.AdamAdaIdeal.nD Cert.AdamAdaIdeal.τ).loc Cert.AdamAdaIdeal.main_arg1)
      ∧ m' ((c.tc : Thread Cert.AdamAdaReferenceIdeal.nD Cert.AdamAdaReferenceIdeal.τ).loc Cert.AdamAdaReferenceIdeal.main_arg2) = m ((c.tc : Thread Cert.AdamAdaIdeal.nD Cert.AdamAdaIdeal.τ).loc Cert.AdamAdaIdeal.main_arg2)
      ∧ m' ((c.tc : Thread Cert.AdamAdaReferenceIdeal.nD Cert.AdamAdaReferenceIdeal.τ).loc Cert.AdamAdaReferenceIdeal.main_arg3) = m ((c.tc : Thread Cert.AdamAdaIdeal.nD Cert.AdamAdaIdeal.τ).loc Cert.AdamAdaIdeal.main_arg3)
      ∧ m' ((c.tc : Thread Cert.AdamAdaReferenceIdeal.nD Cert.AdamAdaReferenceIdeal.τ).loc Cert.AdamAdaReferenceIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.AdamAdaReferenceIdeal.defs (F := Ideal)) (onTc (τ := Cert.AdamAdaReferenceIdeal.τ) (Cert.AdamAdaReferenceIdeal.main (F := Ideal))) ⟨m', fun _ => 0, g'⟩ (fun r => ∀ c : Dev Cert.AdamAdaReferenceIdeal.nD,
          r.2.mem ((c.tc : Thread Cert.AdamAdaReferenceIdeal.nD Cert.AdamAdaReferenceIdeal.τ).loc Cert.AdamAdaReferenceIdeal.main_v2) = v0 c
          ∧ r.2.mem ((c.tc : Thread Cert.AdamAdaReferenceIdeal.nD Cert.AdamAdaReferenceIdeal.τ).loc Cert.AdamAdaReferenceIdeal.main_v26) = v1 c
          ∧ r.2.mem ((c.tc : Thread Cert.AdamAdaReferenceIdeal.nD Cert.AdamAdaReferenceIdeal.τ).loc Cert.AdamAdaReferenceIdeal.main_v7) = v2 c
          ∧ r.2.mem ((c.tc : Thread Cert.AdamAdaReferenceIdeal.nD Cert.AdamAdaReferenceIdeal.τ).loc Cert.AdamAdaReferenceIdeal.main_v13) = v3 c
          ∧ r.2.mem ((c.tc : Thread Cert.AdamAdaReferenceIdeal.nD Cert.AdamAdaReferenceIdeal.τ).loc Cert.AdamAdaReferenceIdeal.main_arg0) = m' ((c.tc : Thread Cert.AdamAdaReferenceIdeal.nD Cert.AdamAdaReferenceIdeal.τ).loc Cert.AdamAdaReferenceIdeal.main_arg0)
          ∧ r.2.mem ((c.tc : Thread Cert.AdamAdaReferenceIdeal.nD Cert.AdamAdaReferenceIdeal.τ).loc Cert.AdamAdaReferenceIdeal.main_arg1) = m' ((c.tc : Thread Cert.AdamAdaReferenceIdeal.nD Cert.AdamAdaReferenceIdeal.τ).loc Cert.AdamAdaReferenceIdeal.main_arg1)
          ∧ r.2.mem ((c.tc : Thread Cert.AdamAdaReferenceIdeal.nD Cert.AdamAdaReferenceIdeal.τ).loc Cert.AdamAdaReferenceIdeal.main_arg2) = m' ((c.tc : Thread Cert.AdamAdaReferenceIdeal.nD Cert.AdamAdaReferenceIdeal.τ).loc Cert.AdamAdaReferenceIdeal.main_arg2)
          ∧ r.2.mem ((c.tc : Thread Cert.AdamAdaReferenceIdeal.nD Cert.AdamAdaReferenceIdeal.τ).loc Cert.AdamAdaReferenceIdeal.main_arg3) = m' ((c.tc : Thread Cert.AdamAdaReferenceIdeal.nD Cert.AdamAdaReferenceIdeal.τ).loc Cert.AdamAdaReferenceIdeal.main_arg3)
          ∧ r.2.mem ((c.tc : Thread Cert.AdamAdaReferenceIdeal.nD Cert.AdamAdaReferenceIdeal.τ).loc Cert.AdamAdaReferenceIdeal.main_arg4) = m' ((c.tc : Thread Cert.AdamAdaReferenceIdeal.nD Cert.AdamAdaReferenceIdeal.τ).loc Cert.AdamAdaReferenceIdeal.main_arg4))

def Claim : Prop :=
  ∃ (hKernel : Cert.Kernel.Facts) (hKernelIdeal : Cert.KernelIdeal.Facts) (hReferenceIdeal : Cert.ReferenceIdeal.Facts) (hWOutGrad : Cert.WOutGrad.Facts) (hWOutGradIdeal : Cert.WOutGradIdeal.Facts) (hWOutGradReferenceIdeal : Cert.WOutGradReferenceIdeal.Facts) (hOutProjGrad : Cert.OutProjGrad.Facts) (hOutProjGradIdeal : Cert.OutProjGradIdeal.Facts) (hOutProjGradReferenceIdeal : Cert.OutProjGradReferenceIdeal.Facts) (hInProjOdd : Cert.InProjOdd.Facts) (hInProjOddIdeal : Cert.InProjOddIdeal.Facts) (hInProjOddReferenceIdeal : Cert.InProjOddReferenceIdeal.Facts) (hInProjGrad : Cert.InProjGrad.Facts) (hInProjGradIdeal : Cert.InProjGradIdeal.Facts) (hInProjGradReferenceIdeal : Cert.InProjGradReferenceIdeal.Facts) (hLossHead : Cert.LossHead.Facts) (hLossHeadIdeal : Cert.LossHeadIdeal.Facts) (hLossHeadReferenceIdeal : Cert.LossHeadReferenceIdeal.Facts) (hAdamOut : Cert.AdamOut.Facts) (hAdamOutIdeal : Cert.AdamOutIdeal.Facts) (hAdamOutReferenceIdeal : Cert.AdamOutReferenceIdeal.Facts) (hAdamIn : Cert.AdamIn.Facts) (hAdamInIdeal : Cert.AdamInIdeal.Facts) (hAdamInReferenceIdeal : Cert.AdamInReferenceIdeal.Facts) (hAdamAda : Cert.AdamAda.Facts) (hAdamAdaIdeal : Cert.AdamAdaIdeal.Facts) (hAdamAdaReferenceIdeal : Cert.AdamAdaReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WOutGrad (hWOutGrad := hWOutGrad)
    ∧ quiescent_WOutGradIdeal (hWOutGradIdeal := hWOutGradIdeal)
    ∧ quiescent_WOutGradReferenceIdeal (hWOutGradReferenceIdeal := hWOutGradReferenceIdeal)
    ∧ quiescent_OutProjGrad (hOutProjGrad := hOutProjGrad)
    ∧ quiescent_OutProjGradIdeal (hOutProjGradIdeal := hOutProjGradIdeal)
    ∧ quiescent_OutProjGradReferenceIdeal (hOutProjGradReferenceIdeal := hOutProjGradReferenceIdeal)
    ∧ quiescent_InProjOdd (hInProjOdd := hInProjOdd)
    ∧ quiescent_InProjOddIdeal (hInProjOddIdeal := hInProjOddIdeal)
    ∧ quiescent_InProjOddReferenceIdeal (hInProjOddReferenceIdeal := hInProjOddReferenceIdeal)
    ∧ quiescent_InProjGrad (hInProjGrad := hInProjGrad)
    ∧ quiescent_InProjGradIdeal (hInProjGradIdeal := hInProjGradIdeal)
    ∧ quiescent_InProjGradReferenceIdeal (hInProjGradReferenceIdeal := hInProjGradReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamAda (hAdamAda := hAdamAda)
    ∧ quiescent_AdamAdaIdeal (hAdamAdaIdeal := hAdamAdaIdeal)
    ∧ quiescent_AdamAdaReferenceIdeal (hAdamAdaReferenceIdeal := hAdamAdaReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_WOutGrad_WOutGradIdeal
    ∧ algebraic_WOutGradIdeal_WOutGradReferenceIdeal (hWOutGradIdeal := hWOutGradIdeal) (hWOutGradReferenceIdeal := hWOutGradReferenceIdeal)
    ∧ preserves_OutProjGrad_OutProjGradIdeal
    ∧ algebraic_OutProjGradIdeal_OutProjGradReferenceIdeal (hOutProjGradIdeal := hOutProjGradIdeal) (hOutProjGradReferenceIdeal := hOutProjGradReferenceIdeal)
    ∧ preserves_InProjOdd_InProjOddIdeal
    ∧ algebraic_InProjOddIdeal_InProjOddReferenceIdeal (hInProjOddIdeal := hInProjOddIdeal) (hInProjOddReferenceIdeal := hInProjOddReferenceIdeal)
    ∧ preserves_InProjGrad_InProjGradIdeal
    ∧ algebraic_InProjGradIdeal_InProjGradReferenceIdeal (hInProjGradIdeal := hInProjGradIdeal) (hInProjGradReferenceIdeal := hInProjGradReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamAda_AdamAdaIdeal
    ∧ algebraic_AdamAdaIdeal_AdamAdaReferenceIdeal (hAdamAdaIdeal := hAdamAdaIdeal) (hAdamAdaReferenceIdeal := hAdamAdaReferenceIdeal)
-- ==== Pre_finite.lean ====
abbrev S2048x5376 : Shape := ⟨2, ![2048, 5376]⟩
abbrev S2048x2048 : Shape := ⟨2, ![2048, 2048]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S2048x5376 : S_.BroadcastsInDim S2048x5376 (![] : Fin 0 → Fin S2048x5376.rank)
  reducesTo_S2048x5376_S_d0_1 : S2048x5376.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x16 : S_.BroadcastsInDim S1x16 (![] : Fin 0 → Fin S1x16.rank)
  reducesTo_S1x16_S_d0_1 : S1x16.ReducesTo [0, 1] S_
  bcast_S_S1x1024 : S_.BroadcastsInDim S1x1024 (![] : Fin 0 → Fin S1x1024.rank)
  reducesTo_S1x1024_S_d0_1 : S1x1024.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_

variable [Facts]

def fn_part1 {F : FTy → Type} [FloatOps F] (main_arg4 : FVec F S1x1024 .f32) (main_arg5 : FVec F S1x8x128x128 .f32) (main_arg6 : FVec F S1x8x128 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x8x128x128 .f32 := Host.absf main_arg5
  let main_cst_8 : FVec F S_ .f32 := constant S_ .f32 0x7F800000#32
  let main_v25 : FVec F S1x8x128x128 .f32 := broadcastInDim S1x8x128x128 ![] bcast_S_S1x8x128x128 main_cst_8
  let main_v26 : IVec S1x8x128x128 1 := cmpf .olt main_v24 main_v25
  let main_c_9 : IVec S_ 1 := constantI S_ 1 1#1
  let main_v27 : IVec S_ 1 := (fun x v => Host.reduce IntOp.andi x v reducesTo_S1x8x128x128_S_d0_1_2_3 h_S_) main_v26 main_c_9
  let main_v28 : IVec S_ 1 := andi main_v23 main_v27
  let main_v29 : FVec F S1x8x128 .f32 := Host.absf main_arg6
  let main_cst_10 : FVec F S_ .f32 := constant S_ .f32 0x7F800000#32
  let main_v30 : FVec F S1x8x128 .f32 := broadcastInDim S1x8x128 ![] bcast_S_S1x8x128 main_cst_10
  let main_v31 : IVec S1x8x128 1 := cmpf .olt main_v29 main_v30
  let main_c_11 : IVec S_ 1 := constantI S_ 1 1#1
  let main_v32 : IVec S_ 1 := (fun x v => Host.reduce IntOp.andi x v reducesTo_S1x8x128_S_d0_1_2 h_S_) main_v31 main_c_11
  let main_v33 : IVec S_ 1 := andi main_v28 main_v32
  main_v33

def fn {F : FTy → Type} [FloatOps F] (main_arg0 : FVec F S2048x5376 .f32) (main_arg1 : FVec F S2048x2048 .f32) (main_arg2 : FVec F S1x16 .f32) (main_arg3 : FVec F S1x1024 .f32) (main_arg4 : FVec F S1x1024 .f32) (main_arg5 : FVec F S1x8x128x128 .f32) (main_arg6 : FVec F S1x8x128 .f32) : IVec S_ 1 :=
  let main_v0 : FVec F S2048x5376 .f32 := Host.absf main_arg0
  let main_cst : FVec F S_ .f32 := constant S_ .f32 0x7F800000#32
  let main_v1 : FVec F S2048x5376 .f32 := broadcastInDim S2048x5376 ![] bcast_S_S2048x5376 main_cst
  let main_v2 : IVec S2048x5376 1 := cmpf .olt main_v0 main_v1
  let main_c : IVec S_ 1 := constantI S_ 1 1#1
  let main_v3 : IVec S_ 1 := (fun x v => Host.reduce IntOp.andi x v reducesTo_S2048x5376_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Kernel.lean ====
abbrev S2048x5376 : Shape := ⟨2, ![2048, 5376]⟩
abbrev S2048x2048 : Shape := ⟨2, ![2048, 2048]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x5376 : Shape := ⟨3, ![1, 2048, 5376]⟩
abbrev S16 : Shape := ⟨1, ![16]⟩
abbrev S1x2048x1024 : Shape := ⟨3, ![1, 2048, 1024]⟩
abbrev S1x2048x128 : Shape := ⟨3, ![1, 2048, 128]⟩
abbrev S1x2048x16x64 : Shape := ⟨4, ![1, 2048, 16, 64]⟩
abbrev S1x2048x2x64 : Shape := ⟨4, ![1, 2048, 2, 64]⟩
abbrev S1x16x128x2x8x64 : Shape := ⟨6, ![1, 16, 128, 2, 8, 64]⟩
abbrev S1x16x128x2x64 : Shape := ⟨5, ![1, 16, 128, 2, 64]⟩
abbrev S1x1x128x2x64 : Shape := ⟨5, ![1, 1, 128, 2, 64]⟩
abbrev S_ : Shape := ⟨0, ![]⟩
abbrev S1x15x128x2x64 : Shape := ⟨5, ![1, 15, 128, 2, 64]⟩
abbrev S1x16x256x2x64 : Shape := ⟨5, ![1, 16, 256, 2, 64]⟩
abbrev S1x16x2x256x128x8 : Shape := ⟨6, ![1, 16, 2, 256, 128, 8]⟩
abbrev S1x16x2x8x128x256 : Shape := ⟨6, ![1, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S1x16x2x8x128x1 : Shape := ⟨6, ![1, 16, 2, 8, 128, 1]⟩
abbrev S1x16x2x8x128x257 : Shape := ⟨6, ![1, 16, 2, 8, 128, 257]⟩
abbrev S1x16x2x8x128 : Shape := ⟨5, ![1, 16, 2, 8, 128]⟩
abbrev S1x16x2x64x8x128 : Shape := ⟨6, ![1, 16, 2, 64, 8, 128]⟩
abbrev S2048x1024 : Shape := ⟨2, ![2048, 1024]⟩
abbrev S8x128x128 : Shape := ⟨3, ![8, 128, 128]⟩
abbrev S8x128 : Shape := ⟨2, ![8, 128]⟩
abbrev S128x8 : Shape := ⟨2, ![128, 8]⟩
abbrev S128x5376 : Shape := ⟨2, ![128, 5376]⟩
abbrev S128x2048 : Shape := ⟨2, ![128, 2048]⟩
abbrev S128x1024 : Shape := ⟨2, ![128, 1024]⟩
abbrev S256x256 : Shape := ⟨2, ![256, 256]⟩
abbrev S1x128 : Shape := ⟨2, ![1, 128]⟩
abbrev S128x128 : Shape := ⟨2, ![128, 128]⟩
abbrev S128x4096 : Shape := ⟨2, ![128, 4096]⟩
abbrev S256x1024 : Shape := ⟨2, ![256, 1024]⟩
abbrev S256x128 : Shape := ⟨2, ![256, 128]⟩
abbrev S256x64 : Shape := ⟨2, ![256, 64]⟩
abbrev S128x64 : Shape := ⟨2, ![128, 64]⟩
abbrev S1024x64 : Shape := ⟨2, ![1024, 64]⟩
abbrev S1x1 : Shape := ⟨2, ![1, 1]⟩
abbrev S1024 : Shape := ⟨1, ![1024]⟩
abbrev S64x1024 : Shape := ⟨2, ![64, 1024]⟩
abbrev S1 : Shape := ⟨1, ![1]⟩
abbrev S64x128 : Shape := ⟨2, ![64, 128]⟩
abbrev S1x128x128 : Shape := ⟨3, ![1, 128, 128]⟩

abbrev nBuf : Space → Nat
  | .hbm => 106
  | .vmem => 25
  | .smem => 0
  | _ => 0

abbrev bufTy : (tb : Table) → Fin (tcTables nBuf tb) → BufTy
  | .hbm, ⟨0, _⟩ => ⟨S2048x5376, .f32⟩
  | .hbm, ⟨1, _⟩ => ⟨S2048x2048, .f32⟩
  | .hbm, ⟨2, _⟩ => ⟨S1x16, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x2048x5376, .f32⟩
  | .hbm, ⟨8, _⟩ => ⟨S16, .f32⟩
  | .hbm, ⟨9, _⟩ => ⟨S1x2048x1024, .f32⟩
  | .hbm, ⟨10, _⟩ => ⟨S1x2048x128, .f32⟩
  | .hbm, ⟨11, _⟩ => ⟨S1x2048x128, .f32⟩
  | .hbm, ⟨12, _⟩ => ⟨S1x2048x16x64, .f32⟩
  | .hbm, ⟨13, _⟩ => ⟨S1x2048x2x64, .f32⟩
  | .hbm, ⟨14, _⟩ => ⟨S1x2048x2x64, .f32⟩
  | .hbm, ⟨15, _⟩ => ⟨S1x16x128x2x8x64, .f32⟩
  | .hbm, ⟨16, _⟩ => ⟨S1x16x128x2x64, .f32⟩
  | .hbm, ⟨17, _⟩ => ⟨S1x16x128x2x64, .f32⟩
  | .hbm, ⟨18, _⟩ => ⟨S1x1x128x2x64, .f32⟩
  | .hbm, ⟨19, _⟩ => ⟨S_, .f32⟩
  | .hbm, ⟨20, _⟩ => ⟨S1x1x128x2x64, .f32⟩
  | .hbm, ⟨21, _⟩ => ⟨S1x15x128x2x64, .f32⟩
  | .hbm, ⟨22, _⟩ => ⟨S1x16x128x2x64, .f32⟩
  | .hbm, ⟨23, _⟩ => ⟨S1x16x256x2x64, .f32⟩
  | .hbm, ⟨24, _⟩ => ⟨S1x1x128x2x64, .f32⟩
  | .hbm, ⟨25, _⟩ => ⟨S_, .f32⟩
  | .hbm, ⟨26, _⟩ => ⟨S1x1x128x2x64, .f32⟩
  | .hbm, ⟨27, _⟩ => ⟨S1x15x128x2x64, .f32⟩
  | .hbm, ⟨28, _⟩ => ⟨S1x16x128x2x64, .f32⟩
  | .hbm, ⟨29, _⟩ => ⟨S1x16x256x2x64, .f32⟩
  | .hbm, ⟨30, _⟩ => ⟨S1x16x2x256x128x8, .f32⟩
  | .hbm, ⟨31, _⟩ => ⟨S1x16x2x8x128x256, .f32⟩
  | .hbm, ⟨32, _⟩ => ⟨S_, .f32⟩
  | .hbm, ⟨33, _⟩ => ⟨S1x16x2x8x128x256, .f32⟩
  | .hbm, ⟨34, _⟩ => ⟨S1x16x2x8x128x256, .f32⟩
  | .hbm, ⟨35, _⟩ => ⟨S128, .i32⟩
  | .hbm, ⟨36, _⟩ => ⟨S128x1, .i32⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S256, .i32⟩
  | .hbm, ⟨41, _⟩ => ⟨S1x256, .i32⟩
  | .hbm, ⟨42, _⟩ => ⟨S128x256, .i32⟩
  | .hbm, ⟨43, _⟩ => ⟨S128x256, .i32⟩
  | .hbm, ⟨44, _⟩ => ⟨S128x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S128x256, .i1⟩
  | .hbm, ⟨52, _⟩ => ⟨S16, .i32⟩
  | .hbm, ⟨53, _⟩ => ⟨S_, .i32⟩
  | .hbm, ⟨54, _⟩ => ⟨S16, .i32⟩
  | .hbm, ⟨55, _⟩ => ⟨S16, .i1⟩
  | .hbm, ⟨56, _⟩ => ⟨S16x1x1, .i1⟩
  | .hbm, ⟨57, _⟩ => ⟨S_, .i32⟩
  | .hbm, ⟨58, _⟩ => ⟨S1x256, .i32⟩
  | .hbm, ⟨59, _⟩ => ⟨S1x256, .i1⟩
  | .hbm, ⟨60, _⟩ => ⟨S1x1x256, .i1⟩
  | .hbm, ⟨61, _⟩ => ⟨S16x1x256, .i1⟩
  | .hbm, ⟨62, _⟩ => ⟨S16x1x256, .i1⟩
  | .hbm, ⟨63, _⟩ => ⟨S16x1x256, .i1⟩
  | .hbm, ⟨64, _⟩ => ⟨S1x128x256, .i1⟩
  | .hbm, ⟨65, _⟩ => ⟨S16x128x256, .i1⟩
  | .hbm, ⟨66, _⟩ => ⟨S16x128x256, .i1⟩
  | .hbm, ⟨67, _⟩ => ⟨S16x128x256, .i1⟩
  | .hbm, ⟨68, _⟩ => ⟨S1x16x1x1x128x256, .i1⟩
  | .hbm, ⟨69, _⟩ => ⟨S_, .f32⟩
  | .hbm, ⟨70, _⟩ => ⟨S_, .f32⟩
  | .hbm, ⟨71, _⟩ => ⟨S1x16x2x8x128x256, .i1⟩
  | .hbm, ⟨72, _⟩ => ⟨S1x16x2x8x128x256, .f32⟩
  | .hbm, ⟨73, _⟩ => ⟨S1x16x2x8x128x256, .f32⟩
  | .hbm, ⟨74, _⟩ => ⟨S2x8, .f32⟩
  | .hbm, ⟨75, _⟩ => ⟨S1x1x2x8x1x1, .f32⟩
  | .hbm, ⟨76, _⟩ => ⟨S1x16x2x8x128x1, .f32⟩
  | .hbm, ⟨77, _⟩ => ⟨S1x16x2x8x128x257, .f32⟩
  | .hbm, ⟨78, _⟩ => ⟨S_, .f32⟩
  | .hbm, ⟨79, _⟩ => ⟨S1x16x2x8x128, .f32⟩
  | .hbm, ⟨80, _⟩ => ⟨S_, .f32⟩
  | .hbm, ⟨81, _⟩ => ⟨S1x16x2x8x128, .f32⟩
  | .hbm, ⟨82, _⟩ => ⟨S1x16x2x8x128, .f32⟩
  | .hbm, ⟨83, _⟩ => ⟨S1x16x2x8x128x1, .f32⟩
  | .hbm, ⟨84, _⟩ => ⟨S1x16x2x8x128x257, .f32⟩
  | .hbm, ⟨85, _⟩ => ⟨S1x16x2x8x128x257, .f32⟩
  | .hbm, ⟨86, _⟩ => ⟨S1x16x2x8x128x257, .f32⟩
  | .hbm, ⟨87, _⟩ => ⟨S_, .f32⟩
  | .hbm, ⟨88, _⟩ => ⟨S1x16x2x8x128, .f32⟩
  | .hbm, ⟨89, _⟩ => ⟨S1x16x2x8x128x1, .f32⟩
  | .hbm, ⟨90, _⟩ => ⟨S1x16x2x8x128x257, .f32⟩
  | .hbm, ⟨91, _⟩ => ⟨S1x16x2x8x128x257, .f32⟩
  | .hbm, ⟨92, _⟩ => ⟨S1x16x2x8x128x256, .f32⟩
  | .hbm, ⟨93, _⟩ => ⟨S1x16x2x64x8x128, .f32⟩
  | .hbm, ⟨94, _⟩ => ⟨S1x16x128x2x8x64, .f32⟩
  | .hbm, ⟨95, _⟩ => ⟨S1x2048x1024, .f32⟩
  | .hbm, ⟨96, _⟩ => ⟨S2048x1024, .f32⟩
  | .hbm, ⟨97, _⟩ => ⟨S8x128x128, .f32⟩
  | .hbm, ⟨98, _⟩ => ⟨S8x128, .f32⟩
  | .hbm, ⟨99, _⟩ => ⟨S128x8, .f32⟩
  | .hbm, ⟨100, _⟩ => ⟨S2048x5376, .bf16⟩
  | .hbm, ⟨101, _⟩ => ⟨S1x16, .f32⟩
  | .hbm, ⟨102, _⟩ => ⟨S1x1024, .f32⟩
  | .hbm, ⟨103, _⟩ => ⟨S1x1024, .f32⟩
  | .hbm, ⟨104, _⟩ => ⟨S8x128x128, .f32⟩
  | .hbm, ⟨105, _⟩ => ⟨S8x128, .f32⟩
  | .local _ .vmem, ⟨0, _⟩ => ⟨S128x5376, .f32⟩
  | .local _ .vmem, ⟨1, _⟩ => ⟨S128x5376, .f32⟩
  | .local _ .vmem, ⟨2, _⟩ => ⟨S128x256, .f32⟩
  | .local _ .vmem, ⟨3, _⟩ => ⟨S128x256, .f32⟩
  | .local _ .vmem, ⟨4, _⟩ => ⟨S128x2048, .f32⟩
  | .local _ .vmem, ⟨5, _⟩ => ⟨S128x2048, .f32⟩
  | .local _ .vmem, ⟨6, _⟩ => ⟨S128x1024, .f32⟩
  | .local _ .vmem, ⟨7, _⟩ => ⟨S128x1024, .f32⟩
  | .local _ .vmem, ⟨8, _⟩ => ⟨S1x16, .f32⟩
  | .local _ .vmem, ⟨9, _⟩ => ⟨S1x1024, .f32⟩
  | .local _ .vmem, ⟨10, _⟩ => ⟨S1x1024, .f32⟩
  | .local _ .vmem, ⟨11, _⟩ => ⟨S8x128x128, .f32⟩
  | .local _ .vmem, ⟨12, _⟩ => ⟨S128x8, .f32⟩
  | .local _ .vmem, ⟨13, _⟩ => ⟨S128x5376, .bf16⟩
  | .local _ .vmem, ⟨14, _⟩ => ⟨S128x5376, .bf16⟩
  | .local _ .vmem, ⟨15, _⟩ => ⟨S1x16, .f32⟩
  | .local _ .vmem, ⟨16, _⟩ => ⟨S1x1024, .f32⟩
  | .local _ .vmem, ⟨17, _⟩ => ⟨S1x1024, .f32⟩
  | .local _ .vmem, ⟨18, _⟩ => ⟨S8x128x128, .f32⟩
  | .local _ .vmem, ⟨19, _⟩ => ⟨S8x128, .f32⟩
  | .local _ .vmem, ⟨20, _⟩ => ⟨S128x5376, .bf16⟩
  | .local _ .vmem, ⟨21, _⟩ => ⟨S256x256, .f32⟩
  | .local _ .vmem, ⟨22, _⟩ => ⟨S128x256, .f32⟩
  | .local _ .vmem, ⟨23, _⟩ => ⟨S1x128, .f32⟩
  | .local _ .vmem, ⟨24, _⟩ => ⟨S128x128, .f32⟩
  | _, _ => ⟨S2048x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_v34 : Ref sig .tc := ⟨.hbm, 46, rfl⟩
abbrev main_v35 : Ref sig .tc := ⟨.hbm, 47, rfl⟩
abbrev main_c_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_7 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78_0 : Ref sig .tc := ⟨.hbm, 100, rfl⟩
abbrev main_v78_1 : Ref sig .tc := ⟨.hbm, 101, rfl⟩
abbrev main_v78_2 : Ref sig .tc := ⟨.hbm, 102, rfl⟩
abbrev main_v78_3 : Ref sig .tc := ⟨.hbm, 103, rfl⟩
abbrev main_v78_4 : Ref sig .tc := ⟨.hbm, 104, rfl⟩
abbrev main_v78_5 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![17], ![false]⟩

def k0_cond4 (i : grid0.Coords) : BitVec 1 :=
  let arg0 : BitVec 32 := BitVec.ofNat 32 (i 0).val
  let c16_i32_18 : BitVec 32 := 16#32
  let v22 : BitVec 1 := Scalar.cmpi .eq arg0 c16_i32_18
  let v23 : BitVec 32 := Scalar.extui v22
  let c0_i32_19 : BitVec 32 := 0#32
  let v24 : BitVec 1 := Scalar.cmpi .ne v23 c0_i32_19
  v24

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c16_i32_8 : BitVec 32 := 16#32
  let v10 : BitVec 1 := Scalar.cmpi .slt arg0 c16_i32_8
  let v11 : BitVec 32 := Scalar.extui v10
  let c0_i32_9 : BitVec 32 := 0#32
  let v12 : BitVec 1 := Scalar.cmpi .ne v11 c0_i32_9
  v12

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x5376 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x5376 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S2048x5376 : Shape := ⟨2, ![2048, 5376]⟩
abbrev S2048x2048 : Shape := ⟨2, ![2048, 2048]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x5376 : Shape := ⟨3, ![1, 2048, 5376]⟩
abbrev S1x2048x1024 : Shape := ⟨3, ![1, 2048, 1024]⟩
abbrev S16 : Shape := ⟨1, ![16]⟩
abbrev S1x2048x128 : Shape := ⟨3, ![1, 2048, 128]⟩
abbrev S1x2048x16x64 : Shape := ⟨4, ![1, 2048, 16, 64]⟩
abbrev S1x2048x2x64 : Shape := ⟨4, ![1, 2048, 2, 64]⟩
abbrev S1x16x128x2x8x64 : Shape := ⟨6, ![1, 16, 128, 2, 8, 64]⟩
abbrev S1x16x128x2x64 : Shape := ⟨5, ![1, 16, 128, 2, 64]⟩
abbrev S1x1x128x2x64 : Shape := ⟨5, ![1, 1, 128, 2, 64]⟩
abbrev S_ : Shape := ⟨0, ![]⟩
abbrev S1x15x128x2x64 : Shape := ⟨5, ![1, 15, 128, 2, 64]⟩
abbrev S1x16x256x2x64 : Shape := ⟨5, ![1, 16, 256, 2, 64]⟩
abbrev S1x16x2x256x128x8 : Shape := ⟨6, ![1, 16, 2, 256, 128, 8]⟩
abbrev S1x16x2x8x128x256 : Shape := ⟨6, ![1, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S1x16x2x8x128x1 : Shape := ⟨6, ![1, 16, 2, 8, 128, 1]⟩
abbrev S1x16x2x8x128x257 : Shape := ⟨6, ![1, 16, 2, 8, 128, 257]⟩
abbrev S1x16x2x8x128 : Shape := ⟨5, ![1, 16, 2, 8, 128]⟩
abbrev S1x16x2x64x8x128 : Shape := ⟨6, ![1, 16, 2, 64, 8, 128]⟩
abbrev S1024 : Shape := ⟨1, ![1024]⟩
abbrev S8x128x128 : Shape := ⟨3, ![8, 128, 128]⟩
abbrev S8x128 : Shape := ⟨2, ![8, 128]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S1x2048x2048 : Shape := ⟨3, ![1, 2048, 2048]⟩
abbrev S1x128x8 : Shape := ⟨3, ![1, 128, 8]⟩
abbrev S2048 : Shape := ⟨1, ![2048]⟩
abbrev S1x16x2x64x256 : Shape := ⟨5, ![1, 16, 2, 64, 256]⟩
abbrev S16x2x8x128 : Shape := ⟨4, ![16, 2, 8, 128]⟩
abbrev S1x16x2x128x8x64 : Shape := ⟨6, ![1, 16, 2, 128, 8, 64]⟩
abbrev S1x16x2x256x64 : Shape := ⟨5, ![1, 16, 2, 256, 64]⟩

abbrev nBuf : Space → Nat
  | .hbm => 391
  | .vmem => 0
  | .smem => 0
  | _ => 0

abbrev hbmTy0_0 (i : Nat) : BufTy := match i % 128 with
  | 0 => ⟨S2048x5376, .f32⟩
  | 1 => ⟨S2048x2048, .f32⟩
  | 2 => ⟨S1x16, .f32⟩
  | 3 => ⟨S1x1024, .f32⟩
  | 4 => ⟨S1x1024, .f32⟩
  | 5 => ⟨S1x8x128x128, .f32⟩
  | 6 => ⟨S1x8x128, .f32⟩
  | 7 => ⟨S1x2048x5376, .f32⟩
  | 8 => ⟨S1x2048x1024, .f32⟩
  | 9 => ⟨S1x2048x1024, .f32⟩
  | 10 => ⟨S1x2048x1024, .f32⟩
  | 11 => ⟨S1x2048x1024, .f32⟩
  | 12 => ⟨S16, .f32⟩
  | 13 => ⟨S1x2048x1024, .f32⟩
  | 14 => ⟨S1x2048x128, .f32⟩
  | 15 => ⟨S1x2048x128, .f32⟩
  | 16 => ⟨S1x2048x16x64, .f32⟩
  | 17 => ⟨S1x2048x2x64, .f32⟩
  | 18 => ⟨S1x2048x2x64, .f32⟩
  | 19 => ⟨S1x16x128x2x8x64, .f32⟩
  | 20 => ⟨S1x16x128x2x64, .f32⟩
  | 21 => ⟨S1x16x128x2x64, .f32⟩
  | 22 => ⟨S1x1x128x2x64, .f32⟩
  | 23 => ⟨S_, .f32⟩
  | 24 => ⟨S1x1x128x2x64, .f32⟩
  | 25 => ⟨S1x15x128x2x64, .f32⟩
  | 26 => ⟨S1x16x128x2x64, .f32⟩
  | 27 => ⟨S_, .f32⟩
  | 28 => ⟨S1x1x128x2x64, .f32⟩
  | 29 => ⟨S1x16x256x2x64, .f32⟩
  | 30 => ⟨S1x1x128x2x64, .f32⟩
  | 31 => ⟨S_, .f32⟩
  | 32 => ⟨S1x1x128x2x64, .f32⟩
  | 33 => ⟨S1x15x128x2x64, .f32⟩
  | 34 => ⟨S1x16x128x2x64, .f32⟩
  | 35 => ⟨S_, .f32⟩
  | 36 => ⟨S1x1x128x2x64, .f32⟩
  | 37 => ⟨S1x16x256x2x64, .f32⟩
  | 38 => ⟨S1x16x2x256x128x8, .f32⟩
  | 39 => ⟨S1x16x2x8x128x256, .f32⟩
  | 40 => ⟨S_, .f32⟩
  | 41 => ⟨S1x16x2x8x128x256, .f32⟩
  | 42 => ⟨S1x16x2x8x128x256, .f32⟩
  | 43 => ⟨S128, .i32⟩
  | 44 => ⟨S128x1, .i32⟩
  | 45 => ⟨S_, .i32⟩
  | 46 => ⟨S128x1, .i32⟩
  | 47 => ⟨S128x1, .i32⟩
  | 48 => ⟨S256, .i32⟩
  | 49 => ⟨S1x256, .i32⟩
  | 50 => ⟨S128x256, .i32⟩
  | 51 => ⟨S128x256, .i32⟩
  | 52 => ⟨S128x256, .i32⟩
  | 53 => ⟨S_, .i32⟩
  | 54 => ⟨S128x256, .i32⟩
  | 55 => ⟨S128x256, .i1⟩
  | 56 => ⟨S_, .i32⟩
  | 57 => ⟨S128x256, .i32⟩
  | 58 => ⟨S128x256, .i1⟩
  | 59 => ⟨S128x256, .i1⟩
  | 60 => ⟨S16, .i32⟩
  | 61 => ⟨S_, .i32⟩
  | 62 => ⟨S16, .i32⟩
  | 63 => ⟨S16, .i1⟩
  | 64 => ⟨S16x1x1, .i1⟩
  | 65 => ⟨S_, .i32⟩
  | 66 => ⟨S1x256, .i32⟩
  | 67 => ⟨S1x256, .i1⟩
  | 68 => ⟨S1x1x256, .i1⟩
  | 69 => ⟨S16x1x256, .i1⟩
  | 70 => ⟨S16x1x256, .i1⟩
  | 71 => ⟨S16x1x256, .i1⟩
  | 72 => ⟨S1x128x256, .i1⟩
  | 73 => ⟨S16x128x256, .i1⟩
  | 74 => ⟨S16x128x256, .i1⟩
  | 75 => ⟨S16x128x256, .i1⟩
  | 76 => ⟨S1x16x1x1x128x256, .i1⟩
  | 77 => ⟨S_, .f32⟩
  | 78 => ⟨S_, .f32⟩
  | 79 => ⟨S1x16x2x8x128x256, .i1⟩
  | 80 => ⟨S1x16x2x8x128x256, .f32⟩
  | 81 => ⟨S1x16x2x8x128x256, .f32⟩
  | 82 => ⟨S_, .f32⟩
  | 83 => ⟨S1x16x2x8x128x256, .f32⟩
  | 84 => ⟨S2x8, .f32⟩
  | 85 => ⟨S1x1x2x8x1x1, .f32⟩
  | 86 => ⟨S1x16x2x8x128x1, .f32⟩
  | 87 => ⟨S1x16x2x8x128x257, .f32⟩
  | 88 => ⟨S_, .f32⟩
  | 89 => ⟨S1x16x2x8x128, .f32⟩
  | 90 => ⟨S1x16x2x8x128x1, .f32⟩
  | 91 => ⟨S1x16x2x8x128x257, .f32⟩
  | 92 => ⟨S1x16x2x8x128x257, .i1⟩
  | 93 => ⟨S1x16x2x8x128x257, .f32⟩
  | 94 => ⟨S_, .f32⟩
  | 95 => ⟨S1x16x2x8x128, .f32⟩
  | 96 => ⟨S_, .f32⟩
  | 97 => ⟨S1x16x2x8x128, .f32⟩
  | 98 => ⟨S1x16x2x8x128, .f32⟩
  | 99 => ⟨S_, .f32⟩
  | 100 => ⟨S1x16x2x8x128, .f32⟩
  | 101 => ⟨S1x16x2x8x128, .i1⟩
  | 102 => ⟨S_, .f32⟩
  | 103 => ⟨S1x16x2x8x128, .f32⟩
  | 104 => ⟨S1x16x2x8x128, .i1⟩
  | 105 => ⟨S_, .f32⟩
  | 106 => ⟨S1x16x2x8x128, .f32⟩
  | 107 => ⟨S_, .f32⟩
  | 108 => ⟨S1x16x2x8x128, .f32⟩
  | 109 => ⟨S_, .f32⟩
  | 110 => ⟨S1x16x2x8x128, .f32⟩
  | 111 => ⟨S1x16x2x8x128, .f32⟩
  | 112 => ⟨S1x16x2x8x128, .f32⟩
  | 113 => ⟨S1x16x2x8x128x1, .f32⟩
  | 114 => ⟨S1x16x2x8x128x257, .f32⟩
  | 115 => ⟨S1x16x2x8x128x257, .f32⟩
  | 116 => ⟨S1x16x2x8x128x257, .f32⟩
  | 117 => ⟨S_, .f32⟩
  | 118 => ⟨S1x16x2x8x128, .f32⟩
  | 119 => ⟨S1x16x2x8x128x1, .f32⟩
  | 120 => ⟨S1x16x2x8x128x257, .f32⟩
  | 121 => ⟨S1x16x2x8x128x257, .f32⟩
  | 122 => ⟨S1x16x2x8x128x1, .f32⟩
  | 123 => ⟨S_, .f32⟩
  | 124 => ⟨S1x16x2x8x128x1, .f32⟩
  | 125 => ⟨S1x16x2x8x128x1, .f32⟩
  | 126 => ⟨S1x16x2x8x128x256, .f32⟩
  | 127 => ⟨S1x16x2x64x8x128, .f32⟩
  | _ => ⟨S2048x5376, .f32⟩

abbrev hbmTy0_1 (i : Nat) : BufTy := match i % 128 with
  | 0 => ⟨S1x16x128x2x8x64, .f32⟩
  | 1 => ⟨S1x2048x1024, .f32⟩
  | 2 => ⟨S1x2048x1024, .f32⟩
  | 3 => ⟨S1x2048x1024, .f32⟩
  | 4 => ⟨S_, .f32⟩
  | 5 => ⟨S1x2048x1024, .f32⟩
  | 6 => ⟨S1x2048x1024, .f32⟩
  | 7 => ⟨S_, .f32⟩
  | 8 => ⟨S1x2048x1024, .f32⟩
  | 9 => ⟨S1x2048x1024, .f32⟩
  | 10 => ⟨S_, .f32⟩
  | 11 => ⟨S1x2048x1024, .f32⟩
  | 12 => ⟨S1x2048x1024, .f32⟩
  | 13 => ⟨S1x2048x1024, .f32⟩
  | 14 => ⟨S1x2048x1024, .f32⟩
  | 15 => ⟨S1x2048x1024, .f32⟩
  | 16 => ⟨S1024, .f32⟩
  | 17 => ⟨S1024, .f32⟩
  | 18 => ⟨S8x128x128, .f32⟩
  | 19 => ⟨S8x128, .f32⟩
  | 20 => ⟨S_, .f32⟩
  | 21 => ⟨S1x2048, .f32⟩
  | 22 => ⟨S1x2048x1, .f32⟩
  | 23 => ⟨S_, .f32⟩
  | 24 => ⟨S1x2048x1, .f32⟩
  | 25 => ⟨S1x2048x1, .f32⟩
  | 26 => ⟨S1x2048x1024, .f32⟩
  | 27 => ⟨S1x2048x1024, .f32⟩
  | 28 => ⟨S1x2048x1024, .f32⟩
  | 29 => ⟨S_, .f32⟩
  | 30 => ⟨S1x2048x1024, .f32⟩
  | 31 => ⟨S1x2048x1024, .f32⟩
  | 32 => ⟨S_, .f32⟩
  | 33 => ⟨S1x2048, .f32⟩
  | 34 => ⟨S1x2048x1, .f32⟩
  | 35 => ⟨S_, .f32⟩
  | 36 => ⟨S1x2048x1, .f32⟩
  | 37 => ⟨S1x2048x1, .f32⟩
  | 38 => ⟨S1x2048x1024, .f32⟩
  | 39 => ⟨S1x2048x1024, .f32⟩
  | 40 => ⟨S_, .f32⟩
  | 41 => ⟨S1x2048x1, .f32⟩
  | 42 => ⟨S1x2048x1, .f32⟩
  | 43 => ⟨S1x2048x1, .f32⟩
  | 44 => ⟨S1x2048x1, .f32⟩
  | 45 => ⟨S_, .f32⟩
  | 46 => ⟨S1x2048x1, .f32⟩
  | 47 => ⟨S1x2048x1, .f32⟩
  | 48 => ⟨S1x2048x1024, .f32⟩
  | 49 => ⟨S1x2048x1024, .f32⟩
  | 50 => ⟨S1x1x1024, .f32⟩
  | 51 => ⟨S1x2048x1024, .f32⟩
  | 52 => ⟨S1x2048x1024, .f32⟩
  | 53 => ⟨S1x1x1024, .f32⟩
  | 54 => ⟨S1x2048x1024, .f32⟩
  | 55 => ⟨S1x2048x1024, .f32⟩
  | 56 => ⟨S1x16x128x8x128, .f32⟩
  | 57 => ⟨S_, .f32⟩
  | 58 => ⟨S128x128, .f32⟩
  | 59 => ⟨S128x128, .i32⟩
  | 60 => ⟨S_, .i32⟩
  | 61 => ⟨S128x128, .i32⟩
  | 62 => ⟨S128x128, .i32⟩
  | 63 => ⟨S128x128, .i32⟩
  | 64 => ⟨S128x128, .i1⟩
  | 65 => ⟨S_, .f32⟩
  | 66 => ⟨S128x128, .f32⟩
  | 67 => ⟨S128x128, .f32⟩
  | 68 => ⟨S1x128x128, .f32⟩
  | 69 => ⟨S8x128x128, .f32⟩
  | 70 => ⟨S8x128x128, .f32⟩
  | 71 => ⟨S8x1x16x128x128, .f32⟩
  | 72 => ⟨S1x16x128x8x128, .f32⟩
  | 73 => ⟨S128x8, .f32⟩
  | 74 => ⟨S1x1x128x8x1, .f32⟩
  | 75 => ⟨S1x16x128x8x128, .f32⟩
  | 76 => ⟨S1x16x128x8x128, .f32⟩
  | 77 => ⟨S1x2048x1024, .f32⟩
  | 78 => ⟨S1x2048x1024, .f32⟩
  | 79 => ⟨S1x2048x1024, .f32⟩
  | 80 => ⟨S1x2048x1024, .f32⟩
  | 81 => ⟨S_, .f32⟩
  | 82 => ⟨S1x2048x1024, .f32⟩
  | 83 => ⟨S1x2048x1024, .f32⟩
  | 84 => ⟨S_, .f32⟩
  | 85 => ⟨S1x2048x1024, .f32⟩
  | 86 => ⟨S1x2048x1024, .f32⟩
  | 87 => ⟨S_, .f32⟩
  | 88 => ⟨S1x2048x1024, .f32⟩
  | 89 => ⟨S1x2048x1024, .f32⟩
  | 90 => ⟨S1x2048x1024, .f32⟩
  | 91 => ⟨S1x2048x1024, .f32⟩
  | 92 => ⟨S1x2048x1024, .f32⟩
  | 93 => ⟨S1x2048x2048, .f32⟩
  | 94 => ⟨S2048x2048, .f32⟩
  | 95 => ⟨S1x2048x2048, .f32⟩
  | 96 => ⟨S1x2048x1024, .f32⟩
  | 97 => ⟨S1x2048x1024, .f32⟩
  | 98 => ⟨S1x2048x1024, .f32⟩
  | 99 => ⟨S1x2048x1024, .f32⟩
  | 100 => ⟨S1x2048x1024, .f32⟩
  | 101 => ⟨S1x2048x1024, .f32⟩
  | 102 => ⟨S1x2048x1024, .f32⟩
  | 103 => ⟨S1x2048x1024, .f32⟩
  | 104 => ⟨S1x2048x1024, .f32⟩
  | 105 => ⟨S1x2048x1024, .f32⟩
  | 106 => ⟨S1x16x128x8x128, .f32⟩
  | 107 => ⟨S_, .f32⟩
  | 108 => ⟨S1x128x8, .f32⟩
  | 109 => ⟨S1x1x128x8x1, .f32⟩
  | 110 => ⟨S_, .f32⟩
  | 111 => ⟨S128x8, .f32⟩
  | 112 => ⟨S8x128, .f32⟩
  | 113 => ⟨S8x1x16x128x128, .f32⟩
  | 114 => ⟨S8x128x128, .f32⟩
  | 115 => ⟨S8x1x16x128x128, .f32⟩
  | 116 => ⟨S1x16x128x8x128, .f32⟩
  | 117 => ⟨S8x128x128, .f32⟩
  | 118 => ⟨S8x128x128, .f32⟩
  | 119 => ⟨S1x2048x1024, .f32⟩
  | 120 => ⟨S_, .f32⟩
  | 121 => ⟨S1x1024, .f32⟩
  | 122 => ⟨S1x1x1024, .f32⟩
  | 123 => ⟨S_, .f32⟩
  | 124 => ⟨S1024, .f32⟩
  | 125 => ⟨S1x2048x1024, .f32⟩
  | 126 => ⟨S_, .f32⟩
  | 127 => ⟨S1x1024, .f32⟩
  | _ => ⟨S2048x5376, .f32⟩

abbrev hbmTy0_2 (i : Nat) : BufTy := match i % 128 with
  | 0 => ⟨S1x1x1024, .f32⟩
  | 1 => ⟨S1x2048x1024, .f32⟩
  | 2 => ⟨S1x2048x1024, .f32⟩
  | 3 => ⟨S_, .f32⟩
  | 4 => ⟨S1024, .f32⟩
  | 5 => ⟨S1x2048x1024, .f32⟩
  | 6 => ⟨S_, .f32⟩
  | 7 => ⟨S1x2048, .f32⟩
  | 8 => ⟨S1x2048x1, .f32⟩
  | 9 => ⟨S1x2048x1024, .f32⟩
  | 10 => ⟨S1x2048x1024, .f32⟩
  | 11 => ⟨S1x2048x1, .f32⟩
  | 12 => ⟨S1x2048x1024, .f32⟩
  | 13 => ⟨S_, .f32⟩
  | 14 => ⟨S1x2048, .f32⟩
  | 15 => ⟨S1x2048x1, .f32⟩
  | 16 => ⟨S_, .f32⟩
  | 17 => ⟨S1x2048x1, .f32⟩
  | 18 => ⟨S1x2048x1, .f32⟩
  | 19 => ⟨S_, .f32⟩
  | 20 => ⟨S2048, .f32⟩
  | 21 => ⟨S1x2048, .f32⟩
  | 22 => ⟨S1x2048x1024, .f32⟩
  | 23 => ⟨S1x2048x1024, .f32⟩
  | 24 => ⟨S1x2048x1024, .f32⟩
  | 25 => ⟨S_, .f32⟩
  | 26 => ⟨S1x2048, .f32⟩
  | 27 => ⟨S1x2048x1, .f32⟩
  | 28 => ⟨S1x2048x1024, .f32⟩
  | 29 => ⟨S1x2048x1, .f32⟩
  | 30 => ⟨S_, .f32⟩
  | 31 => ⟨S1x2048x1, .f32⟩
  | 32 => ⟨S1x2048x1, .f32⟩
  | 33 => ⟨S_, .f32⟩
  | 34 => ⟨S2048, .f32⟩
  | 35 => ⟨S1x2048, .f32⟩
  | 36 => ⟨S1x2048x1024, .f32⟩
  | 37 => ⟨S1x2048x1024, .f32⟩
  | 38 => ⟨S1x8x128, .f32⟩
  | 39 => ⟨S1x8x128x128, .f32⟩
  | 40 => ⟨S1x1024, .f32⟩
  | 41 => ⟨S1x1024, .f32⟩
  | 42 => ⟨S1x2048x1024, .f32⟩
  | 43 => ⟨S1x2048x1024, .f32⟩
  | 44 => ⟨S1x2048x1024, .f32⟩
  | 45 => ⟨S1x2048x1024, .f32⟩
  | 46 => ⟨S1x2048x1024, .f32⟩
  | 47 => ⟨S1x2048x1024, .f32⟩
  | 48 => ⟨S1x16x128x2x8x64, .f32⟩
  | 49 => ⟨S1x16x2x64x8x128, .f32⟩
  | 50 => ⟨S1x16x2x8x128x256, .f32⟩
  | 51 => ⟨S1x16x2x64x256, .f32⟩
  | 52 => ⟨S1x16x256x2x64, .f32⟩
  | 53 => ⟨S_, .f32⟩
  | 54 => ⟨S1x16x2x8x128x257, .f32⟩
  | 55 => ⟨S1x16x2x8x128x257, .f32⟩
  | 56 => ⟨S1x16x2x8x128x257, .f32⟩
  | 57 => ⟨S1x16x2x8x128x257, .f32⟩
  | 58 => ⟨S_, .f32⟩
  | 59 => ⟨S1x16x2x8x128, .f32⟩
  | 60 => ⟨S1x16x2x8x128x1, .f32⟩
  | 61 => ⟨S1x16x2x8x128x1, .f32⟩
  | 62 => ⟨S1x16x2x8x128x257, .f32⟩
  | 63 => ⟨S1x16x2x8x128x257, .f32⟩
  | 64 => ⟨S_, .f32⟩
  | 65 => ⟨S16x2x8x128, .f32⟩
  | 66 => ⟨S1x16x2x8x128, .f32⟩
  | 67 => ⟨S1x16x2x8x128x257, .f32⟩
  | 68 => ⟨S1x16x2x8x128x257, .f32⟩
  | 69 => ⟨S1x16x2x8x128x257, .f32⟩
  | 70 => ⟨S1x16x2x8x128x256, .f32⟩
  | 71 => ⟨S1x16x2x8x128x1, .f32⟩
  | 72 => ⟨S_, .f32⟩
  | 73 => ⟨S2x8, .f32⟩
  | 74 => ⟨S1x1x2x8x1x1, .f32⟩
  | 75 => ⟨S_, .f32⟩
  | 76 => ⟨S2x8, .f32⟩
  | 77 => ⟨S16, .f32⟩
  | 78 => ⟨S_, .f32⟩
  | 79 => ⟨S1x16x2x8x128x256, .f32⟩
  | 80 => ⟨S1x16x2x8x128x256, .f32⟩
  | 81 => ⟨S_, .f32⟩
  | 82 => ⟨S1x16x2x8x128x256, .f32⟩
  | 83 => ⟨S1x16x2x8x128x256, .f32⟩
  | 84 => ⟨S1x16x2x256x128x8, .f32⟩
  | 85 => ⟨S1x16x2x128x8x64, .f32⟩
  | 86 => ⟨S1x16x128x2x8x64, .f32⟩
  | 87 => ⟨S1x16x2x256x64, .f32⟩
  | 88 => ⟨S1x16x256x2x64, .f32⟩
  | 89 => ⟨S1x16x128x2x64, .f32⟩
  | 90 => ⟨S1x16x128x2x64, .f32⟩
  | 91 => ⟨S1x1x128x2x64, .f32⟩
  | 92 => ⟨S1x15x128x2x64, .f32⟩
  | 93 => ⟨S_, .f32⟩
  | 94 => ⟨S1x16x128x2x64, .f32⟩
  | 95 => ⟨S1x16x128x2x64, .f32⟩
  | 96 => ⟨S1x16x128x2x64, .f32⟩
  | 97 => ⟨S1x16x128x2x64, .f32⟩
  | 98 => ⟨S1x1x128x2x64, .f32⟩
  | 99 => ⟨S1x15x128x2x64, .f32⟩
  | 100 => ⟨S_, .f32⟩
  | 101 => ⟨S1x16x128x2x64, .f32⟩
  | 102 => ⟨S1x16x128x2x64, .f32⟩
  | 103 => ⟨S1x2048x2x64, .f32⟩
  | 104 => ⟨S1x2048x2x64, .f32⟩
  | 105 => ⟨S1x2048x16x64, .f32⟩
  | 106 => ⟨S1x2048x128, .f32⟩
  | 107 => ⟨S1x2048x128, .f32⟩
  | 108 => ⟨S1x2048x1024, .f32⟩
  | 109 => ⟨S_, .f32⟩
  | 110 => ⟨S1x2048x5376, .f32⟩
  | 111 => ⟨S_, .f32⟩
  | 112 => ⟨S1x2048x5376, .f32⟩
  | 113 => ⟨S1x2048x5376, .f32⟩
  | 114 => ⟨S_, .f32⟩
  | 115 => ⟨S1x2048x5376, .f32⟩
  | 116 => ⟨S1x2048x5376, .f32⟩
  | 117 => ⟨S1x16, .f32⟩
  | 118 => ⟨S_, .f32⟩
  | 119 => ⟨S1x2048x5376, .f32⟩
  | 120 => ⟨S1x2048x5376, .f32⟩
  | 121 => ⟨S_, .f32⟩
  | 122 => ⟨S1x2048x5376, .f32⟩
  | 123 => ⟨S1x2048x5376, .f32⟩
  | 124 => ⟨S_, .f32⟩
  | 125 => ⟨S1x2048x5376, .f32⟩
  | 126 => ⟨S1x2048x5376, .f32⟩
  | 127 => ⟨S_, .f32⟩
  | _ => ⟨S2048x5376, .f32⟩

abbrev hbmTy0_3 (i : Nat) : BufTy := match i % 128 with
  | 0 => ⟨S1x2048x5376, .f32⟩
  | 1 => ⟨S1x2048x5376, .f32⟩
  | 2 => ⟨S_, .f32⟩
  | 3 => ⟨S2048x5376, .f32⟩
  | 4 => ⟨S2048x5376, .bf16⟩
  | 5 => ⟨S8x128x128, .f32⟩
  | 6 => ⟨S8x128, .f32⟩
  | _ => ⟨S2048x5376, .f32⟩

abbrev hbmTy (i : Nat) : BufTy := match i / 128 with
  | 0 => hbmTy0_0 i
  | 1 => hbmTy0_1 i
  | 2 => hbmTy0_2 i
  | 3 => hbmTy0_3 i
  | _ => ⟨S2048x5376, .f32⟩

abbrev bufTy : (tb : Table) → Fin (tcTables nBuf tb) → BufTy
  | .hbm, ⟨i, _⟩ => hbmTy i
  | _, _ => ⟨S2048x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_c_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_call0_v0 : Ref sig .tc := ⟨.hbm, 78, rfl⟩
abbrev main_v60_1 : Ref sig .tc := ⟨.hbm, 79, rfl⟩
abbrev main_call0_v2 : Ref sig .tc := ⟨.hbm, 80, rfl⟩
abbrev main_v60_0 : Ref sig .tc := ⟨.hbm, 81, rfl⟩
abbrev main_call0_cst : Ref sig .tc := ⟨.hbm, 82, rfl⟩
abbrev main_v60_2 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_9 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_10 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_cst_13 : Ref sig .tc := ⟨.hbm, 102, rfl⟩
abbrev main_v75 : Ref sig .tc := ⟨.hbm, 103, rfl⟩
abbrev main_v76 : Ref sig .tc := ⟨.hbm, 104, rfl⟩
abbrev main_cst_14 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_18 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_call1_v0 : Ref sig .tc := ⟨.hbm, 130, rfl⟩
abbrev main_call1_v1 : Ref sig .tc := ⟨.hbm, 131, rfl⟩
abbrev main_call1_cst : Ref sig .tc := ⟨.hbm, 132, rfl⟩
abbrev main_call1_v2 : Ref sig .tc := ⟨.hbm, 133, rfl⟩
abbrev main_call1_v3 : Ref sig .tc := ⟨.hbm, 134, rfl⟩
abbrev main_call1_cst_0 : Ref sig .tc := ⟨.hbm, 135, rfl⟩
abbrev main_call1_v4 : Ref sig .tc := ⟨.hbm, 136, rfl⟩
abbrev main_v97_2 : Ref sig .tc := ⟨.hbm, 137, rfl⟩
abbrev main_call1_cst_1 : Ref sig .tc := ⟨.hbm, 138, rfl⟩
abbrev main_call1_v6 : Ref sig .tc := ⟨.hbm, 139, rfl⟩
abbrev main_call1_v7 : Ref sig .tc := ⟨.hbm, 140, rfl⟩
abbrev main_v97_1 : Ref sig .tc := ⟨.hbm, 141, rfl⟩
abbrev main_v97_0 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_19 : Ref sig .tc := ⟨.hbm, 148, rfl⟩
abbrev main_v103 : Ref sig .tc := ⟨.hbm, 149, rfl⟩
abbrev main_v104 : Ref sig .tc := ⟨.hbm, 150, rfl⟩
abbrev main_cst_20 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_21 : Ref sig .tc := ⟨.hbm, 157, rfl⟩
abbrev main_v110 : Ref sig .tc := ⟨.hbm, 158, rfl⟩
abbrev main_v111 : Ref sig .tc := ⟨.hbm, 159, rfl⟩
abbrev main_cst_22 : Ref sig .tc := ⟨.hbm, 160, rfl⟩
abbrev main_v112 : Ref sig .tc := ⟨.hbm, 161, rfl⟩
abbrev main_v113 : Ref sig .tc := ⟨.hbm, 162, rfl⟩
abbrev main_cst_23 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_24 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_cst_25 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_26 : Ref sig .tc := ⟨.hbm, 185, rfl⟩
abbrev main_v133 : Ref sig .tc := ⟨.hbm, 186, rfl⟩
abbrev main_call2_v0 : Ref sig .tc := ⟨.hbm, 187, rfl⟩
abbrev main_call2_c : Ref sig .tc := ⟨.hbm, 188, rfl⟩
abbrev main_call2_v1 : Ref sig .tc := ⟨.hbm, 189, rfl⟩
abbrev main_call2_v2 : Ref sig .tc := ⟨.hbm, 190, rfl⟩
abbrev main_call2_v3 : Ref sig .tc := ⟨.hbm, 191, rfl⟩
abbrev main_call2_v4 : Ref sig .tc := ⟨.hbm, 192, rfl⟩
abbrev main_call2_cst : Ref sig .tc := ⟨.hbm, 193, rfl⟩
abbrev main_call2_v5 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_call3_v0 : Ref sig .tc := ⟨.hbm, 207, rfl⟩
abbrev main_call3_v1 : Ref sig .tc := ⟨.hbm, 208, rfl⟩
abbrev main_call3_cst : Ref sig .tc := ⟨.hbm, 209, rfl⟩
abbrev main_call3_v2 : Ref sig .tc := ⟨.hbm, 210, rfl⟩
abbrev main_call3_v3 : Ref sig .tc := ⟨.hbm, 211, rfl⟩
abbrev main_call3_cst_0 : Ref sig .tc := ⟨.hbm, 212, rfl⟩
abbrev main_call3_v4 : Ref sig .tc := ⟨.hbm, 213, rfl⟩
abbrev main_v146_2 : Ref sig .tc := ⟨.hbm, 214, rfl⟩
abbrev main_call3_cst_1 : Ref sig .tc := ⟨.hbm, 215, rfl⟩
abbrev main_call3_v6 : Ref sig .tc := ⟨.hbm, 216, rfl⟩
abbrev main_call3_v7 : Ref sig .tc := ⟨.hbm, 217, rfl⟩
abbrev main_v146_1 : Ref sig .tc := ⟨.hbm, 218, rfl⟩
abbrev main_v146_0 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_call4_v0 : Ref sig .tc := ⟨.hbm, 228, rfl⟩
abbrev main_call4_v1 : Ref sig .tc := ⟨.hbm, 229, rfl⟩
abbrev main_call4_v2 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_cst_27 : Ref sig .tc := ⟨.hbm, 235, rfl⟩
abbrev main_v159 : Ref sig .tc := ⟨.hbm, 236, rfl⟩
abbrev main_v160 : Ref sig .tc := ⟨.hbm, 237, rfl⟩
abbrev main_cst_28 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_cst_29 : Ref sig .tc := ⟨.hbm, 248, rfl⟩
abbrev main_v170 : Ref sig .tc := ⟨.hbm, 249, rfl⟩
abbrev main_v171 : Ref sig .tc := ⟨.hbm, 250, rfl⟩
abbrev main_cst_30 : Ref sig .tc := ⟨.hbm, 251, rfl⟩
abbrev main_v172 : Ref sig .tc := ⟨.hbm, 252, rfl⟩
abbrev main_v173 : Ref sig .tc := ⟨.hbm, 253, rfl⟩
abbrev main_cst_31 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_cst_32 : Ref sig .tc := ⟨.hbm, 259, rfl⟩
abbrev main_v178 : Ref sig .tc := ⟨.hbm, 260, rfl⟩
abbrev main_v179 : Ref sig .tc := ⟨.hbm, 261, rfl⟩
abbrev main_cst_33 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_cst_34 : Ref sig .tc := ⟨.hbm, 269, rfl⟩
abbrev main_v186 : Ref sig .tc := ⟨.hbm, 270, rfl⟩
abbrev main_v187 : Ref sig .tc := ⟨.hbm, 271, rfl⟩
abbrev main_cst_35 : Ref sig .tc := ⟨.hbm, 272, rfl⟩
abbrev main_v188 : Ref sig .tc := ⟨.hbm, 273, rfl⟩
abbrev main_v189 : Ref sig .tc := ⟨.hbm, 274, rfl⟩
abbrev main_cst_36 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_cst_37 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_cst_38 : Ref sig .tc := ⟨.hbm, 286, rfl⟩
abbrev main_v199 : Ref sig .tc := ⟨.hbm, 287, rfl⟩
abbrev main_v200 : Ref sig .tc := ⟨.hbm, 288, rfl⟩
abbrev main_cst_39 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_call5_v0 : Ref sig .tc := ⟨.hbm, 300, rfl⟩
abbrev main_call5_v1 : Ref sig .tc := ⟨.hbm, 301, rfl⟩
abbrev main_call5_v2 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_v216 : Ref sig .tc := ⟨.hbm, 308, rfl⟩
abbrev main_cst_40 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_cst_41 : Ref sig .tc := ⟨.hbm, 314, rfl⟩
abbrev main_v221 : Ref sig .tc := ⟨.hbm, 315, rfl⟩
abbrev main_v222 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_cst_42 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_cst_43 : Ref sig .tc := ⟨.hbm, 328, rfl⟩
abbrev main_v233 : Ref sig .tc := ⟨.hbm, 329, rfl⟩
abbrev main_v234 : Ref sig .tc := ⟨.hbm, 330, rfl⟩
abbrev main_cst_44 : Ref sig .tc := ⟨.hbm, 331, rfl⟩
abbrev main_v235 : Ref sig .tc := ⟨.hbm, 332, rfl⟩
abbrev main_v236 : Ref sig .tc := ⟨.hbm, 333, rfl⟩
abbrev main_call6_cst : Ref sig .tc := ⟨.hbm, 334, rfl⟩
abbrev main_call6_v0 : Ref sig .tc := ⟨.hbm, 335, rfl⟩
abbrev main_v237 : Ref sig .tc := ⟨.hbm, 336, rfl⟩
abbrev main_cst_45 : Ref sig .tc := ⟨.hbm, 337, rfl⟩
abbrev main_v238 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_v242 : Ref sig .tc := ⟨.hbm, 342, rfl⟩
abbrev main_v243 : Ref sig .tc := ⟨.hbm, 343, rfl⟩
abbrev main_v244 : Ref sig .tc := ⟨.hbm, 344, rfl⟩
abbrev main_v245 : Ref sig .tc := ⟨.hbm, 345, rfl⟩
abbrev main_v246 : Ref sig .tc := ⟨.hbm, 346, rfl⟩
abbrev main_v247 : Ref sig .tc := ⟨.hbm, 347, rfl⟩
abbrev main_v248 : Ref sig .tc := ⟨.hbm, 348, rfl⟩
abbrev main_cst_46 : Ref sig .tc := ⟨.hbm, 349, rfl⟩
abbrev main_v249 : Ref sig .tc := ⟨.hbm, 350, rfl⟩
abbrev main_v250 : Ref sig .tc := ⟨.hbm, 351, rfl⟩
abbrev main_v251 : Ref sig .tc := ⟨.hbm, 352, rfl⟩
abbrev main_v252 : Ref sig .tc := ⟨.hbm, 353, rfl⟩
abbrev main_v253 : Ref sig .tc := ⟨.hbm, 354, rfl⟩
abbrev main_v254 : Ref sig .tc := ⟨.hbm, 355, rfl⟩
abbrev main_cst_47 : Ref sig .tc := ⟨.hbm, 356, rfl⟩
abbrev main_v255 : Ref sig .tc := ⟨.hbm, 357, rfl⟩
abbrev main_v256 : Ref sig .tc := ⟨.hbm, 358, rfl⟩
abbrev main_v257 : Ref sig .tc := ⟨.hbm, 359, rfl⟩
abbrev main_v258 : Ref sig .tc := ⟨.hbm, 360, rfl⟩
abbrev main_v259 : Ref sig .tc := ⟨.hbm, 361, rfl⟩
abbrev main_v260 : Ref sig .tc := ⟨.hbm, 362, rfl⟩
abbrev main_v261 : Ref sig .tc := ⟨.hbm, 363, rfl⟩
abbrev main_v262 : Ref sig .tc := ⟨.hbm, 364, rfl⟩
abbrev main_cst_48 : Ref sig .tc := ⟨.hbm, 365, rfl⟩
abbrev main_v263 : Ref sig .tc := ⟨.hbm, 366, rfl⟩
abbrev main_cst_49 : Ref sig .tc := ⟨.hbm, 367, rfl⟩
abbrev main_v264 : Ref sig .tc := ⟨.hbm, 368, rfl⟩
abbrev main_v265 : Ref sig .tc := ⟨.hbm, 369, rfl⟩
abbrev main_cst_50 : Ref sig .tc := ⟨.hbm, 370, rfl⟩
abbrev main_v266 : Ref sig .tc := ⟨.hbm, 371, rfl⟩
abbrev main_v267 : Ref sig .tc := ⟨.hbm, 372, rfl⟩
abbrev main_v268 : Ref sig .tc := ⟨.hbm, 373, rfl⟩
abbrev main_cst_51 : Ref sig .tc := ⟨.hbm, 374, rfl⟩
abbrev main_v269 : Ref sig .tc := ⟨.hbm, 375, rfl⟩
abbrev main_v270 : Ref sig .tc := ⟨.hbm, 376, rfl⟩
abbrev main_cst_52 : Ref sig .tc := ⟨.hbm, 377, rfl⟩
abbrev main_v271 : Ref sig .tc := ⟨.hbm, 378, rfl⟩
abbrev main_v272 : Ref sig .tc := ⟨.hbm, 379, rfl⟩
abbrev main_cst_53 : Ref sig .tc := ⟨.hbm, 380, rfl⟩
abbrev main_v273 : Ref sig .tc := ⟨.hbm, 381, rfl⟩
abbrev main_v274 : Ref sig .tc := ⟨.hbm, 382, rfl⟩
abbrev main_cst_54 : Ref sig .tc := ⟨.hbm, 383, rfl⟩
abbrev main_v275 : Ref sig .tc := ⟨.hbm, 384, rfl⟩
abbrev main_v276 : Ref sig .tc := ⟨.hbm, 385, rfl⟩
abbrev main_cst_55 : Ref sig .tc := ⟨.hbm, 386, rfl⟩
abbrev main_v277 : Ref sig .tc := ⟨.hbm, 387, rfl⟩
abbrev main_v278 : Ref sig .tc := ⟨.hbm, 388, rfl⟩
abbrev main_v279 : Ref sig .tc := ⟨.hbm, 389, rfl⟩
abbrev main_v280 : Ref sig .tc := ⟨.hbm, 390, rfl⟩

abbrev nD : Nat := 1
abbrev τ : Topo := Topo.v7x

variable {F : FTy → Type} [FloatOps F]
-- ==== WOutGrad.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WOutGradReferenceIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProjGrad.lean ====
abbrev S2048x2048 : Shape := ⟨2, ![2048, 2048]⟩
abbrev S8x128 : Shape := ⟨2, ![8, 128]⟩
abbrev S256x2048 : Shape := ⟨2, ![256, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S8x128, .f32⟩
  | .hbm, ⟨3, _⟩ => ⟨S2048x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutProjGradReferenceIdeal.lean ====
abbrev S2048x2048 : Shape := ⟨2, ![2048, 2048]⟩
abbrev S8x128 : Shape := ⟨2, ![8, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S8x128, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== InProjOdd.lean ====
abbrev S2048x2048 : Shape := ⟨2, ![2048, 2048]⟩
abbrev S5376x2048 : Shape := ⟨2, ![5376, 2048]⟩
abbrev S2048x5376 : Shape := ⟨2, ![2048, 5376]⟩
abbrev S8x128 : Shape := ⟨2, ![8, 128]⟩
abbrev S1024x2048 : Shape := ⟨2, ![1024, 2048]⟩
abbrev S768x2048 : Shape := ⟨2, ![768, 2048]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S5376x2048, .bf16⟩
  | .hbm, ⟨2, _⟩ => ⟨S2048x5376, .f32⟩
  | .hbm, ⟨3, _⟩ => ⟨S8x128, .f32⟩
  | .hbm, ⟨4, _⟩ => ⟨S2048x5376, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S1024x768, .f32⟩
  | .local _ .vmem, ⟨5, _⟩ => ⟨S1024x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjOddReferenceIdeal.lean ====
abbrev S2048x2048 : Shape := ⟨2, ![2048, 2048]⟩
abbrev S5376x2048 : Shape := ⟨2, ![5376, 2048]⟩
abbrev S2048x5376 : Shape := ⟨2, ![2048, 5376]⟩
abbrev S8x128 : Shape := ⟨2, ![8, 128]⟩
abbrev S5376 : Shape := ⟨1, ![5376]⟩
abbrev S_ : Shape := ⟨0, ![]⟩
abbrev S1x5376 : Shape := ⟨2, ![1, 5376]⟩

abbrev nBuf : Space → Nat
  | .hbm => 55
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5376x2048, .bf16⟩
  | .hbm, ⟨2, _⟩ => ⟨S2048x5376, .f32⟩
  | .hbm, ⟨3, _⟩ => ⟨S8x128, .f32⟩
  | .hbm, ⟨4, _⟩ => ⟨S5376, .i32⟩
  | .hbm, ⟨5, _⟩ => ⟨S_, .i32⟩
  | .hbm, ⟨6, _⟩ => ⟨S_, .i32⟩
  | .hbm, ⟨7, _⟩ => ⟨S5376, .i32⟩
  | .hbm, ⟨8, _⟩ => ⟨S5376, .i32⟩
  | .hbm, ⟨9, _⟩ => ⟨S5376, .i32⟩
  | .hbm, ⟨10, _⟩ => ⟨S_, .i32⟩
  | .hbm, ⟨11, _⟩ => ⟨S5376, .i32⟩
  | .hbm, ⟨12, _⟩ => ⟨S5376, .i1⟩
  | .hbm, ⟨13, _⟩ => ⟨S5376, .i32⟩
  | .hbm, ⟨14, _⟩ => ⟨S5376, .i32⟩
  | .hbm, ⟨15, _⟩ => ⟨S_, .i32⟩
  | .hbm, ⟨16, _⟩ => ⟨S5376, .i32⟩
  | .hbm, ⟨17, _⟩ => ⟨S5376, .i1⟩
  | .hbm, ⟨18, _⟩ => ⟨S5376, .i1⟩
  | .hbm, ⟨19, _⟩ => ⟨S_, .i32⟩
  | .hbm, ⟨20, _⟩ => ⟨S5376, .i32⟩
  | .hbm, ⟨21, _⟩ => ⟨S5376, .i32⟩
  | .hbm, ⟨22, _⟩ => ⟨S5376, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S5376, .i32⟩
  | .hbm, ⟨30, _⟩ => ⟨S5376, .i32⟩
  | .hbm, ⟨31, _⟩ => ⟨S_, .i32⟩
  | .hbm, ⟨32, _⟩ => ⟨S5376, .i32⟩
  | .hbm, ⟨33, _⟩ => ⟨S5376, .i1⟩
  | .hbm, ⟨34, _⟩ => ⟨S_, .i32⟩
  | .hbm, ⟨35, _⟩ => ⟨S5376, .i32⟩
  | .hbm, ⟨36, _⟩ => ⟨S5376, .i1⟩
  | .hbm, ⟨37, _⟩ => ⟨S_, .i32⟩
  | .hbm, ⟨38, _⟩ => ⟨S_, .i1⟩
  | .hbm, ⟨39, _⟩ => ⟨S5376, .i1⟩
  | .hbm, ⟨40, _⟩ => ⟨S5376, .i1⟩
  | .hbm, ⟨41, _⟩ => ⟨S5376, .i1⟩
  | .hbm, ⟨42, _⟩ => ⟨S5376, .i32⟩
  | .hbm, ⟨43, _⟩ => ⟨S5376, .i32⟩
  | .hbm, ⟨44, _⟩ => ⟨S5376, .i32⟩
  | .hbm, ⟨45, _⟩ => ⟨S_, .i32⟩
  | .hbm, ⟨46, _⟩ => ⟨S5376, .i32⟩
  | .hbm, ⟨47, _⟩ => ⟨S5376, .i1⟩
  | .hbm, ⟨48, _⟩ => ⟨S1x5376, .i1⟩
  | .hbm, ⟨49, _⟩ => ⟨S2048x2048, .f32⟩
  | .hbm, ⟨50, _⟩ => ⟨S5376x2048, .f32⟩
  | .hbm, ⟨51, _⟩ => ⟨S2048x5376, .f32⟩
  | .hbm, ⟨52, _⟩ => ⟨S2048x5376, .f32⟩
  | .hbm, ⟨53, _⟩ => ⟨S2048x5376, .i1⟩
  | .hbm, ⟨54, _⟩ => ⟨S2048x5376, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v2 : Ref sig .tc := ⟨.hbm, 44, rfl⟩
abbrev main_c_1 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_call2_v0 : Ref sig .tc := ⟨.hbm, 53, rfl⟩
abbrev main_v10 : Ref sig .tc := ⟨.hbm, 54, rfl⟩

abbrev nD : Nat := 1
abbrev τ : Topo := Topo.v7x

variable {F : FTy → Type} [FloatOps F]
-- ==== InProjGrad.lean ====
abbrev S2048x5376 : Shape := ⟨2, ![2048, 5376]⟩
abbrev S5376x2048 : Shape := ⟨2, ![5376, 2048]⟩
abbrev S2048x2048 : Shape := ⟨2, ![2048, 2048]⟩
abbrev S1x2048 : Shape := ⟨2, ![1, 2048]⟩
abbrev S1x6144 : Shape := ⟨2, ![1, 6144]⟩
abbrev S256x5376 : Shape := ⟨2, ![256, 5376]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S2048x5376, .bf16⟩
  | .hbm, ⟨1, _⟩ => ⟨S5376x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x6144, .f32⟩
  | .hbm, ⟨6, _⟩ => ⟨S2048x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x5376, .bf16⟩
  | .local _ .vmem, ⟨1, _⟩ => ⟨S256x5376, .bf16⟩
  | .local _ .vmem, ⟨2, _⟩ => ⟨S5376x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x6144, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S2048x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5376x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InProjGradReferenceIdeal.lean ====
abbrev S2048x5376 : Shape := ⟨2, ![2048, 5376]⟩
abbrev S5376x2048 : Shape := ⟨2, ![5376, 2048]⟩
abbrev S2048x2048 : Shape := ⟨2, ![2048, 2048]⟩
abbrev S1x2048 : Shape := ⟨2, ![1, 2048]⟩
abbrev S1x6144 : Shape := ⟨2, ![1, 6144]⟩
abbrev S2048 : Shape := ⟨1, ![2048]⟩
abbrev S_ : Shape := ⟨0, ![]⟩
abbrev S2048x1 : Shape := ⟨2, ![2048, 1]⟩

abbrev nBuf : Space → Nat
  | .hbm => 78
  | .vmem => 0
  | .smem => 0
  | _ => 0

abbrev bufTy : (tb : Table) → Fin (tcTables nBuf tb) → BufTy
  | .hbm, ⟨0, _⟩ => ⟨S2048x5376, .bf16⟩
  | .hbm, ⟨1, _⟩ => ⟨S5376x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x6144, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S5376x2048, .f32⟩
  | .hbm, ⟨38, _⟩ => ⟨S2048x5376, .f32⟩
  | .hbm, ⟨39, _⟩ => ⟨S2048x5376, .f32⟩
  | .hbm, ⟨40, _⟩ => ⟨S2048x5376, .f32⟩
  | .hbm, ⟨41, _⟩ => ⟨S2048x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x2048, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x2048, .f32⟩
  | .hbm, ⟨64, _⟩ => ⟨S2048x2048, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S1x2048, .f32⟩
  | .hbm, ⟨77, _⟩ => ⟨S2048x2048, .f32⟩
  | _, _ => ⟨S2048x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== LossHead.lean ====
abbrev S2048x2048 : Shape := ⟨2, ![2048, 2048]⟩
abbrev S1x6144 : Shape := ⟨2, ![1, 6144]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩

abbrev nBuf : Space → Nat
  | .hbm => 11
  | .vmem => 16
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S1x6144, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S1x1, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x6144, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | .local _ .vmem, ⟨15, _⟩ => ⟨S1x1, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossHeadReferenceIdeal.lean ====
abbrev S2048x2048 : Shape := ⟨2, ![2048, 2048]⟩
abbrev S1x6144 : Shape := ⟨2, ![1, 6144]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S1x6144, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048, .f32⟩
  | .hbm, ⟨65, _⟩ => ⟨S2048x2048, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x2048, .f32⟩
  | .hbm, ⟨70, _⟩ => ⟨S2048x2048, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S1x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S_, .f32⟩
  | .hbm, ⟨87, _⟩ => ⟨S2048, .f32⟩
  | .hbm, ⟨88, _⟩ => ⟨S1x2048, .f32⟩
  | .hbm, ⟨89, _⟩ => ⟨S2048x2048, .bf16⟩
  | .hbm, ⟨90, _⟩ => ⟨S1x1, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== AdamOut.lean ====
abbrev S512x2048 : Shape := ⟨2, ![512, 2048]⟩
abbrev S2048x1536 : Shape := ⟨2, ![2048, 1536]⟩
abbrev S256x2048 : Shape := ⟨2, ![256, 2048]⟩

abbrev nBuf : Space → Nat
  | .hbm => 9
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S2048x1536, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutReferenceIdeal.lean ====
abbrev S512x2048 : Shape := ⟨2, ![512, 2048]⟩
abbrev S2048x1536 : Shape := ⟨2, ![2048, 1536]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S2048x1536, .f32⟩
  | .hbm, ⟨5, _⟩ => ⟨S_, .f32⟩
  | .hbm, ⟨6, _⟩ => ⟨S512x2048, .f32⟩
  | .hbm, ⟨7, _⟩ => ⟨S512x2048, .f32⟩
  | .hbm, ⟨8, _⟩ => ⟨S_, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S_, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S_, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamIn.lean ====
abbrev S1344x2048 : Shape := ⟨2, ![1344, 2048]⟩
abbrev S336x2048 : Shape := ⟨2, ![336, 2048]⟩

abbrev nBuf : Space → Nat
  | .hbm => 9
  | .vmem => 16
  | .smem => 0
  | _ => 0

abbrev bufTy : (tb : Table) → Fin (tcTables nBuf tb) → BufTy
  | .hbm, ⟨0, _⟩ => ⟨S1344x2048, .f32⟩
  | .hbm, ⟨1, _⟩ => ⟨S1344x2048, .f32⟩
  | .hbm, ⟨2, _⟩ => ⟨S1344x2048, .f32⟩
  | .hbm, ⟨3, _⟩ => ⟨S1344x2048, .f32⟩
  | .hbm, ⟨4, _⟩ => ⟨S1344x2048, .f32⟩
  | .hbm, ⟨5, _⟩ => ⟨S1344x2048, .f32⟩
  | .hbm, ⟨6, _⟩ => ⟨S1344x2048, .f32⟩
  | .hbm, ⟨7, _⟩ => ⟨S1344x2048, .f32⟩
  | .hbm, ⟨8, _⟩ => ⟨S1344x2048, .f32⟩
  | .local _ .vmem, ⟨0, _⟩ => ⟨S336x2048, .f32⟩
  | .local _ .vmem, ⟨1, _⟩ => ⟨S336x2048, .f32⟩
  | .local _ .vmem, ⟨2, _⟩ => ⟨S336x2048, .f32⟩
  | .local _ .vmem, ⟨3, _⟩ => ⟨S336x2048, .f32⟩
  | .local _ .vmem, ⟨4, _⟩ => ⟨S336x2048, .f32⟩
  | .local _ .vmem, ⟨5, _⟩ => ⟨S336x2048, .f32⟩
  | .local _ .vmem, ⟨6, _⟩ => ⟨S336x2048, .f32⟩
  | .local _ .vmem, ⟨7, _⟩ => ⟨S336x2048, .f32⟩
  | .local _ .vmem, ⟨8, _⟩ => ⟨S336x2048, .f32⟩
  | .local _ .vmem, ⟨9, _⟩ => ⟨S336x2048, .f32⟩
  | .local _ .vmem, ⟨10, _⟩ => ⟨S336x2048, .f32⟩
  | .local _ .vmem, ⟨11, _⟩ => ⟨S336x2048, .f32⟩
  | .local _ .vmem, ⟨12, _⟩ => ⟨S336x2048, .f32⟩
  | .local _ .vmem, ⟨13, _⟩ => ⟨S336x2048, .f32⟩
  | .local _ .vmem, ⟨14, _⟩ => ⟨S336x2048, .f32⟩
  | .local _ .vmem, ⟨15, _⟩ => ⟨S336x2048, .f32⟩
  | _, _ => ⟨S1344x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S336x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S336x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S336x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S336x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S336x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S336x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S336x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S336x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInReferenceIdeal.lean ====
abbrev S1344x2048 : Shape := ⟨2, ![1344, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1344x2048, .f32⟩
  | .hbm, ⟨1, _⟩ => ⟨S1344x2048, .f32⟩
  | .hbm, ⟨2, _⟩ => ⟨S1344x2048, .f32⟩
  | .hbm, ⟨3, _⟩ => ⟨S1344x2048, .f32⟩
  | .hbm, ⟨4, _⟩ => ⟨S1344x2048, .f32⟩
  | .hbm, ⟨5, _⟩ => ⟨S_, .f32⟩
  | .hbm, ⟨6, _⟩ => ⟨S1344x2048, .f32⟩
  | .hbm, ⟨7, _⟩ => ⟨S1344x2048, .f32⟩
  | .hbm, ⟨8, _⟩ => ⟨S_, .f32⟩
  | .hbm, ⟨9, _⟩ => ⟨S1344x2048, .f32⟩
  | .hbm, ⟨10, _⟩ => ⟨S1344x2048, .f32⟩
  | .hbm, ⟨11, _⟩ => ⟨S1344x2048, .f32⟩
  | .hbm, ⟨12, _⟩ => ⟨S_, .f32⟩
  | .hbm, ⟨13, _⟩ => ⟨S1344x2048, .f32⟩
  | .hbm, ⟨14, _⟩ => ⟨S1344x2048, .f32⟩
  | .hbm, ⟨15, _⟩ => ⟨S1344x2048, .f32⟩
  | .hbm, ⟨16, _⟩ => ⟨S_, .f32⟩
  | .hbm, ⟨17, _⟩ => ⟨S1344x2048, .f32⟩
  | .hbm, ⟨18, _⟩ => ⟨S1344x2048, .f32⟩
  | .hbm, ⟨19, _⟩ => ⟨S1344x2048, .f32⟩
  | .hbm, ⟨20, _⟩ => ⟨S_, .f32⟩
  | .hbm, ⟨21, _⟩ => ⟨S1344x2048, .f32⟩
  | .hbm, ⟨22, _⟩ => ⟨S1344x2048, .f32⟩
  | .hbm, ⟨23, _⟩ => ⟨S_, .f32⟩
  | .hbm, ⟨24, _⟩ => ⟨S1344x2048, .f32⟩
  | .hbm, ⟨25, _⟩ => ⟨S1344x2048, .f32⟩
  | .hbm, ⟨26, _⟩ => ⟨S1344x2048, .f32⟩
  | .hbm, ⟨27, _⟩ => ⟨S_, .f32⟩
  | .hbm, ⟨28, _⟩ => ⟨S1344x2048, .f32⟩
  | .hbm, ⟨29, _⟩ => ⟨S1344x2048, .f32⟩
  | .hbm, ⟨30, _⟩ => ⟨S1344x2048, .f32⟩
  | .hbm, ⟨31, _⟩ => ⟨S_, .f32⟩
  | .hbm, ⟨32, _⟩ => ⟨S1344x2048, .f32⟩
  | .hbm, ⟨33, _⟩ => ⟨S1344x2048, .f32⟩
  | .hbm, ⟨34, _⟩ => ⟨S1344x2048, .f32⟩
  | .hbm, ⟨35, _⟩ => ⟨S_, .f32⟩
  | .hbm, ⟨36, _⟩ => ⟨S1344x2048, .f32⟩
  | .hbm, ⟨37, _⟩ => ⟨S1344x2048, .f32⟩
  | _, _ => ⟨S1344x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamAda.lean ====
abbrev S8x2048 : Shape := ⟨2, ![8, 2048]⟩
abbrev S8x1536 : Shape := ⟨2, ![8, 1536]⟩
abbrev S2048x1536 : Shape := ⟨2, ![2048, 1536]⟩
abbrev S8x256 : Shape := ⟨2, ![8, 256]⟩
abbrev S256x1536 : Shape := ⟨2, ![256, 1536]⟩

abbrev nBuf : Space → Nat
  | .hbm => 9
  | .vmem => 17
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .local _ .vmem, ⟨0, _⟩ => ⟨S8x256, .f32⟩
  | .local _ .vmem, ⟨1, _⟩ => ⟨S8x256, .f32⟩
  | .local _ .vmem, ⟨2, _⟩ => ⟨S8x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamAdaReferenceIdeal.lean ====
abbrev S8x2048 : Shape := ⟨2, ![8, 2048]⟩
abbrev S8x1536 : Shape := ⟨2, ![8, 1536]⟩
abbrev S2048x1536 : Shape := ⟨2, ![2048, 1536]⟩
abbrev S1536x2048 : Shape := ⟨2, ![1536, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S8x1536, .f32⟩
  | .hbm, ⟨6, _⟩ => ⟨S1536x2048, .f32⟩
  | .hbm, ⟨7, _⟩ => ⟨S2048x1536, .f32⟩
  | .hbm, ⟨8, _⟩ => ⟨S_, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S2048x1536, .f32⟩
  | .hbm, ⟨23, _⟩ => ⟨S_, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | .hbm, ⟨37, _⟩ => ⟨S2048x1536, .f32⟩
  | .hbm, ⟨38, _⟩ => ⟨S_, .f32⟩
  | .hbm, ⟨39, _⟩ => ⟨S2048x1536, .f32⟩
  | .hbm, ⟨40, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Base.lean ====
module

public import proofs.«01_k».proof.Proof.Gen.KernelIdeal.Skeleton
public import Idealize.ShloMosaic.Lib.Pointwise
public import Idealize.ShloMosaic.PureOps.Ideal.Laws

@[expose] public section

noncomputable section

/-! Arrays of extended reals that hold real numbers: the real numbers are given by a function of natural coordinates. -/

namespace Cert.Mix

open Idealize.ShloMosaic

/-- The array `v` holds the real numbers `a i`. -/
def R1 {n : ℕ} (v : (⟨1, ![n]⟩ : Shape).Idx → EReal) (a : ℕ → ℝ) : Prop :=
  ∀ i : Fin n, v (ix1 i) = ((a i : ℝ) : EReal)

/-- The array `v` holds the real numbers `a i j`. -/
def R2 {n m : ℕ} (v : (⟨2, ![n, m]⟩ : Shape).Idx → EReal) (a : ℕ → ℕ → ℝ) : Prop :=
  ∀ (i : Fin n) (j : Fin m), v (ix2 i j) = ((a i j : ℝ) : EReal)

/-- The array `v` holds the real numbers `a i j k`. -/
def R3 {n m l : ℕ} (v : (⟨3, ![n, m, l]⟩ : Shape).Idx → EReal) (a : ℕ → ℕ → ℕ → ℝ) : Prop :=
  ∀ (i : Fin n) (j : Fin m) (k : Fin l), v (ix3 i j k) = ((a i j k : ℝ) : EReal)

/-- The array `v` holds the real numbers `a i j k l`. -/
def R4 {n₀ n₁ n₂ n₃ : ℕ} (v : (⟨4, ![n₀, n₁, n₂, n₃]⟩ : Shape).Idx → EReal) (a : ℕ → ℕ → ℕ → ℕ → ℝ) : Prop :=
  ∀ (i₀ : Fin n₀) (i₁ : Fin n₁) (i₂ : Fin n₂) (i₃ : Fin n₃), v (ix4 i₀ i₁ i₂ i₃) = ((a i₀ i₁ i₂ i₃ : ℝ) : EReal)

/-- The array `v` holds the real numbers `a` at its coordinates. -/
def R5 {n₀ n₁ n₂ n₃ n₄ : ℕ} (v : (⟨5, ![n₀, n₁, n₂, n₃, n₄]⟩ : Shape).Idx → EReal) (a : ℕ → ℕ → ℕ → ℕ → ℕ → ℝ) : Prop :=
  ∀ (i₀ : Fin n₀) (i₁ : Fin n₁) (i₂ : Fin n₂) (i₃ : Fin n₃) (i₄ : Fin n₄),
    v (ix5 i₀ i₁ i₂ i₃ i₄) = ((a i₀ i₁ i₂ i₃ i₄ : ℝ) : EReal)

/-- The array `v` holds the real numbers `a` at its coordinates. -/
def R6 {n₀ n₁ n₂ n₃ n₄ n₅ : ℕ} (v : (⟨6, ![n₀, n₁, n₂, n₃, n₄, n₅]⟩ : Shape).Idx → EReal)
    (a : ℕ → ℕ → ℕ → ℕ → ℕ → ℕ → ℝ) : Prop :=
  ∀ (i₀ : Fin n₀) (i₁ : Fin n₁) (i₂ : Fin n₂) (i₃ : Fin n₃) (i₄ : Fin n₄) (i₅ : Fin n₅),
    v (ix6 i₀ i₁ i₂ i₃ i₄ i₅) = ((a i₀ i₁ i₂ i₃ i₄ i₅ : ℝ) : EReal)

/-- The logistic function. -/
def sg (x : ℝ) : ℝ := (1 + Real.exp (-x))⁻¹

/-- A finite sum of real numbers, taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Mix

end
-- ==== Proof.Spec.lean ====
module

public import proofs.«01_k».proof.Proof.Base

@[expose] public section

noncomputable section

/-! The gradients of the mixer over the real numbers, in closed form.

    `Z` is the input (2048 rows: queries, keys, values, attention gate, `u`, `v`, spatial gate), `D` the gradient of the
    output, `K` the sinks, `G`, `B` the layer norm's scale and shift, `W`, `b` the spatial weights and biases.
    Rows are numbered `128 * n + q`, with `n` the block. -/

namespace Cert.Mix

variable (ε : ℝ) (Z D : ℕ → ℕ → ℝ) (K G B : ℕ → ℝ) (W : ℕ → ℕ → ℕ → ℝ) (b : ℕ → ℕ → ℝ)

/-- `x · σ(x)`. -/
def silu (x : ℝ) : ℝ := x * sg x

/-- The derivative of `silu`. -/
def dsilu (x : ℝ) : ℝ := sg x * (1 + x * (1 - sg x))

/-! ### Attention -/

/-- Query `q` of a block may read key `s` of the block before (`s < 128`) or of its own: at most 127 back, none ahead. -/
def valid (n q s : ℕ) : Prop := q < s ∧ s ≤ q + 128 ∧ (128 ≤ s ∨ 0 < n)

instance (n q s : ℕ) : Decidable (valid n q s) := by unfold valid; infer_instance

/-- Row `s` of the two blocks block `n` reads, from column `c` on (`1024` the keys, `1152` the values). -/
def ext (c n e s d : ℕ) : ℝ := if s < 128 then Z (128 * (n - 1) + s) (c + 64 * e + d) else Z (128 * n + (s - 128)) (c + 64 * e + d)

/-- The score of key `s` for query `q` of head `h`. -/
def score (n h q s : ℕ) : ℝ := ∑ d : Fin 64, ext Z 1024 n (h / 8) s d * (Z (128 * n + q) (64 * h + d) * (1 / 8))

/-- The largest score, the sink among them. -/
def topE (n h q : ℕ) : EReal :=
  max (Finset.univ.fold max ⊥ fun s : Fin 256 => if valid n q s then ((score Z n h q s : ℝ) : EReal) else ⊥) (K h : EReal)

def top (n h q : ℕ) : ℝ := (topE Z K n h q).toReal

def ex (n h q s : ℕ) : ℝ := if valid n q s then Real.exp (score Z n h q s - top Z K n h q) else 0

def exs (n h q : ℕ) : ℝ := Real.exp (K h - top Z K n h q)

def den (n h q : ℕ) : ℝ := (∑ s : Fin 256, ex Z K n h q s) + exs Z K n h q

def pr (n h q s : ℕ) : ℝ := ex Z K n h q s * (den Z K n h q)⁻¹

def prs (n h q : ℕ) : ℝ := exs Z K n h q * (den Z K n h q)⁻¹

/-- The attention's output. -/
def att (n h q d : ℕ) : ℝ := ∑ s : Fin 256, ext Z 1152 n (h / 8) s d * pr Z K n h q s

/-- The gradient of the attention's output. -/
def go (n h q d : ℕ) : ℝ := D (128 * n + q) (64 * h + d) * silu (Z (128 * n + q) (1280 + 64 * h + d))

/-- The gradient of the probabilities. -/
def gp (n h q s : ℕ) : ℝ := ∑ d : Fin 64, ext Z 1152 n (h / 8) s d * go Z D n h q d

def delta (n h q : ℕ) : ℝ := ∑ s : Fin 256, pr Z K n h q s * gp Z D n h q s

/-- The gradient of the scores. -/
def gs (n h q s : ℕ) : ℝ := pr Z K n h q s * (gp Z D n h q s - delta Z D K n h q)

/-- The gradient of the queries. -/
def gq (n h q d : ℕ) : ℝ := (∑ s : Fin 256, ext Z 1024 n (h / 8) s d * gs Z D K n h q s) * (1 / 8)

/-- What block `n` adds to the gradient of the keys it reads; `c` runs over the eight heads' queries. -/
def gk (n e s d : ℕ) : ℝ :=
  ∑ c : Fin 1024, gs Z D K n (8 * e + c / 128) (c % 128) s * (Z (128 * n + c % 128) (64 * (8 * e + c / 128) + d) * (1 / 8))

/-- What block `n` adds to the gradient of the values it reads. -/
def gv (n e s d : ℕ) : ℝ :=
  ∑ c : Fin 1024, pr Z K n (8 * e + c / 128) (c % 128) s * go Z D n (8 * e + c / 128) (c % 128) d

/-- What block `n` adds to the gradient of the keys (`j < 128`) and values it reads. -/
def gkv (n s j : ℕ) : ℝ := if j < 128 then gk Z D K n (j / 64) s (j % 64) else gv Z D K n ((j - 128) / 64) s (j % 64)

/-- The gradient of the sinks. -/
def gsink (n h : ℕ) : ℝ := ∑ q : Fin 128, -prs Z K n h q * delta Z D K n h q

/-! ### Spatial gating -/

def mean (r : ℕ) : ℝ := (∑ c : Fin 1024, Z r (3328 + c)) / 1024

def xc (r c : ℕ) : ℝ := Z r (3328 + c) - mean Z r

def var (r : ℕ) : ℝ := (∑ c : Fin 1024, xc Z r c * xc Z r c) / 1024

def rstd (r : ℕ) : ℝ := (Real.sqrt (var Z r + ε))⁻¹

def xh (r c : ℕ) : ℝ := xc Z r c * rstd ε Z r

def vn (r c : ℕ) : ℝ := xh ε Z r c * G c + B c

def tril (t s : ℕ) (x : ℝ) : ℝ := if s ≤ t then x else 0

def mixed (n t c : ℕ) : ℝ := (∑ s : Fin 128, tril t s (W (c / 128) t s) * vn ε Z G B (128 * n + s) c) + b (c / 128) t

/-- The gradient of the gated product. -/
def gg (r c : ℕ) : ℝ := D r (1024 + c) * silu (Z r (4352 + c))

/-- The gradient of `mixed`. -/
def gm (r c : ℕ) : ℝ := gg Z D r c * Z r (2304 + c)

def gvn (n s c : ℕ) : ℝ := ∑ t : Fin 128, tril t s (W (c / 128) t s) * gm Z D (128 * n + t) c

def gw (n g t s : ℕ) : ℝ :=
  tril t s (∑ c : Fin 128, gm Z D (128 * n + t) (128 * g + c) * vn ε Z G B (128 * n + s) (128 * g + c))

def gb (n g t : ℕ) : ℝ := ∑ c : Fin 128, gm Z D (128 * n + t) (128 * g + c)

def glg (n c : ℕ) : ℝ := ∑ q : Fin 128, gvn Z D W n q c * xh ε Z (128 * n + q) c

def glb (n c : ℕ) : ℝ := ∑ q : Fin 128, gvn Z D W n q c

def gx (n q c : ℕ) : ℝ := gvn Z D W n q c * G c

/-- The gradient of `v`. -/
def gz (n q c : ℕ) : ℝ :=
  rstd ε Z (128 * n + q) * (gx Z D G W n q c - (∑ k : Fin 1024, gx Z D G W n q k) / 1024
    - xh ε Z (128 * n + q) c * ((∑ k : Fin 1024, gx Z D G W n q k * xh ε Z (128 * n + q) k) / 1024))

/-! ### The gradient of the input -/

/-- The gradient of the columns of block `n` other than the keys and values, at row `q` of the block and column `j`. -/
def pendS (n q j : ℕ) : ℝ :=
  if j < 1024 then gq Z D K n (j / 64) q (j % 64)
  else if j < 2304 then D (128 * n + q) (j - 1280) * att Z K n ((j - 1280) / 64) q (j % 64) * dsilu (Z (128 * n + q) j)
  else if j < 3328 then gg Z D (128 * n + q) (j - 2304) * mixed ε Z G B W b n q (j - 2304)
  else if j < 4352 then gz ε Z D G W n q (j - 3328)
  else D (128 * n + q) (1024 + (j - 4352)) * (Z (128 * n + q) (2304 + (j - 4352)) * mixed ε Z G B W b n q (j - 4352))
    * dsilu (Z (128 * n + q) j)

/-- The gradient of the input at row `q` of block `n` and column `j`. -/
def dzS (n q j : ℕ) : ℝ :=
  if 1024 ≤ j ∧ j < 1280 then gkv Z D K n (128 + q) (j - 1024) + (if n < 15 then gkv Z D K (n + 1) q (j - 1024) else 0)
  else pendS ε Z D K G B W b n q j

end Cert.Mix

end
-- ==== Proof.Consts.lean ====
module

public import proofs.«01_k».proof.Proof.Spec

@[expose] public section

noncomputable section

/-! The constants of the two programs as real numbers, and the readings the other modules share. -/

namespace Cert.Mix

open Idealize.ShloMosaic

theorem bits_eighth : Ideal.ofBits FTy.f32 0x3E000000#32 = ((1 / 8 : ℝ) : EReal) := by
  simp [Ideal.ofBits, Ideal.ieee, -EReal.coe_mul]; norm_num

theorem bits_1024 : Ideal.ofBits FTy.f32 0x44800000#32 = ((1024 : ℝ) : EReal) := by
  simp [Ideal.ofBits, Ideal.ieee, -EReal.coe_mul]; norm_num

theorem bits_zero : Ideal.ofBits FTy.f32 0x00000000#32 = 0 := by
  simp [Ideal.ofBits, Ideal.ieee]

theorem bits_one : Ideal.ofBits FTy.f32 0x3F800000#32 = 1 := by
  simp [Ideal.ofBits, Ideal.ieee, -EReal.coe_mul]; norm_num

theorem bits_half : Ideal.ofBits FTy.f32 0x3F000000#32 = ((1 / 2 : ℝ) : EReal) := by
  simp [Ideal.ofBits, Ideal.ieee, -EReal.coe_mul]; norm_num

theorem bits_2048th : Ideal.ofBits FTy.f32 0x3A000000#32 = ((1 / 2048 : ℝ) : EReal) := by
  simp [Ideal.ofBits, Ideal.ieee, -EReal.coe_mul]; norm_num

theorem bits_2048 : Ideal.ofBits FTy.f32 0x45000000#32 = ((2048 : ℝ) : EReal) := by
  simp [Ideal.ofBits, Ideal.ieee, -EReal.coe_mul]; norm_num

theorem bits_neg_half : Ideal.ofBits FTy.f32 0xBF000000#32 = ((-(1 / 2) : ℝ) : EReal) := by
  simp [Ideal.ofBits, Ideal.ieee, -EReal.coe_mul]; norm_num

theorem bits_bot : Ideal.ofBits FTy.f32 0xFF800000#32 = ⊥ := by
  simp [Ideal.ofBits, Ideal.ieee]

theorem bits_top : Ideal.ofBits FTy.f32 0x7F800000#32 = ⊤ := by
  simp [Ideal.ofBits, Ideal.ieee]

theorem bits_two : Ideal.ofBits FTy.f32 0x40000000#32 = ((2 : ℝ) : EReal) := by
  simp [Ideal.ofBits, Ideal.ieee, -EReal.coe_mul]; norm_num

/-- The number the layer norm adds to the variance. -/
def eps : ℝ := 8796093 / 8796093022208

theorem bits_eps : Ideal.ofBits FTy.f32 0x358637BD#32 = ((eps : ℝ) : EReal) := by
  simp [Ideal.ofBits, Ideal.ieee, -EReal.coe_mul, eps]; norm_num

theorem eps_pos : 0 < eps := by unfold eps; norm_num

/-- A quotient of real numbers, taken in the extended reals. -/
theorem div_real {y : ℝ} (h : y ≠ 0) (x : ℝ) : Ideal.div (x : EReal) (y : EReal) = ((x / y : ℝ) : EReal) := by
  rw [Ideal.div_coe h, ← EReal.coe_mul, mul_one_div]

theorem one_div_real {y : ℝ} (h : y ≠ 0) : Ideal.div (1 : EReal) (y : EReal) = ((y⁻¹ : ℝ) : EReal) := by
  rw [Ideal.div_coe h, one_mul, one_div]

theorem rsqrt_real {y : ℝ} (h : 0 < y) : Ideal.rsqrt (y : EReal) = (((Real.sqrt y)⁻¹ : ℝ) : EReal) := by
  rw [Ideal.rsqrt_coe, if_neg (not_lt.mpr h.le), if_neg h.ne']

theorem exp_bot_sub (r : ℝ) : Ideal.exp ((⊥ : EReal) - (r : EReal)) = 0 := by
  rw [EReal.bot_sub]; rfl

/-- Which of eight stacked pieces of 128 rows a row lies in. -/
theorem pick8 {α : Type*} (f : ℕ → ℕ → α) (c : ℕ) (hc : c < 1024) :
    (if _ : c < 128 then f 0 c else if _ : c - 128 < 128 then f 1 (c - 128) else if _ : c - 128 - 128 < 128 then f 2 (c - 128 - 128)
      else if _ : c - 128 - 128 - 128 < 128 then f 3 (c - 128 - 128 - 128)
      else if _ : c - 128 - 128 - 128 - 128 < 128 then f 4 (c - 128 - 128 - 128 - 128)
      else if _ : c - 128 - 128 - 128 - 128 - 128 < 128 then f 5 (c - 128 - 128 - 128 - 128 - 128)
      else if _ : c - 128 - 128 - 128 - 128 - 128 - 128 < 128 then f 6 (c - 128 - 128 - 128 - 128 - 128 - 128)
      else f 7 (c - 128 - 128 - 128 - 128 - 128 - 128 - 128)) = f (c / 128) (c % 128) := by
  split_ifs <;> congr 1 <;> omega

section

variable (ε : ℝ) (Z D : ℕ → ℕ → ℝ) (K G B : ℕ → ℝ) (W : ℕ → ℕ → ℕ → ℝ) (b : ℕ → ℕ → ℝ)

/-- The larger of finitely many values below `⊤`, and of a real number, is a real number. -/
theorem top_coe (n h q : ℕ) : topE Z K n h q = ((top Z K n h q : ℝ) : EReal) := by
  refine (EReal.coe_toReal ?_ ?_).symm
  · refine ne_of_lt (max_lt ?_ (EReal.coe_lt_top _))
    rw [Finset.fold_max_lt]
    refine ⟨bot_lt_top, fun s _ => ?_⟩
    split_ifs
    · exact EReal.coe_lt_top _
    · exact bot_lt_top
  · exact ne_of_gt (lt_of_lt_of_le (EReal.bot_lt_coe _) (le_max_right _ _))

theorem ex_nonneg (n h q s : ℕ) : 0 ≤ ex Z K n h q s := by
  unfold ex; split_ifs
  · exact (Real.exp_pos _).le
  · exact le_rfl

theorem den_pos (n h q : ℕ) : 0 < den Z K n h q :=
  add_pos_of_nonneg_of_pos (Finset.sum_nonneg fun s _ => ex_nonneg Z K n h q s) (Real.exp_pos _)

theorem var_eps_pos (r : ℕ) : 0 < var Z r + eps :=
  add_pos_of_nonneg_of_pos (div_nonneg (Finset.sum_nonneg fun c _ => mul_self_nonneg _) (by norm_num)) eps_pos

end

end Cert.Mix

end
-- ==== Proof.RBase.lean ====
module

public import proofs.«01_k».proof.Proof.Gen.ReferenceIdeal.Read
public import proofs.«01_k».proof.Proof.Consts

@[expose] public section

noncomputable section

/-! The reference's arguments as real numbers, and its sums over several axes read at an index. -/

namespace Cert.Mix

open Idealize.ShloMosaic Cert.ReferenceIdeal Cert.ReferenceIdeal.Gen

/-- The arguments hold real numbers. -/
structure Args (Z D : ℕ → ℕ → ℝ) (K G B : ℕ → ℝ) (W : ℕ → ℕ → ℕ → ℝ) (b : ℕ → ℕ → ℝ) (x0 : FVec Ideal S2048x5376 .f32)
    (x1 : FVec Ideal S2048x2048 .f32) (x2 : FVec Ideal S1x16 .f32) (x3 x4 : FVec Ideal S1x1024 .f32)
    (x5 : FVec Ideal S1x8x128x128 .f32) (x6 : FVec Ideal S1x8x128 .f32) : Prop where
  z : R2 x0 Z
  d : R2 x1 D
  k : R2 x2 fun _ h => K h
  scale : R2 x3 fun _ c => G c
  shift : R2 x4 fun _ c => B c
  w : R4 x5 fun _ g t s => W g t s
  bias : R3 x6 fun _ g t => b g t

/-- A sum over several axes, along the indices that drop to the result's. -/
theorem reduce_fiber {s t : Shape} {axes : List (Fin s.rank)} (h : s.ReducesTo axes t) (v : s.Idx → EReal) (init : EReal) (j : t.Idx)
    {κ : Type*} [Fintype κ] (g : κ → s.Idx) (hg : Function.Injective g) (hp : ∀ i, h.drop i = j ↔ ∃ k, g k = i) :
    Ideal.hostReduceAdd h v init j = init + ∑ k, v (g k) :=
  congrArg (init + ·) (Finset.sum_filter_eq_sum_of_fiber _ g hg hp v)

/-- Over the second and the last of five axes. -/
theorem reduce_r5_14 {n₀ n₁ n₂ n₃ n₄ : ℕ} (h : (⟨5, ![n₀, n₁, n₂, n₃, n₄]⟩ : Shape).ReducesTo [1, 4] ⟨3, ![n₀, n₂, n₃]⟩)
    (v : (⟨5, ![n₀, n₁, n₂, n₃, n₄]⟩ : Shape).Idx → EReal) (init : EReal) (a : Fin n₀) (c : Fin n₂) (e : Fin n₃) :
    Ideal.hostReduceAdd h v init (ix3 a c e) = init + ∑ n : Fin n₁, ∑ m : Fin n₄, v (ix5 a n c e m) := by
  rw [reduce_fiber h v init _ (fun p : Fin n₁ × Fin n₄ => ix5 a p.1 c e p.2)
    (fun p q e => Prod.ext (congrFun e 1) (congrFun e 4)) (fun i => ⟨fun e => ⟨(i 1, i 4), ?_⟩, ?_⟩), Fintype.sum_prod_type]
  · funext x; apply Fin.ext
    match x with
    | ⟨0, _⟩ => exact (congrArg Fin.val (congrFun e 0)).symm
    | ⟨1, _⟩ => rfl
    | ⟨2, _⟩ => exact (congrArg Fin.val (congrFun e 1)).symm
    | ⟨3, _⟩ => exact (congrArg Fin.val (congrFun e 2)).symm
    | ⟨4, _⟩ => rfl
  · rintro ⟨k, rfl⟩
    funext x; apply Fin.ext
    match x with
    | ⟨0, _⟩ => rfl
    | ⟨1, _⟩ => rfl
    | ⟨2, _⟩ => rfl

/-- Over three axes of one entry each. -/
theorem reduce_r5_014 {n₂ n₃ : ℕ} (h : (⟨5, ![1, 1, n₂, n₃, 1]⟩ : Shape).ReducesTo [0, 1, 4] ⟨2, ![n₂, n₃]⟩)
    (v : (⟨5, ![1, 1, n₂, n₃, 1]⟩ : Shape).Idx → EReal) (init : EReal) (c : Fin n₂) (e : Fin n₃) :
    Ideal.hostReduceAdd h v init (ix2 c e) = init + v (ix5 0 0 c e 0) := by
  rw [reduce_fiber h v init _ (fun _ : Unit => ix5 0 0 c e 0) (fun _ _ _ => rfl) (fun i => ⟨fun e => ⟨⟨⟩, ?_⟩, ?_⟩)]
  · simp
  · funext x; apply Fin.ext
    match x with
    | ⟨0, _⟩ => exact (Fin.val_eq_zero (i 0)).symm
    | ⟨1, _⟩ => exact (Fin.val_eq_zero (i 1)).symm
    | ⟨2, _⟩ => exact (congrArg Fin.val (congrFun e 0)).symm
    | ⟨3, _⟩ => exact (congrArg Fin.val (congrFun e 1)).symm
    | ⟨4, _⟩ => exact (Fin.val_eq_zero (i 4)).symm
  · rintro ⟨k, rfl⟩
    funext x; apply Fin.ext
    match x with
    | ⟨0, _⟩ => rfl
    | ⟨1, _⟩ => rfl

/-- Over two axes of one entry each. -/
theorem reduce_r3_01 {n₂ : ℕ} (h : (⟨3, ![1, 1, n₂]⟩ : Shape).ReducesTo [0, 1] ⟨1, ![n₂]⟩)
    (v : (⟨3, ![1, 1, n₂]⟩ : Shape).Idx → EReal) (init : EReal) (c : Fin n₂) :
    Ideal.hostReduceAdd h v init (ix1 c) = init + v (ix3 0 0 c) := by
  rw [reduce_fiber h v init _ (fun _ : Unit => ix3 0 0 c) (fun _ _ _ => rfl) (fun i => ⟨fun e => ⟨⟨⟩, ?_⟩, ?_⟩)]
  · simp
  · funext x; apply Fin.ext
    match x with
    | ⟨0, _⟩ => exact (Fin.val_eq_zero (i 0)).symm
    | ⟨1, _⟩ => exact (Fin.val_eq_zero (i 1)).symm
    | ⟨2, _⟩ => exact (congrArg Fin.val (congrFun e 0)).symm
  · rintro ⟨k, rfl⟩
    funext x; apply Fin.ext
    match x with
    | ⟨0, _⟩ => rfl

/-- Over the first and the last axis, of one entry each. -/
theorem reduce_r3_02 {n₁ : ℕ} (h : (⟨3, ![1, n₁, 1]⟩ : Shape).ReducesTo [0, 2] ⟨1, ![n₁]⟩)
    (v : (⟨3, ![1, n₁, 1]⟩ : Shape).Idx → EReal) (init : EReal) (c : Fin n₁) :
    Ideal.hostReduceAdd h v init (ix1 c) = init + v (ix3 0 c 0) := by
  rw [reduce_fiber h v init _ (fun _ : Unit => ix3 0 c 0) (fun _ _ _ => rfl) (fun i => ⟨fun e => ⟨⟨⟩, ?_⟩, ?_⟩)]
  · simp
  · funext x; apply Fin.ext
    match x with
    | ⟨0, _⟩ => exact (Fin.val_eq_zero (i 0)).symm
    | ⟨1, _⟩ => exact (congrArg Fin.val (congrFun e 0)).symm
    | ⟨2, _⟩ => exact (Fin.val_eq_zero (i 2)).symm
  · rintro ⟨k, rfl⟩
    funext x; apply Fin.ext
    match x with
    | ⟨0, _⟩ => rfl

/-- Over the first and the last of six axes, of one entry each. -/
theorem reduce_r6_05 {n₁ n₂ n₃ n₄ : ℕ} (h : (⟨6, ![1, n₁, n₂, n₃, n₄, 1]⟩ : Shape).ReducesTo [0, 5] ⟨4, ![n₁, n₂, n₃, n₄]⟩)
    (v : (⟨6, ![1, n₁, n₂, n₃, n₄, 1]⟩ : Shape).Idx → EReal) (init : EReal) (c : Fin n₁) (d : Fin n₂) (f : Fin n₃) (g : Fin n₄) :
    Ideal.hostReduceAdd h v init (ix4 c d f g) = init + v (ix6 0 c d f g 0) := by
  rw [reduce_fiber h v init _ (fun _ : Unit => ix6 0 c d f g 0) (fun _ _ _ => rfl) (fun i => ⟨fun e => ⟨⟨⟩, ?_⟩, ?_⟩)]
  · simp
  · funext x; apply Fin.ext
    match x with
    | ⟨0, _⟩ => exact (Fin.val_eq_zero (i 0)).symm
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (Fin.val_eq_zero (i 5)).symm
  · rintro ⟨k, rfl⟩
    funext x; apply Fin.ext
    match x with
    | ⟨0, _⟩ => rfl
    | ⟨1, _⟩ => rfl
    | ⟨2, _⟩ => rfl
    | ⟨3, _⟩ => rfl

/-- Over four of six axes, the outer two of one entry each. -/
theorem reduce_r6_0145 {n₁ n₂ n₃ n₄ : ℕ} (h : (⟨6, ![1, n₁, n₂, n₃, n₄, 1]⟩ : Shape).ReducesTo [0, 1, 4, 5] ⟨2, ![n₂, n₃]⟩)
    (v : (⟨6, ![1, n₁, n₂, n₃, n₄, 1]⟩ : Shape).Idx → EReal) (init : EReal) (d : Fin n₂) (f : Fin n₃) :
    Ideal.hostReduceAdd h v init (ix2 d f) = init + ∑ n : Fin n₁, ∑ q : Fin n₄, v (ix6 0 n d f q 0) := by
  rw [reduce_fiber h v init _ (fun p : Fin n₁ × Fin n₄ => ix6 0 p.1 d f p.2 0)
    (fun p q e => Prod.ext (congrFun e 1) (congrFun e 4)) (fun i => ⟨fun e => ⟨(i 1, i 4), ?_⟩, ?_⟩), Fintype.sum_prod_type]
  · funext x; apply Fin.ext
    match x with
    | ⟨0, _⟩ => exact (Fin.val_eq_zero (i 0)).symm
    | ⟨1, _⟩ => rfl
    | ⟨2, _⟩ => exact (congrArg Fin.val (congrFun e 0)).symm
    | ⟨3, _⟩ => exact (congrArg Fin.val (congrFun e 1)).symm
    | ⟨4, _⟩ => rfl
    | ⟨5, _⟩ => exact (Fin.val_eq_zero (i 5)).symm
  · rintro ⟨k, rfl⟩
    funext x; apply Fin.ext
    match x with
    | ⟨0, _⟩ => rfl
    | ⟨1, _⟩ => rfl

/-- Over the last of six axes. -/
theorem fiber_r6_5 {n₀ n₁ n₂ n₃ n₄ n₅ : ℕ} (h : (⟨6, ![n₀, n₁, n₂, n₃, n₄, n₅]⟩ : Shape).ReducesTo [5] ⟨5, ![n₀, n₁, n₂, n₃, n₄]⟩)
    (a : Fin n₀) (b : Fin n₁) (c : Fin n₂) (d : Fin n₃) (f : Fin n₄) (i : (⟨6, ![n₀, n₁, n₂, n₃, n₄, n₅]⟩ : Shape).Idx) :
    h.drop i = ix5 a b c d f ↔ ∃ k : Fin n₅, ix6 a b c d f k = i := by
  refine ⟨fun e => ⟨i 5, ?_⟩, ?_⟩
  · funext x; apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

theorem reduce_r6_5 {n₀ n₁ n₂ n₃ n₄ n₅ : ℕ} (h : (⟨6, ![n₀, n₁, n₂, n₃, n₄, n₅]⟩ : Shape).ReducesTo [5] ⟨5, ![n₀, n₁, n₂, n₃, n₄]⟩)
    (v : (⟨6, ![n₀, n₁, n₂, n₃, n₄, n₅]⟩ : Shape).Idx → EReal) (init : EReal) (a : Fin n₀) (b : Fin n₁) (c : Fin n₂) (d : Fin n₃)
    (f : Fin n₄) : Ideal.hostReduceAdd h v init (ix5 a b c d f) = init + ∑ s : Fin n₅, v (ix6 a b c d f s) :=
  reduce_fiber h v init _ (fun k : Fin n₅ => ix6 a b c d f k) (fun _ _ e => congrFun e (5 : Fin 6)) (fiber_r6_5 h a b c d f)

theorem max_r6_5 {n₀ n₁ n₂ n₃ n₄ n₅ : ℕ} {u : Shape}
    (h : (⟨6, ![n₀, n₁, n₂, n₃, n₄, n₅]⟩ : Shape).ReducesTo [5] ⟨5, ![n₀, n₁, n₂, n₃, n₄]⟩)
    (v : FVec Ideal (⟨6, ![n₀, n₁, n₂, n₃, n₄, n₅]⟩ : Shape) .f32) (init : u.Idx → Ideal .f32) (hu : 0 < u.numel) (a : Fin n₀)
    (b : Fin n₁) (c : Fin n₂) (d : Fin n₃) (f : Fin n₄) :
    Host.reduce FloatOps.maximumf v init h hu (ix5 a b c d f)
      = (Finset.univ : Finset (Fin n₅)).fold max (init (Shape.Idx.first hu)) fun s => v (ix6 a b c d f s) :=
  (Host.reduce_eq_fold _ v init h hu _).trans
    (Finset.fold_filter_eq_fold_of_fiber _ _ (fun k : Fin n₅ => ix6 a b c d f k) (fun _ _ e => congrFun e (5 : Fin 6))
      (fiber_r6_5 h a b c d f) _ _)

/-- The summation index of that product: a block and a column. -/
def contr164 (n : Fin 16) (c : Fin 128) : dot_S8x1x16x128x128_S1x16x128x8x128_S8x128x128_123_014_4_2_0_3.contr.Idx := fun p =>
  match p with
  | ⟨0, _⟩ => (0 : Fin 1)
  | ⟨1, _⟩ => n
  | ⟨2, _⟩ => c

theorem sum_contr164 (f : dot_S8x1x16x128x128_S1x16x128x8x128_S8x128x128_123_014_4_2_0_3.contr.Idx → EReal) :
    ∑ k, f k = ∑ n : Fin 16, ∑ c : Fin 128, f (contr164 n c) := by
  refine Eq.trans ?_ (Fintype.sum_prod_type (fun p : Fin 16 × Fin 128 => f (contr164 p.1 p.2)))
  refine (Fintype.sum_equiv (M := EReal) ⟨fun p : Fin 16 × Fin 128 => contr164 p.1 p.2, fun k => (k (1 : Fin 3), k (2 : Fin 3)), fun _ => rfl, fun k => ?_⟩
    (fun p => f (contr164 p.1 p.2)) f fun _ => rfl).symm
  funext x; apply Fin.ext
  match x with
  | ⟨0, _⟩ => exact (Fin.val_eq_zero (show Fin 1 from k (0 : Fin 3))).symm
  | ⟨1, _⟩ => rfl
  | ⟨2, _⟩ => rfl

/-- The product over two blocks' rows and columns. -/
theorem dot_164 (x : S8x1x16x128x128.Idx → EReal) (y : S1x16x128x8x128.Idx → EReal) (g : Fin 8) (t s : Fin 128) :
    Ideal.matmul dot_S8x1x16x128x128_S1x16x128x8x128_S8x128x128_123_014_4_2_0_3 x y (fun _ => 0) (ix3 g t s)
      = ∑ n : Fin 16, ∑ c : Fin 128, x (ix5 g 0 n c t) * y (ix5 0 n s g c) := by
  refine (zero_add _).trans ((sum_contr164 _).trans ?_)
  refine Finset.sum_congr rfl fun n _ => Finset.sum_congr rfl fun c _ => ?_
  refine congrArg₂ (fun a b => x a * y b) ?_ ?_
  · funext x; apply Fin.ext
    match x with
    | ⟨0, _⟩ => rfl
    | ⟨1, _⟩ => rfl
    | ⟨2, _⟩ => rfl
    | ⟨3, _⟩ => rfl
    | ⟨4, _⟩ => rfl
  · funext x; apply Fin.ext
    match x with
    | ⟨0, _⟩ => rfl
    | ⟨1, _⟩ => rfl
    | ⟨2, _⟩ => rfl
    | ⟨3, _⟩ => rfl
    | ⟨4, _⟩ => rfl

end Cert.Mix

end
-- ==== Proof.Finite.lean ====
/- What the precondition says of the argument arrays: every element is a real number. -/
module

public import proofs.«01_k».proof.Pre_finite
public import proofs.«01_k».proof.Proof.Gen.Pre_finite
public import proofs.«01_k».proof.Proof.RBase
public import proofs.«01_k».proof.Proof.Consts
public import Idealize.ShloMosaic.Lib.ReduceAll

@[expose] public section

set_option maxRecDepth 16384

noncomputable section

namespace Cert.Mix

open Idealize.ShloMosaic

/-- An element below infinity in absolute value is a real number. -/
theorem real_of_lt (x : EReal) (h : x ⊔ -x < ⊤) : x = (x.toReal : EReal) := by
  refine (EReal.coe_toReal ?_ ?_).symm
  · rintro rfl; simp at h
  · rintro rfl; simp at h

/-- One conjunct of the precondition, read at an element. -/
theorem real_of_all {s : Shape} {axes : List (Fin s.rank)} (x : FVec Ideal s .f32) (hb : Cert.Pre_finite.S_.BroadcastsInDim s (![] : Fin 0 → Fin s.rank))
    (h : s.ReducesTo axes Cert.Pre_finite.S_) (hu : 0 < Cert.Pre_finite.S_.numel) (j : Cert.Pre_finite.S_.Idx)
    (e : Host.reduce IntOp.andi (cmpf .olt (Host.absf x) (broadcastInDim s ![] hb (constant Cert.Pre_finite.S_ .f32 0x7F800000#32)))
      (constantI Cert.Pre_finite.S_ 1 1#1) h hu j = 1#1) (i : s.Idx) : x i = ((x i).toReal : EReal) := by
  haveI : Subsingleton Cert.Pre_finite.S_.Idx := ⟨fun a b => funext fun k => k.elim0⟩
  have e' := Host.reduce_andi_all _ _ h hu j e i
  refine real_of_lt _ ?_
  pointwise at e'
  rw [bits_top] at e'
  by_contra hx
  rw [show decide (FloatOps.absf (F := Ideal) (x i) < (⊤ : EReal)) = false from decide_eq_false hx] at e'
  exact absurd e' (by decide)

/-- The numbers which an array holds, by their coordinates. -/
def num2 {n m : ℕ} (v : (⟨2, ![n, m]⟩ : Shape).Idx → EReal) (i j : ℕ) : ℝ :=
  if h : i < n ∧ j < m then (v (ix2 ⟨i, h.1⟩ ⟨j, h.2⟩)).toReal else 0

def num3 {n m l : ℕ} (v : (⟨3, ![n, m, l]⟩ : Shape).Idx → EReal) (i j k : ℕ) : ℝ :=
  if h : i < n ∧ j < m ∧ k < l then (v (ix3 ⟨i, h.1⟩ ⟨j, h.2.1⟩ ⟨k, h.2.2⟩)).toReal else 0

def num4 {n₀ n₁ n₂ n₃ : ℕ} (v : (⟨4, ![n₀, n₁, n₂, n₃]⟩ : Shape).Idx → EReal) (i j k l : ℕ) : ℝ :=
  if h : i < n₀ ∧ j < n₁ ∧ k < n₂ ∧ l < n₃ then (v (ix4 ⟨i, h.1⟩ ⟨j, h.2.1⟩ ⟨k, h.2.2.1⟩ ⟨l, h.2.2.2⟩)).toReal else 0

theorem R2.num {n m : ℕ} {v : (⟨2, ![n, m]⟩ : Shape).Idx → EReal} (h : ∀ i, v i = ((v i).toReal : EReal)) : R2 v (num2 v) := fun i j => by
  rw [num2, dif_pos ⟨i.isLt, j.isLt⟩]
  exact h _

theorem R3.num {n m l : ℕ} {v : (⟨3, ![n, m, l]⟩ : Shape).Idx → EReal} (h : ∀ i, v i = ((v i).toReal : EReal)) : R3 v (num3 v) := fun i j k => by
  rw [num3, dif_pos ⟨i.isLt, j.isLt, k.isLt⟩]
  exact h _

theorem R4.num {n₀ n₁ n₂ n₃ : ℕ} {v : (⟨4, ![n₀, n₁, n₂, n₃]⟩ : Shape).Idx → EReal} (h : ∀ i, v i = ((v i).toReal : EReal)) : R4 v (num4 v) :=
  fun i j k l => by
    rw [num4, dif_pos ⟨i.isLt, j.isLt, k.isLt, l.isLt⟩]
    exact h _

/-- A conjunction of two words that is one has both ones. -/
theorem both {a b : IVec Cert.Pre_finite.S_ 1} {j : Cert.Pre_finite.S_.Idx} (h : andi a b j = 1#1) : a j = 1#1 ∧ b j = 1#1 := by
  have key : ∀ p q : BitVec 1, p &&& q = 1#1 → p = 1#1 ∧ q = 1#1 := by decide
  exact key _ _ h

/-- The arguments of the precondition are real numbers: those which the arrays hold. -/
theorem args_of_finite (x0 : FVec Ideal Cert.Pre_finite.S2048x5376 .f32) (x1 : FVec Ideal Cert.Pre_finite.S2048x2048 .f32)
    (x2 : FVec Ideal Cert.Pre_finite.S1x16 .f32) (x3 x4 : FVec Ideal Cert.Pre_finite.S1x1024 .f32)
    (x5 : FVec Ideal Cert.Pre_finite.S1x8x128x128 .f32) (x6 : FVec Ideal Cert.Pre_finite.S1x8x128 .f32) (j : Cert.Pre_finite.S_.Idx)
    (h : Cert.Pre_finite.fn (F := Ideal) x0 x1 x2 x3 x4 x5 x6 j = 1#1) :
    ∃ Z D K G B W b, Args Z D K G B W b x0 x1 x2 x3 x4 x5 x6 := by
  dsimp only [Cert.Pre_finite.fn, Cert.Pre_finite.fn_part1] at h
  obtain ⟨h, h6⟩ := both h
  obtain ⟨h, h5⟩ := both h
  obtain ⟨h, h4⟩ := both h
  obtain ⟨h, h3⟩ := both h
  obtain ⟨h, h2⟩ := both h
  obtain ⟨h0, h1⟩ := both h
  refine ⟨num2 x0, num2 x1, num2 x2 0, num2 x3 0, num2 x4 0, num4 x5 0, num3 x6 0, ?_, ?_, ?_, ?_, ?_, ?_, ?_⟩
  · exact R2.num (real_of_all _ _ _ _ _ h0)
  · exact R2.num (real_of_all _ _ _ _ _ h1)
  · exact fun i k => (R2.num (real_of_all _ _ _ _ _ h2) i k).trans (by rw [Fin.eq_zero i]; rfl)
  · exact fun i k => (R2.num (real_of_all _ _ _ _ _ h3) i k).trans (by rw [Fin.eq_zero i]; rfl)
  · exact fun i k => (R2.num (real_of_all _ _ _ _ _ h4) i k).trans (by rw [Fin.eq_zero i]; rfl)
  · exact fun i k l n => (R4.num (real_of_all _ _ _ _ _ h5) i k l n).trans (by rw [Fin.eq_zero i]; rfl)
  · exact fun i k l => (R3.num (real_of_all _ _ _ _ _ h6) i k l).trans (by rw [Fin.eq_zero i]; rfl)

end Cert.Mix

end
-- ==== Proof.Host.lean ====
module

public import proofs.«01_k».proof.Proof.Gen.KernelIdeal.Frame
public import proofs.«01_k».proof.Proof.Gen.ReferenceIdeal.Read

/-!
# What the kernel's operands hold

The host operations before the kernel, in four windows. The saved attention output which the kernel is given is the
reference's own attention output (`at_v74`); two more operands are the weights and biases reshaped.
-/

@[expose] public section

set_option maxRecDepth 16384

noncomputable section

namespace Cert.KernelIdeal.Hand

open Idealize.ShloMosaic Idealize.ShloMosaic.TcCoe Idealize.ShloMosaic.StableHlo
open Cert.KernelIdeal Cert.KernelIdeal.Gen
open Cert.ReferenceIdeal.Read

variable {F : FTy → Type} [FloatOps F]

/-- A concatenation, named so that its operands are plain arguments. -/
def cat_main_v14 : (⟨S1x1x128x2x64, .f32⟩ : BufTy).Contents (Elt F) → (⟨S1x15x128x2x64, .f32⟩ : BufTy).Contents (Elt F) → (⟨S1x16x128x2x64, .f32⟩ : BufTy).Contents (Elt F) := fun a b => concatenate S1x16x128x2x64 1 [⟨S1x1x128x2x64, a⟩, ⟨S1x15x128x2x64, b⟩] concatenates_S1x1x128x2x64_S1x15x128x2x64_S1x16x128x2x64_d1

/-- A concatenation, named so that its operands are plain arguments. -/
def cat_main_v15 : (⟨S1x16x128x2x64, .f32⟩ : BufTy).Contents (Elt F) → (⟨S1x16x128x2x64, .f32⟩ : BufTy).Contents (Elt F) → (⟨S1x16x256x2x64, .f32⟩ : BufTy).Contents (Elt F) := fun a b => concatenate S1x16x256x2x64 2 [⟨S1x16x128x2x64, a⟩, ⟨S1x16x128x2x64, b⟩] concatenates_S1x16x128x2x64_S1x16x128x2x64_S1x16x256x2x64_d2

/-- A concatenation, named so that its operands are plain arguments. -/
def cat_main_v58 : (⟨S1x16x2x8x128x256, .f32⟩ : BufTy).Contents (Elt F) → (⟨S1x16x2x8x128x1, .f32⟩ : BufTy).Contents (Elt F) → (⟨S1x16x2x8x128x257, .f32⟩ : BufTy).Contents (Elt F) := fun a b => concatenate S1x16x2x8x128x257 5 [⟨S1x16x2x8x128x256, a⟩, ⟨S1x16x2x8x128x1, b⟩] concatenates_S1x16x2x8x128x256_S1x16x2x8x128x1_S1x16x2x8x128x257_d5

abbrev ops1 : List (HloOp τ sig (Elt F)) :=
  [ unary main_arg0 main_v0 (broadcastInDim S1x2048x5376 ![1, 2] bcast_S2048x5376_S1x2048x5376_1_2 : (⟨S2048x5376, .f32⟩ : BufTy).Contents (Elt F) → (⟨S1x2048x5376, .f32⟩ : BufTy).Contents (Elt F)),
    reshape main_arg2 main_v1 (rfl : (.f32 : EltTy) = .f32) shapeCasts_S1x16_S16,
    unary main_v0 main_v2 ((extractStridedSlice S1x2048x1024 ![0, 0, 0] · slices_S1x2048x5376_S1x2048x1024_0_0_0) : (⟨S1x2048x5376, .f32⟩ : BufTy).Contents (Elt F) → (⟨S1x2048x1024, .f32⟩ : BufTy).Contents (Elt F)),
    unary main_v0 main_v3 ((extractStridedSlice S1x2048x128 ![0, 0, 1024] · slices_S1x2048x5376_S1x2048x128_0_0_1024) : (⟨S1x2048x5376, .f32⟩ : BufTy).Contents (Elt F) → (⟨S1x2048x128, .f32⟩ : BufTy).Contents (Elt F)),
    unary main_v0 main_v4 ((extractStridedSlice S1x2048x128 ![0, 0, 1152] · slices_S1x2048x5376_S1x2048x128_0_0_1152) : (⟨S1x2048x5376, .f32⟩ : BufTy).Contents (Elt F) → (⟨S1x2048x128, .f32⟩ : BufTy).Contents (Elt F)),
    reshape main_v2 main_v5 (rfl : (.f32 : EltTy) = .f32) shapeCasts_S1x2048x1024_S1x2048x16x64,
    reshape main_v3 main_v6 (rfl : (.f32 : EltTy) = .f32) shapeCasts_S1x2048x128_S1x2048x2x64,
    reshape main_v4 main_v7 (rfl : (.f32 : EltTy) = .f32) shapeCasts_S1x2048x128_S1x2048x2x64,
    reshape main_v5 main_v8 (rfl : (.f32 : EltTy) = .f32) shapeCasts_S1x2048x16x64_S1x16x128x2x8x64,
    reshape main_v6 main_v9 (rfl : (.f32 : EltTy) = .f32) shapeCasts_S1x2048x2x64_S1x16x128x2x64,
    reshape main_v7 main_v10 (rfl : (.f32 : EltTy) = .f32) shapeCasts_S1x2048x2x64_S1x16x128x2x64,
    unary main_v9 main_v11 ((extractStridedSlice S1x1x128x2x64 ![0, 0, 0, 0, 0] · slices_S1x16x128x2x64_S1x1x128x2x64_0_0_0_0_0) : (⟨S1x16x128x2x64, .f32⟩ : BufTy).Contents (Elt F) → (⟨S1x1x128x2x64, .f32⟩ : BufTy).Contents (Elt F)),
    nullary main_cst (constant S_ .f32 0x00000000#32),
    unary main_cst main_v12 (broadcastInDim S1x1x128x2x64 ![] bcast_S_S1x1x128x2x64 : (⟨S_, .f32⟩ : BufTy).Contents (Elt F) → (⟨S1x1x128x2x64, .f32⟩ : BufTy).Contents (Elt F)),
    unary main_v9 main_v13 ((extractStridedSlice S1x15x128x2x64 ![0, 0, 0, 0, 0] · slices_S1x16x128x2x64_S1x15x128x2x64_0_0_0_0_0) : (⟨S1x16x128x2x64, .f32⟩ : BufTy).Contents (Elt F) → (⟨S1x15x128x2x64, .f32⟩ : BufTy).Contents (Elt F)),
    binary main_v12 main_v13 main_v14 (cat_main_v14 (F := F)),
    binary main_v14 main_v9 main_v15 (cat_main_v15 (F := F)),
    unary main_v10 main_v16 ((extractStridedSlice S1x1x128x2x64 ![0, 0, 0, 0, 0] · slices_S1x16x128x2x64_S1x1x128x2x64_0_0_0_0_0) : (⟨S1x16x128x2x64, .f32⟩ : BufTy).Contents (Elt F) → (⟨S1x1x128x2x64, .f32⟩ : BufTy).Contents (Elt F)),
    nullary main_cst_0 (constant S_ .f32 0x00000000#32),
    unary main_cst_0 main_v17 (broadcastInDim S1x1x128x2x64 ![] bcast_S_S1x1x128x2x64 : (⟨S_, .f32⟩ : BufTy).Contents (Elt F) → (⟨S1x1x128x2x64, .f32⟩ : BufTy).Contents (Elt F)),
    unary main_v10 main_v18 ((extractStridedSlice S1x15x128x2x64 ![0, 0, 0, 0, 0] · slices_S1x16x128x2x64_S1x15x128x2x64_0_0_0_0_0) : (⟨S1x16x128x2x64, .f32⟩ : BufTy).Contents (Elt F) → (⟨S1x15x128x2x64, .f32⟩ : BufTy).Contents (Elt F)),
    binary main_v17 main_v18 main_v19 (cat_main_v14 (F := F)),
    binary main_v19 main_v10 main_v20 (cat_main_v15 (F := F)),
    binary main_v15 main_v8 main_v21 ((fun l r => Host.dotGeneral dot_S1x16x256x2x64_S1x16x128x2x8x64_S1x16x2x256x128x8_4_5_2_24_013_013 none l r) : (⟨S1x16x256x2x64, .f32⟩ : BufTy).Contents (Elt F) → (⟨S1x16x128x2x8x64, .f32⟩ : BufTy).Contents (Elt F) → (⟨S1x16x2x256x128x8, .f32⟩ : BufTy).Contents (Elt F)),
    unary main_v21 main_v22 ((transpose S1x16x2x8x128x256 [0, 1, 2, 5, 4, 3] · transposes_S1x16x2x256x128x8_S1x16x2x8x128x256_0_1_2_5_4_3) : (⟨S1x16x2x256x128x8, .f32⟩ : BufTy).Contents (Elt F) → (⟨S1x16x2x8x128x256, .f32⟩ : BufTy).Contents (Elt F)),
    nullary main_cst_1 (constant S_ .f32 0x3E000000#32),
    unary main_cst_1 main_v23 (broadcastInDim S1x16x2x8x128x256 ![] bcast_S_S1x16x2x8x128x256 : (⟨S_, .f32⟩ : BufTy).Contents (Elt F) → (⟨S1x16x2x8x128x256, .f32⟩ : BufTy).Contents (Elt F)),
    binary main_v22 main_v23 main_v24 (mulf : (⟨S1x16x2x8x128x256, .f32⟩ : BufTy).Contents (Elt F) → (⟨S1x16x2x8x128x256, .f32⟩ : BufTy).Contents (Elt F) → (⟨S1x16x2x8x128x256, .f32⟩ : BufTy).Contents (Elt F)) ]

abbrev dst1 : List (Ref sig .tc) := [main_v0, main_v1, main_v2, main_v3, main_v4, main_v5, main_v6, main_v7, main_v8, main_v9, main_v10, main_v11, main_cst, main_v12, main_v13, main_v14, main_v15, main_v16, main_cst_0, main_v17, main_v18, main_v19, main_v20, main_v21, main_v22, main_cst_1, main_v23, main_v24]

theorem writes1 : (ops1 : List (HloOp τ sig (Elt F))).Forall fun op => op.writes ⊆ (dst1.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

abbrev ops2 : List (HloOp τ sig (Elt F)) :=
  [ nullary main_v25 (iotaInDim S128 32 0),
    unary main_v25 main_v26 (broadcastInDim S128x1 ![0] bcast_S128_S128x1_0 : (⟨S128, .i32⟩ : BufTy).Contents (Elt F) → (⟨S128x1, .i32⟩ : BufTy).Contents (Elt F)),
    nullary main_c (constantI S_ 32 128#32),
    unary main_c main_v27 (broadcastInDim S128x1 ![] bcast_S_S128x1 : (⟨S_, .i32⟩ : BufTy).Contents (Elt F) → (⟨S128x1, .i32⟩ : BufTy).Contents (Elt F)),
    binary main_v26 main_v27 main_v28 (addi : (⟨S128x1, .i32⟩ : BufTy).Contents (Elt F) → (⟨S128x1, .i32⟩ : BufTy).Contents (Elt F) → (⟨S128x1, .i32⟩ : BufTy).Contents (Elt F)),
    nullary main_v29 (iotaInDim S256 32 0),
    unary main_v29 main_v30 (broadcastInDim S1x256 ![1] bcast_S256_S1x256_1 : (⟨S256, .i32⟩ : BufTy).Contents (Elt F) → (⟨S1x256, .i32⟩ : BufTy).Contents (Elt F)),
    unary main_v28 main_v31 (broadcastInDim S128x256 ![0, 1] bcast_S128x1_S128x256_0_1 : (⟨S128x1, .i32⟩ : BufTy).Contents (Elt F) → (⟨S128x256, .i32⟩ : BufTy).Contents (Elt F)),
    unary main_v30 main_v32 (broadcastInDim S128x256 ![0, 1] bcast_S1x256_S128x256_0_1 : (⟨S1x256, .i32⟩ : BufTy).Contents (Elt F) → (⟨S128x256, .i32⟩ : BufTy).Contents (Elt F)),
    binary main_v31 main_v32 main_v33 (subi : (⟨S128x256, .i32⟩ : BufTy).Contents (Elt F) → (⟨S128x256, .i32⟩ : BufTy).Contents (Elt F) → (⟨S128x256, .i32⟩ : BufTy).Contents (Elt F)),
    nullary main_c_2 (constantI S_ 32 0#32),
    unary main_c_2 main_v34 (broadcastInDim S128x256 ![] bcast_S_S128x256 : (⟨S_, .i32⟩ : BufTy).Contents (Elt F) → (⟨S128x256, .i32⟩ : BufTy).Contents (Elt F)),
    binary main_v33 main_v34 main_v35 (cmpi .sge : (⟨S128x256, .i32⟩ : BufTy).Contents (Elt F) → (⟨S128x256, .i32⟩ : BufTy).Contents (Elt F) → (⟨S128x256, .i1⟩ : BufTy).Contents (Elt F)),
    nullary main_c_3 (constantI S_ 32 128#32),
    unary main_c_3 main_v36 (broadcastInDim S128x256 ![] bcast_S_S128x256 : (⟨S_, .i32⟩ : BufTy).Contents (Elt F) → (⟨S128x256, .i32⟩ : BufTy).Contents (Elt F)),
    binary main_v33 main_v36 main_v37 (cmpi .slt : (⟨S128x256, .i32⟩ : BufTy).Contents (Elt F) → (⟨S128x256, .i32⟩ : BufTy).Contents (Elt F) → (⟨S128x256, .i1⟩ : BufTy).Contents (Elt F)),
    binary main_v35 main_v37 main_v38 (andi : (⟨S128x256, .i1⟩ : BufTy).Contents (Elt F) → (⟨S128x256, .i1⟩ : BufTy).Contents (Elt F) → (⟨S128x256, .i1⟩ : BufTy).Contents (Elt F)),
    nullary main_v39 (iotaInDim S16 32 0),
    nullary main_c_4 (constantI S_ 32 0#32),
    unary main_c_4 main_v40 (broadcastInDim S16 ![] bcast_S_S16 : (⟨S_, .i32⟩ : BufTy).Contents (Elt F) → (⟨S16, .i32⟩ : BufTy).Contents (Elt F)),
    binary main_v39 main_v40 main_v41 (cmpi .sgt : (⟨S16, .i32⟩ : BufTy).Contents (Elt F) → (⟨S16, .i32⟩ : BufTy).Contents (Elt F) → (⟨S16, .i1⟩ : BufTy).Contents (Elt F)),
    unary main_v41 main_v42 (broadcastInDim S16x1x1 ![0] bcast_S16_S16x1x1_0 : (⟨S16, .i1⟩ : BufTy).Contents (Elt F) → (⟨S16x1x1, .i1⟩ : BufTy).Contents (Elt F)),
    nullary main_c_5 (constantI S_ 32 128#32),
    unary main_c_5 main_v43 (broadcastInDim S1x256 ![] bcast_S_S1x256 : (⟨S_, .i32⟩ : BufTy).Contents (Elt F) → (⟨S1x256, .i32⟩ : BufTy).Contents (Elt F)),
    binary main_v30 main_v43 main_v44 (cmpi .sge : (⟨S1x256, .i32⟩ : BufTy).Contents (Elt F) → (⟨S1x256, .i32⟩ : BufTy).Contents (Elt F) → (⟨S1x256, .i1⟩ : BufTy).Contents (Elt F)),
    unary main_v44 main_v45 (broadcastInDim S1x1x256 ![1, 2] bcast_S1x256_S1x1x256_1_2 : (⟨S1x256, .i1⟩ : BufTy).Contents (Elt F) → (⟨S1x1x256, .i1⟩ : BufTy).Contents (Elt F)),
    unary main_v42 main_v46 (broadcastInDim S16x1x256 ![0, 1, 2] bcast_S16x1x1_S16x1x256_0_1_2 : (⟨S16x1x1, .i1⟩ : BufTy).Contents (Elt F) → (⟨S16x1x256, .i1⟩ : BufTy).Contents (Elt F)),
    unary main_v45 main_v47 (broadcastInDim S16x1x256 ![0, 1, 2] bcast_S1x1x256_S16x1x256_0_1_2 : (⟨S1x1x256, .i1⟩ : BufTy).Contents (Elt F) → (⟨S16x1x256, .i1⟩ : BufTy).Contents (Elt F)),
    binary main_v46 main_v47 main_v48 (ori : (⟨S16x1x256, .i1⟩ : BufTy).Contents (Elt F) → (⟨S16x1x256, .i1⟩ : BufTy).Contents (Elt F) → (⟨S16x1x256, .i1⟩ : BufTy).Contents (Elt F)),
    unary main_v38 main_v49 (broadcastInDim S1x128x256 ![1, 2] bcast_S128x256_S1x128x256_1_2 : (⟨S128x256, .i1⟩ : BufTy).Contents (Elt F) → (⟨S1x128x256, .i1⟩ : BufTy).Contents (Elt F)),
    unary main_v49 main_v50 (broadcastInDim S16x128x256 ![0, 1, 2] bcast_S1x128x256_S16x128x256_0_1_2 : (⟨S1x128x256, .i1⟩ : BufTy).Contents (Elt F) → (⟨S16x128x256, .i1⟩ : BufTy).Contents (Elt F)),
    unary main_v48 main_v51 (broadcastInDim S16x128x256 ![0, 1, 2] bcast_S16x1x256_S16x128x256_0_1_2 : (⟨S16x1x256, .i1⟩ : BufTy).Contents (Elt F) → (⟨S16x128x256, .i1⟩ : BufTy).Contents (Elt F)),
    binary main_v50 main_v51 main_v52 (andi : (⟨S16x128x256, .i1⟩ : BufTy).Contents (Elt F) → (⟨S16x128x256, .i1⟩ : BufTy).Contents (Elt F) → (⟨S16x128x256, .i1⟩ : BufTy).Contents (Elt F)),
    unary main_v52 main_v53 (broadcastInDim S1x16x1x1x128x256 ![1, 4, 5] bcast_S16x128x256_S1x16x1x1x128x256_1_4_5 : (⟨S16x128x256, .i1⟩ : BufTy).Contents (Elt F) → (⟨S1x16x1x1x128x256, .i1⟩ : BufTy).Contents (Elt F)),
    nullary main_cst_6 (constant S_ .f32 0xFF800000#32) ]

abbrev dst2 : List (Ref sig .tc) := [main_v25, main_v26, main_c, main_v27, main_v28, main_v29, main_v30, main_v31, main_v32, main_v33, main_c_2, main_v34, main_v35, main_c_3, main_v36, main_v37, main_v38, main_v39, main_c_4, main_v40, main_v41, main_v42, main_c_5, main_v43, main_v44, main_v45, main_v46, main_v47, main_v48, main_v49, main_v50, main_v51, main_v52, main_v53, main_cst_6]

theorem writes2 : (ops2 : List (HloOp τ sig (Elt F))).Forall fun op => op.writes ⊆ (dst2.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

abbrev ops3 : List (HloOp τ sig (Elt F)) :=
  [ TRef.unary (.of main_cst_6 : TRef sig ⟨S_, .f32⟩) (.of main_call0_v0 : TRef sig ⟨S_, .f32⟩) id,
    TRef.unary (.of main_v53 : TRef sig ⟨S1x16x1x1x128x256, .i1⟩) (.of main_call0_v1 : TRef sig ⟨S1x16x2x8x128x256, .i1⟩) (broadcastInDim S1x16x2x8x128x256 ![0, 1, 2, 3, 4, 5] bcast_S1x16x1x1x128x256_S1x16x2x8x128x256_0_1_2_3_4_5),
    TRef.unary (.of main_call0_v0 : TRef sig ⟨S_, .f32⟩) (.of main_call0_v2 : TRef sig ⟨S1x16x2x8x128x256, .f32⟩) (broadcastInDim S1x16x2x8x128x256 ![] bcast_S_S1x16x2x8x128x256),
    TRef.ternary (.of main_call0_v1 : TRef sig ⟨S1x16x2x8x128x256, .i1⟩) (.of main_v24 : TRef sig ⟨S1x16x2x8x128x256, .f32⟩) (.of main_call0_v2 : TRef sig ⟨S1x16x2x8x128x256, .f32⟩) (.of main_v54 : TRef sig ⟨S1x16x2x8x128x256, .f32⟩) select,
    reshape main_v1 main_v55 (rfl : (.f32 : EltTy) = .f32) shapeCasts_S16_S2x8,
    unary main_v55 main_v56 (broadcastInDim S1x1x2x8x1x1 ![2, 3] bcast_S2x8_S1x1x2x8x1x1_2_3 : (⟨S2x8, .f32⟩ : BufTy).Contents (Elt F) → (⟨S1x1x2x8x1x1, .f32⟩ : BufTy).Contents (Elt F)),
    unary main_v56 main_v57 (broadcastInDim S1x16x2x8x128x1 ![0, 1, 2, 3, 4, 5] bcast_S1x1x2x8x1x1_S1x16x2x8x128x1_0_1_2_3_4_5 : (⟨S1x1x2x8x1x1, .f32⟩ : BufTy).Contents (Elt F) → (⟨S1x16x2x8x128x1, .f32⟩ : BufTy).Contents (Elt F)),
    binary main_v54 main_v57 main_v58 (cat_main_v58 (F := F)) ]

abbrev dst3 : List (Ref sig .tc) := [main_call0_v0, main_call0_v1, main_call0_v2, main_v54, main_v55, main_v56, main_v57, main_v58]

theorem writes3 : (ops3 : List (HloOp τ sig (Elt F))).Forall fun op => op.writes ⊆ (dst3.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

abbrev ops4 : List (HloOp τ sig (Elt F)) :=
  [ nullary main_cst_7 (constant S_ .f32 0xFF800000#32),
    binary main_v58 main_cst_7 main_v59 ((fun x v => Host.reduce FloatOps.maximumf x v reducesTo_S1x16x2x8x128x257_S1x16x2x8x128_d5 h_S_) : (⟨S1x16x2x8x128x257, .f32⟩ : BufTy).Contents (Elt F) → (⟨S_, .f32⟩ : BufTy).Contents (Elt F) → (⟨S1x16x2x8x128, .f32⟩ : BufTy).Contents (Elt F)),
    nullary main_cst_8 (constant S_ .f32 0xFF800000#32),
    unary main_cst_8 main_v60 (broadcastInDim S1x16x2x8x128 ![] bcast_S_S1x16x2x8x128 : (⟨S_, .f32⟩ : BufTy).Contents (Elt F) → (⟨S1x16x2x8x128, .f32⟩ : BufTy).Contents (Elt F)),
    binary main_v60 main_v59 main_v61 (maximumf : (⟨S1x16x2x8x128, .f32⟩ : BufTy).Contents (Elt F) → (⟨S1x16x2x8x128, .f32⟩ : BufTy).Contents (Elt F) → (⟨S1x16x2x8x128, .f32⟩ : BufTy).Contents (Elt F)),
    unary main_v61 main_v62 (broadcastInDim S1x16x2x8x128x1 ![0, 1, 2, 3, 4] bcast_S1x16x2x8x128_S1x16x2x8x128x1_0_1_2_3_4 : (⟨S1x16x2x8x128, .f32⟩ : BufTy).Contents (Elt F) → (⟨S1x16x2x8x128x1, .f32⟩ : BufTy).Contents (Elt F)),
    unary main_v62 main_v63 (broadcastInDim S1x16x2x8x128x257 ![0, 1, 2, 3, 4, 5] bcast_S1x16x2x8x128x1_S1x16x2x8x128x257_0_1_2_3_4_5 : (⟨S1x16x2x8x128x1, .f32⟩ : BufTy).Contents (Elt F) → (⟨S1x16x2x8x128x257, .f32⟩ : BufTy).Contents (Elt F)),
    binary main_v58 main_v63 main_v64 (subf : (⟨S1x16x2x8x128x257, .f32⟩ : BufTy).Contents (Elt F) → (⟨S1x16x2x8x128x257, .f32⟩ : BufTy).Contents (Elt F) → (⟨S1x16x2x8x128x257, .f32⟩ : BufTy).Contents (Elt F)),
    unary main_v64 main_v65 (Host.exp : (⟨S1x16x2x8x128x257, .f32⟩ : BufTy).Contents (Elt F) → (⟨S1x16x2x8x128x257, .f32⟩ : BufTy).Contents (Elt F)),
    nullary main_cst_9 (constant S_ .f32 0x00000000#32),
    binary main_v65 main_cst_9 main_v66 ((fun x v => Host.reduceAdd x v reducesTo_S1x16x2x8x128x257_S1x16x2x8x128_d5 h_S_) : (⟨S1x16x2x8x128x257, .f32⟩ : BufTy).Contents (Elt F) → (⟨S_, .f32⟩ : BufTy).Contents (Elt F) → (⟨S1x16x2x8x128, .f32⟩ : BufTy).Contents (Elt F)),
    unary main_v66 main_v67 (broadcastInDim S1x16x2x8x128x1 ![0, 1, 2, 3, 4] bcast_S1x16x2x8x128_S1x16x2x8x128x1_0_1_2_3_4 : (⟨S1x16x2x8x128, .f32⟩ : BufTy).Contents (Elt F) → (⟨S1x16x2x8x128x1, .f32⟩ : BufTy).Contents (Elt F)),
    unary main_v67 main_v68 (broadcastInDim S1x16x2x8x128x257 ![0, 1, 2, 3, 4, 5] bcast_S1x16x2x8x128x1_S1x16x2x8x128x257_0_1_2_3_4_5 : (⟨S1x16x2x8x128x1, .f32⟩ : BufTy).Contents (Elt F) → (⟨S1x16x2x8x128x257, .f32⟩ : BufTy).Contents (Elt F)),
    binary main_v65 main_v68 main_v69 (Host.divf : (⟨S1x16x2x8x128x257, .f32⟩ : BufTy).Contents (Elt F) → (⟨S1x16x2x8x128x257, .f32⟩ : BufTy).Contents (Elt F) → (⟨S1x16x2x8x128x257, .f32⟩ : BufTy).Contents (Elt F)),
    unary main_v69 main_v70 ((extractStridedSlice S1x16x2x8x128x256 ![0, 0, 0, 0, 0, 0] · slices_S1x16x2x8x128x257_S1x16x2x8x128x256_0_0_0_0_0_0) : (⟨S1x16x2x8x128x257, .f32⟩ : BufTy).Contents (Elt F) → (⟨S1x16x2x8x128x256, .f32⟩ : BufTy).Contents (Elt F)),
    binary main_v20 main_v70 main_v71 ((fun l r => Host.dotGeneral dot_S1x16x256x2x64_S1x16x2x8x128x256_S1x16x2x64x8x128_2_5_4_34_013_012 none l r) : (⟨S1x16x256x2x64, .f32⟩ : BufTy).Contents (Elt F) → (⟨S1x16x2x8x128x256, .f32⟩ : BufTy).Contents (Elt F) → (⟨S1x16x2x64x8x128, .f32⟩ : BufTy).Contents (Elt F)),
    unary main_v71 main_v72 ((transpose S1x16x128x2x8x64 [0, 1, 5, 2, 4, 3] · transposes_S1x16x2x64x8x128_S1x16x128x2x8x64_0_1_5_2_4_3) : (⟨S1x16x2x64x8x128, .f32⟩ : BufTy).Contents (Elt F) → (⟨S1x16x128x2x8x64, .f32⟩ : BufTy).Contents (Elt F)),
    reshape main_v72 main_v73 (rfl : (.f32 : EltTy) = .f32) shapeCasts_S1x16x128x2x8x64_S1x2048x1024,
    reshape main_v73 main_v74 (rfl : (.f32 : EltTy) = .f32) shapeCasts_S1x2048x1024_S2048x1024,
    reshape main_arg5 main_v75 (rfl : (.f32 : EltTy) = .f32) shapeCasts_S1x8x128x128_S8x128x128,
    reshape main_arg6 main_v76 (rfl : (.f32 : EltTy) = .f32) shapeCasts_S1x8x128_S8x128,
    unary main_v76 main_v77 ((transpose S128x8 [1, 0] · transposes_S8x128_S128x8_1_0) : (⟨S8x128, .f32⟩ : BufTy).Contents (Elt F) → (⟨S128x8, .f32⟩ : BufTy).Contents (Elt F)) ]

abbrev dst4 : List (Ref sig .tc) := [main_cst_7, main_v59, main_cst_8, main_v60, main_v61, main_v62, main_v63, main_v64, main_v65, main_cst_9, main_v66, main_v67, main_v68, main_v69, main_v70, main_v71, main_v72, main_v73, main_v74, main_v75, main_v76, main_v77]

theorem writes4 : (ops4 : List (HloOp τ sig (Elt F))).Forall fun op => op.writes ⊆ (dst4.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem V_split (V0 : Valuation τ sig (Elt F)) :
    after (List.flatten [hostOps0, hostOps0_1, hostOps0_2]) V0 = after ops4 (after ops3 (after ops2 (after ops1 V0))) := by
  rw [← after_append, ← after_append, ← after_append]
  rfl

section
variable (V0 : Valuation τ sig (Elt F))

set_option maxHeartbeats 2000000 in
theorem at1_v1 : after ops1 V0 (no_index (Proc.devRef .tc main_v1)) = val_main_v5 (F := F) (V0 (Proc.devRef .tc main_arg2)) := by
  simp only [ops1]
  after_results_simp
  rfl

set_option maxHeartbeats 2000000 in
theorem at1_v20 : after ops1 V0 (no_index (Proc.devRef .tc main_v20)) = val_main_v26 (F := F) (V0 (Proc.devRef .tc main_arg0)) := by
  simp only [ops1]
  after_results_simp
  rfl

set_option maxHeartbeats 2000000 in
theorem at1_v24 : after ops1 V0 (no_index (Proc.devRef .tc main_v24)) = val_main_v30 (F := F) (V0 (Proc.devRef .tc main_arg0)) := by
  simp only [ops1]
  after_results_simp
  rfl

set_option maxHeartbeats 2000000 in
theorem at2_v53 : after ops2 V0 (no_index (Proc.devRef .tc main_v53)) = val_main_v59 (F := F) := by
  simp only [ops2]
  after_results_simp
  rfl

set_option maxHeartbeats 2000000 in
theorem at2_cst : after ops2 V0 (no_index (Proc.devRef .tc main_cst_6)) = constant S_ .f32 0xFF800000#32 := by
  simp only [ops2]
  after_results_simp

set_option maxHeartbeats 2000000 in
theorem at3_v58 (a0 : (⟨S2048x5376, .f32⟩ : BufTy).Contents (Elt F))  (a2 : (⟨S1x16, .f32⟩ : BufTy).Contents (Elt F))  (h53 : V0 (Proc.devRef .tc main_v53) = val_main_v59 (F := F)) (h24 : V0 (Proc.devRef .tc main_v24) = val_main_v30 (F := F) a0) (h6 : V0 (Proc.devRef .tc main_cst_6) = constant S_ .f32 0xFF800000#32) (h1 : V0 (Proc.devRef .tc main_v1) = val_main_v5 (F := F) a2)
    : after ops3 V0 (no_index (Proc.devRef .tc main_v58)) = val_main_v64 (F := F) a0 a2 := by
  simp only [ops3]
  after_results_simp
  simp only [h53, h24, h6, h1]
  rfl

set_option maxHeartbeats 2000000 in
theorem at4_v74 (a0 : (⟨S2048x5376, .f32⟩ : BufTy).Contents (Elt F))  (a2 : (⟨S1x16, .f32⟩ : BufTy).Contents (Elt F))  (h58 : V0 (Proc.devRef .tc main_v58) = val_main_v64 (F := F) a0 a2) (h20 : V0 (Proc.devRef .tc main_v20) = val_main_v26 (F := F) a0)
    : after ops4 V0 (no_index (Proc.devRef .tc main_v74)) = shapeCast _ (val_main_v96 (F := F) a0 a2) shapeCasts_S1x2048x1024_S2048x1024 := by
  simp only [ops4]
  after_results_simp
  simp only [h58, h20]
  rfl

set_option maxHeartbeats 2000000 in
theorem at4_v75 : after ops4 V0 (no_index (Proc.devRef .tc main_v75)) = shapeCast _ (V0 (Proc.devRef .tc main_arg5)) shapeCasts_S1x8x128x128_S8x128x128 := by
  simp only [ops4]
  after_results_simp
  try rfl

set_option maxHeartbeats 2000000 in
theorem at4_v77 : after ops4 V0 (no_index (Proc.devRef .tc main_v77)) = transpose S128x8 [1, 0] (shapeCast _ (V0 (Proc.devRef .tc main_arg6)) shapeCasts_S1x8x128_S8x128) transposes_S8x128_S128x8_1_0 := by
  simp only [ops4]
  after_results_simp
  try rfl

theorem keep1 (r : Ref sig .tc) (h : r ∉ dst1) : after ops1 V0 (Proc.devRef .tc r) = V0 (Proc.devRef .tc r) := after_of_writes_sub ops1 _ writes1 h
theorem keep2 (r : Ref sig .tc) (h : r ∉ dst2) : after ops2 V0 (Proc.devRef .tc r) = V0 (Proc.devRef .tc r) := after_of_writes_sub ops2 _ writes2 h
theorem keep3 (r : Ref sig .tc) (h : r ∉ dst3) : after ops3 V0 (Proc.devRef .tc r) = V0 (Proc.devRef .tc r) := after_of_writes_sub ops3 _ writes3 h

theorem at_v74 : after (List.flatten [hostOps0, hostOps0_1, hostOps0_2]) V0 (Proc.devRef .tc main_v74)
    = shapeCast _ (val_main_v96 (F := F) (V0 (Proc.devRef .tc main_arg0)) (V0 (Proc.devRef .tc main_arg2))) shapeCasts_S1x2048x1024_S2048x1024 := by
  rw [V_split]
  refine at4_v74 _ _ _ (at3_v58 _ _ _ (at2_v53 _) ?_ (at2_cst _) ?_) ?_
  · exact (keep2 _ main_v24 (by decide)).trans (at1_v24 V0)
  · exact (keep2 _ main_v1 (by decide)).trans (at1_v1 V0)
  · exact (keep3 _ main_v20 (by decide)).trans ((keep2 _ main_v20 (by decide)).trans (at1_v20 V0))

theorem at_v75 : after (List.flatten [hostOps0, hostOps0_1, hostOps0_2]) V0 (Proc.devRef .tc main_v75)
    = shapeCast _ (V0 (Proc.devRef .tc main_arg5)) shapeCasts_S1x8x128x128_S8x128x128 := by
  rw [V_split, at4_v75]
  rw [keep3 _ main_arg5 (by decide), keep2 _ main_arg5 (by decide), keep1 _ main_arg5 (by decide)]

theorem at_v77 : after (List.flatten [hostOps0, hostOps0_1, hostOps0_2]) V0 (Proc.devRef .tc main_v77)
    = transpose S128x8 [1, 0] (shapeCast _ (V0 (Proc.devRef .tc main_arg6)) shapeCasts_S1x8x128_S8x128) transposes_S8x128_S128x8_1_0 := by
  rw [V_split, at4_v77]
  rw [keep3 _ main_arg6 (by decide), keep2 _ main_arg6 (by decide), keep1 _ main_arg6 (by decide)]

end

end Cert.KernelIdeal.Hand

end
-- ==== Proof.KAttn.lean ====
module

public import proofs.«01_k».proof.Proof.Consts
public import Idealize.ShloMosaic.Lib.WordCmp

@[expose] public section

set_option maxRecDepth 16384

noncomputable section

/-! The attention part of the kernel's body, payload by payload: each holds the real numbers of the closed form.

    A column `c` of the stacked scores of the key head `e` is query `c % 128` of head `8 * e + c / 128`. -/

namespace Cert.Mix

open Idealize.ShloMosaic Cert.KernelIdeal Cert.KernelIdeal.Gen

variable (Z D : ℕ → ℕ → ℝ) (K : ℕ → ℝ)

theorem head_div (e : ℕ) (c : Fin 1024) : (8 * e + (c : ℕ) / 128) / 8 = e := by omega

theorem ext_pay3 (n : ℕ) {v w : Vec Ideal S128x128 .f32} (hv : R2 v fun s j => Z (128 * (n - 1) + s) (1024 + j))
    (hw : R2 w fun s j => Z (128 * n + s) (1024 + j)) : R2 (k0_pay3 v w) fun s j => ext Z 1024 n 0 s j := by
  intro i j
  unfold R2 at *
  pointwise [k0_pay3, hv, hw]
  unfold ext
  split_ifs <;> rfl

theorem ext_pay4 (n : ℕ) {v w : Vec Ideal S128x128 .f32} (hv : R2 v fun s j => Z (128 * (n - 1) + s) (1152 + j))
    (hw : R2 w fun s j => Z (128 * n + s) (1152 + j)) : R2 (k0_pay4 v w) fun s j => ext Z 1152 n 0 s j := by
  intro i j
  unfold R2 at *
  pointwise [k0_pay4, hv, hw]
  unfold ext
  split_ifs <;> rfl

theorem pay9_eq {v : FVec Ideal S256x128 .bf16} {a : ℕ → ℕ → ℝ} (h : R2 v a) : R2 (k0_pay9 v) a := by
  intro i j
  unfold R2 at *
  pointwise [k0_pay9, h]

theorem pay50_eq {v : FVec Ideal S256x128 .bf16} {a : ℕ → ℕ → ℝ} (h : R2 v a) : R2 (k0_pay50 v) fun s d => a s (64 + d) := by
  intro i j
  unfold R2 at *
  pointwise [k0_pay50, h]

theorem ext_one (c n s d : ℕ) : ext Z c n 0 s (64 + d) = ext Z c n 1 s d := by
  unfold ext; congr 2 <;> omega

theorem pay11_eq (a : ℕ → ℕ → ℕ → ℝ) {v1 v2 v3 v4 v5 v6 v7 v8 : Vec Ideal S128x64 .f32} (h1 : R2 v1 (a 0)) (h2 : R2 v2 (a 1))
    (h3 : R2 v3 (a 2)) (h4 : R2 v4 (a 3)) (h5 : R2 v5 (a 4)) (h6 : R2 v6 (a 5)) (h7 : R2 v7 (a 6)) (h8 : R2 v8 (a 7)) :
    R2 (k0_pay11 v1 v2 v3 v4 v5 v6 v7 v8) fun c d => a (c / 128) (c % 128) d * (1 / 8) := by
  intro i j
  unfold R2 at *
  pointwise [k0_pay11, h1, h2, h3, h4, h5, h6, h7, h8]
  rw [pick8 (fun p q => ((a p q j : ℝ) : EReal)) i i.isLt, bits_eighth, EReal.coe_mul]

theorem pay12_eq (a : ℝ) {v : Vec Ideal S1x1 .f32} (h : R2 v fun _ _ => a) : R2 (k0_pay12 v) fun _ _ => a := by
  intro i j
  unfold R2 at *
  pointwise [k0_pay12, h]

theorem pay16_eq (a : ℕ → ℝ) {v1 v2 v3 v4 : FVec Ideal S1x128 .f32} {v5 v6 v7 v8 : Vec Ideal S1x1 .f32}
    (h1 : R2 v1 fun _ _ => a 0) (h2 : R2 v2 fun _ _ => a 1) (h3 : R2 v3 fun _ _ => a 2) (h4 : R2 v4 fun _ _ => a 3)
    (h5 : R2 v5 fun _ _ => a 4) (h6 : R2 v6 fun _ _ => a 5) (h7 : R2 v7 fun _ _ => a 6) (h8 : R2 v8 fun _ _ => a 7) :
    R2 (k0_pay16 v1 v2 v3 v4 v5 v6 v7 v8) fun _ c => a (c / 128) := by
  intro i j
  unfold R2 at *
  pointwise [k0_pay16, h1, h2, h3, h4, h5, h6, h7, h8]
  exact pick8 (fun p _ => ((a p : ℝ) : EReal)) j j.isLt

theorem andi_127 (j : ℕ) : IntOp.andi (BitVec.ofNat 32 j) 127#32 = BitVec.ofNat 32 (j % 128) := by
  apply BitVec.eq_of_toNat_eq
  simp only [IntOp.andi, BitVec.toNat_and, BitVec.toNat_ofNat]
  rw [show (127 % 2 ^ 32 : ℕ) = 2 ^ 7 - 1 from rfl, Nat.and_two_pow_sub_one_eq_mod]
  omega

theorem pay1_eq (n : ℕ) (hn : n < 17) (i : Fin 256) (j : Fin 1024) :
    k0_pay1 (BitVec.ofNat 32 n) (ix2 i j) = if valid n (j % 128) i then 1#1 else 0#1 := by
  pointwise [k0_pay1]
  rw [andi_127, show IntOp.addi (BitVec.ofNat 32 (↑j % 128)) 128#32 = BitVec.ofNat 32 (↑j % 128 + 128) from
    (BitVec.ofNat_add _ _).symm]
  have hj := j.isLt
  have hi := i.isLt
  rw [WordCmp.cmpi_sgt_ofNat (by omega) (by omega), WordCmp.cmpi_sle_ofNat (by omega) (by omega),
    show (128#32) = BitVec.ofNat 32 128 from rfl, WordCmp.cmpi_sge_ofNat (by omega) (by omega),
    show Scalar.cmpi .sgt (BitVec.ofNat 32 n) 0#32 = IntOp.cmpi .sgt (BitVec.ofNat 32 n) (BitVec.ofNat 32 0) from rfl,
    WordCmp.cmpi_sgt_ofNat (by omega) (by omega)]
  simp only [WordCmp.andi_ofBool, WordCmp.ori_ofBool]
  unfold valid
  simp only [← Bool.decide_and, ← Bool.decide_or, and_assoc]
  split_ifs with h <;> simp [h]

/-! ### One key head -/

section

variable (n e : ℕ) {m : IVec S256x1024 1} (hm : ∀ (i : Fin 256) (j : Fin 1024), m (ix2 i j) = if valid n (j % 128) i then 1#1 else 0#1)
  {kh vh : FVec Ideal S256x64 .bf16} {qs : FVec Ideal S1024x64 .bf16} {v1 v2 v3 v4 : FVec Ideal S1x128 .f32}
  {v5 v6 v7 v8 : Vec Ideal S1x1 .f32} (hk : R2 kh fun s d => ext Z 1024 n e s d) (hv : R2 vh fun s d => ext Z 1152 n e s d)
  (hq : R2 qs fun c d => Z (128 * n + c % 128) (64 * (8 * e + c / 128) + d) * (1 / 8))
  (hs : R2 (k0_pay16 v1 v2 v3 v4 v5 v6 v7 v8) fun _ c => K (8 * e + c / 128))

include hm hk hq in
theorem score_pay17 (i : Fin 256) (j : Fin 1024) : k0_pay17 (F := Ideal) m kh qs (ix2 i j)
    = if valid n (j % 128) i then ((score Z n (8 * e + j / 128) (j % 128) i : ℝ) : EReal) else ⊥ := by
  unfold R2 at *
  pointwise [k0_pay17, hk, hq, hm]
  simp only [score, head_div, coe_sum, EReal.coe_mul, bits_bot]
  split_ifs <;> rfl

include hm hk hq hs

theorem top_pay18 : R2 (k0_pay18 (F := Ideal) m kh qs v1 v2 v3 v4 v5 v6 v7 v8) fun _ c => top Z K n (8 * e + c / 128) (c % 128) := by
  intro i j
  have h := score_pay17 Z n e hm hk hq
  unfold R2 at *
  pointwise [k0_pay18, h, hs]
  rw [← top_coe, topE, bits_bot]

theorem ex_pay19 : R2 (k0_pay19 (F := Ideal) m kh qs v1 v2 v3 v4 v5 v6 v7 v8) fun s c => ex Z K n (8 * e + c / 128) (c % 128) s := by
  intro i j
  have h := score_pay17 Z n e hm hk hq
  have h' := top_pay18 Z K n e hm hk hq hs
  unfold R2 at *
  pointwise [k0_pay19, h, h']
  unfold ex
  split_ifs
  · rw [← EReal.coe_sub, Ideal.exp_coe]
  · rw [exp_bot_sub, EReal.coe_zero]

theorem exs_pay20 : R2 (k0_pay20 (F := Ideal) m kh qs v1 v2 v3 v4 v5 v6 v7 v8) fun _ c => exs Z K n (8 * e + c / 128) (c % 128) := by
  intro i j
  have h' := top_pay18 Z K n e hm hk hq hs
  unfold R2 at *
  pointwise [k0_pay20, hs, h']
  rw [← EReal.coe_sub, Ideal.exp_coe]; rfl

theorem den_pay21 : R2 (k0_pay21 (F := Ideal) m kh qs v1 v2 v3 v4 v5 v6 v7 v8)
    fun _ c => (den Z K n (8 * e + c / 128) (c % 128))⁻¹ := by
  intro i j
  have h := ex_pay19 Z K n e hm hk hq hs
  have h' := exs_pay20 Z K n e hm hk hq hs
  unfold R2 at *
  pointwise [k0_pay21, h, h']
  rw [← coe_sum, ← EReal.coe_add, one_div_real]
  · rfl
  · exact (den_pos Z K n _ _).ne'

theorem pr_pay22 : R2 (k0_pay22 (F := Ideal) m kh qs v1 v2 v3 v4 v5 v6 v7 v8) fun s c => pr Z K n (8 * e + c / 128) (c % 128) s := by
  intro i j
  have h := ex_pay19 Z K n e hm hk hq hs
  have h' := den_pay21 Z K n e hm hk hq hs
  unfold R2 at *
  pointwise [k0_pay22, h, h']
  rw [← EReal.coe_mul]; rfl

theorem prs_pay23 : R2 (k0_pay23 (F := Ideal) m kh qs v1 v2 v3 v4 v5 v6 v7 v8) fun _ c => prs Z K n (8 * e + c / 128) (c % 128) := by
  intro i j
  have h := exs_pay20 Z K n e hm hk hq hs
  have h' := den_pay21 Z K n e hm hk hq hs
  unfold R2 at *
  pointwise [k0_pay23, h, h']
  rw [← EReal.coe_mul]; rfl

omit hm hk hq hs

theorem pay8_eq {v w x : Vec Ideal S128x1024 .f32} (hv' : R2 v fun q c => Z (128 * n + q) (1280 + c))
    (hw : R2 w fun q c => sg (Z (128 * n + q) (1280 + c))) (hx : R2 x fun q c => D (128 * n + q) c) :
    R2 (k0_pay8 v w x) fun q c => D (128 * n + q) c * silu (Z (128 * n + q) (1280 + c)) := by
  intro i j
  unfold R2 at *
  pointwise [k0_pay8, hv', hw, hx]
  rw [← EReal.coe_mul, ← EReal.coe_mul]; rfl

variable {dl : FVec Ideal S128x1024 .bf16} (hd : R2 dl fun q c => D (128 * n + q) c * silu (Z (128 * n + q) (1280 + c)))

include hd in
theorem go_pay24 : R2 (k0_pay24 dl) fun c d => go Z D n (8 * 0 + c / 128) (c % 128) d := by
  intro i j
  unfold R2 at *
  pointwise [k0_pay24, hd]
  refine Eq.trans ?_ (pick8 (fun p q => ((go Z D n p q j : ℝ) : EReal)) i i.isLt)
  unfold go
  split_ifs <;> congr 4 <;> omega

include hd in
theorem go_pay60 : R2 (k0_pay60 dl) fun c d => go Z D n (8 * 1 + c / 128) (c % 128) d := by
  intro i j
  unfold R2 at *
  pointwise [k0_pay60, hd]
  refine Eq.trans ?_ (pick8 (fun p q => ((go Z D n (8 * 1 + p) q j : ℝ) : EReal)) i i.isLt)
  unfold go
  split_ifs <;> congr 4 <;> omega

variable {gt : FVec Ideal S1024x64 .bf16} (hg : R2 gt fun c d => go Z D n (8 * e + c / 128) (c % 128) d)

/-- The product of the values and the output's gradient, the queries stacked. -/
def gpV (vh : FVec Ideal S256x64 .bf16) (gt : FVec Ideal S1024x64 .bf16) : FVec Ideal S256x1024 .f32 :=
  matmul dot_S256x64_S1024x64_S256x1024_1_1_0_0_n_n none vh gt (constant S256x1024 .f32 0x00000000#32)

include hv hg in
theorem gp_gpV : R2 (gpV vh gt) fun s c => gp Z D n (8 * e + c / 128) (c % 128) s := by
  intro i j
  unfold R2 at *
  pointwise [gpV, hv, hg]
  simp only [gp, head_div, coe_sum, EReal.coe_mul]

variable {p gpv : FVec Ideal S256x1024 .f32} {ps dv : FVec Ideal S1x1024 .f32}
  (hp : R2 p fun s c => pr Z K n (8 * e + c / 128) (c % 128) s) (hps : R2 ps fun _ c => prs Z K n (8 * e + c / 128) (c % 128))
  (hgp : R2 gpv fun s c => gp Z D n (8 * e + c / 128) (c % 128) s) (hdv : R2 dv fun _ c => delta Z D K n (8 * e + c / 128) (c % 128))

/-- The sum over the keys of the probabilities and their gradients. -/
def deltaV (p gpv : FVec Ideal S256x1024 .f32) : FVec Ideal S1x1024 .f32 :=
  shapeCast S1x1024 (multiReduction .add [0] S1024 (mulf p gpv) 0x00000000#32 reduces_S256x1024_S1024 (.inl rfl) rfl)
    shapeCasts_S1024_S1x1024

include hp hgp in
theorem delta_deltaV : R2 (deltaV p gpv) fun _ c => delta Z D K n (8 * e + c / 128) (c % 128) := by
  intro i j
  unfold R2 at *
  pointwise [deltaV, hp, hgp]
  simp only [delta, coe_sum, EReal.coe_mul]

include hp hgp hdv in
theorem gs_pay27 : R2 (k0_pay27 p gpv dv) fun s c => gs Z D K n (8 * e + c / 128) (c % 128) s := by
  intro i j
  unfold R2 at *
  pointwise [k0_pay27, hp, hgp, hdv]
  simp only [gs, EReal.coe_sub, EReal.coe_mul]

include hps hdv in
theorem gsink_pay28 : R2 (k0_pay28 ps dv) fun _ c => -prs Z K n (8 * e + c / 128) (c % 128) * delta Z D K n (8 * e + c / 128) (c % 128) := by
  intro i j
  unfold R2 at *
  pointwise [k0_pay28, hps, hdv]
  simp only [EReal.coe_mul, EReal.coe_neg, zero_sub]

include hk hp hgp hdv in
theorem gq_pay29 : R2 (k0_pay29 kh p gpv dv) fun d c => gq Z D K n (8 * e + c / 128) (c % 128) d := by
  intro i j
  have h := gs_pay27 Z D K n e hp hgp hdv
  unfold R2 at *
  pointwise [k0_pay29, hk, h]
  simp only [gq, head_div, coe_sum, EReal.coe_mul, bits_eighth]

include hq in
theorem gk_pay48 {s : FVec Ideal S256x1024 .bf16} (hs' : R2 s fun s c => gs Z D K n (8 * e + c / 128) (c % 128) s) :
    R2 (k0_pay48 qs s) fun s d => gk Z D K n e s d := by
  intro i j
  unfold R2 at *
  pointwise [k0_pay48, hq, hs']
  simp only [gk, coe_sum, EReal.coe_mul]

include hp hg in
theorem gv_pay49 : R2 (k0_pay49 p gt) fun s d => gv Z D K n e s d := by
  intro i j
  unfold R2 at *
  pointwise [k0_pay49, hp, hg]
  simp only [gv, coe_sum, EReal.coe_mul]

end

end Cert.Mix

end
-- ==== Proof.KSgu.lean ====
module

public import proofs.«01_k».proof.Proof.Consts
public import Idealize.ShloMosaic.Lib.WordCmp

@[expose] public section

set_option maxRecDepth 16384

noncomputable section

/-! The spatial gating part of the kernel's body, payload by payload: each holds the real numbers of the closed form. -/

namespace Cert.Mix

open Idealize.ShloMosaic Cert.KernelIdeal Cert.KernelIdeal.Gen

variable (Z D : ℕ → ℕ → ℝ) (K G B : ℕ → ℝ) (W : ℕ → ℕ → ℕ → ℝ) (b : ℕ → ℕ → ℝ)

/-- Dropping columns `off` before a block shifts the second coordinate. -/
theorem slice_R2 {N M l k o : ℕ} {v : (⟨2, ![N, M]⟩ : Shape).Idx → EReal} {a : ℕ → ℕ → ℝ} (hv : R2 v a)
    (h : (⟨2, ![N, M]⟩ : Shape).Slices ![0, o] ⟨2, ![l, k]⟩) :
    R2 (extractStridedSlice (⟨2, ![l, k]⟩ : Shape) ![0, o] v h) fun i j => a i (o + j) := by
  intro i j
  have h0 : 0 + l ≤ N := h.2 0
  have h1 : o + k ≤ M := h.2 1
  have hi := i.isLt
  have hj := j.isLt
  rw [extractStridedSlice_apply ![0, o] v h (ix2 i j) (ix2 ⟨i, by omega⟩ ⟨o + j, by omega⟩)]
  · exact hv ⟨i, by omega⟩ ⟨o + j, by omega⟩
  · intro a
    fin_cases a
    · exact (Nat.zero_add _).symm
    · rfl

theorem pay2_eq (t s : Fin 128) : k0_pay2 (ix2 t s) = if (s : ℕ) ≤ t then 1#1 else 0#1 := by
  pointwise [k0_pay2]
  have ht := t.isLt
  have hs := s.isLt
  rw [WordCmp.cmpi_sge_ofNat (by omega) (by omega)]
  split_ifs with h <;> simp [h]

theorem tril_coe (t s : ℕ) (x : ℝ) : ((tril t s x : ℝ) : EReal) = if s ≤ t then (x : EReal) else 0 := by
  unfold tril; split_ifs <;> rfl

theorem tril_pay89 (g : ℕ) {v : Vec Ideal S1x128x128 .f32} (h : R3 v fun _ t s => W g t s) :
    R2 (k0_pay89 k0_pay2 v) fun t s => tril t s (W g t s) := by
  intro t s
  have h2 := pay2_eq
  unfold R3 at h
  pointwise [k0_pay89, h, h2]
  rw [tril_coe]
  split_ifs <;> rfl

/-! ### The layer norm -/

section

variable (n : ℕ) {v : Vec Ideal S128x1024 .f32} (hv : R2 v fun q c => Z (128 * n + q) (3328 + c))

include hv

theorem xc_pay85 : R2 (k0_pay85 v) fun q c => xc Z (128 * n + q) c := by
  intro i j
  unfold R2 at *
  pointwise [k0_pay85, hv]
  rw [← coe_sum, bits_1024, div_real (by norm_num), ← EReal.coe_sub]; rfl

theorem rstd_pay86 : R2 (k0_pay86 v) fun q _ => rstd eps Z (128 * n + q) := by
  intro i j
  have h := xc_pay85 Z n hv
  unfold R2 at *
  pointwise [k0_pay86, h]
  simp only [← EReal.coe_mul]
  rw [← coe_sum, bits_1024, div_real (by norm_num), bits_eps, ← EReal.coe_add]
  exact rsqrt_real (var_eps_pos Z _)

theorem xh_pay87 : R2 (k0_pay87 v) fun q c => xh eps Z (128 * n + q) c := by
  intro i j
  have h := xc_pay85 Z n hv
  have h' := rstd_pay86 Z n hv
  unfold R2 at *
  pointwise [k0_pay87, h, h']
  rw [← EReal.coe_mul]; rfl

theorem vn_pay88 {lg lb : Vec Ideal S1x1024 .f32} (hg : R2 lg fun _ c => G c) (hb : R2 lb fun _ c => B c) :
    R2 (k0_pay88 v lg lb) fun q c => vn eps Z G B (128 * n + q) c := by
  intro i j
  have h := xh_pay87 Z n hv
  unfold R2 at *
  pointwise [k0_pay88, h, hg, hb]
  rw [← EReal.coe_mul, ← EReal.coe_add]; rfl

end

/-! ### The product with the spatial weights -/

/-- `mixed` at column `128 * g + c`. -/
theorem mixed_split (n t c : ℕ) : mixed eps Z G B W b n t c
    = (∑ s : Fin 128, tril t s (W (c / 128) t s) * vn eps Z G B (128 * n + s) (128 * (c / 128) + c % 128)) + b (c / 128) t := by
  rw [Nat.div_add_mod]; rfl

/-- The gradient of the normalised `v` at column `128 * g + c`. -/
theorem gvn_split (n s c : ℕ) : gvn Z D W n s c
    = ∑ t : Fin 128, tril t s (W (c / 128) t s) * gm Z D (128 * n + t) (128 * (c / 128) + c % 128) := by
  rw [Nat.div_add_mod]; rfl

section

variable (n : ℕ) {x : FVec Ideal S128x1024 .bf16} (hx : R2 x fun q c => vn eps Z G B (128 * n + q) c)
  {m : FVec Ideal S128x1024 .f32} (hm : R2 m fun q c => gm Z D (128 * n + q) c)
  {m' : FVec Ideal S128x1024 .bf16} (hm' : R2 m' fun q c => gm Z D (128 * n + q) c)
  {w0 w1 w2 w3 w4 w5 w6 w7 : FVec Ideal S128x128 .bf16} (hw0 : R2 w0 fun t s => tril t s (W 0 t s))
  (hw1 : R2 w1 fun t s => tril t s (W 1 t s)) (hw2 : R2 w2 fun t s => tril t s (W 2 t s))
  (hw3 : R2 w3 fun t s => tril t s (W 3 t s)) (hw4 : R2 w4 fun t s => tril t s (W 4 t s))
  (hw5 : R2 w5 fun t s => tril t s (W 5 t s)) (hw6 : R2 w6 fun t s => tril t s (W 6 t s))
  (hw7 : R2 w7 fun t s => tril t s (W 7 t s))

include hx hw0 hw1 hw2 hw3 hw4 hw5 hw6 hw7 in
theorem mixed_pay100 {b0 b1 b2 b3 b4 b5 b6 b7 : Vec Ideal S128x1 .f32} (h0 : R2 b0 fun t _ => b 0 t) (h1 : R2 b1 fun t _ => b 1 t)
    (h2 : R2 b2 fun t _ => b 2 t) (h3 : R2 b3 fun t _ => b 3 t) (h4 : R2 b4 fun t _ => b 4 t) (h5 : R2 b5 fun t _ => b 5 t)
    (h6 : R2 b6 fun t _ => b 6 t) (h7 : R2 b7 fun t _ => b 7 t) :
    R2 (k0_pay100 x w2 w3 w4 w5 w6 w7 (k0_pay98 x w0 b0) (k0_pay99 x w1) b1 b2 b3 b4 b5 b6 b7)
      fun t c => mixed eps Z G B W b n t c := by
  intro i j
  unfold R2 at *
  pointwise [k0_pay100, k0_pay98, k0_pay99, hx, hw0, hw1, hw2, hw3, hw4, hw5, hw6, hw7, h0, h1, h2, h3, h4, h5, h6, h7]
  simp only [← EReal.coe_mul, ← coe_sum, ← EReal.coe_add]
  rw [mixed_split]
  refine Eq.trans ?_ (pick8 (fun g c => (((∑ s : Fin 128, tril i s (W g i s) * vn eps Z G B (128 * n + s) (128 * g + c)) + b g i : ℝ)
    : EReal)) j j.isLt)
  simp only [Nat.mul_zero, Nat.zero_add]

include hm' hw0 hw1 hw2 hw3 hw4 hw5 hw6 hw7 in
theorem gvn_pay135 : R2 (k0_pay135 w7 m' (k0_pay109 w0 m') (k0_pay112 w1 m') (k0_pay118 w2 m') (k0_pay122 w3 m')
    (k0_pay125 w4 m') (k0_pay129 w5 m') (k0_pay132 w6 m')) fun s c => gvn Z D W n s c := by
  intro i j
  unfold R2 at *
  pointwise [k0_pay135, k0_pay109, k0_pay112, k0_pay118, k0_pay122, k0_pay125, k0_pay129, k0_pay132,
    hm', hw0, hw1, hw2, hw3, hw4, hw5, hw6, hw7]
  simp only [← EReal.coe_mul, ← coe_sum, ← EReal.coe_add]
  rw [gvn_split]
  refine Eq.trans ?_ (pick8 (fun g c => ((∑ t : Fin 128, tril t i (W g t i) * gm Z D (128 * n + t) (128 * g + c) : ℝ)
    : EReal)) j j.isLt)
  simp only [Nat.mul_zero, Nat.zero_add]

/-! ### Gates -/

variable {u gt dc : Vec Ideal S128x1024 .f32} (hu : R2 u fun q c => Z (128 * n + q) (2304 + c))
  (hgt : R2 gt fun q c => Z (128 * n + q) (4352 + c)) (hdc : R2 dc fun q c => D (128 * n + q) (1024 + c))

include hgt hdc in
theorem gg_pay102 : R2 (k0_pay102 gt dc) fun q c => gg Z D (128 * n + q) c := by
  intro i j
  unfold R2 at *
  pointwise [k0_pay102, k0_pay101, hgt, hdc]
  rw [Ideal.logistic_coe, ← EReal.coe_mul, ← EReal.coe_mul]; rfl

include hgt hdc in
theorem pend_pay103 {mx : FVec Ideal S128x1024 .f32} (hmx : R2 mx fun t c => mixed eps Z G B W b n t c) :
    R2 (k0_pay103 mx gt dc) fun q c => gg Z D (128 * n + q) c * mixed eps Z G B W b n q c := by
  intro i j
  have h := gg_pay102 Z D n hgt hdc
  unfold R2 at *
  pointwise [k0_pay103, h, hmx]
  rw [← EReal.coe_mul]

include hu hgt hdc in
theorem pend_pay104 {mx : FVec Ideal S128x1024 .f32} (hmx : R2 mx fun t c => mixed eps Z G B W b n t c) :
    R2 (k0_pay104 mx u gt dc) fun q c => D (128 * n + q) (1024 + c) * (Z (128 * n + q) (2304 + c) * mixed eps Z G B W b n q c)
      * dsilu (Z (128 * n + q) (4352 + c)) := by
  intro i j
  unfold R2 at *
  pointwise [k0_pay104, k0_pay101, hu, hgt, hdc, hmx]
  simp only [Ideal.logistic_coe, dsilu, sg]; push_cast; rfl

include hu hgt hdc in
theorem gm_pay105 : R2 (k0_pay105 u gt dc) fun q c => gm Z D (128 * n + q) c := by
  intro i j
  have h := gg_pay102 Z D n hgt hdc
  unfold R2 at *
  pointwise [k0_pay105, h, hu]
  rw [← EReal.coe_mul]; rfl

include hu hgt hdc in
theorem gm_pay106 : R2 (k0_pay106 u gt dc) fun q c => gm Z D (128 * n + q) c := by
  intro i j
  have h := gm_pay105 Z D n hu hgt hdc
  unfold R2 at *
  pointwise [k0_pay106, h]

/-- The attention gate's columns. -/
theorem pend_pay7 {ga da o : Vec Ideal S128x1024 .f32} (hga : R2 ga fun q c => Z (128 * n + q) (1280 + c))
    (hda : R2 da fun q c => D (128 * n + q) c) (ho : R2 o fun q c => att Z K n (c / 64) q (c % 64)) :
    R2 (k0_pay7 (k0_pay6 ga da o)) fun q c => D (128 * n + q) c * att Z K n (c / 64) q (c % 64) * dsilu (Z (128 * n + q) (1280 + c)) := by
  intro i j
  unfold R2 at *
  pointwise [k0_pay7, k0_pay6, k0_pay5, hga, hda, ho]
  simp only [Ideal.logistic_coe, dsilu, sg]; push_cast; rfl

theorem sg_pay5 {ga : Vec Ideal S128x1024 .f32} (hga : R2 ga fun q c => Z (128 * n + q) (1280 + c)) :
    R2 (k0_pay5 ga) fun q c => sg (Z (128 * n + q) (1280 + c)) := by
  intro i j
  unfold R2 at *
  pointwise [k0_pay5, hga]
  simp only [Ideal.logistic_coe, sg]

/-! ### Sums over the blocks -/

include hx hm' in
theorem gw_pay116 (g : ℕ) {old : Vec Ideal S1x128x128 .f32} {a : ℕ → ℕ → ℝ} (ho : R3 old fun _ t s => a t s)
    {y z : FVec Ideal S128x128 .bf16} (hy : R2 y fun t c => gm Z D (128 * n + t) (128 * g + c))
    (hz : R2 z fun s c => vn eps Z G B (128 * n + s) (128 * g + c)) :
    R3 (k0_pay116 k0_pay2 (k0_pay113 old) y z) fun _ t s => a t s + gw eps Z D G B n g t s := by
  intro i t s
  have h2 := pay2_eq
  unfold R3 at *
  unfold R2 at *
  pointwise [k0_pay116, k0_pay113, ho, hy, hz, h2]
  simp only [← EReal.coe_mul, ← coe_sum]
  rw [EReal.coe_add, gw, tril_coe]
  congr 1
  split_ifs <;> rfl

/-- A column of a block and the sums of its rows. -/
theorem gb_pay79 {old : Vec Ideal S128x1 .f32} {a : ℕ → ℝ} (ho : R2 old fun t _ => a t) (g : ℕ) {y : FVec Ideal S128x128 .f32}
    (hy : R2 y fun t c => gm Z D (128 * n + t) (128 * g + c)) :
    R2 (shapeCast S128x1 (addf old (shapeCast S128x1 (multiReduction .add [1] S128 y 0x00000000#32 reduces_S128x128_S128 (.inl rfl) rfl)
      shapeCasts_S128_S128x1)) shapeCasts_S128x1_S128x1) fun t _ => a t + gb Z D n g t := by
  intro i j
  unfold R2 at *
  pointwise [ho, hy]
  simp only [gb, EReal.coe_add, coe_sum]

theorem glb_pay137 {w : FVec Ideal S128x1024 .f32} (hw : R2 w fun s c => gvn Z D W n s c) {old : Vec Ideal S1x1024 .f32} {a : ℕ → ℝ}
    (ho : R2 old fun _ c => a c) :
    R2 (addf (shapeCast S1x1024 old shapeCasts_S1x1024_S1x1024) (shapeCast S1x1024
      (multiReduction .add [0] S1024 w 0x00000000#32 reduces_S128x1024_S1024 (.inl rfl) rfl) shapeCasts_S1024_S1x1024))
      fun _ c => a c + glb Z D W n c := by
  intro i j
  unfold R2 at *
  pointwise [ho, hw]
  simp only [glb, EReal.coe_add, coe_sum]

theorem glg_pay136 {w x' : FVec Ideal S128x1024 .f32} (hw : R2 w fun s c => gvn Z D W n s c)
    (hx' : R2 x' fun q c => xh eps Z (128 * n + q) c) {old : Vec Ideal S1x1024 .f32} {a : ℕ → ℝ} (ho : R2 old fun _ c => a c) :
    R2 (addf (shapeCast S1x1024 old shapeCasts_S1x1024_S1x1024) (shapeCast S1x1024
      (multiReduction .add [0] S1024 (mulf w x') 0x00000000#32 reduces_S128x1024_S1024 (.inl rfl) rfl) shapeCasts_S1024_S1x1024))
      fun _ c => a c + glg eps Z D W n c := by
  intro i j
  unfold R2 at *
  pointwise [ho, hw, hx']
  simp only [glg, EReal.coe_add, coe_sum, EReal.coe_mul]

theorem gz_pay146 {r : FVec Ideal S128x1 .f32} {w x' : FVec Ideal S128x1024 .f32} {lg : Vec Ideal S1x1024 .f32}
    (hr : R2 r fun q _ => rstd eps Z (128 * n + q)) (hx' : R2 x' fun q c => xh eps Z (128 * n + q) c) (hg : R2 lg fun _ c => G c)
    (hw : R2 w fun s c => gvn Z D W n s c) : R2 (k0_pay146 r x' lg w) fun q c => gz eps Z D G W n q c := by
  intro i j
  unfold R2 at *
  pointwise [k0_pay146, hr, hx', hg, hw]
  simp only [bits_1024, ← EReal.coe_mul, ← coe_sum]
  rw [div_real (by norm_num), div_real (by norm_num)]
  simp only [← EReal.coe_mul, ← EReal.coe_sub]
  rfl

end

end Cert.Mix

end
-- ==== Proof.State.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The conditions the body branches on, at the grid's coordinates: the first point, the last point (twice, as it
    is computed twice), and every point but the last. -/
abbrev cond0_0 (i : grid0.Coords) : Prop := k0_cond1 i = 1#1
abbrev cond0_1 (i : grid0.Coords) : Prop := (Scalar.cmpi .ne (Scalar.extui (Scalar.cmpi .eq (BitVec.ofNat 32 (i 0).val) 16#32)) 0#32) = 1#1
abbrev cond0_2 (i : grid0.Coords) : Prop := k0_cond3 i = 1#1
abbrev cond0_3 (i : grid0.Coords) : Prop := k0_cond4 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 16 :=
  (by decide +kernel : ∀ t : Fin grid0.N, cond0_1 (grid0.coords t) ↔ t.val = 16)
theorem hcond0_2 : ∀ t : Fin cfg0.N, cond0_2 (grid0.coords t) ↔ t.val < 16 :=
  (by decide +kernel : ∀ t : Fin grid0.N, cond0_2 (grid0.coords t) ↔ t.val < 16)
theorem hcond0_3 : ∀ t : Fin cfg0.N, cond0_3 (grid0.coords t) ↔ t.val = 16 :=
  (by decide +kernel : ∀ t : Fin grid0.N, cond0_3 (grid0.coords t) ↔ t.val = 16)

/-- What the nine operands read hold at a grid point. -/
structure Ins (F : FTy → Type) [FloatOps F] where
  x0 : Vec F S128x5376 .f32
  x1 : Vec F S128x256 .f32
  x2 : Vec F S128x2048 .f32
  x3 : Vec F S128x1024 .f32
  x4 : Vec F S1x16 .f32
  x5 : Vec F S1x1024 .f32
  x6 : Vec F S1x1024 .f32
  x7 : Vec F S8x128x128 .f32
  x8 : Vec F S128x8 .f32

/-- What the buffers the body may write hold at a grid point: the six results' blocks and the five scratch buffers. -/
structure Bufs (F : FTy → Type) [FloatOps F] where
  b10 : Vec F S128x5376 .bf16
  b11 : Vec F S1x16 .f32
  b12 : Vec F S1x1024 .f32
  b13 : Vec F S1x1024 .f32
  b14 : Vec F S8x128x128 .f32
  b15 : Vec F S8x128 .f32
  b16 : Vec F S128x5376 .bf16
  b17 : Vec F S256x256 .f32
  b18 : Vec F S128x256 .f32
  b19 : Vec F S1x128 .f32
  b20 : Vec F S128x128 .f32

/-- The pieces a run of the body stores into each of those buffers, the last first. -/
structure Pieces (F : FTy → Type) [FloatOps F] where
  p10 : List (View.Piece (Elt F) S128x5376 .bf16)
  p11 : List (View.Piece (Elt F) S1x16 .f32)
  p12 : List (View.Piece (Elt F) S1x1024 .f32)
  p13 : List (View.Piece (Elt F) S1x1024 .f32)
  p14 : List (View.Piece (Elt F) S8x128x128 .f32)
  p15 : List (View.Piece (Elt F) S8x128 .f32)
  p16 : List (View.Piece (Elt F) S128x5376 .bf16)
  p17 : List (View.Piece (Elt F) S256x256 .f32)
  p18 : List (View.Piece (Elt F) S128x256 .f32)
  p19 : List (View.Piece (Elt F) S1x128 .f32)
  p20 : List (View.Piece (Elt F) S128x128 .f32)

section
variable (c : Dev nD)

/-- The operands read, owned at their contents. -/
def insOwned (arg1 : Memref sig .tc .vmem S128x5376 .f32) (arg2 : Memref sig .tc .vmem S128x256 .f32) (arg3 : Memref sig .tc .vmem S128x2048 .f32) (arg4 : Memref sig .tc .vmem S128x1024 .f32) (arg5 : Memref sig .tc .vmem S1x16 .f32) (arg6 : Memref sig .tc .vmem S1x1024 .f32) (arg7 : Memref sig .tc .vmem S1x1024 .f32) (arg8 : Memref sig .tc .vmem S8x128x128 .f32) (arg9 : Memref sig .tc .vmem S128x8 .f32) (x : Ins F) : sProp 𝕄 :=
  iprop(owns (c : Thread nD τ) arg1 fullShare x.x0 ∗ owns (c : Thread nD τ) arg2 fullShare x.x1 ∗ owns (c : Thread nD τ) arg3 fullShare x.x2 ∗ owns (c : Thread nD τ) arg4 fullShare x.x3 ∗ owns (c : Thread nD τ) arg5 fullShare x.x4 ∗ owns (c : Thread nD τ) arg6 fullShare x.x5 ∗ owns (c : Thread nD τ) arg7 fullShare x.x6 ∗ owns (c : Thread nD τ) arg8 fullShare x.x7 ∗ owns (c : Thread nD τ) arg9 fullShare x.x8)

/-- The buffers the body may write, owned at their contents. -/
def bufsOwned (arg10 : Memref sig .tc .vmem S128x5376 .bf16) (arg11 : Memref sig .tc .vmem S1x16 .f32) (arg12 : Memref sig .tc .vmem S1x1024 .f32) (arg13 : Memref sig .tc .vmem S1x1024 .f32) (arg14 : Memref sig .tc .vmem S8x128x128 .f32) (arg15 : Memref sig .tc .vmem S8x128 .f32) (arg16 : Memref sig .tc .vmem S128x5376 .bf16) (arg17 : Memref sig .tc .vmem S256x256 .f32) (arg18 : Memref sig .tc .vmem S128x256 .f32) (arg19 : Memref sig .tc .vmem S1x128 .f32) (arg20 : Memref sig .tc .vmem S128x128 .f32) (b : Bufs F) : sProp 𝕄 :=
  iprop(owns (c : Thread nD τ) arg10 fullShare b.b10 ∗ owns (c : Thread nD τ) arg11 fullShare b.b11 ∗ owns (c : Thread nD τ) arg12 fullShare b.b12 ∗ owns (c : Thread nD τ) arg13 fullShare b.b13 ∗ owns (c : Thread nD τ) arg14 fullShare b.b14 ∗ owns (c : Thread nD τ) arg15 fullShare b.b15 ∗ owns (c : Thread nD τ) arg16 fullShare b.b16 ∗ owns (c : Thread nD τ) arg17 fullShare b.b17 ∗ owns (c : Thread nD τ) arg18 fullShare b.b18 ∗ owns (c : Thread nD τ) arg19 fullShare b.b19 ∗ owns (c : Thread nD τ) arg20 fullShare b.b20)

/-- The contents of the buffers after the pieces `p` are stored. -/
def Bufs.after (b : Bufs F) (arg10 : Memref sig .tc .vmem S128x5376 .bf16) (arg11 : Memref sig .tc .vmem S1x16 .f32) (arg12 : Memref sig .tc .vmem S1x1024 .f32) (arg13 : Memref sig .tc .vmem S1x1024 .f32) (arg14 : Memref sig .tc .vmem S8x128x128 .f32) (arg15 : Memref sig .tc .vmem S8x128 .f32) (arg16 : Memref sig .tc .vmem S128x5376 .bf16) (arg17 : Memref sig .tc .vmem S256x256 .f32) (arg18 : Memref sig .tc .vmem S128x256 .f32) (arg19 : Memref sig .tc .vmem S1x128 .f32) (arg20 : Memref sig .tc .vmem S128x128 .f32) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (p : Pieces F) : Bufs F :=
  ⟨arg10.view.read (Elt F) (arg10.view.writes (Elt F) (harg10.unread b.b10) p.p10), arg11.view.read (Elt F) (arg11.view.writes (Elt F) (harg11.unread b.b11) p.p11), arg12.view.read (Elt F) (arg12.view.writes (Elt F) (harg12.unread b.b12) p.p12), arg13.view.read (Elt F) (arg13.view.writes (Elt F) (harg13.unread b.b13) p.p13), arg14.view.read (Elt F) (arg14.view.writes (Elt F) (harg14.unread b.b14) p.p14), arg15.view.read (Elt F) (arg15.view.writes (Elt F) (harg15.unread b.b15) p.p15), arg16.view.read (Elt F) (arg16.view.writes (Elt F) (harg16.unread b.b16) p.p16), arg17.view.read (Elt F) (arg17.view.writes (Elt F) (harg17.unread b.b17) p.p17), arg18.view.read (Elt F) (arg18.view.writes (Elt F) (harg18.unread b.b18) p.p18), arg19.view.read (Elt F) (arg19.view.writes (Elt F) (harg19.unread b.b19) p.p19), arg20.view.read (Elt F) (arg20.view.writes (Elt F) (harg20.unread b.b20) p.p20)⟩

end

end Cert.KernelIdeal.Hand

end
-- ==== Proof.Reads.lean ====
module

public import proofs.«01_k».proof.Proof.Consts
public import proofs.«01_k».proof.Proof.State
public import Idealize.ShloMosaic.Lib.WholeRead
public import Idealize.ShloMosaic.Lib.WritesUnit

@[expose] public section

noncomputable section

/-! Loads from whole buffers, and buffers read after stores, as arrays that hold real numbers. -/

namespace Cert.Mix

open Idealize.ShloMosaic Cert.KernelIdeal

section

variable {Val : EltTy → Type} {e : EltTy} {N M l k r c : ℕ}

theorem unit2_idx (inb : ∀ a, (![r, c] : Fin 2 → ℕ) a + (![l, k] : Fin 2 → ℕ) a ≤ (⟨2, ![N, M]⟩ : Shape).size a) (i : Fin l) (j : Fin k) :
    (Rect.unit (s := ⟨2, ![N, M]⟩) ![r, c] ![l, k] inb).toLoadRect.idx (ix2 i j)
      = ix2 ⟨r + i, lt_of_lt_of_le (Nat.add_lt_add_left i.isLt r) (inb 0)⟩ ⟨c + j, lt_of_lt_of_le (Nat.add_lt_add_left j.isLt c) (inb 1)⟩ := by
  funext a
  fin_cases a
  · exact Fin.ext (congrArg (r + ·) (Nat.one_mul _))
  · exact Fin.ext (congrArg (c + ·) (Nat.one_mul _))

variable {sig : RefSig} {κ : Kind} {sp : Space} {m : Memref sig κ sp ⟨2, ![N, M]⟩ e}

/-- A load of a block of a whole buffer, at an index of the block. -/
theorem ld_apply (h : m.IsWhole) (X : (⟨2, ![N, M]⟩ : Shape).Idx → Val e)
    (inb : ∀ a, (![r, c] : Fin 2 → ℕ) a + (![l, k] : Fin 2 → ℕ) a ≤ (⟨2, ![N, M]⟩ : Shape).size a) (i : Fin l) (j : Fin k) :
    View.readAt Val m.view (Rect.unit (s := ⟨2, ![N, M]⟩) ![r, c] ![l, k] inb).toLoadRect (h.unread X) (ix2 i j)
      = X (ix2 ⟨r + i, lt_of_lt_of_le (Nat.add_lt_add_left i.isLt r) (inb 0)⟩
          ⟨c + j, lt_of_lt_of_le (Nat.add_lt_add_left j.isLt c) (inb 1)⟩) :=
  (h.readAt_unread X _ _).trans (congrArg X (unit2_idx inb i j))

end

section

variable {N M l k r c : ℕ} {sig : RefSig} {κ : Kind} {sp : Space} {a : ℕ → ℕ → ℝ}

theorem R2_ld {m : Memref sig κ sp ⟨2, ![N, M]⟩ .f32} (h : m.IsWhole) {X : Vec Ideal ⟨2, ![N, M]⟩ .f32} (hX : R2 X a)
    (inb : ∀ a, (![r, c] : Fin 2 → ℕ) a + (![l, k] : Fin 2 → ℕ) a ≤ (⟨2, ![N, M]⟩ : Shape).size a) :
    R2 (View.readAt (Elt Ideal) m.view (Rect.unit (s := ⟨2, ![N, M]⟩) ![r, c] ![l, k] inb).toLoadRect (h.unread X)) fun i j => a (r + i) (c + j) :=
  fun i j => (ld_apply (Val := Elt Ideal) h X inb i j).trans (hX _ _)

theorem R2_ld16 {m : Memref sig κ sp ⟨2, ![N, M]⟩ .bf16} (h : m.IsWhole) {X : Vec Ideal ⟨2, ![N, M]⟩ .bf16} (hX : R2 X a)
    (inb : ∀ a, (![r, c] : Fin 2 → ℕ) a + (![l, k] : Fin 2 → ℕ) a ≤ (⟨2, ![N, M]⟩ : Shape).size a) :
    R2 (View.readAt (Elt Ideal) m.view (Rect.unit (s := ⟨2, ![N, M]⟩) ![r, c] ![l, k] inb).toLoadRect (h.unread X)) fun i j => a (r + i) (c + j) :=
  fun i j => (ld_apply (Val := Elt Ideal) h X inb i j).trans (hX _ _)

theorem R2.congr {v : (⟨2, ![N, M]⟩ : Shape).Idx → EReal} {a a' : ℕ → ℕ → ℝ} (h : R2 v a) (e : ∀ i j, i < N → j < M → a i j = a' i j) :
    R2 v a' := fun i j => (h i j).trans (congrArg _ (e i j i.isLt j.isLt))

/-- A load from the first row on. -/
theorem R2_ld0 {m : Memref sig κ sp ⟨2, ![N, M]⟩ .f32} (h : m.IsWhole) {X : Vec Ideal ⟨2, ![N, M]⟩ .f32} (hX : R2 X a)
    (inb : ∀ a, (![0, c] : Fin 2 → ℕ) a + (![l, k] : Fin 2 → ℕ) a ≤ (⟨2, ![N, M]⟩ : Shape).size a) :
    R2 (View.readAt (Elt Ideal) m.view (Rect.unit (s := ⟨2, ![N, M]⟩) ![0, c] ![l, k] inb).toLoadRect (h.unread X)) fun i j => a i (c + j) :=
  R2.congr (R2_ld h hX inb) fun i j _ _ => by rw [Nat.zero_add]

/-- A load from the first row and column on. -/
theorem R2_ld00 {m : Memref sig κ sp ⟨2, ![N, M]⟩ .f32} (h : m.IsWhole) {X : Vec Ideal ⟨2, ![N, M]⟩ .f32} (hX : R2 X a)
    (inb : ∀ a, (![0, 0] : Fin 2 → ℕ) a + (![l, k] : Fin 2 → ℕ) a ≤ (⟨2, ![N, M]⟩ : Shape).size a) :
    R2 (View.readAt (Elt Ideal) m.view (Rect.unit (s := ⟨2, ![N, M]⟩) ![0, 0] ![l, k] inb).toLoadRect (h.unread X)) fun i j => a i j :=
  R2.congr (R2_ld h hX inb) fun i j _ _ => by rw [Nat.zero_add, Nat.zero_add]

theorem R3_ld {m : Memref sig κ sp ⟨3, ![N, M, l]⟩ .f32} (h : m.IsWhole) {X : Vec Ideal ⟨3, ![N, M, l]⟩ .f32} {a : ℕ → ℕ → ℕ → ℝ} (hX : R3 X a)
    (inb : ∀ a, (![r, 0, 0] : Fin 3 → ℕ) a + (![1, M, l] : Fin 3 → ℕ) a ≤ (⟨3, ![N, M, l]⟩ : Shape).size a) :
    R3 (View.readAt (Elt Ideal) m.view (Rect.unit (s := ⟨3, ![N, M, l]⟩) ![r, 0, 0] ![1, M, l] inb).toLoadRect (h.unread X)) fun _ t s => a r t s := by
  intro g t s
  refine (h.readAt_unread X _ _).trans ((congrArg X (?_ : _ = ix3 (n0 := N) (n1 := M) (n2 := l) ⟨r, lt_of_lt_of_le (Nat.lt_succ_self r) (inb 0)⟩ t s)).trans
    (hX _ _ _))
  funext d
  fin_cases d
  · refine Fin.ext ?_
    show r + 1 * (g : ℕ) = r
    omega
  · exact Fin.ext (by show 0 + 1 * (t : ℕ) = t; omega)
  · exact Fin.ext (by show 0 + 1 * (s : ℕ) = s; omega)

end

/-! ### Buffers after stores -/

section

variable {Val : EltTy → Type} {e : EltTy} {N M : ℕ} {sig : RefSig} {κ : Kind} {sp : Space} (v : View sig κ sp ⟨2, ![N, M]⟩ e)
  (f : v.ty.Contents Val)

/-- After the stores `L` the buffer reads `g` wherever `P` holds. -/
def Reads (L : List (View.Piece Val ⟨2, ![N, M]⟩ e)) (P : ℕ → ℕ → Prop) (g : ℕ → ℕ → Val e) : Prop :=
  ∀ (i : Fin N) (j : Fin M), P i j → v.read Val (v.writes Val f L) (ix2 i j) = g i j

variable {v f} {L : List (View.Piece Val ⟨2, ![N, M]⟩ e)} {P : ℕ → ℕ → Prop} {g : ℕ → ℕ → Val e} {l k r c : ℕ}

theorem Reads.none : Reads v f L (fun _ _ => False) g := fun _ _ h => h.elim

theorem Reads.mono {P' : ℕ → ℕ → Prop} (h : Reads v f L P g) (hP : ∀ i j, i < N → j < M → P' i j → P i j) : Reads v f L P' g :=
  fun i j hp => h i j (hP i j i.isLt j.isLt hp)

theorem Reads.congr {g' : ℕ → ℕ → Val e} (h : Reads v f L P g) (hg : ∀ i j, i < N → j < M → P i j → g i j = g' i j) : Reads v f L P g' :=
  fun i j hp => (h i j hp).trans (hg i j i.isLt j.isLt hp)

/-- One more store, of values of `g`, widens the part that reads `g`. -/
theorem Reads.cons (h : Reads v f L P g) {inb : ∀ a, (![r, c] : Fin 2 → ℕ) a + (![l, k] : Fin 2 → ℕ) a ≤ (⟨2, ![N, M]⟩ : Shape).size a}
    {w : (⟨2, ![l, k]⟩ : Shape).Idx → Val e} (hw : ∀ (i : Fin l) (j : Fin k), w (ix2 i j) = g (r + i) (c + j)) :
    Reads v f (⟨Rect.unit ![r, c] ![l, k] inb, w⟩ :: L) (fun i j => P i j ∨ (r ≤ i ∧ i < r + l ∧ c ≤ j ∧ j < c + k)) g := by
  intro i j hp
  by_cases hm : r ≤ (i : ℕ) ∧ (i : ℕ) < r + l ∧ c ≤ (j : ℕ) ∧ (j : ℕ) < c + k
  · rw [View.read_writes_cons_unit_of_mem v f inb w L (ix2 i j) (ix2 ⟨i - r, by omega⟩ ⟨j - c, by omega⟩) rfl]
    · rw [hw]
      exact congrArg₂ g (by show r + (↑i - r) = ↑i; omega) (by show c + (↑j - c) = ↑j; omega)
    · intro a
      fin_cases a
      · show (i : ℕ) = r + (↑i - r); omega
      · show (j : ℕ) = c + (↑j - c); omega
  · have hp' := hp.resolve_right hm
    by_cases hi : r ≤ (i : ℕ) ∧ (i : ℕ) < r + l
    · rw [View.read_writes_cons_unit_of_not_mem v f inb w L (ix2 i j) rfl 1 (by
        show (j : ℕ) < c ∨ c + k ≤ (j : ℕ); omega)]
      exact h i j hp'
    · rw [View.read_writes_cons_unit_of_not_mem v f inb w L (ix2 i j) rfl 0 (by
        show (i : ℕ) < r ∨ r + l ≤ (i : ℕ); omega)]
      exact h i j hp'

/-- A store elsewhere changes nothing. -/
theorem Reads.skip (h : Reads v f L P g) {inb : ∀ a, (![r, c] : Fin 2 → ℕ) a + (![l, k] : Fin 2 → ℕ) a ≤ (⟨2, ![N, M]⟩ : Shape).size a}
    {w : (⟨2, ![l, k]⟩ : Shape).Idx → Val e}
    (hP : ∀ i j, i < N → j < M → P i j → (i < r ∨ r + l ≤ i) ∨ (j < c ∨ c + k ≤ j)) :
    Reads v f (⟨Rect.unit ![r, c] ![l, k] inb, w⟩ :: L) P g := by
  intro i j hp
  rcases hP i j i.isLt j.isLt hp with hi | hj
  · rw [View.read_writes_cons_unit_of_not_mem v f inb w L (ix2 i j) rfl 0 hi]
    exact h i j hp
  · rw [View.read_writes_cons_unit_of_not_mem v f inb w L (ix2 i j) rfl 1 hj]
    exact h i j hp

/-- A load, within the part that reads `g`, of the buffer after the stores. -/
theorem Reads.load (h : Reads v f L P g) {inb : ∀ a, (![r, c] : Fin 2 → ℕ) a + (![l, k] : Fin 2 → ℕ) a ≤ (⟨2, ![N, M]⟩ : Shape).size a}
    (hP : ∀ i j, i < l → j < k → P (r + i) (c + j)) (i : Fin l) (j : Fin k) :
    v.readAt Val (Rect.unit (s := ⟨2, ![N, M]⟩) ![r, c] ![l, k] inb).toLoadRect (v.writes Val f L) (ix2 i j) = g (r + i) (c + j) :=
  (congrArg (v.read Val (v.writes Val f L)) (unit2_idx inb i j)).trans (h _ _ (hP i j i.isLt j.isLt))

end

section

variable {Val : EltTy → Type} {e : EltTy} {N M l : ℕ} {sig : RefSig} {κ : Kind} {sp : Space} (v : View sig κ sp ⟨3, ![N, M, l]⟩ e)
  (f : v.ty.Contents Val)

/-- After the stores `L` the sheets `p` with `P p` read `g`. -/
def Reads3 (L : List (View.Piece Val ⟨3, ![N, M, l]⟩ e)) (P : ℕ → Prop) (g : ℕ → ℕ → ℕ → Val e) : Prop :=
  ∀ (p : Fin N) (i : Fin M) (j : Fin l), P p → v.read Val (v.writes Val f L) (ix3 p i j) = g p i j

variable {v f} {L : List (View.Piece Val ⟨3, ![N, M, l]⟩ e)} {P : ℕ → Prop} {g : ℕ → ℕ → ℕ → Val e} {r : ℕ}

theorem Reads3.none : Reads3 v f L (fun _ => False) g := fun _ _ _ h => h.elim

theorem Reads3.mono {P' : ℕ → Prop} (h : Reads3 v f L P g) (hP : ∀ p, p < N → P' p → P p) : Reads3 v f L P' g :=
  fun p i j hp => h p i j (hP p p.isLt hp)

theorem Reads3.cons (h : Reads3 v f L P g)
    {inb : ∀ a, (![r, 0, 0] : Fin 3 → ℕ) a + (![1, M, l] : Fin 3 → ℕ) a ≤ (⟨3, ![N, M, l]⟩ : Shape).size a}
    {w : (⟨3, ![1, M, l]⟩ : Shape).Idx → Val e} (hw : ∀ (p : Fin 1) (i : Fin M) (j : Fin l), w (ix3 p i j) = g r i j) :
    Reads3 v f (⟨Rect.unit ![r, 0, 0] ![1, M, l] inb, w⟩ :: L) (fun p => P p ∨ p = r) g := by
  intro p i j hp
  by_cases hm : (p : ℕ) = r
  · rw [View.read_writes_cons_unit_of_mem v f inb w L (ix3 p i j) (ix3 0 i j) rfl]
    · rw [hw, hm]
    · intro a
      fin_cases a
      · exact hm
      · exact (Nat.zero_add _).symm
      · exact (Nat.zero_add _).symm
  · rw [View.read_writes_cons_unit_of_not_mem v f inb w L (ix3 p i j) rfl 0 (by
      show (p : ℕ) < r ∨ r + 1 ≤ (p : ℕ); omega)]
    exact h p i j (hp.resolve_right hm)

theorem Reads3.skip (h : Reads3 v f L P g)
    {inb : ∀ a, (![r, 0, 0] : Fin 3 → ℕ) a + (![1, M, l] : Fin 3 → ℕ) a ≤ (⟨3, ![N, M, l]⟩ : Shape).size a}
    {w : (⟨3, ![1, M, l]⟩ : Shape).Idx → Val e} (hP : ∀ p, P p → p ≠ r) :
    Reads3 v f (⟨Rect.unit ![r, 0, 0] ![1, M, l] inb, w⟩ :: L) P g := by
  intro p i j hp
  rw [View.read_writes_cons_unit_of_not_mem v f inb w L (ix3 p i j) rfl 0 (by
    have := hP p hp
    show (p : ℕ) < r ∨ r + 1 ≤ (p : ℕ); omega)]
  exact h p i j hp

theorem Reads3.load (h : Reads3 v f L P g)
    {inb : ∀ a, (![r, 0, 0] : Fin 3 → ℕ) a + (![1, M, l] : Fin 3 → ℕ) a ≤ (⟨3, ![N, M, l]⟩ : Shape).size a} (hP : P r)
    (p : Fin 1) (i : Fin M) (j : Fin l) :
    v.readAt Val (Rect.unit (s := ⟨3, ![N, M, l]⟩) ![r, 0, 0] ![1, M, l] inb).toLoadRect (v.writes Val f L) (ix3 p i j) = g r i j := by
  refine (congrArg (v.read Val (v.writes Val f L)) (?_ : _ = ix3 ⟨r, lt_of_lt_of_le (Nat.lt_succ_self r) (inb 0)⟩ i j)).trans
    (h _ _ _ hP)
  funext d
  fin_cases d
  · exact Fin.ext (by show r + 1 * (p : ℕ) = r; omega)
  · exact Fin.ext (by show 0 + 1 * (i : ℕ) = i; omega)
  · exact Fin.ext (by show 0 + 1 * (j : ℕ) = j; omega)

end

end Cert.Mix

end
-- ==== Proof.RunA.lean ====
module

public import proofs.«01_k».proof.Proof.State

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
/-- The run of the body at the first point: the pieces it stores into each buffer, with the proof that on whole
    buffers the body ends with the operands read as they were and these pieces stored into the others. -/
def runA (c : Dev nD) (i : grid0.Coords) (arg1 : Memref sig .tc .vmem S128x5376 .f32) (harg1 : arg1.IsWhole) (arg2 : Memref sig .tc .vmem S128x256 .f32) (harg2 : arg2.IsWhole) (arg3 : Memref sig .tc .vmem S128x2048 .f32) (harg3 : arg3.IsWhole) (arg4 : Memref sig .tc .vmem S128x1024 .f32) (harg4 : arg4.IsWhole) (arg5 : Memref sig .tc .vmem S1x16 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S128x8 .f32) (harg9 : arg9.IsWhole) (arg10 : Memref sig .tc .vmem S128x5376 .bf16) (harg10 : arg10.IsWhole) (arg11 : Memref sig .tc .vmem S1x16 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128x128 .f32) (harg14 : arg14.IsWhole) (arg15 : Memref sig .tc .vmem S8x128 .f32) (harg15 : arg15.IsWhole) (arg16 : Memref sig .tc .vmem S128x5376 .bf16) (harg16 : arg16.IsWhole) (arg17 : Memref sig .tc .vmem S256x256 .f32) (harg17 : arg17.IsWhole) (arg18 : Memref sig .tc .vmem S128x256 .f32) (harg18 : arg18.IsWhole) (arg19 : Memref sig .tc .vmem S1x128 .f32) (harg19 : arg19.IsWhole) (arg20 : Memref sig .tc .vmem S128x128 .f32) (harg20 : arg20.IsWhole) (x : Ins F) (b : Bufs F)
    (hc0 : cond0_0 i) (hc1 : ¬cond0_1 i) (hc2 : cond0_2 i) (hc3 : ¬cond0_3 i) :
    { p : Pieces F // ∀ (E : Set ℕ) (K : PUnit → sProp 𝕄),
        iprop(insOwned c arg1 arg2 arg3 arg4 arg5 arg6 arg7 arg8 arg9 x ∗ bufsOwned c arg10 arg11 arg12 arg13 arg14 arg15 arg16 arg17 arg18 arg19 arg20 b
          ∗ (iprop(insOwned c arg1 arg2 arg3 arg4 arg5 arg6 arg7 arg8 arg9 x ∗ bufsOwned c arg10 arg11 arg12 arg13 arg14 arg15 arg16 arg17 arg18 arg19 arg20 (b.after arg10 arg11 arg12 arg13 arg14 arg15 arg16 arg17 arg18 arg19 arg20 harg10 harg11 harg12 harg13 harg14 harg15 harg16 harg17 harg18 harg19 harg20 p)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨⟨?_, [], ?_, ?_, ?_, [], ?_, ?_, ?_, ?_, ?_⟩, fun E K => ?run⟩
  case run =>
    simp only [cc0_mixer_bwd_eq_skeleton]; unfold cc0_mixer_bwd_skel
    simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold insOwned bufsOwned owns; dsimp only [Bufs.after]
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc0 | sl_exact hc1 | sl_exact hc2 | sl_exact hc3)
    sl_step
    iapply Hk
    isplitl [H1 H2 H3 H4 H5 H6 H7 H8 H9]
    · isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      iexists _; isplitr; · ipureintro; exact harg9.read_unread _
      iexact H9
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    iexists _; isplitr; swap; · iexact H20
    ipureintro; rfl

end Cert.KernelIdeal.Hand

end
-- ==== Proof.RunB.lean ====
module

public import proofs.«01_k».proof.Proof.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
/-- The run of the body at a point between the first and the last: the pieces it stores into each buffer, with the proof that on whole
    buffers the body ends with the operands read as they were and these pieces stored into the others. -/
def runB (c : Dev nD) (i : grid0.Coords) (arg1 : Memref sig .tc .vmem S128x5376 .f32) (harg1 : arg1.IsWhole) (arg2 : Memref sig .tc .vmem S128x256 .f32) (harg2 : arg2.IsWhole) (arg3 : Memref sig .tc .vmem S128x2048 .f32) (harg3 : arg3.IsWhole) (arg4 : Memref sig .tc .vmem S128x1024 .f32) (harg4 : arg4.IsWhole) (arg5 : Memref sig .tc .vmem S1x16 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S128x8 .f32) (harg9 : arg9.IsWhole) (arg10 : Memref sig .tc .vmem S128x5376 .bf16) (harg10 : arg10.IsWhole) (arg11 : Memref sig .tc .vmem S1x16 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128x128 .f32) (harg14 : arg14.IsWhole) (arg15 : Memref sig .tc .vmem S8x128 .f32) (harg15 : arg15.IsWhole) (arg16 : Memref sig .tc .vmem S128x5376 .bf16) (harg16 : arg16.IsWhole) (arg17 : Memref sig .tc .vmem S256x256 .f32) (harg17 : arg17.IsWhole) (arg18 : Memref sig .tc .vmem S128x256 .f32) (harg18 : arg18.IsWhole) (arg19 : Memref sig .tc .vmem S1x128 .f32) (harg19 : arg19.IsWhole) (arg20 : Memref sig .tc .vmem S128x128 .f32) (harg20 : arg20.IsWhole) (x : Ins F) (b : Bufs F)
    (hc0 : ¬cond0_0 i) (hc1 : ¬cond0_1 i) (hc2 : cond0_2 i) (hc3 : ¬cond0_3 i) :
    { p : Pieces F // ∀ (E : Set ℕ) (K : PUnit → sProp 𝕄),
        iprop(insOwned c arg1 arg2 arg3 arg4 arg5 arg6 arg7 arg8 arg9 x ∗ bufsOwned c arg10 arg11 arg12 arg13 arg14 arg15 arg16 arg17 arg18 arg19 arg20 b
          ∗ (iprop(insOwned c arg1 arg2 arg3 arg4 arg5 arg6 arg7 arg8 arg9 x ∗ bufsOwned c arg10 arg11 arg12 arg13 arg14 arg15 arg16 arg17 arg18 arg19 arg20 (b.after arg10 arg11 arg12 arg13 arg14 arg15 arg16 arg17 arg18 arg19 arg20 harg10 harg11 harg12 harg13 harg14 harg15 harg16 harg17 harg18 harg19 harg20 p)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨⟨?_, [], ?_, ?_, ?_, [], ?_, ?_, ?_, ?_, ?_⟩, fun E K => ?run⟩
  case run =>
    simp only [cc0_mixer_bwd_eq_skeleton]; unfold cc0_mixer_bwd_skel
    simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold insOwned bufsOwned owns; dsimp only [Bufs.after]
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc0 | sl_exact hc1 | sl_exact hc2 | sl_exact hc3)
    sl_step
    iapply Hk
    isplitl [H1 H2 H3 H4 H5 H6 H7 H8 H9]
    · isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      iexists _; isplitr; · ipureintro; exact harg9.read_unread _
      iexact H9
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    iexists _; isplitr; swap; · iexact H20
    ipureintro; rfl

end Cert.KernelIdeal.Hand

end
-- ==== Proof.RunC.lean ====
module

public import proofs.«01_k».proof.Proof.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
/-- The run of the body at the last point: the pieces it stores into each buffer, with the proof that on whole
    buffers the body ends with the operands read as they were and these pieces stored into the others. -/
def runC (c : Dev nD) (i : grid0.Coords) (arg1 : Memref sig .tc .vmem S128x5376 .f32) (harg1 : arg1.IsWhole) (arg2 : Memref sig .tc .vmem S128x256 .f32) (harg2 : arg2.IsWhole) (arg3 : Memref sig .tc .vmem S128x2048 .f32) (harg3 : arg3.IsWhole) (arg4 : Memref sig .tc .vmem S128x1024 .f32) (harg4 : arg4.IsWhole) (arg5 : Memref sig .tc .vmem S1x16 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S128x8 .f32) (harg9 : arg9.IsWhole) (arg10 : Memref sig .tc .vmem S128x5376 .bf16) (harg10 : arg10.IsWhole) (arg11 : Memref sig .tc .vmem S1x16 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128x128 .f32) (harg14 : arg14.IsWhole) (arg15 : Memref sig .tc .vmem S8x128 .f32) (harg15 : arg15.IsWhole) (arg16 : Memref sig .tc .vmem S128x5376 .bf16) (harg16 : arg16.IsWhole) (arg17 : Memref sig .tc .vmem S256x256 .f32) (harg17 : arg17.IsWhole) (arg18 : Memref sig .tc .vmem S128x256 .f32) (harg18 : arg18.IsWhole) (arg19 : Memref sig .tc .vmem S1x128 .f32) (harg19 : arg19.IsWhole) (arg20 : Memref sig .tc .vmem S128x128 .f32) (harg20 : arg20.IsWhole) (x : Ins F) (b : Bufs F)
    (hc0 : ¬cond0_0 i) (hc1 : cond0_1 i) (hc2 : ¬cond0_2 i) (hc3 : cond0_3 i) :
    { p : Pieces F // ∀ (E : Set ℕ) (K : PUnit → sProp 𝕄),
        iprop(insOwned c arg1 arg2 arg3 arg4 arg5 arg6 arg7 arg8 arg9 x ∗ bufsOwned c arg10 arg11 arg12 arg13 arg14 arg15 arg16 arg17 arg18 arg19 arg20 b
          ∗ (iprop(insOwned c arg1 arg2 arg3 arg4 arg5 arg6 arg7 arg8 arg9 x ∗ bufsOwned c arg10 arg11 arg12 arg13 arg14 arg15 arg16 arg17 arg18 arg19 arg20 (b.after arg10 arg11 arg12 arg13 arg14 arg15 arg16 arg17 arg18 arg19 arg20 harg10 harg11 harg12 harg13 harg14 harg15 harg16 harg17 harg18 harg19 harg20 p)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨⟨?_, ?_, [], [], [], ?_, [], ?_, ?_, [], []⟩, fun E K => ?run⟩
  case run =>
    simp only [cc0_mixer_bwd_eq_skeleton]; unfold cc0_mixer_bwd_skel
    simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold insOwned bufsOwned owns; dsimp only [Bufs.after]
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc0 | sl_exact hc1 | sl_exact hc2 | sl_exact hc3)
    sl_step
    iapply Hk
    isplitl [H1 H2 H3 H4 H5 H6 H7 H8 H9]
    · isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      iexists _; isplitr; · ipureintro; exact harg9.read_unread _
      iexact H9
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    iexists _; isplitr; swap; · iexact H20
    ipureintro; rfl

end Cert.KernelIdeal.Hand

end
-- ==== Proof.Block.lean ====
module

public import proofs.«01_k».proof.Proof.KAttn
public import proofs.«01_k».proof.Proof.KSgu
public import proofs.«01_k».proof.Proof.Reads
public import proofs.«01_k».proof.Proof.RunC

@[expose] public section

set_option maxRecDepth 16384

noncomputable section

/-! What the kernel's body computes at a block whose inputs hold real numbers. -/

namespace Cert.Mix

open Idealize.ShloMosaic Cert.KernelIdeal Cert.KernelIdeal.Gen Cert.KernelIdeal.Hand

/-- The input blocks of block `n` hold the real numbers they should. -/
structure Holds (Z D : ℕ → ℕ → ℝ) (K G B : ℕ → ℝ) (W : ℕ → ℕ → ℕ → ℝ) (b : ℕ → ℕ → ℝ) (n : ℕ) (x : Ins Ideal) : Prop where
  x0 : R2 x.x0 fun q c => Z (128 * n + q) c
  x1 : R2 x.x1 fun s j => Z (128 * (n - 1) + s) (1024 + j)
  x2 : R2 x.x2 fun q c => D (128 * n + q) c
  x3 : R2 x.x3 fun q c => att Z K n (c / 64) q (c % 64)
  x4 : R2 x.x4 fun _ h => K h
  x5 : R2 x.x5 fun _ c => G c
  x6 : R2 x.x6 fun _ c => B c
  x7 : R3 x.x7 W
  x8 : R2 x.x8 fun t g => b g t

variable {Z D : ℕ → ℕ → ℝ} {K G B : ℕ → ℝ} {W : ℕ → ℕ → ℕ → ℝ} {b : ℕ → ℕ → ℝ} {n : ℕ} {x : Ins Ideal}
  (H : Holds Z D K G B W b n x) {i : grid0.Coords} (hi : ((i 0 : Fin _) : ℕ) = n)
  {arg1 : Memref sig .tc .vmem S128x5376 .f32} (harg1 : arg1.IsWhole)
  {arg2 : Memref sig .tc .vmem S128x256 .f32} (harg2 : arg2.IsWhole)
  {arg3 : Memref sig .tc .vmem S128x2048 .f32} (harg3 : arg3.IsWhole)
  {arg4 : Memref sig .tc .vmem S128x1024 .f32} (harg4 : arg4.IsWhole)
  {arg5 : Memref sig .tc .vmem S1x16 .f32} (harg5 : arg5.IsWhole)
  {arg6 : Memref sig .tc .vmem S1x1024 .f32} (harg6 : arg6.IsWhole)
  {arg7 : Memref sig .tc .vmem S1x1024 .f32} (harg7 : arg7.IsWhole)
  {arg8 : Memref sig .tc .vmem S8x128x128 .f32} (harg8 : arg8.IsWhole)
  {arg9 : Memref sig .tc .vmem S128x8 .f32} (harg9 : arg9.IsWhole)

include hi in
theorem b_r (q : Fin 256) (c : Fin 1024) : (runB.sl.r i) (ix2 q c) = if valid n (c % 128) q then 1#1 else 0#1 := by
  subst hi
  exact pay1_eq _ (i 0).isLt q c

section

include H

theorem b_r1 : R2 (runB.sl.r_1 arg1 harg1 arg2 harg2 x) fun s j => ext Z 1024 n 0 s j := ext_pay3 Z n (R2_ld00 harg2 H.x1 _) (R2_ld0 harg1 H.x0 _)

theorem b_r2 : R2 (runB.sl.r_2 arg1 harg1 arg2 harg2 x) fun s j => ext Z 1152 n 0 s j := ext_pay4 Z n
  ((R2_ld0 harg2 H.x1 _).congr fun s j _ _ => congrArg (Z _) (Nat.add_assoc 1024 128 j).symm)
  (R2_ld0 harg1 H.x0 _)

theorem b_r7 : R2 (runB.sl.r_7 arg1 harg1 arg3 harg3 x) fun q c => D (128 * n + q) c * silu (Z (128 * n + q) (1280 + c)) :=
  pay8_eq Z D n (R2_ld0 harg1 H.x0 _) (sg_pay5 Z n (R2_ld0 harg1 H.x0 _)) (R2_ld00 harg3 H.x2 _)

theorem b_r8 : R2 (runB.sl.r_8 arg1 harg1 arg2 harg2 x) fun s d => ext Z 1024 n (8 * 0 / 8) s d := pay9_eq (b_r1 H harg1 harg2)

theorem b_r9 : R2 (runB.sl.r_9 arg1 harg1 arg2 harg2 x) fun s d => ext Z 1152 n 0 s d := pay9_eq (b_r2 H harg1 harg2)

theorem b_r25 : R2 (runB.sl.r_25 arg1 harg1 arg2 harg2 x) fun s d => ext Z 1024 n 1 s d := (pay50_eq (b_r1 H harg1 harg2)).congr fun s d _ _ => ext_one Z 1024 n s d

theorem b_r26 : R2 (runB.sl.r_26 arg1 harg1 arg2 harg2 x) fun s d => ext Z 1152 n 1 s d := (pay50_eq (b_r2 H harg1 harg2)).congr fun s d _ _ => ext_one Z 1152 n s d

theorem b_r10 : R2 (runB.sl.r_10 arg1 harg1 x) fun c d => Z (128 * n + c % 128) (64 * (8 * 0 + c / 128) + d) * (1 / 8) :=
  pay11_eq (fun p q d => Z (128 * n + q) (64 * (8 * 0 + p) + d)) (R2_ld0 harg1 H.x0 _) (R2_ld0 harg1 H.x0 _) (R2_ld0 harg1 H.x0 _)
    (R2_ld0 harg1 H.x0 _) (R2_ld0 harg1 H.x0 _) (R2_ld0 harg1 H.x0 _) (R2_ld0 harg1 H.x0 _) (R2_ld0 harg1 H.x0 _)

theorem b_r35 : R2 (runB.sl.r_35 arg1 harg1 x) fun c d => Z (128 * n + c % 128) (64 * (8 * 1 + c / 128) + d) * (1 / 8) :=
  pay11_eq (fun p q d => Z (128 * n + q) (64 * (8 * 1 + p) + d)) (R2_ld0 harg1 H.x0 _) (R2_ld0 harg1 H.x0 _) (R2_ld0 harg1 H.x0 _)
    (R2_ld0 harg1 H.x0 _) (R2_ld0 harg1 H.x0 _) (R2_ld0 harg1 H.x0 _) (R2_ld0 harg1 H.x0 _) (R2_ld0 harg1 H.x0 _)

/-- A sink, read alone. -/
theorem b_sink (h : ℕ) (inb : ∀ a, (![0, h] : Fin 2 → ℕ) a + (![1, 1] : Fin 2 → ℕ) a ≤ (⟨2, ![1, 16]⟩ : Shape).size a) :
    R2 (View.readAt (Elt Ideal) arg5.view (Rect.unit (s := ⟨2, ![1, 16]⟩) ![0, h] ![1, 1] inb).toLoadRect (harg5.unread x.x4)) fun _ _ => K h :=
  (R2_ld0 harg5 H.x4 inb).congr fun i j _ hj => congrArg K (by omega)

/-- The sinks of the first eight heads, each over its queries. -/
theorem b_sinks0 : R2 (k0_pay16 (runB.sl.r_11 arg5 harg5 x) (runB.sl.r_12 arg5 harg5 x) (runB.sl.r_13 arg5 harg5 x) (runB.sl.r_14 arg5 harg5 x) (View.readAt (Elt Ideal) arg5.view (Rect.unit (s := S1x16) ![0, 4] S1x1.size inb_S1x16_S1x1_0_4).toLoadRect (harg5.unread x.x4)) (View.readAt (Elt Ideal) arg5.view (Rect.unit (s := S1x16) ![0, 5] S1x1.size inb_S1x16_S1x1_0_5).toLoadRect (harg5.unread x.x4)) (View.readAt (Elt Ideal) arg5.view (Rect.unit (s := S1x16) ![0, 6] S1x1.size inb_S1x16_S1x1_0_6).toLoadRect (harg5.unread x.x4)) (View.readAt (Elt Ideal) arg5.view (Rect.unit (s := S1x16) ![0, 7] S1x1.size inb_S1x16_S1x1_0_7).toLoadRect (harg5.unread x.x4))) fun _ c => K (8 * 0 + c / 128) :=
  pay16_eq (fun p => K (8 * 0 + p)) (pay12_eq _ (b_sink H harg5 0 _)) (pay12_eq _ (b_sink H harg5 1 _)) (pay12_eq _ (b_sink H harg5 2 _))
    (pay12_eq _ (b_sink H harg5 3 _)) (b_sink H harg5 4 _) (b_sink H harg5 5 _) (b_sink H harg5 6 _) (b_sink H harg5 7 _)

/-- The sinks of the other eight heads. -/
theorem b_sinks1 : R2 (k0_pay16 (k0_pay12 (View.readAt (Elt Ideal) arg5.view (Rect.unit (s := S1x16) ![0, 8] S1x1.size inb_S1x16_S1x1_0_8).toLoadRect (harg5.unread x.x4))) (k0_pay12 (View.readAt (Elt Ideal) arg5.view (Rect.unit (s := S1x16) ![0, 9] S1x1.size inb_S1x16_S1x1_0_9).toLoadRect (harg5.unread x.x4))) (k0_pay12 (View.readAt (Elt Ideal) arg5.view (Rect.unit (s := S1x16) ![0, 10] S1x1.size inb_S1x16_S1x1_0_10).toLoadRect (harg5.unread x.x4))) (k0_pay12 (View.readAt (Elt Ideal) arg5.view (Rect.unit (s := S1x16) ![0, 11] S1x1.size inb_S1x16_S1x1_0_11).toLoadRect (harg5.unread x.x4))) (View.readAt (Elt Ideal) arg5.view (Rect.unit (s := S1x16) ![0, 12] S1x1.size inb_S1x16_S1x1_0_12).toLoadRect (harg5.unread x.x4)) (View.readAt (Elt Ideal) arg5.view (Rect.unit (s := S1x16) ![0, 13] S1x1.size inb_S1x16_S1x1_0_13).toLoadRect (harg5.unread x.x4)) (View.readAt (Elt Ideal) arg5.view (Rect.unit (s := S1x16) ![0, 14] S1x1.size inb_S1x16_S1x1_0_14).toLoadRect (harg5.unread x.x4)) (View.readAt (Elt Ideal) arg5.view (Rect.unit (s := S1x16) ![0, 15] S1x1.size inb_S1x16_S1x1_0_15).toLoadRect (harg5.unread x.x4))) fun _ c => K (8 * 1 + c / 128) :=
  pay16_eq (fun p => K (8 * 1 + p)) (pay12_eq _ (b_sink H harg5 8 _)) (pay12_eq _ (b_sink H harg5 9 _)) (pay12_eq _ (b_sink H harg5 10 _))
    (pay12_eq _ (b_sink H harg5 11 _)) (b_sink H harg5 12 _) (b_sink H harg5 13 _) (b_sink H harg5 14 _) (b_sink H harg5 15 _)

section

include hi

theorem b_r15 : R2 (runB.sl.r_15 i arg1 harg1 arg2 harg2 arg5 harg5 x) fun s c => pr Z K n (8 * 0 + c / 128) (c % 128) s :=
  pr_pay22 Z K n 0 (b_r hi) (b_r8 H harg1 harg2) (b_r10 H harg1) (b_sinks0 H harg5)

theorem b_r16 : R2 (runB.sl.r_16 i arg1 harg1 arg2 harg2 arg5 harg5 x) fun _ c => prs Z K n (8 * 0 + c / 128) (c % 128) :=
  prs_pay23 Z K n 0 (b_r hi) (b_r8 H harg1 harg2) (b_r10 H harg1) (b_sinks0 H harg5)

theorem b_r38 : R2 (runB.sl.r_38 i arg1 harg1 arg2 harg2 arg5 harg5 x) fun s c => pr Z K n (8 * 1 + c / 128) (c % 128) s :=
  pr_pay22 Z K n 1 (b_r hi) (b_r25 H harg1 harg2) (b_r35 H harg1) (b_sinks1 H harg5)

/-- The sinks' probabilities, the other eight heads. -/
theorem b_prs1 : R2 (mulf (runB.sl.r_37 i arg1 harg1 arg2 harg2 arg5 harg5 x) (k0_pay58 (runB.sl.r_36 i arg1 harg1 arg2 harg2 arg5 harg5 x) (runB.sl.r_37 i arg1 harg1 arg2 harg2 arg5 harg5 x))) fun _ c => prs Z K n (8 * 1 + c / 128) (c % 128) :=
  prs_pay23 Z K n 1 (b_r hi) (b_r25 H harg1 harg2) (b_r35 H harg1) (b_sinks1 H harg5)

end

theorem b_r17 : R2 (runB.sl.r_17 arg1 harg1 arg3 harg3 x) fun c d => go Z D n (8 * 0 + c / 128) (c % 128) d := go_pay24 Z D n (b_r7 H harg1 harg3)

theorem b_r39 : R2 (runB.sl.r_39 arg1 harg1 arg3 harg3 x) fun c d => go Z D n (8 * 1 + c / 128) (c % 128) d := go_pay60 Z D n (b_r7 H harg1 harg3)

theorem b_r18 : R2 (runB.sl.r_18 arg1 harg1 arg2 harg2 arg3 harg3 x) fun s c => gp Z D n (8 * 0 + c / 128) (c % 128) s :=
  gp_gpV Z D n 0 (b_r9 H harg1 harg2) (b_r17 H harg1 harg3)

theorem b_gp1 : R2 (gpV (runB.sl.r_26 arg1 harg1 arg2 harg2 x) (runB.sl.r_39 arg1 harg1 arg3 harg3 x)) fun s c => gp Z D n (8 * 1 + c / 128) (c % 128) s :=
  gp_gpV Z D n 1 (b_r26 H harg1 harg2) (b_r39 H harg1 harg3)

include hi

theorem b_r19 : R2 (runB.sl.r_19 i arg1 harg1 arg2 harg2 arg3 harg3 arg5 harg5 x) fun _ c => delta Z D K n (8 * 0 + c / 128) (c % 128) :=
  delta_deltaV Z D K n 0 (b_r15 H hi harg1 harg2 harg5) (b_r18 H harg1 harg2 harg3)

theorem b_delta1 : R2 (deltaV (runB.sl.r_38 i arg1 harg1 arg2 harg2 arg5 harg5 x) (gpV (runB.sl.r_26 arg1 harg1 arg2 harg2 x) (runB.sl.r_39 arg1 harg1 arg3 harg3 x))) fun _ c => delta Z D K n (8 * 1 + c / 128) (c % 128) :=
  delta_deltaV Z D K n 1 (b_r38 H hi harg1 harg2 harg5) (b_gp1 H harg1 harg2 harg3)

theorem b_r20 : R2 (runB.sl.r_20 i arg1 harg1 arg2 harg2 arg3 harg3 arg5 harg5 x) fun s c => gs Z D K n (8 * 0 + c / 128) (c % 128) s :=
  gs_pay27 Z D K n 0 (b_r15 H hi harg1 harg2 harg5) (b_r18 H harg1 harg2 harg3) (b_r19 H hi harg1 harg2 harg3 harg5)

theorem b_r40 : R2 (runB.sl.r_40 i arg1 harg1 arg2 harg2 arg3 harg3 arg5 harg5 x) fun s c => gs Z D K n (8 * 1 + c / 128) (c % 128) s :=
  gs_pay27 Z D K n 1 (b_r38 H hi harg1 harg2 harg5) (b_gp1 H harg1 harg2 harg3) (b_delta1 H hi harg1 harg2 harg3 harg5)

theorem b_r21 : R2 (runB.sl.r_21 i arg1 harg1 arg2 harg2 arg3 harg3 arg5 harg5 x) fun _ c => -prs Z K n (8 * 0 + c / 128) (c % 128) * delta Z D K n (8 * 0 + c / 128) (c % 128) :=
  gsink_pay28 Z D K n 0 (b_r16 H hi harg1 harg2 harg5) (b_r19 H hi harg1 harg2 harg3 harg5)

theorem b_r41 : R2 (runB.sl.r_41 i arg1 harg1 arg2 harg2 arg3 harg3 arg5 harg5 x) fun _ c => -prs Z K n (8 * 1 + c / 128) (c % 128) * delta Z D K n (8 * 1 + c / 128) (c % 128) :=
  gsink_pay28 Z D K n 1 (b_prs1 H hi harg1 harg2 harg5) (b_delta1 H hi harg1 harg2 harg3 harg5)

theorem b_r22 : R2 (runB.sl.r_22 i arg1 harg1 arg2 harg2 arg3 harg3 arg5 harg5 x) fun d c => gq Z D K n (8 * 0 + c / 128) (c % 128) d :=
  gq_pay29 Z D K n 0 (b_r8 H harg1 harg2) (b_r15 H hi harg1 harg2 harg5) (b_r18 H harg1 harg2 harg3) (b_r19 H hi harg1 harg2 harg3 harg5)

theorem b_r42 : R2 (runB.sl.r_42 i arg1 harg1 arg2 harg2 arg3 harg3 arg5 harg5 x) fun d c => gq Z D K n (8 * 1 + c / 128) (c % 128) d :=
  gq_pay29 Z D K n 1 (b_r25 H harg1 harg2) (b_r38 H hi harg1 harg2 harg5) (b_gp1 H harg1 harg2 harg3) (b_delta1 H hi harg1 harg2 harg3 harg5)

theorem b_gk0 : R2 (k0_pay48 (runB.sl.r_10 arg1 harg1 x) (runB.sl.r_20 i arg1 harg1 arg2 harg2 arg3 harg3 arg5 harg5 x)) fun s d => gk Z D K n 0 s d :=
  gk_pay48 Z D K n 0 (b_r10 H harg1) (b_r20 H hi harg1 harg2 harg3 harg5)

theorem b_gk1 : R2 (k0_pay83 (runB.sl.r_35 arg1 harg1 x) (runB.sl.r_40 i arg1 harg1 arg2 harg2 arg3 harg3 arg5 harg5 x)) fun s d => gk Z D K n 1 s d :=
  gk_pay48 Z D K n 1 (b_r35 H harg1) (b_r40 H hi harg1 harg2 harg3 harg5)

theorem b_gv0 : R2 (k0_pay49 (runB.sl.r_15 i arg1 harg1 arg2 harg2 arg5 harg5 x) (runB.sl.r_17 arg1 harg1 arg3 harg3 x)) fun s d => gv Z D K n 0 s d :=
  gv_pay49 Z D K n 0 (b_r17 H harg1 harg3) (b_r15 H hi harg1 harg2 harg5)

theorem b_gv1 : R2 (k0_pay84 (runB.sl.r_38 i arg1 harg1 arg2 harg2 arg5 harg5 x) (runB.sl.r_39 arg1 harg1 arg3 harg3 x)) fun s d => gv Z D K n 1 s d :=
  gv_pay49 Z D K n 1 (b_r39 H harg1 harg3) (b_r38 H hi harg1 harg2 harg5)

end

/-! ### Spatial gating -/

section

include H

theorem b_r46 : R2 (runB.sl.r_46 arg1 harg1 x) fun q _ => rstd eps Z (128 * n + q) := rstd_pay86 Z n (R2_ld0 harg1 H.x0 _)

theorem b_r47 : R2 (runB.sl.r_47 arg1 harg1 x) fun q c => xh eps Z (128 * n + q) c := xh_pay87 Z n (R2_ld0 harg1 H.x0 _)

theorem b_r48 : R2 (runB.sl.r_48 arg6 harg6 x) fun _ c => G c := R2_ld00 harg6 H.x5 _

theorem b_r49 : R2 (runB.sl.r_49 arg1 harg1 arg6 harg6 arg7 harg7 x) fun q c => vn eps Z G B (128 * n + q) c :=
  vn_pay88 Z G B n (R2_ld0 harg1 H.x0 _) (R2_ld00 harg6 H.x5 _) (R2_ld00 harg7 H.x6 _)

theorem b_w0 : R2 (runB.sl.r_50 arg8 harg8 x) fun t s => tril t s (W 0 t s) := tril_pay89 W 0 (R3_ld harg8 H.x7 _)

theorem b_w1 : R2 (runB.sl.r_51 arg8 harg8 x) fun t s => tril t s (W 1 t s) := tril_pay89 W 1 (R3_ld harg8 H.x7 _)

theorem b_w2 : R2 (runB.sl.r_53 arg8 harg8 x) fun t s => tril t s (W 2 t s) := tril_pay89 W 2 (R3_ld harg8 H.x7 _)

theorem b_w3 : R2 (runB.sl.r_54 arg8 harg8 x) fun t s => tril t s (W 3 t s) := tril_pay89 W 3 (R3_ld harg8 H.x7 _)

theorem b_w4 : R2 (runB.sl.r_55 arg8 harg8 x) fun t s => tril t s (W 4 t s) := tril_pay89 W 4 (R3_ld harg8 H.x7 _)

theorem b_w5 : R2 (runB.sl.r_56 arg8 harg8 x) fun t s => tril t s (W 5 t s) := tril_pay89 W 5 (R3_ld harg8 H.x7 _)

theorem b_w6 : R2 (runB.sl.r_57 arg8 harg8 x) fun t s => tril t s (W 6 t s) := tril_pay89 W 6 (R3_ld harg8 H.x7 _)

theorem b_w7 : R2 (runB.sl.r_58 arg8 harg8 x) fun t s => tril t s (W 7 t s) := tril_pay89 W 7 (R3_ld harg8 H.x7 _)

theorem b_bias (g : ℕ) (inb : ∀ a, (![0, g] : Fin 2 → ℕ) a + (![128, 1] : Fin 2 → ℕ) a ≤ (⟨2, ![128, 8]⟩ : Shape).size a) :
    R2 (View.readAt (Elt Ideal) arg9.view (Rect.unit (s := ⟨2, ![128, 8]⟩) ![0, g] ![128, 1] inb).toLoadRect (harg9.unread x.x8)) fun t _ => b g t :=
  (R2_ld0 harg9 H.x8 inb).congr fun i j _ hj => congrArg (b · i) (by omega)

theorem b_r61 : R2 (runB.sl.r_61 arg1 harg1 arg6 harg6 arg7 harg7 arg8 harg8 arg9 harg9 x) fun t c => mixed eps Z G B W b n t c :=
  mixed_pay100 Z G B W b n (b_r49 H harg1 harg6 harg7) (b_w0 H harg8) (b_w1 H harg8) (b_w2 H harg8) (b_w3 H harg8) (b_w4 H harg8)
    (b_w5 H harg8) (b_w6 H harg8) (b_w7 H harg8) (b_bias H harg9 0 _) (b_bias H harg9 1 _) (b_bias H harg9 2 _) (b_bias H harg9 3 _)
    (b_bias H harg9 4 _) (b_bias H harg9 5 _) (b_bias H harg9 6 _) (b_bias H harg9 7 _)

theorem b_r62 : R2 (runB.sl.r_62 arg1 harg1 arg3 harg3 x) fun q c => gm Z D (128 * n + q) c :=
  gm_pay105 Z D n (R2_ld0 harg1 H.x0 _) (R2_ld0 harg1 H.x0 _) (R2_ld0 harg3 H.x2 _)

theorem b_r63 : R2 (runB.sl.r_63 arg1 harg1 arg3 harg3 x) fun q c => gm Z D (128 * n + q) c :=
  gm_pay106 Z D n (R2_ld0 harg1 H.x0 _) (R2_ld0 harg1 H.x0 _) (R2_ld0 harg3 H.x2 _)

theorem b_r76 : R2 (runB.sl.r_76 arg1 harg1 arg3 harg3 arg8 harg8 x) fun s c => gvn Z D W n s c :=
  gvn_pay135 Z D W n (b_r63 H harg1 harg3) (b_w0 H harg8) (b_w1 H harg8) (b_w2 H harg8) (b_w3 H harg8) (b_w4 H harg8)
    (b_w5 H harg8) (b_w6 H harg8) (b_w7 H harg8)

end

end Cert.Mix

end
-- ==== Proof.Launch.lean ====
module

public import proofs.«01_k».proof.Proof.RunA
public import proofs.«01_k».proof.Proof.RunB
public import proofs.«01_k».proof.Proof.RunC
public import Idealize.ShloMosaic.Lib.Pipeline.DatRel

/-!
# The launch of the kernel

What the pipeline needs of the body is stated once, for any statements about the buffers (`Plan`) which the three
kinds of grid points preserve (`Plan.Sound`). With all statements `True` this is the frame; with the statements of the
values it gives what the results hold.
-/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen

variable {F : FTy → Type} [FloatOps F]

local notation "𝕄" => MT nD τ sig Unit (Elt F) ℕ (UR sig nD τ) ℕ

/-! ## The memrefs of a grid point -/

abbrev ms0_0 (t : Fin cfg0.N) : Memref sig .tc .vmem S128x5376 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x8 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x5376 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x128x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x128 .f32 := win0_14.stage (cfg0.slots t 14)
abbrev hs0_14 (t : Fin cfg0.N) : (ms0_14 t).IsWhole := hstage0_14 ((cfg0.slots t 14).cast nbuf0_14)
abbrev scM0_0 : Memref sig .tc .vmem S128x5376 .bf16 := Memref.whole cc0_scratch0
abbrev scM0_1 : Memref sig .tc .vmem S256x256 .f32 := Memref.whole cc0_scratch1
abbrev scM0_2 : Memref sig .tc .vmem S128x256 .f32 := Memref.whole cc0_scratch2
abbrev scM0_3 : Memref sig .tc .vmem S1x128 .f32 := Memref.whole cc0_scratch3
abbrev scM0_4 : Memref sig .tc .vmem S128x128 .f32 := Memref.whole cc0_scratch4

variable (m : (ℓ : Loc nD τ sig) → Buf (Elt F) ℓ)

/-- The operands' contents at a grid point: their blocks. -/
abbrev insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t⟩

/-- The operands, and the buffers written, owned at a grid point. -/
def ownsIns (c : Dev nD) (t : Fin cfg0.N) (x : Ins F) : sProp 𝕄 := insOwned c (ms0_0 t) (ms0_1 t) (ms0_2 t) (ms0_3 t) (ms0_4 t) (ms0_5 t) (ms0_6 t) (ms0_7 t) (ms0_8 t) x
def ownsBufs (c : Dev nD) (t : Fin cfg0.N) (b : Bufs F) : sProp 𝕄 := bufsOwned c (ms0_9 t) (ms0_10 t) (ms0_11 t) (ms0_12 t) (ms0_13 t) (ms0_14 t) scM0_0 scM0_1 scM0_2 scM0_3 scM0_4 b

section
variable (c : Dev nD) (t : Fin cfg0.N) (x : Ins F) (bb : Bufs F)

/-- What the buffers hold after the first kind of point, from what they held before. -/
def afterA (h0 : cond0_0 (grid0.coords t)) (h1 : ¬cond0_1 (grid0.coords t)) (h2 : cond0_2 (grid0.coords t)) (h3 : ¬cond0_3 (grid0.coords t)) : Bufs F :=
  bb.after (ms0_9 t) (ms0_10 t) (ms0_11 t) (ms0_12 t) (ms0_13 t) (ms0_14 t) scM0_0 scM0_1 scM0_2 scM0_3 scM0_4 (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (Memref.isWhole_whole cc0_scratch4) (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) x bb h0 h1 h2 h3).1

/-- What the buffers hold after the middle kind of point, from what they held before. -/
def afterB (h0 : ¬cond0_0 (grid0.coords t)) (h1 : ¬cond0_1 (grid0.coords t)) (h2 : cond0_2 (grid0.coords t)) (h3 : ¬cond0_3 (grid0.coords t)) : Bufs F :=
  bb.after (ms0_9 t) (ms0_10 t) (ms0_11 t) (ms0_12 t) (ms0_13 t) (ms0_14 t) scM0_0 scM0_1 scM0_2 scM0_3 scM0_4 (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (Memref.isWhole_whole cc0_scratch4) (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) x bb h0 h1 h2 h3).1

/-- What the buffers hold after the last kind of point, from what they held before. -/
def afterC (h0 : ¬cond0_0 (grid0.coords t)) (h1 : cond0_1 (grid0.coords t)) (h2 : ¬cond0_2 (grid0.coords t)) (h3 : cond0_3 (grid0.coords t)) : Bufs F :=
  bb.after (ms0_9 t) (ms0_10 t) (ms0_11 t) (ms0_12 t) (ms0_13 t) (ms0_14 t) scM0_0 scM0_1 scM0_2 scM0_3 scM0_4 (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (Memref.isWhole_whole cc0_scratch4) (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) x bb h0 h1 h2 h3).1

end

/-! ## The statements threaded through the grid -/

/-- Statements about the buffers: of the scratch carried on after a block, of the three sums that are results after a
    block, of the block of the first result written after a block, and of the two results written at the last point. -/
structure Plan (F : FTy → Type) [FloatOps F] where
  carry : ℕ → Vec F S128x5376 .bf16 → Vec F S128x256 .f32 → Vec F S1x128 .f32 → Vec F S128x128 .f32 → Prop
  sumG : ℕ → Vec F S1x1024 .f32 → Prop
  sumB : ℕ → Vec F S1x1024 .f32 → Prop
  sumW : ℕ → Vec F S8x128x128 .f32 → Prop
  dz : ℕ → Vec F S128x5376 .bf16 → Prop
  sink : Vec F S1x16 .f32 → Prop
  bias : Vec F S8x128 .f32 → Prop

/-- What a point after the first finds. -/
structure Plan.Found (P : Plan F) (n : ℕ) (b : Bufs F) : Prop where
  carry : P.carry (n - 1) b.b16 b.b18 b.b19 b.b20
  sumG : P.sumG (n - 1) b.b12
  sumB : P.sumB (n - 1) b.b13
  sumW : P.sumW (n - 1) b.b14

/-- What a point leaves. -/
structure Plan.Left (P : Plan F) (n : ℕ) (b : Bufs F) : Prop where
  carry : n < 16 → P.carry n b.b16 b.b18 b.b19 b.b20
  sumG : P.sumG (min n 15) b.b12
  sumB : P.sumB (min n 15) b.b13
  sumW : P.sumW (min n 15) b.b14
  dz : 1 ≤ n → P.dz (n - 1) b.b10
  sink : n = 16 → P.sink b.b11
  bias : n = 16 → P.bias b.b15

/-- The three kinds of points preserve the statements. -/
structure Plan.Sound (P : Plan F) (c : Dev nD) : Prop where
  first : ∀ t bb h0 h1 h2 h3, t.val = 0 → P.Left t.val (afterA c t (insAt m c t) bb h0 h1 h2 h3)
  middle : ∀ t bb h0 h1 h2 h3, 0 < t.val → t.val < 16 → P.Found t.val bb → P.Left t.val (afterB c t (insAt m c t) bb h0 h1 h2 h3)
  last : ∀ t bb h0 h1 h2 h3, t.val = 16 → P.Found t.val bb → P.Left t.val (afterC c t (insAt m c t) bb h0 h1 h2 h3)

theorem body_triple (P : Plan F) (c : Dev nD) (hP : P.Sound m c) (t : Fin cfg0.N) (bb : Bufs F) (hf : t.val ≠ 0 → P.Found t.val bb)
    (K : PUnit → sProp 𝕄) :
    iprop(ownsIns c t (insAt m c t) ∗ ownsBufs c t bb
        ∗ (iprop(∃ b', ⌜P.Left t.val b'⌝ ∗ ownsIns c t (insAt m c t) ∗ ownsBufs c t b') -∗ K ⟨⟩))
      ⊢ wp frame (wpE (defs₀ (F := F)) Variants.none c none) Set.univ (bodyAt0 t) K := by
  have hN : t.val < 17 := lt_of_lt_of_eq t.isLt (show cfg0.N = 17 from N_0)
  have key : ∀ b', P.Left t.val b' →
      iprop(ownsIns c t (insAt m c t) ∗ ownsBufs c t b'
        ⊢ (iprop(∃ b', ⌜P.Left t.val b'⌝ ∗ ownsIns c t (insAt m c t) ∗ ownsBufs c t b') : sProp 𝕄)) := fun b' h => by
    iintro ⟨H1, H2⟩; iexists b'; isplitr
    · ipureintro; exact h
    isplitl [H1]; · iexact H1
    iexact H2
  by_cases h0 : t.val = 0
  · refine BIBase.Entails.trans ?_ ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) (insAt m c t) bb ((hcond0_0 t).mpr h0) (fun h => absurd ((hcond0_1 t).mp h) (by omega)) ((hcond0_2 t).mpr (by omega)) (fun h => absurd ((hcond0_3 t).mp h) (by omega))).2 Set.univ K)
    unfold ownsIns ownsBufs
    iintro ⟨H1, H2, Hk⟩
    isplitl [H1]; · iexact H1
    isplitl [H2]; · iexact H2
    iintro H
    iapply Hk
    iapply (key _ (hP.first t bb _ _ _ _ h0))
    iexact H
  · by_cases h16 : t.val = 16
    · refine BIBase.Entails.trans ?_ ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) (insAt m c t) bb (fun h => absurd ((hcond0_0 t).mp h) h0) ((hcond0_1 t).mpr h16) (fun h => absurd ((hcond0_2 t).mp h) (by omega)) ((hcond0_3 t).mpr h16)).2 Set.univ K)
      unfold ownsIns ownsBufs
      iintro ⟨H1, H2, Hk⟩
      isplitl [H1]; · iexact H1
      isplitl [H2]; · iexact H2
      iintro H
      iapply Hk
      iapply (key _ (hP.last t bb _ _ _ _ h16 (hf h0)))
      iexact H
    · refine BIBase.Entails.trans ?_ ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) (insAt m c t) bb (fun h => absurd ((hcond0_0 t).mp h) h0) (fun h => absurd ((hcond0_1 t).mp h) h16) ((hcond0_2 t).mpr (by omega)) (fun h => absurd ((hcond0_3 t).mp h) h16)).2 Set.univ K)
      unfold ownsIns ownsBufs
      iintro ⟨H1, H2, Hk⟩
      isplitl [H1]; · iexact H1
      isplitl [H2]; · iexact H2
      iintro H
      iapply Hk
      iapply (key _ (hP.middle t bb _ _ _ _ (by omega) (by omega) (hf h0)))
      iexact H

/-! ## The pipeline's proof data -/

variable (P : Plan F)

/-- The invariant before position `n`: at first every scratch buffer at anything, then the carried ones as the plan says. -/
def PhiS (c : Dev nD) : ℕ → sProp 𝕄
  | 0 => Pipeline.ΦA spec0 c
  | n + 1 => iprop((∃ d0 d1 d2 d3 d4, ⌜n < 16 → P.carry n d0 d2 d3 d4⌝ ∗ owns (c : Thread nD τ) scM0_0 fullShare d0 ∗ owns (c : Thread nD τ) scM0_1 fullShare d1 ∗ owns (c : Thread nD τ) scM0_2 fullShare d2 ∗ owns (c : Thread nD τ) scM0_3 fullShare d3 ∗ owns (c : Thread nD τ) scM0_4 fullShare d4) ∗ (∃ r, prngReg c r))

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The windows of the results. -/
def marks : Fin 15 → Bool := fun w => Nat.ble 9 w.val

/-- What the plan says of a result's window after a point. -/
def Rel (w : Fin 15) (t : Fin cfg0.N) : ((cfg0.win w).block.Idx → Elt F (cfg0.win w).elt) → Prop :=
  match w with
  | ⟨9, _⟩ => fun X => 1 ≤ t.val → P.dz (t.val - 1) X
  | ⟨10, _⟩ => fun X => t.val = 16 → P.sink X
  | ⟨11, _⟩ => fun X => P.sumG (min t.val 15) X
  | ⟨12, _⟩ => fun X => P.sumB (min t.val 15) X
  | ⟨13, _⟩ => fun X => P.sumW (min t.val 15) X
  | ⟨14, _⟩ => fun X => t.val = 16 → P.bias X
  | _ => fun _ => True

/-- The proof data: the arrays as the region finds them; after the body each input's buffer at its block; the invariant
    `PhiS`; nothing owed; each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ t := PhiS P c t.val
  q w := Pipeline.shareOf spec0 w
  owed _ := 0

theorem A_eq (c : Dev nD) (w : Fin cfg0.W) : (dats m P 0 c).A w = V m c (Pipeline.arrRef spec0 w) := by
  dsimp only [dats]

theorem after0_0 (c : Dev nD) (t : Fin cfg0.N) : (dats m P 0 c).after 0 t = iblk m c 0 t := by dsimp only [dats]
theorem after0_1 (c : Dev nD) (t : Fin cfg0.N) : (dats m P 0 c).after 1 t = iblk m c 1 t := by dsimp only [dats]
theorem after0_2 (c : Dev nD) (t : Fin cfg0.N) : (dats m P 0 c).after 2 t = iblk m c 2 t := by dsimp only [dats]
theorem after0_3 (c : Dev nD) (t : Fin cfg0.N) : (dats m P 0 c).after 3 t = iblk m c 3 t := by dsimp only [dats]
theorem after0_4 (c : Dev nD) (t : Fin cfg0.N) : (dats m P 0 c).after 4 t = iblk m c 4 t := by dsimp only [dats]
theorem after0_5 (c : Dev nD) (t : Fin cfg0.N) : (dats m P 0 c).after 5 t = iblk m c 5 t := by dsimp only [dats]
theorem after0_6 (c : Dev nD) (t : Fin cfg0.N) : (dats m P 0 c).after 6 t = iblk m c 6 t := by dsimp only [dats]
theorem after0_7 (c : Dev nD) (t : Fin cfg0.N) : (dats m P 0 c).after 7 t = iblk m c 7 t := by dsimp only [dats]
theorem after0_8 (c : Dev nD) (t : Fin cfg0.N) : (dats m P 0 c).after 8 t = iblk m c 8 t := by dsimp only [dats]
theorem before0_0 (c : Dev nD) (t : Fin cfg0.N) (d) : (dats m P 0 c).before 0 t d = iblk m c 0 t :=
  before0_0_of m (dats m P 0 c) (A_eq m P c 0) (after0_0 m P c) t d
theorem before0_1 (c : Dev nD) (t : Fin cfg0.N) (d) : (dats m P 0 c).before 1 t d = iblk m c 1 t :=
  before0_1_of m (dats m P 0 c) (A_eq m P c 1) (after0_1 m P c) t d
theorem before0_2 (c : Dev nD) (t : Fin cfg0.N) (d) : (dats m P 0 c).before 2 t d = iblk m c 2 t :=
  before0_2_of m (dats m P 0 c) (A_eq m P c 2) (after0_2 m P c) t d
theorem before0_3 (c : Dev nD) (t : Fin cfg0.N) (d) : (dats m P 0 c).before 3 t d = iblk m c 3 t :=
  before0_3_of m (dats m P 0 c) (A_eq m P c 3) (after0_3 m P c) t d
theorem before0_4 (c : Dev nD) (t : Fin cfg0.N) (d) : (dats m P 0 c).before 4 t d = iblk m c 4 t :=
  before0_4_of m (dats m P 0 c) (A_eq m P c 4) (after0_4 m P c) t d
theorem before0_5 (c : Dev nD) (t : Fin cfg0.N) (d) : (dats m P 0 c).before 5 t d = iblk m c 5 t :=
  before0_5_of m (dats m P 0 c) (A_eq m P c 5) (after0_5 m P c) t d
theorem before0_6 (c : Dev nD) (t : Fin cfg0.N) (d) : (dats m P 0 c).before 6 t d = iblk m c 6 t :=
  before0_6_of m (dats m P 0 c) (A_eq m P c 6) (after0_6 m P c) t d
theorem before0_7 (c : Dev nD) (t : Fin cfg0.N) (d) : (dats m P 0 c).before 7 t d = iblk m c 7 t :=
  before0_7_of m (dats m P 0 c) (A_eq m P c 7) (after0_7 m P c) t d
theorem before0_8 (c : Dev nD) (t : Fin cfg0.N) (d) : (dats m P 0 c).before 8 t d = iblk m c 8 t :=
  before0_8_of m (dats m P 0 c) (A_eq m P c 8) (after0_8 m P c) t d
theorem leaves0_0 (c : Dev nD) (t : Fin cfg0.N) : (dats m P 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m P 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m P 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m P 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m P 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m P 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m P 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) : (dats m P 0 c).leavesExact 7 t = owns (c : Thread nD τ) (ms0_7 t) fullShare (iblk m c 7 t) := by
  unfold Dat.leavesExact; rw [show cfg0.idle 7 (grid0.coords t) = false from rfl, after0_7]
theorem leaves0_8 (c : Dev nD) (t : Fin cfg0.N) : (dats m P 0 c).leavesExact 8 t = owns (c : Thread nD τ) (ms0_8 t) fullShare (iblk m c 8 t) := by
  unfold Dat.leavesExact; rw [show cfg0.idle 8 (grid0.coords t) = false from rfl, after0_8]

/-- The proof data with the results' windows held to the plan. -/
abbrev rdat (c : Dev nD) : RDat τ (Elt F) Unit ℕ (UR sig nD τ) ℕ cfg0 c := (dats m P 0 c).toRRel marks (Rel P)

/-- A sum found after the first point is as the point before left it. -/
theorem found_sum (c : Dev nD) (w : Fin cfg0.W) (hm : marks w = true) (hout : (cfg0.win w).isOut = true)
    (hfl : ∀ t : Fin cfg0.N, t.val < 16 → (cfg0.win w).flush t = false) (t : Fin cfg0.N) (ht : t.val ≠ 0) (Y)
    (h : (rdat m P c).Finds w t Y) : Rel P w ⟨t.val - 1, Nat.lt_of_le_of_lt (Nat.sub_le _ _) t.isLt⟩ Y := by
  have hN : t.val < 17 := lt_of_lt_of_eq t.isLt (show cfg0.N = 17 from N_0)
  rcases ((rdat m P c).finds_of_pos ((cfg0.win w).fetch_out hout _) ht Y).mp h with h | h
  · rw [hfl _ (show t.val - 1 < 16 by omega)] at h; exact absurd h Bool.false_ne_true
  · exact (dats m P 0 c).toRRel_leaves hm h

/-- What the body is called with at a point, window by window, and what it returns. -/
def bodyPre (c : Dev nD) (t : Fin cfg0.N) : sProp 𝕄 :=
  iprop((dats m P 0 c).Φ t.castSucc ∗ (dats m P 0 c).owesAt () t.castSucc
    ∗ (∃ d, owns (c : Thread nD τ) (ms0_0 t) fullShare ((dats m P 0 c).before 0 t d))
    ∗ (∃ d, owns (c : Thread nD τ) (ms0_1 t) fullShare ((dats m P 0 c).before 1 t d))
    ∗ (∃ d, owns (c : Thread nD τ) (ms0_2 t) fullShare ((dats m P 0 c).before 2 t d))
    ∗ (∃ d, owns (c : Thread nD τ) (ms0_3 t) fullShare ((dats m P 0 c).before 3 t d))
    ∗ (∃ d, owns (c : Thread nD τ) (ms0_4 t) fullShare ((dats m P 0 c).before 4 t d))
    ∗ (∃ d, owns (c : Thread nD τ) (ms0_5 t) fullShare ((dats m P 0 c).before 5 t d))
    ∗ (∃ d, owns (c : Thread nD τ) (ms0_6 t) fullShare ((dats m P 0 c).before 6 t d))
    ∗ (∃ d, owns (c : Thread nD τ) (ms0_7 t) fullShare ((dats m P 0 c).before 7 t d))
    ∗ (∃ d, owns (c : Thread nD τ) (ms0_8 t) fullShare ((dats m P 0 c).before 8 t d))
    ∗ (∃ Y, ⌜(rdat m P c).Finds 9 t Y⌝ ∗ owns (c : Thread nD τ) (ms0_9 t) fullShare Y)
    ∗ (∃ Y, ⌜(rdat m P c).Finds 10 t Y⌝ ∗ owns (c : Thread nD τ) (ms0_10 t) fullShare Y)
    ∗ (∃ Y, ⌜(rdat m P c).Finds 11 t Y⌝ ∗ owns (c : Thread nD τ) (ms0_11 t) fullShare Y)
    ∗ (∃ Y, ⌜(rdat m P c).Finds 12 t Y⌝ ∗ owns (c : Thread nD τ) (ms0_12 t) fullShare Y)
    ∗ (∃ Y, ⌜(rdat m P c).Finds 13 t Y⌝ ∗ owns (c : Thread nD τ) (ms0_13 t) fullShare Y)
    ∗ (∃ Y, ⌜(rdat m P c).Finds 14 t Y⌝ ∗ owns (c : Thread nD τ) (ms0_14 t) fullShare Y))
def bodyPost (c : Dev nD) (t : Fin cfg0.N) : sProp 𝕄 :=
  iprop((dats m P 0 c).Φ t.succ ∗ (dats m P 0 c).owesAt () t.succ
    ∗ (dats m P 0 c).leavesExact 0 t
    ∗ (dats m P 0 c).leavesExact 1 t
    ∗ (dats m P 0 c).leavesExact 2 t
    ∗ (dats m P 0 c).leavesExact 3 t
    ∗ (dats m P 0 c).leavesExact 4 t
    ∗ (dats m P 0 c).leavesExact 5 t
    ∗ (dats m P 0 c).leavesExact 6 t
    ∗ (dats m P 0 c).leavesExact 7 t
    ∗ (dats m P 0 c).leavesExact 8 t
    ∗ (∃ X, ⌜Rel P 9 t X⌝ ∗ owns (c : Thread nD τ) (ms0_9 t) fullShare X)
    ∗ (∃ X, ⌜Rel P 10 t X⌝ ∗ owns (c : Thread nD τ) (ms0_10 t) fullShare X)
    ∗ (∃ X, ⌜Rel P 11 t X⌝ ∗ owns (c : Thread nD τ) (ms0_11 t) fullShare X)
    ∗ (∃ X, ⌜Rel P 12 t X⌝ ∗ owns (c : Thread nD τ) (ms0_12 t) fullShare X)
    ∗ (∃ X, ⌜Rel P 13 t X⌝ ∗ owns (c : Thread nD τ) (ms0_13 t) fullShare X)
    ∗ (∃ X, ⌜Rel P 14 t X⌝ ∗ owns (c : Thread nD τ) (ms0_14 t) fullShare X))

/-- The body at any point, once the scratch buffers are at hand. -/
theorem sound_bufs (c : Dev nD) (hP : P.Sound m c) (t : Fin cfg0.N) (d0 : Vec F S128x5376 .bf16) (d1 : Vec F S256x256 .f32)
    (d2 : Vec F S128x256 .f32) (d3 : Vec F S1x128 .f32) (d4 : Vec F S128x128 .f32) (hd : t.val ≠ 0 → P.carry (t.val - 1) d0 d2 d3 d4) :
    iprop((owns (c : Thread nD τ) scM0_0 fullShare d0 ∗ owns (c : Thread nD τ) scM0_1 fullShare d1 ∗ owns (c : Thread nD τ) scM0_2 fullShare d2 ∗ owns (c : Thread nD τ) scM0_3 fullShare d3 ∗ owns (c : Thread nD τ) scM0_4 fullShare d4)
      ∗ (∃ r, prngReg c r) ∗ (dats m P 0 c).owesAt () t.castSucc
    ∗ (∃ d, owns (c : Thread nD τ) (ms0_0 t) fullShare ((dats m P 0 c).before 0 t d))
    ∗ (∃ d, owns (c : Thread nD τ) (ms0_1 t) fullShare ((dats m P 0 c).before 1 t d))
    ∗ (∃ d, owns (c : Thread nD τ) (ms0_2 t) fullShare ((dats m P 0 c).before 2 t d))
    ∗ (∃ d, owns (c : Thread nD τ) (ms0_3 t) fullShare ((dats m P 0 c).before 3 t d))
    ∗ (∃ d, owns (c : Thread nD τ) (ms0_4 t) fullShare ((dats m P 0 c).before 4 t d))
    ∗ (∃ d, owns (c : Thread nD τ) (ms0_5 t) fullShare ((dats m P 0 c).before 5 t d))
    ∗ (∃ d, owns (c : Thread nD τ) (ms0_6 t) fullShare ((dats m P 0 c).before 6 t d))
    ∗ (∃ d, owns (c : Thread nD τ) (ms0_7 t) fullShare ((dats m P 0 c).before 7 t d))
    ∗ (∃ d, owns (c : Thread nD τ) (ms0_8 t) fullShare ((dats m P 0 c).before 8 t d))
    ∗ (∃ Y, ⌜(rdat m P c).Finds 9 t Y⌝ ∗ owns (c : Thread nD τ) (ms0_9 t) fullShare Y)
    ∗ (∃ Y, ⌜(rdat m P c).Finds 10 t Y⌝ ∗ owns (c : Thread nD τ) (ms0_10 t) fullShare Y)
    ∗ (∃ Y, ⌜(rdat m P c).Finds 11 t Y⌝ ∗ owns (c : Thread nD τ) (ms0_11 t) fullShare Y)
    ∗ (∃ Y, ⌜(rdat m P c).Finds 12 t Y⌝ ∗ owns (c : Thread nD τ) (ms0_12 t) fullShare Y)
    ∗ (∃ Y, ⌜(rdat m P c).Finds 13 t Y⌝ ∗ owns (c : Thread nD τ) (ms0_13 t) fullShare Y)
    ∗ (∃ Y, ⌜(rdat m P c).Finds 14 t Y⌝ ∗ owns (c : Thread nD τ) (ms0_14 t) fullShare Y))
    ⊢ wp frame (wpE (defs₀ (F := F)) Variants.none c none) Set.univ (bodyAt0 t) (fun _ => bodyPost m P c t) := by
  unfold bodyPost
  simp only [before0_0, before0_1, before0_2, before0_3, before0_4, before0_5, before0_6, before0_7, before0_8]
  rw [leaves0_0, leaves0_1, leaves0_2, leaves0_3, leaves0_4, leaves0_5, leaves0_6, leaves0_7, leaves0_8]
  rw [show (dats m P 0 c).owesAt () t.succ = (dats m P 0 c).owesAt () t.castSucc from rfl]
  rw [show (dats m P 0 c).Φ t.succ = PhiS P c (t.val + 1) from rfl]
  unfold PhiS
  iintro ⟨⟨S0, S1, S2, S3, S4⟩, Hg, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%Y9, %h9, H9⟩, ⟨%Y10, %h10, H10⟩, ⟨%Y11, %h11, H11⟩, ⟨%Y12, %h12, H12⟩, ⟨%Y13, %h13, H13⟩, ⟨%Y14, %h14, H14⟩⟩
  have hN : t.val < 17 := lt_of_lt_of_eq t.isLt (show cfg0.N = 17 from N_0)
  have hfound : t.val ≠ 0 → P.Found t.val ⟨Y9, Y10, Y11, Y12, Y13, Y14, d0, d1, d2, d3, d4⟩ := fun ht => by
    have e : min (t.val - 1) 15 = t.val - 1 := by omega
    have hs : ∀ (Q : ℕ → Prop), Q (min (t.val - 1) 15) → Q (t.val - 1) := fun Q h => e ▸ h
    refine ⟨hd ht, hs (fun n => P.sumG n Y11) ?_, hs (fun n => P.sumB n Y12) ?_, hs (fun n => P.sumW n Y13) ?_⟩
    · exact found_sum m P c 11 rfl rfl (fun t h => by rw [← Bool.not_eq_true, flush0_11]; omega) t ht Y11 h11
    · exact found_sum m P c 12 rfl rfl (fun t h => by rw [← Bool.not_eq_true, flush0_12]; omega) t ht Y12 h12
    · exact found_sum m P c 13 rfl rfl (fun t h => by rw [← Bool.not_eq_true, flush0_13]; omega) t ht Y13 h13
  iapply (body_triple m P c hP t ⟨Y9, Y10, Y11, Y12, Y13, Y14, d0, d1, d2, d3, d4⟩ hfound _)
  isplitl [H0 H1 H2 H3 H4 H5 H6 H7 H8]
  · unfold ownsIns insOwned

    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9 H10 H11 H12 H13 H14 S0 S1 S2 S3 S4]
  · unfold ownsBufs bufsOwned
    isplitl [H9]; · iexact H9
    isplitl [H10]; · iexact H10
    isplitl [H11]; · iexact H11
    isplitl [H12]; · iexact H12
    isplitl [H13]; · iexact H13
    isplitl [H14]; · iexact H14
    isplitl [S0]; · iexact S0
    isplitl [S1]; · iexact S1
    isplitl [S2]; · iexact S2
    isplitl [S3]; · iexact S3
    iexact S4
  iintro ⟨%b', %hL, Hi, Hb⟩
  unfold ownsIns insOwned ownsBufs bufsOwned
  icases Hi with ⟨H0, H1, H2, H3, H4, H5, H6, H7, H8⟩
  icases Hb with ⟨H9, H10, H11, H12, H13, H14, S0, S1, S2, S3, S4⟩
  isplitl [S0 S1 S2 S3 S4 Hg]
  · isplitl [S0 S1 S2 S3 S4]
    · iexists b'.b16, b'.b17, b'.b18, b'.b19, b'.b20
      isplitr
      · ipureintro; exact hL.carry
      isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists b'.b10; isplitr
    · ipureintro; exact hL.dz
    iexact H9
  isplitl [H10]
  · iexists b'.b11; isplitr
    · ipureintro; exact hL.sink
    iexact H10
  isplitl [H11]
  · iexists b'.b12; isplitr
    · ipureintro; exact hL.sumG
    iexact H11
  isplitl [H12]
  · iexists b'.b13; isplitr
    · ipureintro; exact hL.sumB
    iexact H12
  isplitl [H13]
  · iexists b'.b14; isplitr
    · ipureintro; exact hL.sumW
    iexact H13
  iexists b'.b15; isplitr
  · ipureintro; exact hL.bias
  iexact H14

theorem sound_body (c : Dev nD) (hP : P.Sound m c) (t : Fin cfg0.N) :
    bodyPre m P c t ⊢ wp frame (wpE (defs₀ (F := F)) Variants.none c none) Set.univ (bodyAt0 t) (fun _ => bodyPost m P c t) := by
  unfold bodyPre
  rw [show (dats m P 0 c).Φ t.castSucc = PhiS P c t.val from rfl]
  by_cases h0 : t.val = 0
  · rw [h0]; unfold PhiS; rw [PhiA0_eq]
    iintro ⟨⟨⟨⟨%d0, S0⟩, ⟨%d1, S1⟩, ⟨%d2, S2⟩, ⟨%d3, S3⟩, ⟨%d4, S4⟩⟩, Hg⟩, H⟩
    iapply (sound_bufs m P c hP t d0 d1 d2 d3 d4 (fun h => absurd h0 h))
    isplitl [S0 S1 S2 S3 S4]
    · isplitl [S0]; · iexact S0
      isplitl [S1]; · iexact S1
      isplitl [S2]; · iexact S2
      isplitl [S3]; · iexact S3
      iexact S4
    isplitl [Hg]; · iexact Hg
    iexact H
  · obtain ⟨n, hn⟩ : ∃ n, t.val = n + 1 := ⟨t.val - 1, by omega⟩
    have hN : t.val < 17 := lt_of_lt_of_eq t.isLt (show cfg0.N = 17 from N_0)
    rw [hn]; unfold PhiS
    iintro ⟨⟨⟨%d0, %d1, %d2, %d3, %d4, %hc, S0, S1, S2, S3, S4⟩, Hg⟩, H⟩
    iapply (sound_bufs m P c hP t d0 d1 d2 d3 d4 (fun _ => by
      have e : t.val - 1 = n := by omega
      rw [e]; exact hc (by omega)))
    isplitl [S0 S1 S2 S3 S4]
    · isplitl [S0]; · iexact S0
      isplitl [S1]; · iexact S1
      isplitl [S2]; · iexact S2
      isplitl [S3]; · iexact S3
      iexact S4
    isplitl [Hg]; · iexact Hg
    iexact H

theorem defs₀_row (t : Fin cfg0.N) :
    defs₀ (F := F) .tc cfg0.body (cfg0.bodyArgs t (cfg0.slots t)) = bodyAt0 t := by
  unfold defs₀; rw [Defs.onTc_tc]

theorem body_obligation (c : Dev nD) (hP : P.Sound m c) :
    BodyObligationRel (dats m P 0 c) (defs₀ (F := F)) Variants.none () Set.univ marks (Rel P) := fun t => by
  rw [bigSep_W0, bigSep_W0, defs₀_row]
  exact triple_restated (sound_body m P c hP t) rfl .rfl fun _ => .rfl

theorem hin (c : Dev nD) : Pipeline.ΦA spec0 c ⊢ (dats m P 0 c).Φ 0 := by
  rw [show (dats m P 0 c).Φ 0 = PhiS P c 0 from rfl]; unfold PhiS
  exact Idealize.SL.BI.Entails.refl _

theorem hout (c : Dev nD) : (dats m P 0 c).Φ (Fin.last cfg0.N) ⊢ Pipeline.ΦA spec0 c := by
  rw [show (dats m P 0 c).Φ (Fin.last cfg0.N) = PhiS P c (16 + 1) from congrArg (PhiS P c) N_0, PhiA0_eq]; unfold PhiS
  iintro ⟨⟨%d0, %d1, %d2, %d3, %d4, %hc, S0, S1, S2, S3, S4⟩, Hg⟩
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  iexact Hg

/-! ## The run -/

variable (ρ : Dev nD → PrngReg)

set_option backward.isDefEq.respectTransparency.types false in
/-- The run of the whole program: the final state has the arrays as the proof data say, every other buffer at its
    contents on entry to the region, and every semaphore counter at zero. -/
theorem run_main (hP : ∀ c, P.Sound m c) :
    θ_run defs (onTc (τ := τ) (main (F := F))) (s₀ m ρ) (fun r => Pipeline.RDat.FramePost (cfgs 0) (rdat m P) (V m) r ∧ r.2.sem = fun _ => 0) :=
  Pipeline.RDat.θ_run_frame_track_shared cfgs (0 : Fin 1) launch₀0 defs₀ Variants.none (fun c => (dats m P 0 c).toRRel marks (Rel P)) m ρ main
    (hbody := fun c => (body_obligation m P c (hP c)).toRRel) (hq := fun _ _ _ => rfl)
    (howed := fun _ _ => rfl) (V := V m) (hmain := hmain m Variants.none) (hA := A_eq m P) (hin := hin m P) (hout := hout m P)
    (Q' := _) (hQ' := fun _ h => h)

end Cert.KernelIdeal.Hand

end
-- ==== Proof.RSgu.lean ====
module

public import proofs.«01_k».proof.Proof.RBase
public import Idealize.ShloMosaic.Lib.WordCmp

@[expose] public section

set_option maxRecDepth 16384

noncomputable section

/-! The spatial gating part of the reference, stage by stage, as real numbers. -/

namespace Cert.Mix

open Idealize.ShloMosaic Cert.ReferenceIdeal Cert.ReferenceIdeal.Gen Cert.ReferenceIdeal.Read

variable {Z D : ℕ → ℕ → ℝ} {K G B : ℕ → ℝ} {W : ℕ → ℕ → ℕ → ℝ} {b : ℕ → ℕ → ℝ}
variable {x0 : FVec Ideal S2048x5376 .f32} {x1 : FVec Ideal S2048x2048 .f32} {x2 : FVec Ideal S1x16 .f32}
  {x3 x4 : FVec Ideal S1x1024 .f32} {x5 : FVec Ideal S1x8x128x128 .f32} {x6 : FVec Ideal S1x8x128 .f32}

theorem sg_eq (x : ℝ) : Ideal.div 1 (1 + Ideal.exp (-(x : EReal))) = ((sg x : ℝ) : EReal) := by
  rw [← EReal.coe_neg, Ideal.exp_coe, show (1 : EReal) = ((1 : ℝ) : EReal) from rfl, ← EReal.coe_add,
    div_real (by positivity), one_div]; rfl

/-- A sum over rows, block by block. -/
theorem sum_split {N m : ℕ} (hN : N = m * 128) (f : ℕ → ℕ → ℝ) :
    ∑ r : Fin N, f ((r : ℕ) / 128) ((r : ℕ) % 128) = ∑ n : Fin m, ∑ q : Fin 128, f n q := by
  subst hN
  rw [← Fintype.sum_prod_type (fun p : Fin m × Fin 128 => f p.1 p.2)]
  refine (Fintype.sum_equiv finProdFinEquiv _ _ fun p => ?_).symm
  have h := p.2.isLt
  have h1 : ((finProdFinEquiv p : Fin (m * 128)) : ℕ) = p.2 + 128 * p.1 := rfl
  rw [h1, show ((p.2 : ℕ) + 128 * p.1) / 128 = p.1 by omega, show ((p.2 : ℕ) + 128 * p.1) % 128 = p.2 by omega]

/-- The gradient of a gate `x`, as the reference writes it. -/
theorem dsilu_eq (x ct : ℝ) : ct * sg x + x * ct * (sg x * (1 - sg x)) = ct * dsilu x := by
  unfold dsilu; ring

/-- The gradient that reaches the variance, over the row's length. -/
def gvar (Z D : ℕ → ℕ → ℝ) (G : ℕ → ℝ) (W : ℕ → ℕ → ℕ → ℝ) (r : ℕ) : ℝ :=
  (∑ c : Fin 1024, xc Z r c * gx Z D G W (r / 128) (r % 128) c) * (-(1 / 2) * (rstd eps Z r / (var Z r + eps))) / 1024

/-- The layer norm's backward pass: the reference's sum is the closed form. -/
theorem gz_eq (r c : ℕ) :
    gx Z D G W (r / 128) (r % 128) c * rstd eps Z r + gvar Z D G W r * (2 * xc Z r c)
      + (-(∑ k : Fin 1024, gx Z D G W (r / 128) (r % 128) k * rstd eps Z r) + -(∑ k : Fin 1024, gvar Z D G W r * (2 * xc Z r k))) / 1024
      = gz eps Z D G W (r / 128) (r % 128) c := by
  have hx : ∑ k : Fin 1024, xc Z r k = 0 := by
    unfold xc mean
    rw [Finset.sum_sub_distrib, Finset.sum_const, Finset.card_univ, Fintype.card_fin, nsmul_eq_mul]
    push_cast; ring
  have hs : rstd eps Z r * rstd eps Z r = (var Z r + eps)⁻¹ := by
    unfold rstd
    rw [← mul_inv, Real.mul_self_sqrt (var_eps_pos Z r).le]
  unfold gz
  rw [Nat.div_add_mod r 128, ← Finset.sum_mul, ← Finset.mul_sum, ← Finset.mul_sum, hx]
  have hk : ∑ k : Fin 1024, gx Z D G W (r / 128) (r % 128) k * xh eps Z r k
      = (∑ k : Fin 1024, xc Z r k * gx Z D G W (r / 128) (r % 128) k) * rstd eps Z r := by
    rw [Finset.sum_mul]
    refine Finset.sum_congr rfl fun k _ => ?_
    unfold xh; ring
  rw [hk]
  unfold gvar xh
  rw [div_eq_mul_inv (rstd eps Z r) (var Z r + eps), ← hs]
  ring

section
variable (H : Args Z D K G B W b x0 x1 x2 x3 x4 x5 x6)
include H

/-! ### Slices of the arguments -/

theorem r_v1 : R3 (val_main_v1 (F := Ideal) x0) fun _ r c => Z r (1280 + c) := by
  intro i j k
  have h := H.z
  unfold R2 at h
  pointwise [val_main_v1, val_main_v0, h]

theorem r_v2 : R3 (val_main_v2 (F := Ideal) x0) fun _ r c => Z r (2304 + c) := by
  intro i j k
  have h := H.z
  unfold R2 at h
  pointwise [val_main_v2, val_main_v0, h]

theorem r_v3 : R3 (val_main_v3 (F := Ideal) x0) fun _ r c => Z r (3328 + c) := by
  intro i j k
  have h := H.z
  unfold R2 at h
  pointwise [val_main_v3, val_main_v0, h]

theorem r_v4 : R3 (val_main_v4 (F := Ideal) x0) fun _ r c => Z r (4352 + c) := by
  intro i j k
  have h := H.z
  unfold R2 at h
  pointwise [val_main_v4, val_main_v0, h]

theorem r_v151 : R3 (val_main_v151 (F := Ideal) x1) fun _ r c => D r c := by
  intro i j k
  have h := H.d
  unfold R2 at h
  pointwise [val_main_v151, val_main_v150, h]

theorem r_v152 : R3 (val_main_v152 (F := Ideal) x1) fun _ r c => D r (1024 + c) := by
  intro i j k
  have h := H.d
  unfold R2 at h
  pointwise [val_main_v152, val_main_v150, h]

/-! ### The two gates -/

theorem r_v97_2 : R3 (val_main_v97_2 (F := Ideal) x0) fun _ r c => sg (Z r (1280 + c)) := by
  intro i j k
  have h := r_v1 H
  unfold R3 at h
  pointwise [val_main_v97_2, val_main_call1_v4, val_main_call1_cst_0, val_main_call1_v3, val_main_call1_v2, val_main_call1_cst,
    val_main_call1_v1, val_main_call1_v0, h]
  exact sg_eq _

theorem r_v97_1 : R3 (val_main_v97_1 (F := Ideal) x0) fun _ r c => sg (Z r (1280 + c)) * (1 - sg (Z r (1280 + c))) := by
  intro i j k
  have h := r_v97_2 H
  unfold R3 at h
  pointwise [val_main_v97_1, val_main_call1_v7, val_main_call1_v6, val_main_call1_cst_1, h]
  rfl

theorem r_v97_0 : R3 (val_main_v97_0 (F := Ideal) x0) fun _ r c => silu (Z r (1280 + c)) := by
  intro i j k
  have h := r_v97_2 H
  have h' := r_v1 H
  unfold R3 at h h'
  pointwise [val_main_v97_0, h, h']
  rfl

theorem r_v146_2 : R3 (val_main_v146_2 (F := Ideal) x0) fun _ r c => sg (Z r (4352 + c)) := by
  intro i j k
  have h := r_v4 H
  unfold R3 at h
  pointwise [val_main_v146_2, val_main_call3_v4, val_main_call3_cst_0, val_main_call3_v3, val_main_call3_v2, val_main_call3_cst,
    val_main_call3_v1, val_main_call3_v0, h]
  exact sg_eq _

theorem r_v146_1 : R3 (val_main_v146_1 (F := Ideal) x0) fun _ r c => sg (Z r (4352 + c)) * (1 - sg (Z r (4352 + c))) := by
  intro i j k
  have h := r_v146_2 H
  unfold R3 at h
  pointwise [val_main_v146_1, val_main_call3_v7, val_main_call3_v6, val_main_call3_cst_1, h]
  rfl

theorem r_v146_0 : R3 (val_main_v146_0 (F := Ideal) x0) fun _ r c => silu (Z r (4352 + c)) := by
  intro i j k
  have h := r_v146_2 H
  have h' := r_v4 H
  unfold R3 at h h'
  pointwise [val_main_v146_0, h, h']
  rfl

/-! ### The layer norm -/

theorem r_v106 : R3 (val_main_v106 (F := Ideal) x0) fun _ r _ => mean Z r := by
  intro i j k
  have h := r_v3 H
  unfold R3 at h
  pointwise [val_main_v106, val_main_v105, val_main_v104, val_main_v103, val_main_cst_19, val_main_cst_20, h]
  rw [← coe_sum, bits_1024, div_real (by norm_num)]; rfl

theorem r_v108 : R3 (val_main_v108 (F := Ideal) x0) fun _ r c => xc Z r c := by
  intro i j k
  have h := r_v3 H
  have h' := r_v106 H
  unfold R3 at h h'
  pointwise [val_main_v108, val_main_v107, h, h']
  rfl

theorem r_v117 : R3 (val_main_v117 (F := Ideal) x0) fun _ r c => xc Z r c := by
  intro i j k
  have h := r_v3 H
  have h' := r_v106 H
  unfold R3 at h h'
  pointwise [val_main_v117, val_main_v116, h, h']
  rfl

theorem r_v119 : R3 (val_main_v119 (F := Ideal) x0) fun _ r _ => var Z r + eps := by
  intro i j k
  have h := r_v108 H
  unfold R3 at h
  pointwise [val_main_v119, val_main_v118, val_main_v115, val_main_v114, val_main_v113, val_main_v112, val_main_v109,
    val_main_cst_22, val_main_cst_23, val_main_cst_24, h]
  simp only [← EReal.coe_mul]
  rw [← coe_sum, bits_1024, div_real (by norm_num), bits_eps, ← EReal.coe_add]; rfl

theorem r_v120 : R3 (val_main_v120 (F := Ideal) x0) fun _ r _ => rstd eps Z r := by
  intro i j k
  have h := r_v119 H
  unfold R3 at h
  pointwise [val_main_v120, h]
  exact rsqrt_real (var_eps_pos Z _)

theorem r_v123 : R3 (val_main_v123 (F := Ideal) x0) fun _ r _ => -(1 / 2) * (rstd eps Z r / (var Z r + eps)) := by
  intro i j k
  have h := r_v119 H
  have h' := r_v120 H
  unfold R3 at h h'
  pointwise [val_main_v123, val_main_v122, val_main_v121, val_main_cst_25, h, h']
  rw [bits_neg_half, div_real (var_eps_pos Z _).ne', ← EReal.coe_mul]

theorem r_v125 : R3 (val_main_v125 (F := Ideal) x0) fun _ r c => xh eps Z r c := by
  intro i j k
  have h := r_v117 H
  have h' := r_v120 H
  unfold R3 at h h'
  pointwise [val_main_v125, val_main_v124, h, h']
  rfl

theorem r_v126 : R3 (val_main_v126 (F := Ideal) x3) fun _ _ c => G c := by
  intro i j k
  have h := H.scale
  unfold R2 at h
  pointwise [val_main_v126, val_main_v99, h]

theorem r_v132 : R5 (val_main_v132 (F := Ideal) x0 x3 x4) fun _ n s g c => vn eps Z G B (128 * n + s) (128 * g + c) := by
  intro i n s g c
  have h := r_v125 H
  have h' := r_v126 H
  have h'' := H.shift
  unfold R3 at h h'
  unfold R2 at h''
  pointwise [val_main_v132, val_main_v131, val_main_v130, val_main_v129, val_main_v128, val_main_v127, val_main_v100, h, h', h'']
  rw [Nat.mul_comm 128 (n : ℕ), Nat.mul_comm 128 (g : ℕ)]
  rfl

/-! ### The spatial weights -/

theorem r_v135 : R3 (val_main_v135 (F := Ideal)) fun _ t s => if s ≤ t then 1 else 0 := by
  intro i t s
  pointwise [val_main_v135, val_main_v134, val_main_v133, val_main_cst_26, val_main_call2_v0, val_main_call2_v1, val_main_call2_v2,
    val_main_call2_v3, val_main_call2_v4, val_main_call2_v5, val_main_call2_c, val_main_call2_cst]
  have ht := t.isLt
  have hs := s.isLt
  rw [show IntOp.addi (BitVec.ofNat 32 (t : ℕ)) 0#32 = BitVec.ofNat 32 (t : ℕ) from BitVec.add_zero _,
    WordCmp.cmpi_sge_ofNat (by omega) (by omega)]
  split_ifs with h <;> simp [h, Scalar.select]

theorem r_v137 : R3 (val_main_v137 (F := Ideal) x5) fun g t s => tril t s (W g t s) := by
  intro g t s
  have h := r_v135 H
  have h' := H.w
  unfold R3 at h
  unfold R4 at h'
  pointwise [val_main_v137, val_main_v136, val_main_v101, h, h']
  rw [← EReal.coe_mul]
  unfold tril
  split_ifs <;> simp

theorem r_v144 : R3 (val_main_v144 (F := Ideal) x0 x3 x4 x5 x6) fun _ r c => mixed eps Z G B W b (r / 128) (r % 128) c := by
  intro i r c
  have h := r_v132 H
  have h' := r_v137 H
  have h'' := H.bias
  unfold R3 at h' h''
  unfold R5 at h
  pointwise [val_main_v144, val_main_v143, val_main_v142, val_main_v141, val_main_v140, val_main_v139, val_main_v138, val_main_v102,
    h, h', h'']
  simp only [← EReal.coe_mul]
  rw [← coe_sum, ← EReal.coe_add]
  unfold mixed
  rw [Nat.div_add_mod (c : ℕ) 128]
  refine congrArg (fun y : ℝ => ((y + _ : ℝ) : EReal)) (Finset.sum_congr rfl fun s _ => mul_comm _ _)

/-! ### The gradients through the gating -/

theorem r_v154 : R3 (val_main_v154 (F := Ideal) x0 x1) fun _ r c => gg Z D r c := by
  intro i j k
  have h := r_v152 H
  have h' := r_v146_0 H
  unfold R3 at h h'
  pointwise [val_main_v154, h, h']
  rfl

theorem r_v156 : R3 (val_main_v156 (F := Ideal) x0 x1) fun _ r c => gm Z D r c := by
  intro i j k
  have h := r_v154 H
  have h' := r_v2 H
  unfold R3 at h h'
  pointwise [val_main_v156, h, h']
  rw [← EReal.coe_mul, mul_comm]; rfl

theorem r_v157 : R3 (val_main_v157 (F := Ideal) x0 x1 x3 x4 x5 x6) fun _ r c =>
    gg Z D r c * mixed eps Z G B W b (r / 128) (r % 128) c := by
  intro i j k
  have h := r_v154 H
  have h' := r_v144 H
  unfold R3 at h h'
  pointwise [val_main_v157, h, h']
  rfl

theorem r_v155 : R3 (val_main_v155 (F := Ideal) x0 x1 x3 x4 x5 x6) fun _ r c =>
    D r (1024 + c) * (Z r (2304 + c) * mixed eps Z G B W b (r / 128) (r % 128) c) * dsilu (Z r (4352 + c)) := by
  intro i j k
  have h1 := r_v152 H
  have h2 := r_v144 H
  have h3 := r_v2 H
  have h4 := r_v4 H
  have h5 := r_v146_1 H
  have h6 := r_v146_2 H
  unfold R3 at h1 h2 h3 h4 h5 h6
  pointwise [val_main_v155, val_main_call4_v0, val_main_call4_v1, val_main_call4_v2, val_main_v153, val_main_v145, h1, h2, h3, h4, h5, h6]
  simp only [← EReal.coe_mul, ← EReal.coe_add]
  rw [← dsilu_eq, mul_comm (D _ _)]

theorem r_v158 : R5 (val_main_v158 (F := Ideal) x0 x1) fun _ n t g c => gm Z D (128 * n + t) (128 * g + c) := by
  intro i n t g c
  have h := r_v156 H
  unfold R3 at h
  pointwise [val_main_v158, h]
  rw [Nat.mul_comm 128 (n : ℕ), Nat.mul_comm 128 (g : ℕ)]

theorem r_v162 : R2 (val_main_v162 (F := Ideal) x0 x1) fun g t => ∑ n : Fin 16, gb Z D n g t := by
  intro g t
  have h := r_v158 H
  unfold R5 at h
  pointwise [val_main_v162, val_main_v161, val_main_cst_28, reduce_r5_014]
  pointwise [val_main_v160, val_main_v159, val_main_cst_27, reduce_r5_14, h]
  rw [coe_sum]
  exact Finset.sum_congr rfl fun n _ => (coe_sum _ _).symm

theorem r_v168 : R3 (val_main_v168 (F := Ideal) x0 x1 x3 x4) fun g t s => ∑ n : Fin 16, gw eps Z D G B n g t s := by
  intro g t s
  have h := r_v158 H
  have h' := r_v132 H
  have h'' := r_v135 H
  unfold R3 at h''
  unfold R5 at h h'
  pointwise [val_main_v168, val_main_v167, val_main_v164, h'']
  rw [dot_164]
  pointwise [val_main_v163, h, h']
  simp only [← EReal.coe_mul, ← coe_sum]
  refine congrArg (fun y : ℝ => (y : EReal)) ?_
  unfold gw tril
  split_ifs <;> simp

theorem r_v169 : R3 (val_main_v169 (F := Ideal) x0 x1 x5) fun _ r c => gvn Z D W (r / 128) (r % 128) c := by
  intro i r c
  have h := r_v158 H
  have h' := r_v137 H
  unfold R3 at h'
  unfold R5 at h
  pointwise [val_main_v169, val_main_v166, val_main_v165, val_main_v163, h, h']
  simp only [← EReal.coe_mul, ← coe_sum]
  rw [Nat.div_add_mod (c : ℕ) 128]
  exact congrArg (fun y : ℝ => (y : EReal)) (Finset.sum_congr rfl fun t _ => mul_comm _ _)

theorem r_v172 : R1 (val_main_v172 (F := Ideal) x0 x1 x5) fun c => ∑ n : Fin 16, glb Z D W n c := by
  intro c
  have h := r_v169 H
  unfold R3 at h
  pointwise [val_main_v172, val_main_cst_30, reduce_r3_01]
  pointwise [val_main_v171, val_main_v170, val_main_cst_29, h]
  rw [← coe_sum, sum_split (m := 16) rfl (fun n q => gvn Z D W n q c)]
  rfl

theorem r_v178 : R1 (val_main_v178 (F := Ideal) x0 x1 x5) fun c => ∑ n : Fin 16, glg eps Z D W n c := by
  intro c
  have h := r_v169 H
  have h' := r_v125 H
  unfold R3 at h h'
  pointwise [val_main_v178, val_main_cst_32, reduce_r3_01]
  pointwise [val_main_v175, val_main_v174, val_main_v173, val_main_cst_31, h, h']
  simp only [← EReal.coe_mul, ← coe_sum]
  refine congrArg (fun y : ℝ => (y : EReal)) (Eq.trans (Finset.sum_congr rfl fun r _ => ?_)
    (sum_split (m := 16) rfl (fun n q => gvn Z D W n q c * xh eps Z (128 * n + q) c)))
  rw [Nat.div_add_mod (r : ℕ) 128, mul_comm]

theorem r_v177 : R3 (val_main_v177 (F := Ideal) x0 x1 x3 x5) fun _ r c => gx Z D G W (r / 128) (r % 128) c := by
  intro i r c
  have h := r_v169 H
  have h' := r_v126 H
  unfold R3 at h h'
  pointwise [val_main_v177, val_main_v176, h, h']
  rfl

theorem r_v183 : R3 (val_main_v183 (F := Ideal) x0 x1 x3 x5) fun _ r c =>
    gx Z D G W (r / 128) (r % 128) c * rstd eps Z r := by
  intro i r c
  have h := r_v177 H
  have h' := r_v120 H
  unfold R3 at h h'
  pointwise [val_main_v183, val_main_v182, h, h']
  rfl

theorem r_v193 : R3 (val_main_v193 (F := Ideal) x0 x1 x3 x5) fun _ r c => gvar Z D G W r * (2 * xc Z r c) := by
  intro i r c
  have h := r_v177 H
  have h' := r_v117 H
  have h'' := r_v123 H
  have h4 := r_v108 H
  unfold R3 at h h' h'' h4
  pointwise [val_main_v193, val_main_v192, val_main_v191, val_main_v190, val_main_cst_36, val_main_v111, val_main_v110, val_main_cst_21,
    reduce_r3_02, h4]
  pointwise [val_main_v189, val_main_v188, val_main_cst_35, val_main_v184, val_main_v181, val_main_v180, val_main_cst_33, val_main_v179,
    h, h', h'']
  simp only [← EReal.coe_mul, ← coe_sum]
  rw [bits_1024, div_real (by norm_num), bits_two, ← EReal.coe_mul, ← EReal.coe_mul]
  rfl

theorem r_v204 : R3 (val_main_v204 (F := Ideal) x0 x1 x3 x5) fun _ r c => gz eps Z D G W (r / 128) (r % 128) c := by
  intro i r c
  have h := r_v183 H
  have h' := r_v193 H
  unfold R3 at h h'
  pointwise [val_main_v204, val_main_v203, val_main_v202, val_main_v201, val_main_cst_39, val_main_v197, reduce_r3_02, h, h']
  pointwise [val_main_v200, val_main_v199, val_main_cst_38, val_main_v198, val_main_v196, val_main_v195, val_main_cst_37, val_main_v194,
    val_main_v187, val_main_v186, val_main_cst_34, val_main_v185, h, h']
  simp only [← EReal.coe_mul, ← EReal.coe_neg, ← coe_sum, ← EReal.coe_add]
  rw [bits_1024, div_real (by norm_num), ← EReal.coe_add, ← gz_eq, Finset.sum_neg_distrib, Finset.sum_neg_distrib]

end

end Cert.Mix

end
-- ==== Proof.RAttn.lean ====
module

public import proofs.«01_k».proof.Proof.RSgu

@[expose] public section

set_option maxRecDepth 16384

noncomputable section

/-! The reference's attention, stage by stage, as real numbers. -/

namespace Cert.Mix

open Idealize.ShloMosaic Cert.ReferenceIdeal Cert.ReferenceIdeal.Gen Cert.ReferenceIdeal.Read

/-- `ext` with the rows before the first block taken as zero. -/
def extR (Z : ℕ → ℕ → ℝ) (c n e s d : ℕ) : ℝ :=
  if s < 128 then (if n = 0 then 0 else Z (128 * (n - 1) + s) (c + 64 * e + d)) else Z (128 * n + (s - 128)) (c + 64 * e + d)

theorem toInt_dist {q s : ℕ} (hq : q < 128) (hs : s < 256) :
    (IntOp.subi (IntOp.addi (BitVec.ofNat 32 q) 128#32) (BitVec.ofNat 32 s)).toInt = (q : ℤ) + 128 - s := by
  rw [show IntOp.addi (BitVec.ofNat 32 q) 128#32 = BitVec.ofNat 32 (q + 128) from (BitVec.ofNat_add _ _).symm, IntOp.subi,
    BitVec.toInt_sub, BitVec.toInt_ofNat', BitVec.toInt_ofNat']
  simp only [Int.bmod_def]
  omega

theorem extR_valid {Z : ℕ → ℕ → ℝ} {n q s : ℕ} (h : valid n q s) (c e d : ℕ) : extR Z c n e s d = ext Z c n e s d := by
  unfold extR ext
  unfold valid at h
  split_ifs <;> first | rfl | omega

theorem pr_zero {Z : ℕ → ℕ → ℝ} {K : ℕ → ℝ} {n q s : ℕ} (h : ¬valid n q s) (g : ℕ) : pr Z K n g q s = 0 := by
  unfold pr ex; rw [if_neg h, zero_mul]

theorem gs_zero {Z D : ℕ → ℕ → ℝ} {K : ℕ → ℝ} {n q s : ℕ} (h : ¬valid n q s) (g : ℕ) : gs Z D K n g q s = 0 := by
  unfold gs; rw [pr_zero h, zero_mul]

/-- The largest of finitely many values and one more. -/
theorem fold_last {m : ℕ} (b : EReal) (f : Fin (m + 1) → EReal) :
    (Finset.univ : Finset (Fin (m + 1))).fold max b f = max ((Finset.univ : Finset (Fin m)).fold max b fun s => f s.castSucc) (f (Fin.last m)) := by
  rw [Fin.univ_castSuccEmb, Finset.fold_cons, Finset.fold_map, max_comm]; rfl

theorem v71_bot (i : S1x16x2x8x128.Idx) : val_main_v71 (F := Ideal) i = ⊥ := by
  rw [← bits_bot]
  rfl

/-- Where a probability is not zero, the zero rows are not read. -/
theorem gpR_ex (Z D : ℕ → ℕ → ℝ) (K : ℕ → ℝ) (n e h q s : ℕ) (hh : h < 8) :
    (∑ d : Fin 64, go Z D n (8 * e + h) q d * extR Z 1152 n e s d) * ex Z K n (8 * e + h) q s
      = gp Z D n (8 * e + h) q s * ex Z K n (8 * e + h) q s := by
  by_cases hv : valid n q s
  · unfold gp
    rw [show (8 * e + h) / 8 = e by omega]
    refine congrArg (· * _) (Finset.sum_congr rfl fun d _ => ?_)
    rw [extR_valid hv, mul_comm]
  · unfold ex
    rw [if_neg hv, mul_zero, mul_zero]

variable {Z D : ℕ → ℕ → ℝ} {K G B : ℕ → ℝ} {W : ℕ → ℕ → ℕ → ℝ} {b : ℕ → ℕ → ℝ}
variable {x0 : FVec Ideal S2048x5376 .f32} {x1 : FVec Ideal S2048x2048 .f32} {x2 : FVec Ideal S1x16 .f32}
  {x3 x4 : FVec Ideal S1x1024 .f32} {x5 : FVec Ideal S1x8x128x128 .f32} {x6 : FVec Ideal S1x8x128 .f32}

section
variable (H : Args Z D K G B W b x0 x1 x2 x3 x4 x5 x6)
include H

theorem r_v12 : R6 (val_main_v12 (F := Ideal) x0) fun _ n q e h d => Z (128 * n + q) (64 * (8 * e + h) + d) := by
  intro i n q e h d
  have hz := H.z
  unfold R2 at hz
  pointwise [val_main_v12, val_main_v9, val_main_v6, val_main_v0, hz]
  rw [Nat.mul_comm 128, Nat.mul_comm 64, Nat.mul_comm 8]

theorem r_v13 : R5 (val_main_v13 (F := Ideal) x0) fun _ n s e d => Z (128 * n + s) (1024 + 64 * e + d) := by
  intro i n s e d
  have hz := H.z
  unfold R2 at hz
  pointwise [val_main_v13, val_main_v10, val_main_v7, val_main_v0, hz]
  rw [Nat.mul_comm 128, Nat.mul_comm 64, Nat.add_assoc]

theorem r_v14 : R5 (val_main_v14 (F := Ideal) x0) fun _ n s e d => Z (128 * n + s) (1152 + 64 * e + d) := by
  intro i n s e d
  have hz := H.z
  unfold R2 at hz
  pointwise [val_main_v14, val_main_v11, val_main_v8, val_main_v0, hz]
  rw [Nat.mul_comm 128, Nat.mul_comm 64, Nat.add_assoc]

theorem r_v20 : R5 (val_main_v20 (F := Ideal) x0) fun _ n s e d => extR Z 1024 n e s d := by
  intro i n s e d
  have h := r_v13 H
  unfold R5 at h
  pointwise [val_main_v20, val_main_v18, val_main_v17, val_main_v16, val_main_cst, h]
  unfold extR
  split_ifs <;> first | rfl | omega

theorem r_v26 : R5 (val_main_v26 (F := Ideal) x0) fun _ n s e d => extR Z 1152 n e s d := by
  intro i n s e d
  have h := r_v14 H
  unfold R5 at h
  pointwise [val_main_v26, val_main_v24, val_main_v23, val_main_v22, val_main_cst_1, h]
  unfold extR
  split_ifs <;> first | rfl | omega

theorem r_v59 (i : Fin 1) (n : Fin 16) (e h : Fin 1) (q : Fin 128) (s : Fin 256) :
    val_main_v59 (F := Ideal) (ix6 i n e h q s) = if valid n q s then 1#1 else 0#1 := by
  pointwise [val_main_v59, val_main_v58, val_main_v57, val_main_v56, val_main_v55, val_main_v54, val_main_v53, val_main_v52,
    val_main_v51, val_main_v50, val_main_v49, val_main_c_7, val_main_v48, val_main_v47, val_main_v46, val_main_c_6, val_main_v45,
    val_main_v44, val_main_v43, val_main_v42, val_main_c_5, val_main_v41, val_main_v40, val_main_c_4, val_main_v39, val_main_v38,
    val_main_v37, val_main_v36, val_main_v35, val_main_v34, val_main_v33, val_main_c, val_main_v32, val_main_v31]
  have hn := n.isLt
  have hs := s.isLt
  rw [WordCmp.cmpi_sge_eq, WordCmp.cmpi_slt_eq, toInt_dist q.isLt s.isLt,
    show (128#32) = BitVec.ofNat 32 128 from rfl, WordCmp.cmpi_sge_ofNat (by omega) (by omega),
    show IntOp.cmpi .sgt (BitVec.ofNat 32 (n : ℕ)) 0#32 = IntOp.cmpi .sgt (BitVec.ofNat 32 (n : ℕ)) (BitVec.ofNat 32 0) from rfl,
    WordCmp.cmpi_sgt_ofNat (by omega) (by omega)]
  simp only [WordCmp.andi_ofBool, WordCmp.ori_ofBool]
  rw [show (BitVec.ofNat 32 128).toInt = 128 from rfl, show (0#32).toInt = 0 from rfl]
  simp only [← Bool.decide_and, ← Bool.decide_or]
  rw [WordCmp.ofBool_decide_eq_ite]
  refine if_congr ?_ rfl rfl
  unfold valid
  omega

theorem r_v60_1 (i : Fin 1) (n : Fin 16) (e : Fin 2) (h : Fin 8) (q : Fin 128) (s : Fin 256) :
    val_main_v60_1 (F := Ideal) (ix6 i n e h q s) = if valid n q s then 1#1 else 0#1 := by
  have h := r_v59 H
  pointwise [val_main_v60_1, h]

theorem r_v60_0 (i : Fin 1) (n : Fin 16) (e : Fin 2) (h : Fin 8) (q : Fin 128) (s : Fin 256) :
    val_main_v60_0 (F := Ideal) x0 (ix6 i n e h q s)
      = if valid n q s then ((score Z n (8 * e + h) q s : ℝ) : EReal) else ⊥ := by
  have h1 := r_v60_1 H
  have h2 := r_v20 H
  have h3 := r_v12 H
  unfold R5 at h2
  unfold R6 at h3
  pointwise [val_main_v60_0, val_main_call0_v2, val_main_call0_v0, val_main_cst_8, val_main_v30, val_main_v29, val_main_cst_3,
    val_main_v28, val_main_v27, h1, h2, h3]
  simp only [← EReal.coe_mul]
  rw [← coe_sum, bits_eighth, ← EReal.coe_mul]
  split_ifs with hv
  · refine congrArg (fun y : ℝ => (y : EReal)) ?_
    unfold score
    rw [Finset.sum_mul]
    refine Finset.sum_congr rfl fun d _ => ?_
    rw [extR_valid hv, show (8 * (e : ℕ) + h) / 8 = e by omega, mul_assoc]
  · exact bits_bot

theorem r_v64 (i : Fin 1) (n : Fin 16) (e : Fin 2) (h : Fin 8) (q : Fin 128) (s : Fin 257) :
    val_main_v64 (F := Ideal) x0 x2 (ix6 i n e h q s)
      = if (s : ℕ) < 256 then (if valid n q s then ((score Z n (8 * e + h) q s : ℝ) : EReal) else ⊥) else (K (8 * e + h) : EReal) := by
  have h1 := r_v60_0 H
  have h2 := H.k
  unfold R2 at h2
  pointwise [val_main_v64, val_main_v63, val_main_v62, val_main_v61, val_main_v5, h1, h2]
  rw [Nat.mul_comm 8]
  split_ifs <;> rfl

theorem r_v65 (i : Fin 1) (n : Fin 16) (e : Fin 2) (h : Fin 8) (q : Fin 128) :
    val_main_v65 (F := Ideal) x0 x2 (ix5 i n e h q) = ((top Z K n (8 * e + h) q : ℝ) : EReal) := by
  have h1 := r_v64 H i n e h q
  unfold val_main_v65
  rw [max_r6_5]
  simp only [h1]
  rw [← top_coe, topE, fold_last, show val_main_cst_9 (F := Ideal) (Shape.Idx.first h_S_) = Ideal.ofBits .f32 0xFF800000#32 from rfl, bits_bot]
  refine congrArg₂ max (congrArg (fun f => Finset.fold max ⊥ f Finset.univ) (funext fun s => if_pos s.isLt)) ?_
  exact if_neg (by simp)

theorem r_v72 : R5 (val_main_v72 (F := Ideal) x0 x2) fun _ n e h q => top Z K n (8 * e + h) q := by
  intro i n e h q
  rw [val_main_v72_apply, v71_bot, r_v65 H i n e h q]
  exact bot_sup_eq _

theorem r_v85 : R6 (val_main_v85 (F := Ideal) x0 x2) fun _ n e h q s =>
    if s < 256 then ex Z K n (8 * e + h) q s else exs Z K n (8 * e + h) q := by
  intro i n e h q s
  have h1 := r_v64 H
  have h2 := r_v72 H
  unfold R5 at h2
  pointwise [val_main_v85, val_main_v84, val_main_v83, val_main_v82, h1, h2]
  unfold ex exs
  split_ifs
  · rw [← EReal.coe_sub, Ideal.exp_coe]
  · exact exp_bot_sub _
  · rw [← EReal.coe_sub, Ideal.exp_coe]

theorem r_v86 : R5 (val_main_v86 (F := Ideal) x0 x2) fun _ n e h q => den Z K n (8 * e + h) q := by
  intro i n e h q
  have h1 := r_v85 H
  unfold R6 at h1
  pointwise [val_main_v86, val_main_cst_17, reduce_r6_5]
  simp only [h1]
  rw [← coe_sum, Fin.sum_univ_castSucc]
  refine congrArg (fun y : ℝ => (y : EReal)) ?_
  unfold den
  exact congrArg₂ (· + ·) (Finset.sum_congr rfl fun s _ => if_pos s.isLt) (if_neg (by simp))

theorem r_v89 : R6 (val_main_v89 (F := Ideal) x0 x2) fun _ n e h q s =>
    if s < 256 then pr Z K n (8 * e + h) q s else prs Z K n (8 * e + h) q := by
  intro i n e h q s
  have h1 := r_v85 H
  have h2 := r_v86 H
  unfold R6 at h1
  unfold R5 at h2
  pointwise [val_main_v89, val_main_v88, val_main_v87, h1, h2]
  rw [div_real (den_pos Z K _ _ _).ne', div_eq_mul_inv]
  unfold pr prs
  split_ifs <;> rfl

theorem r_v93 : R6 (val_main_v93 (F := Ideal) x0 x2) fun _ n e h q s => pr Z K n (8 * e + h) q s := by
  intro i n e h q s
  have h1 := r_v89 H
  unfold R6 at h1
  pointwise [val_main_v93, h1]

theorem r_v96 : R3 (val_main_v96 (F := Ideal) x0 x2) fun _ r c => att Z K (r / 128) (c / 64) (r % 128) (c % 64) := by
  intro i r c
  have h1 := r_v93 H
  have h2 := r_v26 H
  unfold R6 at h1
  unfold R5 at h2
  pointwise [val_main_v96, val_main_v95, val_main_v94, h1, h2]
  simp only [← EReal.coe_mul]
  rw [← coe_sum, show 8 * ((c : ℕ) / 512) + (c : ℕ) / 64 % 8 = c / 64 by omega]
  unfold att
  refine congrArg (fun y : ℝ => (y : EReal)) (Finset.sum_congr rfl fun s _ => ?_)
  rw [show (c : ℕ) / 512 = c / 64 / 8 by omega]
  by_cases hv : valid ((r : ℕ) / 128) ((r : ℕ) % 128) s
  · rw [extR_valid hv]
  · rw [pr_zero hv, mul_zero, mul_zero]

/-! ### The gradients -/

theorem r_v211 : R3 (val_main_v211 (F := Ideal) x0 x1 x2) fun _ r c =>
    D r c * att Z K (r / 128) (c / 64) (r % 128) (c % 64) * dsilu (Z r (1280 + c)) := by
  intro i j k
  have h1 := r_v151 H
  have h2 := r_v96 H
  have h3 := r_v1 H
  have h5 := r_v97_1 H
  have h6 := r_v97_2 H
  unfold R3 at h1 h2 h3 h5 h6
  pointwise [val_main_v211, val_main_call5_v0, val_main_call5_v1, val_main_call5_v2, val_main_v209, h1, h2, h3, h5, h6]
  simp only [← EReal.coe_mul, ← EReal.coe_add]
  rw [← dsilu_eq, mul_comm (D _ _)]

theorem r_v213 : R6 (val_main_v213 (F := Ideal) x0 x1) fun _ n e d h q => go Z D n (8 * e + h) q d := by
  intro i n e d h q
  have h1 := r_v151 H
  have h2 := r_v97_0 H
  unfold R3 at h1 h2
  pointwise [val_main_v213, val_main_v212, val_main_v210, h1, h2]
  rw [show (e : ℕ) * 512 + h * 64 + d = 64 * (8 * e + h) + d by omega, ← Nat.add_assoc, Nat.mul_comm (n : ℕ), ← EReal.coe_mul]
  rfl

theorem r_v217 : R6 (val_main_v217 (F := Ideal) x0 x1) fun _ n e h q s =>
    if s < 256 then ∑ d : Fin 64, go Z D n (8 * e + h) q d * extR Z 1152 n e s d else 0 := by
  intro i n e h q s
  have h1 := r_v213 H
  have h2 := r_v26 H
  unfold R6 at h1
  unfold R5 at h2
  pointwise [val_main_v217, val_main_v214, val_main_cst_40, h1, h2]
  split_ifs
  · rw [coe_sum]; rfl
  · rfl

theorem r_v216 : R5 (val_main_v216 (F := Ideal) x0 x1 x2) fun _ n s e d => gv Z D K n e s d := by
  intro i n s e d
  have h1 := r_v213 H
  have h2 := r_v93 H
  unfold R6 at h1 h2
  pointwise [val_main_v216, val_main_v215, h1, h2]
  simp only [← EReal.coe_mul, ← coe_sum]
  refine congrArg (fun y : ℝ => (y : EReal)) ?_
  refine Eq.trans ?_ (sum_split (N := 1024) (m := 8) rfl fun h q => pr Z K n (8 * e + h) q s * go Z D n (8 * e + h) q d).symm
  exact Finset.sum_congr rfl fun h _ => Finset.sum_congr rfl fun q _ => mul_comm _ _

theorem r_v92 : R6 (val_main_v92 (F := Ideal) x0 x2) fun _ n e h q _ => (den Z K n (8 * e + h) q)⁻¹ * (den Z K n (8 * e + h) q)⁻¹ := by
  intro i n e h q s
  have h2 := r_v86 H
  unfold R5 at h2
  pointwise [val_main_v92, val_main_v91, val_main_cst_18, val_main_v90, val_main_v87, h2]
  have hd := (den_pos Z K n (8 * e + h) q).ne'
  rw [← EReal.coe_mul, one_div_real (mul_ne_zero hd hd), mul_inv]

theorem r_v220 : R6 (val_main_v220 (F := Ideal) x0 x1 x2) fun _ n e h q s =>
    if s < 256 then pr Z K n (8 * e + h) q s * gp Z D n (8 * e + h) q s * (den Z K n (8 * e + h) q)⁻¹ else 0 := by
  intro i n e h q s
  have h1 := r_v217 H
  have h2 := r_v85 H
  have h3 := r_v92 H
  unfold R6 at h1 h2 h3
  pointwise [val_main_v220, val_main_v219, val_main_v218, h1, h2, h3]
  simp only [← EReal.coe_mul]
  refine congrArg (fun y : ℝ => (y : EReal)) ?_
  split_ifs
  · rw [mul_right_comm, gpR_ex Z D K n e h q s h.isLt]
    unfold pr; ring
  · ring

theorem r_v223 : R6 (val_main_v223 (F := Ideal) x0 x1 x2) fun _ n e h q _ =>
    -(delta Z D K n (8 * e + h) q * (den Z K n (8 * e + h) q)⁻¹) := by
  intro i n e h q s
  have h1 := r_v220 H
  unfold R6 at h1
  pointwise [val_main_v223, val_main_v222, val_main_v221, val_main_cst_41, reduce_r6_5]
  simp only [h1]
  rw [← coe_sum, ← EReal.coe_neg, Fin.sum_univ_castSucc]
  refine congrArg (fun y : ℝ => ((-y : ℝ) : EReal)) ?_
  unfold delta
  rw [Finset.sum_mul]
  refine (congrArg₂ (· + ·) (Finset.sum_congr rfl fun s _ => if_pos s.isLt) (if_neg (by simp))).trans (add_zero _)

theorem r_v230 : R6 (val_main_v230 (F := Ideal) x0 x1 x2) fun _ n e h q s =>
    if s < 256 then gs Z D K n (8 * e + h) q s else -prs Z K n (8 * e + h) q * delta Z D K n (8 * e + h) q := by
  intro i n e h q s
  have h1 := r_v217 H
  have h2 := r_v85 H
  have h3 := r_v223 H
  have h4 := r_v86 H
  unfold R6 at h1 h2 h3
  unfold R5 at h4
  pointwise [val_main_v230, val_main_v229, val_main_v228, val_main_v227, val_main_v226, val_main_cst_42, reduce_r6_05, val_main_v225,
    val_main_v224, val_main_v87, h1, h2, h3, h4]
  rw [div_real (den_pos Z K _ _ _).ne', ← EReal.coe_add, ← EReal.coe_mul]
  refine congrArg (fun y : ℝ => (y : EReal)) ?_
  split_ifs
  · rw [add_mul, div_mul_eq_mul_div, gpR_ex Z D K n e h q s h.isLt]
    unfold gs pr; ring
  · unfold prs; ring

theorem r_v268 : R2 (val_main_v268 (F := Ideal) x0 x1 x2) fun _ h => ∑ n : Fin 16, gsink Z D K n h := by
  intro i h
  have h1 := r_v230 H
  unfold R6 at h1
  pointwise [val_main_v268, val_main_v236, val_main_v235, val_main_cst_44, reduce_r6_0145]
  pointwise [val_main_v234, val_main_v233, val_main_cst_43, reduce_r6_0145]
  pointwise [val_main_v232, h1]
  rw [Fin.sum_univ_one, Fin.sum_univ_one, Nat.div_add_mod (h : ℕ) 8, coe_sum]
  exact Finset.sum_congr rfl fun n _ => (coe_sum _ _).symm

theorem r_v240 : R6 (val_main_v240 (F := Ideal) x0 x1 x2) fun _ n e s q h => gs Z D K n (8 * e + h) q s * (1 / 8) := by
  intro i n e s q h
  have h1 := r_v230 H
  have h2 := r_v60_1 H
  unfold R6 at h1
  pointwise [val_main_v240, val_main_v239, val_main_v238, val_main_cst_45, val_main_v237, val_main_call6_v0, val_main_call6_cst,
    val_main_v60_2, val_main_call0_cst, val_main_v231, h1, h2]
  rw [bits_eighth]
  split_ifs with hv
  · rfl
  · rw [gs_zero hv, zero_mul]; rfl

theorem r_v242 : R6 (val_main_v242 (F := Ideal) x0 x1 x2) fun _ n q e h d => gq Z D K n (8 * e + h) q d := by
  intro i n q e h d
  have h1 := r_v240 H
  have h2 := r_v20 H
  unfold R6 at h1
  unfold R5 at h2
  pointwise [val_main_v242, val_main_v241, h1, h2]
  simp only [← EReal.coe_mul, ← coe_sum]
  refine congrArg (fun y : ℝ => (y : EReal)) ?_
  unfold gq
  rw [Finset.sum_mul, show (8 * (e : ℕ) + h) / 8 = e by omega]
  refine Finset.sum_congr rfl fun s _ => ?_
  by_cases hv : valid n q s
  · rw [extR_valid hv]; ring
  · rw [gs_zero hv]; ring

theorem r_v244 : R5 (val_main_v244 (F := Ideal) x0 x1 x2) fun _ n s e d => gk Z D K n e s d := by
  intro i n s e d
  have h1 := r_v240 H
  have h2 := r_v12 H
  unfold R6 at h1 h2
  pointwise [val_main_v244, val_main_v243, h1, h2]
  simp only [← EReal.coe_mul, ← coe_sum]
  refine congrArg (fun y : ℝ => (y : EReal)) ?_
  refine Eq.trans ?_ (sum_split (N := 1024) (m := 8) rfl fun h q =>
    gs Z D K n (8 * e + h) q s * (Z (128 * n + q) (64 * (8 * e + h) + d) * (1 / 8))).symm
  rw [Finset.sum_comm]
  refine Finset.sum_congr rfl fun h _ => Finset.sum_congr rfl fun q _ => ?_
  ring

/-! ### The gradient of the input -/

theorem r_v250 : R5 (val_main_v250 (F := Ideal) x0 x1 x2) fun _ n s e d =>
    gv Z D K n e (128 + s) d + (if n < 15 then gv Z D K (n + 1) e s d else 0) := by
  intro i n s e d
  have h1 := r_v216 H
  unfold R5 at h1
  pointwise [val_main_v250, val_main_v249, val_main_v248, val_main_v246, val_main_v245, val_main_cst_46, h1]
  rw [EReal.coe_add, Nat.add_comm 1 (n : ℕ)]
  split_ifs <;> rfl

theorem r_v256 : R5 (val_main_v256 (F := Ideal) x0 x1 x2) fun _ n s e d =>
    gk Z D K n e (128 + s) d + (if n < 15 then gk Z D K (n + 1) e s d else 0) := by
  intro i n s e d
  have h1 := r_v244 H
  unfold R5 at h1
  pointwise [val_main_v256, val_main_v255, val_main_v254, val_main_v252, val_main_v251, val_main_cst_47, h1]
  rw [EReal.coe_add, Nat.add_comm 1 (n : ℕ)]
  split_ifs <;> rfl

theorem r_v260 : R3 (val_main_v260 (F := Ideal) x0 x1 x2) fun _ r j =>
    gv Z D K (r / 128) (j / 64) (128 + r % 128) (j % 64) + (if r / 128 < 15 then gv Z D K (r / 128 + 1) (j / 64) (r % 128) (j % 64) else 0) := by
  intro i r j
  have h1 := r_v250 H
  unfold R5 at h1
  pointwise [val_main_v260, val_main_v257, h1]

theorem r_v261 : R3 (val_main_v261 (F := Ideal) x0 x1 x2) fun _ r j =>
    gk Z D K (r / 128) (j / 64) (128 + r % 128) (j % 64) + (if r / 128 < 15 then gk Z D K (r / 128 + 1) (j / 64) (r % 128) (j % 64) else 0) := by
  intro i r j
  have h1 := r_v256 H
  unfold R5 at h1
  pointwise [val_main_v261, val_main_v258, h1]

theorem r_v262 : R3 (val_main_v262 (F := Ideal) x0 x1 x2) fun _ r j => gq Z D K (r / 128) (j / 64) (r % 128) (j % 64) := by
  intro i r j
  have h1 := r_v242 H
  unfold R6 at h1
  pointwise [val_main_v262, val_main_v259, h1]
  rw [Nat.div_add_mod ((j : ℕ) / 64) 8]

theorem r_v278 : R2 (val_main_v278 (F := Ideal) x0 x1 x2 x3 x4 x5 x6) fun r j => dzS eps Z D K G B W b (r / 128) (r % 128) j := by
  intro r j
  have h1 := r_v260 H
  have h2 := r_v261 H
  have h3 := r_v262 H
  have h4 := r_v155 H
  have h5 := r_v204 H
  have h6 := r_v157 H
  have h7 := r_v211 H
  unfold R3 at h1 h2 h3 h4 h5 h6 h7
  pointwise [val_main_v278, val_main_v277, val_main_cst_55, val_main_v276, val_main_v275, val_main_cst_54, val_main_v274,
    val_main_v273, val_main_cst_53, val_main_v272, val_main_v271, val_main_cst_52, val_main_v270, val_main_v269, val_main_cst_51,
    val_main_v267, val_main_v266, val_main_cst_50, val_main_v265, val_main_v264, val_main_cst_49, val_main_v263, val_main_cst_48,
    h1, h2, h3, h4, h5, h6, h7]
  have hj := j.isLt
  rw [Fin.sum_univ_one]
  unfold dzS pendS gkv
  rw [Nat.div_add_mod (r : ℕ) 128]
  by_cases c1 : (j : ℕ) < 1024
  · rw [dif_neg (by omega), dif_neg (by omega), dif_pos c1, dif_neg (by omega), dif_neg (by omega), dif_neg (by omega),
      dif_neg (by omega), if_neg (show ¬(1024 ≤ (j : ℕ) ∧ (j : ℕ) < 1280) by omega), if_pos c1]
    simp only [add_zero, zero_add]
  by_cases c2 : (j : ℕ) < 1152
  · have c : (j : ℕ) - 1024 < 128 := by omega
    rw [if_pos (show 1024 ≤ (j : ℕ) ∧ (j : ℕ) < 1280 by omega), if_pos c, if_pos c]
    rw [dif_neg (by omega), dif_pos ⟨by omega, c⟩, dif_neg (by omega), dif_neg (by omega), dif_neg (by omega), dif_neg (by omega),
      dif_neg (by omega)]
    simp only [add_zero, zero_add]
  by_cases c3 : (j : ℕ) < 1280
  · have c : ¬((j : ℕ) - 1024 < 128) := by omega
    rw [if_pos (show 1024 ≤ (j : ℕ) ∧ (j : ℕ) < 1280 by omega), if_neg c, if_neg c]
    rw [dif_pos ⟨by omega, by omega⟩, dif_neg (by omega), dif_neg (by omega), dif_neg (by omega), dif_neg (by omega), dif_neg (by omega),
      dif_neg (by omega), Nat.sub_sub, show ((j : ℕ) - 1024) % 64 = (j - 1152) % 64 by omega]
    simp only [add_zero]
  rw [dif_neg (by omega), dif_neg (by omega), dif_neg (by omega), if_neg (show ¬(1024 ≤ (j : ℕ) ∧ (j : ℕ) < 1280) by omega), if_neg c1]
  by_cases c4 : (j : ℕ) < 2304
  · rw [dif_neg (by omega), dif_neg (by omega), dif_neg (by omega), dif_pos (by omega), if_pos c4,
      show 1280 + ((j : ℕ) - 1280) = j by omega, show ((j : ℕ) - 1280) % 64 = j % 64 by omega]
    simp only [add_zero, zero_add]
  by_cases c5 : (j : ℕ) < 3328
  · rw [dif_neg (by omega), dif_neg (by omega), dif_pos (by omega), dif_neg (by omega), if_neg c4, if_pos c5]
    simp only [add_zero, zero_add]
  by_cases c6 : (j : ℕ) < 4352
  · rw [dif_neg (by omega), dif_pos (by omega), dif_neg (by omega), dif_neg (by omega), if_neg c4, if_neg c5, if_pos c6]
    simp only [add_zero, zero_add]
  · rw [dif_pos (by omega), dif_neg (by omega), dif_neg (by omega), dif_neg (by omega), if_neg c4, if_neg c5, if_neg c6,
      show 4352 + ((j : ℕ) - 4352) = j by omega]
    simp only [add_zero, zero_add]

theorem r_v207 : R2 (val_main_v207 (F := Ideal) x0 x1 x5) fun _ c => ∑ n : Fin 16, glb Z D W n c := by
  intro r c
  have h1 := r_v172 H
  unfold R1 at h1
  pointwise [val_main_v207, h1]

theorem r_v208 : R2 (val_main_v208 (F := Ideal) x0 x1 x5) fun _ c => ∑ n : Fin 16, glg eps Z D W n c := by
  intro r c
  have h1 := r_v178 H
  unfold R1 at h1
  pointwise [val_main_v208, h1]

theorem r_v279 : R3 (val_main_v279 (F := Ideal) x0 x1 x3 x4) fun g t s => ∑ n : Fin 16, gw eps Z D G B n g t s := by
  intro g t s
  have h1 := r_v168 H
  unfold R3 at h1
  pointwise [val_main_v279, val_main_v206, h1]

theorem r_v280 : R2 (val_main_v280 (F := Ideal) x0 x1) fun g t => ∑ n : Fin 16, gb Z D n g t := by
  intro g t
  have h1 := r_v162 H
  unfold R2 at h1
  pointwise [val_main_v280, val_main_v205, h1]

end

end Cert.Mix

end
-- ==== Proof.Inputs.lean ====
module

public import proofs.«01_k».proof.Proof.Host
public import proofs.«01_k».proof.Proof.Block
public import proofs.«01_k».proof.Proof.Launch
public import proofs.«01_k».proof.Proof.RAttn

/-! The blocks of the kernel's operands hold the real numbers they should. -/

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.Mix

variable (m : (ℓ : Loc nD τ sig) → Buf (Elt Ideal) ℓ) (c : Dev nD)

theorem index0_0 : ∀ t : Fin cfg0.N, win0_0.index t 0 = min t.val 15 ∧ win0_0.index t 1 = 0 :=
  (by decide +kernel : ∀ t : Fin grid0.N, win0_0.index t 0 = min t.val 15 ∧ win0_0.index t 1 = 0)
theorem index0_1 : ∀ t : Fin cfg0.N, win0_1.index t 0 = min t.val 15 - 1 ∧ win0_1.index t 1 = 4 :=
  (by decide +kernel : ∀ t : Fin grid0.N, win0_1.index t 0 = min t.val 15 - 1 ∧ win0_1.index t 1 = 4)
theorem index0_2 : ∀ t : Fin cfg0.N, win0_2.index t 0 = min t.val 15 ∧ win0_2.index t 1 = 0 :=
  (by decide +kernel : ∀ t : Fin grid0.N, win0_2.index t 0 = min t.val 15 ∧ win0_2.index t 1 = 0)
theorem index0_3 : ∀ t : Fin cfg0.N, win0_3.index t 0 = min t.val 15 ∧ win0_3.index t 1 = 0 :=
  (by decide +kernel : ∀ t : Fin grid0.N, win0_3.index t 0 = min t.val 15 ∧ win0_3.index t 1 = 0)
theorem index0_4 : ∀ t : Fin cfg0.N, win0_4.index t 0 = 0 ∧ win0_4.index t 1 = 0 :=
  (by decide +kernel : ∀ t : Fin grid0.N, win0_4.index t 0 = 0 ∧ win0_4.index t 1 = 0)
theorem index0_5 : ∀ t : Fin cfg0.N, win0_5.index t 0 = 0 ∧ win0_5.index t 1 = 0 :=
  (by decide +kernel : ∀ t : Fin grid0.N, win0_5.index t 0 = 0 ∧ win0_5.index t 1 = 0)
theorem index0_6 : ∀ t : Fin cfg0.N, win0_6.index t 0 = 0 ∧ win0_6.index t 1 = 0 :=
  (by decide +kernel : ∀ t : Fin grid0.N, win0_6.index t 0 = 0 ∧ win0_6.index t 1 = 0)
theorem index0_7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)
theorem index0_8 : ∀ t : Fin cfg0.N, win0_8.index t 0 = 0 ∧ win0_8.index t 1 = 0 :=
  (by decide +kernel : ∀ t : Fin grid0.N, win0_8.index t 0 = 0 ∧ win0_8.index t 1 = 0)

theorem R2.at {p q : ℕ} {v : (⟨2, ![p, q]⟩ : Shape).Idx → EReal} {a : ℕ → ℕ → ℝ} (h : R2 v a) (i : (⟨2, ![p, q]⟩ : Shape).Idx) {r s : ℕ}
    (h0 : (i 0 : ℕ) = r) (h1 : (i 1 : ℕ) = s) : v i = (a r s : EReal) := by
  subst h0 h1
  refine Eq.trans ?_ (h (i 0) (i 1))
  congr 1
  funext k
  match k with
  | ⟨0, _⟩ => rfl
  | ⟨1, _⟩ => rfl

theorem R3.at {p q l : ℕ} {v : (⟨3, ![p, q, l]⟩ : Shape).Idx → EReal} {a : ℕ → ℕ → ℕ → ℝ} (h : R3 v a) (i : (⟨3, ![p, q, l]⟩ : Shape).Idx) {r s u : ℕ}
    (h0 : (i 0 : ℕ) = r) (h1 : (i 1 : ℕ) = s) (h2 : (i 2 : ℕ) = u) : v i = (a r s u : EReal) := by
  subst h0 h1 h2
  refine Eq.trans ?_ (h (i 0) (i 1) (i 2))
  congr 1
  funext k
  match k with
  | ⟨0, _⟩ => rfl
  | ⟨1, _⟩ => rfl
  | ⟨2, _⟩ => rfl

section

variable {A : ℕ → ℕ → ℝ} (t : Fin cfg0.N)

theorem read_0 {X : (⟨2, ![2048, 5376]⟩ : Shape).Idx → EReal} (h : R2 X A) (ht : t.val < 16) :
    R2 (((cfg0.win 0).blk t).view.read (Elt Ideal) X) (fun q j => A (128 * t.val + q) j) := fun q j => by
  refine R2.at h ((win0_0.blk t).view.emb (ix2 q j)) ((win0_0.rect_emb_val t (ix2 q j) 0).trans ?_) ((win0_0.rect_emb_val t (ix2 q j) 1).trans ?_)
  · rw [(index0_0 t).1, Nat.min_eq_left (by omega), Nat.mul_comm]
    rfl
  · rw [(index0_0 t).2, Nat.zero_mul, Nat.zero_add]
    rfl

theorem read_1 {X : (⟨2, ![2048, 5376]⟩ : Shape).Idx → EReal} (h : R2 X A) (ht : t.val < 16) :
    R2 (((cfg0.win 1).blk t).view.read (Elt Ideal) X) (fun q j => A (128 * (t.val - 1) + q) (1024 + j)) := fun q j => by
  refine R2.at h ((win0_1.blk t).view.emb (ix2 q j)) ((win0_1.rect_emb_val t (ix2 q j) 0).trans ?_) ((win0_1.rect_emb_val t (ix2 q j) 1).trans ?_)
  · rw [(index0_1 t).1, Nat.min_eq_left (by omega), Nat.mul_comm]
    rfl
  · rw [(index0_1 t).2]
    rfl

theorem read_2 {X : (⟨2, ![2048, 2048]⟩ : Shape).Idx → EReal} (h : R2 X A) (ht : t.val < 16) :
    R2 (((cfg0.win 2).blk t).view.read (Elt Ideal) X) (fun q j => A (128 * t.val + q) j) := fun q j => by
  refine R2.at h ((win0_2.blk t).view.emb (ix2 q j)) ((win0_2.rect_emb_val t (ix2 q j) 0).trans ?_) ((win0_2.rect_emb_val t (ix2 q j) 1).trans ?_)
  · rw [(index0_2 t).1, Nat.min_eq_left (by omega), Nat.mul_comm]
    rfl
  · rw [(index0_2 t).2, Nat.zero_mul, Nat.zero_add]
    rfl

theorem read_3 {X : (⟨2, ![2048, 1024]⟩ : Shape).Idx → EReal} (h : R2 X A) (ht : t.val < 16) :
    R2 (((cfg0.win 3).blk t).view.read (Elt Ideal) X) (fun q j => A (128 * t.val + q) j) := fun q j => by
  refine R2.at h ((win0_3.blk t).view.emb (ix2 q j)) ((win0_3.rect_emb_val t (ix2 q j) 0).trans ?_) ((win0_3.rect_emb_val t (ix2 q j) 1).trans ?_)
  · rw [(index0_3 t).1, Nat.min_eq_left (by omega), Nat.mul_comm]
    rfl
  · rw [(index0_3 t).2, Nat.zero_mul, Nat.zero_add]
    rfl

theorem read_4 {X : (⟨2, ![1, 16]⟩ : Shape).Idx → EReal} (h : R2 X A) :
    R2 (((cfg0.win 4).blk t).view.read (Elt Ideal) X) (A) := fun q j => by
  refine R2.at h ((win0_4.blk t).view.emb (ix2 q j)) ((win0_4.rect_emb_val t (ix2 q j) 0).trans ?_) ((win0_4.rect_emb_val t (ix2 q j) 1).trans ?_)
  · rw [(index0_4 t).1, Nat.zero_mul, Nat.zero_add]
    rfl
  · rw [(index0_4 t).2, Nat.zero_mul, Nat.zero_add]
    rfl

theorem read_5 {X : (⟨2, ![1, 1024]⟩ : Shape).Idx → EReal} (h : R2 X A) :
    R2 (((cfg0.win 5).blk t).view.read (Elt Ideal) X) (A) := fun q j => by
  refine R2.at h ((win0_5.blk t).view.emb (ix2 q j)) ((win0_5.rect_emb_val t (ix2 q j) 0).trans ?_) ((win0_5.rect_emb_val t (ix2 q j) 1).trans ?_)
  · rw [(index0_5 t).1, Nat.zero_mul, Nat.zero_add]
    rfl
  · rw [(index0_5 t).2, Nat.zero_mul, Nat.zero_add]
    rfl

theorem read_6 {X : (⟨2, ![1, 1024]⟩ : Shape).Idx → EReal} (h : R2 X A) :
    R2 (((cfg0.win 6).blk t).view.read (Elt Ideal) X) (A) := fun q j => by
  refine R2.at h ((win0_6.blk t).view.emb (ix2 q j)) ((win0_6.rect_emb_val t (ix2 q j) 0).trans ?_) ((win0_6.rect_emb_val t (ix2 q j) 1).trans ?_)
  · rw [(index0_6 t).1, Nat.zero_mul, Nat.zero_add]
    rfl
  · rw [(index0_6 t).2, Nat.zero_mul, Nat.zero_add]
    rfl

theorem read_8 {X : (⟨2, ![128, 8]⟩ : Shape).Idx → EReal} (h : R2 X A) :
    R2 (((cfg0.win 8).blk t).view.read (Elt Ideal) X) (A) := fun q j => by
  refine R2.at h ((win0_8.blk t).view.emb (ix2 q j)) ((win0_8.rect_emb_val t (ix2 q j) 0).trans ?_) ((win0_8.rect_emb_val t (ix2 q j) 1).trans ?_)
  · rw [(index0_8 t).1, Nat.zero_mul, Nat.zero_add]
    rfl
  · rw [(index0_8 t).2, Nat.zero_mul, Nat.zero_add]
    rfl

theorem read_7 {A : ℕ → ℕ → ℕ → ℝ} {X : (⟨3, ![8, 128, 128]⟩ : Shape).Idx → EReal} (h : R3 X A) :
    R3 (((cfg0.win 7).blk t).view.read (Elt Ideal) X) A := fun p q j => by
  refine R3.at h ((win0_7.blk t).view.emb (ix3 p q j)) ((win0_7.rect_emb_val t (ix3 p q j) 0).trans ?_)
    ((win0_7.rect_emb_val t (ix3 p q j) 1).trans ?_) ((win0_7.rect_emb_val t (ix3 p q j) 2).trans ?_)
  · rw [(index0_7 t).1, Nat.zero_mul, Nat.zero_add]
    rfl
  · rw [(index0_7 t).2.1, Nat.zero_mul, Nat.zero_add]
    rfl
  · rw [(index0_7 t).2.2, Nat.zero_mul, Nat.zero_add]
    rfl

end

section

variable {Z D : ℕ → ℕ → ℝ} {K G B : ℕ → ℝ} {W : ℕ → ℕ → ℕ → ℝ} {b : ℕ → ℕ → ℝ}

/-- The launch's arguments hold real numbers. -/
abbrev Real (Z D : ℕ → ℕ → ℝ) (K G B : ℕ → ℝ) (W : ℕ → ℕ → ℕ → ℝ) (b : ℕ → ℕ → ℝ) : Prop :=
  Args Z D K G B W b (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

variable {m c} (H : Real m c Z D K G B W b)

theorem rows_cast {v : FVec Ideal ⟨3, ![1, 2048, 1024]⟩ .f32} {a : ℕ → ℕ → ℝ} (h : R3 v fun _ r c => a r c) :
    R2 (shapeCast S2048x1024 v shapeCasts_S1x2048x1024_S2048x1024) a := by
  intro r c
  unfold R3 at h
  pointwise [h]

theorem weight_cast {v : FVec Ideal ⟨4, ![1, 8, 128, 128]⟩ .f32} {a : ℕ → ℕ → ℕ → ℝ} (h : R4 v fun _ g t s => a g t s) :
    R3 (shapeCast S8x128x128 v shapeCasts_S1x8x128x128_S8x128x128) a := by
  intro g t s
  unfold R4 at h
  pointwise [h]

theorem bias_cast {v : FVec Ideal ⟨3, ![1, 8, 128]⟩ .f32} {a : ℕ → ℕ → ℝ} (h : R3 v fun _ g t => a g t) :
    R2 (transpose S128x8 [1, 0] (shapeCast S8x128 v shapeCasts_S1x8x128_S8x128) transposes_S8x128_S128x8_1_0) fun t g => a g t := by
  intro t g
  unfold R3 at h
  pointwise [h]

include H

theorem V_v74 : R2 (V m c main_v74) fun r c => att Z K (r / 128) (c / 64) (r % 128) (c % 64) := by
  rw [show V m c main_v74 = _ from at_v74 fun b => m (c, b)]
  exact rows_cast (r_v96 H)

theorem V_v75 : R3 (V m c main_v75) W := by
  rw [show V m c main_v75 = _ from at_v75 fun b => m (c, b)]
  exact weight_cast H.w

theorem V_v77 : R2 (V m c main_v77) fun t g => b g t := by
  rw [show V m c main_v77 = _ from at_v77 fun b => m (c, b)]
  exact bias_cast H.bias

theorem V_arg0 : R2 (V m c main_arg0) Z := by rw [V_main_arg0]; exact H.z
theorem V_arg1 : R2 (V m c main_arg1) D := by rw [V_main_arg1]; exact H.d
theorem V_arg2 : R2 (V m c main_arg2) fun _ h => K h := by rw [V_main_arg2]; exact H.k
theorem V_arg3 : R2 (V m c main_arg3) fun _ c => G c := by rw [V_main_arg3]; exact H.scale
theorem V_arg4 : R2 (V m c main_arg4) fun _ c => B c := by rw [V_main_arg4]; exact H.shift

variable (t : Fin cfg0.N)

theorem holds_0 (ht : t.val < 16) : R2 (n := 128) (m := 5376) (iblk m c 0 t) (fun q j => Z (128 * t.val + q) j) := by
  unfold iblk
  exact read_0 t (V_arg0 H) ht

theorem holds_1 (ht : t.val < 16) : R2 (n := 128) (m := 256) (iblk m c 1 t) (fun s j => Z (128 * (t.val - 1) + s) (1024 + j)) := by
  unfold iblk
  exact read_1 t (V_arg0 H) ht

theorem holds_2 (ht : t.val < 16) : R2 (n := 128) (m := 2048) (iblk m c 2 t) (fun q j => D (128 * t.val + q) j) := by
  unfold iblk
  exact read_2 t (V_arg1 H) ht

theorem holds_3 (ht : t.val < 16) : R2 (n := 128) (m := 1024) (iblk m c 3 t) fun q j => att Z K t.val (j / 64) q (j % 64) := fun q j => by
  refine (read_3 t (V_v74 H) ht q j).trans ?_
  show ((att Z K ((128 * t.val + (q : ℕ)) / 128) (j / 64) ((128 * t.val + (q : ℕ)) % 128) (j % 64) : ℝ) : EReal) = _
  rw [show (128 * t.val + (q : ℕ)) / 128 = t.val by omega, show (128 * t.val + (q : ℕ)) % 128 = q by omega]

theorem holds_4 : R2 (n := 1) (m := 16) (iblk m c 4 t) (fun _ h => K h) := by
  unfold iblk
  exact read_4 t (V_arg2 H)

theorem holds_5 : R2 (n := 1) (m := 1024) (iblk m c 5 t) (fun _ j => G j) := by
  unfold iblk
  exact read_5 t (V_arg3 H)

theorem holds_6 : R2 (n := 1) (m := 1024) (iblk m c 6 t) (fun _ j => B j) := by
  unfold iblk
  exact read_6 t (V_arg4 H)

theorem holds_7 : R3 (n := 8) (m := 128) (l := 128) (iblk m c 7 t) W := by
  unfold iblk
  exact read_7 t (V_v75 H)

theorem holds_8 : R2 (n := 128) (m := 8) (iblk m c 8 t) (fun u g => b g u) := by
  unfold iblk
  exact read_8 t (V_v77 H)

theorem holds (ht : t.val < 16) : Holds Z D K G B W b t.val (insAt m c t) := by
  constructor
  · with_reducible exact holds_0 H t ht
  · with_reducible exact holds_1 H t ht
  · with_reducible exact holds_2 H t ht
  · with_reducible exact holds_3 H t ht
  · with_reducible exact holds_4 H t
  · with_reducible exact holds_5 H t
  · with_reducible exact holds_6 H t
  · with_reducible exact holds_7 H t
  · with_reducible exact holds_8 H t

end

end Cert.KernelIdeal.Hand

end
-- ==== Proof.Pieces.lean ====
module

public import proofs.«01_k».proof.Proof.Block

@[expose] public section

set_option maxRecDepth 16384

noncomputable section

/-! What the buffers read after the body's stores at a block whose inputs hold real numbers. -/

namespace Cert.Mix

open Idealize.ShloMosaic Cert.KernelIdeal Cert.KernelIdeal.Gen Cert.KernelIdeal.Hand

section

variable (Z D : ℕ → ℕ → ℝ) (K G B : ℕ → ℝ) (W : ℕ → ℕ → ℕ → ℝ) (b : ℕ → ℕ → ℝ) (n e k : ℕ)

/-- The gradient of one sink is the sum over its queries. -/
theorem sink_w (s : ℕ → ℝ) {o : ℕ} (he : o = 128 * k) (hk : k < 8) {v : FVec Ideal S1x1024 .f32}
    (hv : R2 v fun _ c => -prs Z K n (8 * e + c / 128) (c % 128) * delta Z D K n (8 * e + c / 128) (c % 128))
    {old : Vec Ideal S1x1 .f32} (ho : R2 old fun _ _ => s (8 * e + k)) (h : S1x1024.Slices ![0, o] S1x128) (i j : Fin 1) :
    shapeCast S1x1 (addf old (shapeCast S1x1 (multiReduction (F := Ideal) .add [1] S1 (extractStridedSlice S1x128 ![0, o] v h) 0x00000000#32
      reduces_S1x128_S1 (.inl rfl) rfl) shapeCasts_S1_S1x1)) shapeCasts_S1x1_S1x1 (ix2 i j)
      = ((s (8 * e + k + j) + gsink Z D K n (8 * e + k + j) : ℝ) : EReal) := by
  have h' := slice_R2 hv h
  unfold R2 at *
  pointwise [ho, h']
  rw [← coe_sum, ← EReal.coe_add]
  rw [gsink]
  congr 2
  refine Finset.sum_congr rfl fun q _ => ?_
  have hq := q.isLt
  rw [show (o + (q : ℕ)) / 128 = k by omega, show (o + (q : ℕ)) % 128 = q by omega]

/-- The queries' gradient of one head. -/
theorem gq_w {o : ℕ} (he : o = 128 * k) (hk : k < 8) (h2 : e < 2) {v : FVec Ideal S64x1024 .f32}
    (hv : R2 v fun d c => gq Z D K n (8 * e + c / 128) (c % 128) d) (h : S64x1024.Slices ![0, o] S64x128) (i : Fin 128) (j : Fin 64) :
    shapeCast S128x64 (truncf (F := Ideal) .bf16 (transpose S128x64 [1, 0] (extractStridedSlice S64x128 ![0, o] v h)
      transposes_S64x128_p1_0_S128x64) bitsLt_bf16_f32) shapeCasts_S128x64_S128x64 (ix2 i j)
      = ((pendS eps Z D K G B W b n (0 + i) (64 * (8 * e + k) + j) : ℝ) : EReal) := by
  have h' := slice_R2 hv h
  unfold R2 at *
  pointwise [h']
  have hi := i.isLt
  have hj := j.isLt
  rw [pendS, if_pos (by omega), show (o + (i : ℕ)) / 128 = k by omega, show (o + (i : ℕ)) % 128 = i by omega,
    show (64 * (8 * e + k) + (j : ℕ)) / 64 = 8 * e + k by omega, show (64 * (8 * e + k) + (j : ℕ)) % 64 = j by omega]

theorem bias_w {old : Vec Ideal S128x1 .f32} {s : ℕ → ℕ → ℝ} (g : ℕ) (ho : R2 old fun t _ => s t g) {y : FVec Ideal S128x128 .f32}
    (hy : R2 y fun t c => gm Z D (128 * n + t) (128 * g + c)) (i : Fin 128) (j : Fin 1) :
    shapeCast S128x1 (addf old (shapeCast S128x1 (multiReduction .add [1] S128 y 0x00000000#32 reduces_S128x128_S128 (.inl rfl) rfl)
      shapeCasts_S128_S128x1)) shapeCasts_S128x1_S128x1 (ix2 i j)
      = ((s (0 + i) (g + j) + gb Z D n (g + j) (0 + i) : ℝ) : EReal) := by
  rw [gb_pay79 Z D n ho g hy i j, Nat.zero_add, show g + (j : ℕ) = g by omega]

end

variable {Z D : ℕ → ℕ → ℝ} {K G B : ℕ → ℝ} {W : ℕ → ℕ → ℕ → ℝ} {b : ℕ → ℕ → ℝ} {n : ℕ} {x : Ins Ideal}
  (H : Holds Z D K G B W b n x) {i : grid0.Coords} (hi : ((i 0 : Fin _) : ℕ) = n)
  {arg1 : Memref sig .tc .vmem S128x5376 .f32} (harg1 : arg1.IsWhole)
  {arg2 : Memref sig .tc .vmem S128x256 .f32} (harg2 : arg2.IsWhole)
  {arg3 : Memref sig .tc .vmem S128x2048 .f32} (harg3 : arg3.IsWhole)
  {arg4 : Memref sig .tc .vmem S128x1024 .f32} (harg4 : arg4.IsWhole)
  {arg5 : Memref sig .tc .vmem S1x16 .f32} (harg5 : arg5.IsWhole)
  {arg6 : Memref sig .tc .vmem S1x1024 .f32} (harg6 : arg6.IsWhole)
  {arg7 : Memref sig .tc .vmem S1x1024 .f32} (harg7 : arg7.IsWhole)
  {arg8 : Memref sig .tc .vmem S8x128x128 .f32} (harg8 : arg8.IsWhole)
  {arg9 : Memref sig .tc .vmem S128x8 .f32} (harg9 : arg9.IsWhole)

section

variable {κ : Kind} {sp : Space}

include H hi

/-- The gradients of the sinks, added to `s`. -/
theorem reads_sink {v : View sig κ sp S1x128 .f32} {f : v.ty.Contents (Elt Ideal)} {L : List (View.Piece (Elt Ideal) S1x128 .f32)} (s : ℕ → ℝ)
    {o0 o1 o2 o3 o4 o5 o6 o7 o8 o9 o10 o11 o12 o13 o14 o15 : Vec Ideal S1x1 .f32}
    (e0 : R2 o0 fun _ _ => s 0) (e1 : R2 o1 fun _ _ => s 1) (e2 : R2 o2 fun _ _ => s 2) (e3 : R2 o3 fun _ _ => s 3) (e4 : R2 o4 fun _ _ => s 4) (e5 : R2 o5 fun _ _ => s 5) (e6 : R2 o6 fun _ _ => s 6) (e7 : R2 o7 fun _ _ => s 7) (e8 : R2 o8 fun _ _ => s 8) (e9 : R2 o9 fun _ _ => s 9) (e10 : R2 o10 fun _ _ => s 10) (e11 : R2 o11 fun _ _ => s 11) (e12 : R2 o12 fun _ _ => s 12) (e13 : R2 o13 fun _ _ => s 13) (e14 : R2 o14 fun _ _ => s 14) (e15 : R2 o15 fun _ _ => s 15)
    : Reads v f (⟨Rect.unit (s := S1x128) ![0, 15] S1x1.size inb_S1x128_S1x1_0_15, k0_pay81 (runB.sl.r_41 i arg1 harg1 arg2 harg2 arg3 harg3 arg5 harg5 x) o15⟩ :: ⟨Rect.unit (s := S1x128) ![0, 14] S1x1.size inb_S1x128_S1x1_0_14, k0_pay79 o14 (runB.sl.r_45 i arg1 harg1 arg2 harg2 arg3 harg3 arg5 harg5 x)⟩ :: ⟨Rect.unit (s := S1x128) ![0, 13] S1x1.size inb_S1x128_S1x1_0_13, k0_pay76 (runB.sl.r_41 i arg1 harg1 arg2 harg2 arg3 harg3 arg5 harg5 x) o13⟩ :: ⟨Rect.unit (s := S1x128) ![0, 12] S1x1.size inb_S1x128_S1x1_0_12, k0_pay74 (runB.sl.r_41 i arg1 harg1 arg2 harg2 arg3 harg3 arg5 harg5 x) o12⟩ :: ⟨Rect.unit (s := S1x128) ![0, 11] S1x1.size inb_S1x128_S1x1_0_11, k0_pay72 (runB.sl.r_41 i arg1 harg1 arg2 harg2 arg3 harg3 arg5 harg5 x) o11⟩ :: ⟨Rect.unit (s := S1x128) ![0, 10] S1x1.size inb_S1x128_S1x1_0_10, k0_pay70 (runB.sl.r_41 i arg1 harg1 arg2 harg2 arg3 harg3 arg5 harg5 x) o10⟩ :: ⟨Rect.unit (s := S1x128) ![0, 9] S1x1.size inb_S1x128_S1x1_0_9, k0_pay68 (runB.sl.r_41 i arg1 harg1 arg2 harg2 arg3 harg3 arg5 harg5 x) o9⟩ :: ⟨Rect.unit (s := S1x128) ![0, 8] S1x1.size inb_S1x128_S1x1_0_8, k0_pay66 (runB.sl.r_7 arg1 harg1 arg3 harg3 x) (runB.sl.r_26 arg1 harg1 arg2 harg2 x) (runB.sl.r_36 i arg1 harg1 arg2 harg2 arg5 harg5 x) (runB.sl.r_37 i arg1 harg1 arg2 harg2 arg5 harg5 x) o8⟩ :: ⟨Rect.unit (s := S1x128) ![0, 7] S1x1.size inb_S1x128_S1x1_0_7, k0_pay46 o7 (runB.sl.r_24 i arg1 harg1 arg2 harg2 arg3 harg3 arg5 harg5 x)⟩ :: ⟨Rect.unit (s := S1x128) ![0, 6] S1x1.size inb_S1x128_S1x1_0_6, k0_pay43 (runB.sl.r_21 i arg1 harg1 arg2 harg2 arg3 harg3 arg5 harg5 x) o6⟩ :: ⟨Rect.unit (s := S1x128) ![0, 5] S1x1.size inb_S1x128_S1x1_0_5, k0_pay41 (runB.sl.r_21 i arg1 harg1 arg2 harg2 arg3 harg3 arg5 harg5 x) o5⟩ :: ⟨Rect.unit (s := S1x128) ![0, 4] S1x1.size inb_S1x128_S1x1_0_4, k0_pay38 (runB.sl.r_21 i arg1 harg1 arg2 harg2 arg3 harg3 arg5 harg5 x) o4⟩ :: ⟨Rect.unit (s := S1x128) ![0, 3] S1x1.size inb_S1x128_S1x1_0_3, k0_pay36 (runB.sl.r_21 i arg1 harg1 arg2 harg2 arg3 harg3 arg5 harg5 x) o3⟩ :: ⟨Rect.unit (s := S1x128) ![0, 2] S1x1.size inb_S1x128_S1x1_0_2, k0_pay34 (runB.sl.r_21 i arg1 harg1 arg2 harg2 arg3 harg3 arg5 harg5 x) o2⟩ :: ⟨Rect.unit (s := S1x128) ![0, 1] S1x1.size inb_S1x128_S1x1_0_1, k0_pay32 (runB.sl.r_16 i arg1 harg1 arg2 harg2 arg5 harg5 x) (runB.sl.r_19 i arg1 harg1 arg2 harg2 arg3 harg3 arg5 harg5 x) o1⟩ :: ⟨Rect.unit (s := S1x128) ![0, 0] S1x1.size inb_S1x128_S1x1_0_0, k0_pay30 (runB.sl.r_16 i arg1 harg1 arg2 harg2 arg5 harg5 x) (runB.sl.r_19 i arg1 harg1 arg2 harg2 arg3 harg3 arg5 harg5 x) o0⟩ :: L) (fun _ j => j < 16) fun _ j => ((s j + gsink Z D K n j : ℝ) : EReal) := by
  have h0 := b_r21 H hi harg1 harg2 harg3 harg5
  have h1 := b_r41 H hi harg1 harg2 harg3 harg5
  refine Reads.mono ((Reads.cons (Reads.cons (Reads.cons (Reads.cons (Reads.cons (Reads.cons (Reads.cons (Reads.cons (Reads.cons (Reads.cons (Reads.cons (Reads.cons (Reads.cons (Reads.cons (Reads.cons (Reads.cons Reads.none ?_) ?_) ?_) ?_) ?_) ?_) ?_) ?_) ?_) ?_) ?_) ?_) ?_) ?_) ?_) ?_)) fun i j hi hj h => by omega
  · exact fun i j => sink_w Z D K n 0 0 s rfl (by decide) h0 e0 slices_S1x1024_o0_0_S1x128 i j
  · exact fun i j => sink_w Z D K n 0 1 s rfl (by decide) h0 e1 slices_S1x1024_o0_128_S1x128 i j
  · exact fun i j => sink_w Z D K n 0 2 s rfl (by decide) h0 e2 slices_S1x1024_o0_256_S1x128 i j
  · exact fun i j => sink_w Z D K n 0 3 s rfl (by decide) h0 e3 slices_S1x1024_o0_384_S1x128 i j
  · exact fun i j => sink_w Z D K n 0 4 s rfl (by decide) h0 e4 slices_S1x1024_o0_512_S1x128 i j
  · exact fun i j => sink_w Z D K n 0 5 s rfl (by decide) h0 e5 slices_S1x1024_o0_640_S1x128 i j
  · exact fun i j => sink_w Z D K n 0 6 s rfl (by decide) h0 e6 slices_S1x1024_o0_768_S1x128 i j
  · exact fun i j => sink_w Z D K n 0 7 s rfl (by decide) h0 e7 slices_S1x1024_o0_896_S1x128 i j
  · exact fun i j => sink_w Z D K n 1 0 s rfl (by decide) h1 e8 slices_S1x1024_o0_0_S1x128 i j
  · exact fun i j => sink_w Z D K n 1 1 s rfl (by decide) h1 e9 slices_S1x1024_o0_128_S1x128 i j
  · exact fun i j => sink_w Z D K n 1 2 s rfl (by decide) h1 e10 slices_S1x1024_o0_256_S1x128 i j
  · exact fun i j => sink_w Z D K n 1 3 s rfl (by decide) h1 e11 slices_S1x1024_o0_384_S1x128 i j
  · exact fun i j => sink_w Z D K n 1 4 s rfl (by decide) h1 e12 slices_S1x1024_o0_512_S1x128 i j
  · exact fun i j => sink_w Z D K n 1 5 s rfl (by decide) h1 e13 slices_S1x1024_o0_640_S1x128 i j
  · exact fun i j => sink_w Z D K n 1 6 s rfl (by decide) h1 e14 slices_S1x1024_o0_768_S1x128 i j
  · exact fun i j => sink_w Z D K n 1 7 s rfl (by decide) h1 e15 slices_S1x1024_o0_896_S1x128 i j

/-- The gradients of the spatial biases, added to `s`. -/
theorem reads_bias {v : View sig κ sp S128x128 .f32} {f : v.ty.Contents (Elt Ideal)} {L : List (View.Piece (Elt Ideal) S128x128 .f32)} (s : ℕ → ℕ → ℝ)
    {o0 o1 o2 o3 o4 o5 o6 o7 : Vec Ideal S128x1 .f32}
    (e0 : R2 o0 fun t _ => s t 0) (e1 : R2 o1 fun t _ => s t 1) (e2 : R2 o2 fun t _ => s t 2) (e3 : R2 o3 fun t _ => s t 3) (e4 : R2 o4 fun t _ => s t 4) (e5 : R2 o5 fun t _ => s t 5) (e6 : R2 o6 fun t _ => s t 6) (e7 : R2 o7 fun t _ => s t 7)
    : Reads v f (⟨Rect.unit (s := S128x128) ![0, 7] S128x1.size inb_S128x128_S128x1_0_7, k0_pay134 (runB.sl.r_62 arg1 harg1 arg3 harg3 x) o7⟩ :: ⟨Rect.unit (s := S128x128) ![0, 6] S128x1.size inb_S128x128_S128x1_0_6, k0_pay131 (runB.sl.r_62 arg1 harg1 arg3 harg3 x) o6⟩ :: ⟨Rect.unit (s := S128x128) ![0, 5] S128x1.size inb_S128x128_S128x1_0_5, k0_pay128 (runB.sl.r_62 arg1 harg1 arg3 harg3 x) o5⟩ :: ⟨Rect.unit (s := S128x128) ![0, 4] S128x1.size inb_S128x128_S128x1_0_4, k0_pay124 (runB.sl.r_62 arg1 harg1 arg3 harg3 x) o4⟩ :: ⟨Rect.unit (s := S128x128) ![0, 3] S128x1.size inb_S128x128_S128x1_0_3, k0_pay121 (k0_pay120 (runB.sl.r_62 arg1 harg1 arg3 harg3 x) o3)⟩ :: ⟨Rect.unit (s := S128x128) ![0, 2] S128x1.size inb_S128x128_S128x1_0_2, k0_pay117 (runB.sl.r_62 arg1 harg1 arg3 harg3 x) o2⟩ :: ⟨Rect.unit (s := S128x128) ![0, 1] S128x1.size inb_S128x128_S128x1_0_1, k0_pay111 (runB.sl.r_62 arg1 harg1 arg3 harg3 x) o1⟩ :: ⟨Rect.unit (s := S128x128) ![0, 0] S128x1.size inb_S128x128_S128x1_0_0, k0_pay108 (runB.sl.r_62 arg1 harg1 arg3 harg3 x) o0⟩ :: L) (fun _ j => j < 8) fun t j => ((s t j + gb Z D n j t : ℝ) : EReal) := by
  have h := b_r62 H harg1 harg3
  refine Reads.mono ((Reads.cons (Reads.cons (Reads.cons (Reads.cons (Reads.cons (Reads.cons (Reads.cons (Reads.cons Reads.none ?_) ?_) ?_) ?_) ?_) ?_) ?_) ?_)) fun i j hi hj h => by omega
  · exact fun i j => bias_w Z D n 0 e0 (slice_R2 h slices_S128x1024_o0_0_S128x128) i j
  · exact fun i j => bias_w Z D n 1 e1 (slice_R2 h slices_S128x1024_o0_128_S128x128) i j
  · exact fun i j => bias_w Z D n 2 e2 (slice_R2 h slices_S128x1024_o0_256_S128x128) i j
  · exact fun i j => bias_w Z D n 3 e3 (slice_R2 h slices_S128x1024_o0_384_S128x128) i j
  · exact fun i j => bias_w Z D n 4 e4 (slice_R2 h slices_S128x1024_o0_512_S128x128) i j
  · exact fun i j => bias_w Z D n 5 e5 (slice_R2 h slices_S128x1024_o0_640_S128x128) i j
  · exact fun i j => bias_w Z D n 6 e6 (slice_R2 h slices_S128x1024_o0_768_S128x128) i j
  · exact fun i j => bias_w Z D n 7 e7 (slice_R2 h slices_S128x1024_o0_896_S128x128) i j

/-- The gradients of the spatial weights, added to `s`. -/
theorem reads_weight {v : View sig κ sp S8x128x128 .f32} {f : v.ty.Contents (Elt Ideal)} {L : List (View.Piece (Elt Ideal) S8x128x128 .f32)}
    (s : ℕ → ℕ → ℕ → ℝ)
    {o0 o1 o2 o3 o4 o5 o6 o7 : Vec Ideal S1x128x128 .f32}
    (e0 : R3 o0 fun _ t u => s 0 t u) (e1 : R3 o1 fun _ t u => s 1 t u) (e2 : R3 o2 fun _ t u => s 2 t u) (e3 : R3 o3 fun _ t u => s 3 t u) (e4 : R3 o4 fun _ t u => s 4 t u) (e5 : R3 o5 fun _ t u => s 5 t u) (e6 : R3 o6 fun _ t u => s 6 t u) (e7 : R3 o7 fun _ t u => s 7 t u)
    : Reads3 v f (⟨Rect.unit (s := S8x128x128) ![7, 0, 0] S1x128x128.size inb_S8x128x128_S1x128x128_7_0_0, k0_pay133 k0_pay2 (runB.sl.r_49 arg1 harg1 arg6 harg6 arg7 harg7 x) (runB.sl.r_63 arg1 harg1 arg3 harg3 x) o7⟩ :: ⟨Rect.unit (s := S8x128x128) ![6, 0, 0] S1x128x128.size inb_S8x128x128_S1x128x128_6_0_0, k0_pay130 k0_pay2 (runB.sl.r_49 arg1 harg1 arg6 harg6 arg7 harg7 x) (runB.sl.r_63 arg1 harg1 arg3 harg3 x) o6⟩ :: ⟨Rect.unit (s := S8x128x128) ![5, 0, 0] S1x128x128.size inb_S8x128x128_S1x128x128_5_0_0, k0_pay127 (k0_pay126 k0_pay2 (runB.sl.r_49 arg1 harg1 arg6 harg6 arg7 harg7 x) (runB.sl.r_63 arg1 harg1 arg3 harg3 x) o5)⟩ :: ⟨Rect.unit (s := S8x128x128) ![4, 0, 0] S1x128x128.size inb_S8x128x128_S1x128x128_4_0_0, k0_pay123 k0_pay2 (runB.sl.r_49 arg1 harg1 arg6 harg6 arg7 harg7 x) (runB.sl.r_63 arg1 harg1 arg3 harg3 x) o4⟩ :: ⟨Rect.unit (s := S8x128x128) ![3, 0, 0] S1x128x128.size inb_S8x128x128_S1x128x128_3_0_0, k0_pay119 k0_pay2 (runB.sl.r_49 arg1 harg1 arg6 harg6 arg7 harg7 x) (runB.sl.r_63 arg1 harg1 arg3 harg3 x) o3⟩ :: ⟨Rect.unit (s := S8x128x128) ![2, 0, 0] S1x128x128.size inb_S8x128x128_S1x128x128_2_0_0, k0_pay116 k0_pay2 (k0_pay113 o2) (runB.sl.r_67 arg1 harg1 arg3 harg3 x) (runB.sl.r_68 arg1 harg1 arg6 harg6 arg7 harg7 x)⟩ :: ⟨Rect.unit (s := S8x128x128) ![1, 0, 0] S1x128x128.size inb_S8x128x128_S1x128x128_1_0_0, k0_pay110 k0_pay2 (runB.sl.r_49 arg1 harg1 arg6 harg6 arg7 harg7 x) (runB.sl.r_63 arg1 harg1 arg3 harg3 x) o1⟩ :: ⟨Rect.unit (s := S8x128x128) ![0, 0, 0] S1x128x128.size inb_S8x128x128_S1x128x128_0_0_0, k0_pay107 k0_pay2 (runB.sl.r_49 arg1 harg1 arg6 harg6 arg7 harg7 x) (View.readAt (Elt Ideal) arg1.view (Rect.unit (s := S128x5376) ![0, 2304] S128x1024.size inb_S128x5376_S128x1024_0_2304).toLoadRect (harg1.unread x.x0)) (View.readAt (Elt Ideal) arg1.view (Rect.unit (s := S128x5376) ![0, 4352] S128x1024.size inb_S128x5376_S128x1024_0_4352).toLoadRect (harg1.unread x.x0)) (View.readAt (Elt Ideal) arg3.view (Rect.unit (s := S128x2048) ![0, 1024] S128x1024.size inb_S128x2048_S128x1024_0_1024).toLoadRect (harg3.unread x.x2)) o0⟩ :: L) (fun _ => True) fun p t u => ((s p t u + gw eps Z D G B n p t u : ℝ) : EReal) := by
  have hm := b_r63 H harg1 harg3
  have hv := b_r49 H harg1 harg6 harg7
  refine Reads3.mono ((Reads3.cons (Reads3.cons (Reads3.cons (Reads3.cons (Reads3.cons (Reads3.cons (Reads3.cons (Reads3.cons Reads3.none ?_) ?_) ?_) ?_) ?_) ?_) ?_) ?_)) fun p hp _ => by omega
  · exact fun p t u => gw_pay116 Z D G B n hv hm 0 e0 (slice_R2 hm slices_S128x1024_o0_0_S128x128) (slice_R2 hv slices_S128x1024_o0_0_S128x128) p t u
  · exact fun p t u => gw_pay116 Z D G B n hv hm 1 e1 (slice_R2 hm slices_S128x1024_o0_128_S128x128) (slice_R2 hv slices_S128x1024_o0_128_S128x128) p t u
  · exact fun p t u => gw_pay116 Z D G B n hv hm 2 e2 (slice_R2 hm slices_S128x1024_o0_256_S128x128) (slice_R2 hv slices_S128x1024_o0_256_S128x128) p t u
  · exact fun p t u => gw_pay116 Z D G B n hv hm 3 e3 (slice_R2 hm slices_S128x1024_o0_384_S128x128) (slice_R2 hv slices_S128x1024_o0_384_S128x128) p t u
  · exact fun p t u => gw_pay116 Z D G B n hv hm 4 e4 (slice_R2 hm slices_S128x1024_o0_512_S128x128) (slice_R2 hv slices_S128x1024_o0_512_S128x128) p t u
  · exact fun p t u => gw_pay116 Z D G B n hv hm 5 e5 (slice_R2 hm slices_S128x1024_o0_640_S128x128) (slice_R2 hv slices_S128x1024_o0_640_S128x128) p t u
  · exact fun p t u => gw_pay116 Z D G B n hv hm 6 e6 (slice_R2 hm slices_S128x1024_o0_768_S128x128) (slice_R2 hv slices_S128x1024_o0_768_S128x128) p t u
  · exact fun p t u => gw_pay116 Z D G B n hv hm 7 e7 (slice_R2 hm slices_S128x1024_o0_896_S128x128) (slice_R2 hv slices_S128x1024_o0_896_S128x128) p t u

/-- The gradient of the keys and values this block reads. -/
theorem reads_kv {v : View sig κ sp S256x256 .f32} {f : v.ty.Contents (Elt Ideal)} :
    Reads v f (runB.sl.H17_4 i arg1 harg1 arg2 harg2 arg3 harg3 arg5 harg5 x) (fun _ _ => True) fun s j => ((gkv Z D K n s j : ℝ) : EReal) := by
  refine Reads.mono (Reads.cons (Reads.cons (Reads.cons (Reads.cons (Reads.none (L := [])) fun s d => ?_) fun s d => ?_) fun s d => ?_) fun s d => ?_) fun s j hs hj _ => by omega
  · have hd := d.isLt
    rw [Nat.zero_add, gkv, if_pos (by omega), show (0 + (d : ℕ)) / 64 = 0 by omega, show (0 + (d : ℕ)) % 64 = d by omega]
    exact b_gk0 H hi harg1 harg2 harg3 harg5 s d
  · have hd := d.isLt
    rw [Nat.zero_add, gkv, if_neg (by omega), show (128 + (d : ℕ) - 128) / 64 = 0 by omega, show (128 + (d : ℕ)) % 64 = d by omega]
    exact b_gv0 H hi harg1 harg2 harg3 harg5 s d
  · have hd := d.isLt
    rw [Nat.zero_add, gkv, if_pos (by omega), show (64 + (d : ℕ)) / 64 = 1 by omega, show (64 + (d : ℕ)) % 64 = d by omega]
    exact b_gk1 H hi harg1 harg2 harg3 harg5 s d
  · have hd := d.isLt
    rw [Nat.zero_add, gkv, if_neg (by omega), show (192 + (d : ℕ) - 128) / 64 = 1 by omega, show (192 + (d : ℕ)) % 64 = d by omega]
    exact b_gv1 H hi harg1 harg2 harg3 harg5 s d

/-- The gradient of the other columns. -/
theorem reads_pend {v : View sig κ sp S128x5376 .bf16} {f : v.ty.Contents (Elt Ideal)} {L : List (View.Piece (Elt Ideal) S128x5376 .bf16)} :
    Reads v f (⟨Rect.unit (s := S128x5376) ![0, 3328] S128x1024.size inb_S128x5376_S128x1024_0_3328, k0_pay146 (runB.sl.r_46 arg1 harg1 x) (runB.sl.r_47 arg1 harg1 x) (runB.sl.r_48 arg6 harg6 x) (runB.sl.r_76 arg1 harg1 arg3 harg3 arg8 harg8 x)⟩ :: ⟨Rect.unit (s := S128x5376) ![0, 4352] S128x1024.size inb_S128x5376_S128x1024_0_4352, k0_pay104 (runB.sl.r_61 arg1 harg1 arg6 harg6 arg7 harg7 arg8 harg8 arg9 harg9 x) (View.readAt (Elt Ideal) arg1.view (Rect.unit (s := S128x5376) ![0, 2304] S128x1024.size inb_S128x5376_S128x1024_0_2304).toLoadRect (harg1.unread x.x0)) (View.readAt (Elt Ideal) arg1.view (Rect.unit (s := S128x5376) ![0, 4352] S128x1024.size inb_S128x5376_S128x1024_0_4352).toLoadRect (harg1.unread x.x0)) (View.readAt (Elt Ideal) arg3.view (Rect.unit (s := S128x2048) ![0, 1024] S128x1024.size inb_S128x2048_S128x1024_0_1024).toLoadRect (harg3.unread x.x2))⟩ :: ⟨Rect.unit (s := S128x5376) ![0, 2304] S128x1024.size inb_S128x5376_S128x1024_0_2304, k0_pay103 (runB.sl.r_61 arg1 harg1 arg6 harg6 arg7 harg7 arg8 harg8 arg9 harg9 x) (View.readAt (Elt Ideal) arg1.view (Rect.unit (s := S128x5376) ![0, 4352] S128x1024.size inb_S128x5376_S128x1024_0_4352).toLoadRect (harg1.unread x.x0)) (View.readAt (Elt Ideal) arg3.view (Rect.unit (s := S128x2048) ![0, 1024] S128x1024.size inb_S128x2048_S128x1024_0_1024).toLoadRect (harg3.unread x.x2))⟩ :: ⟨Rect.unit (s := S128x5376) ![0, 960] S128x64.size inb_S128x5376_S128x64_0_960, k0_pay82 (runB.sl.r_42 i arg1 harg1 arg2 harg2 arg3 harg3 arg5 harg5 x)⟩ :: ⟨Rect.unit (s := S128x5376) ![0, 896] S128x64.size inb_S128x5376_S128x64_0_896, k0_pay80 (runB.sl.r_42 i arg1 harg1 arg2 harg2 arg3 harg3 arg5 harg5 x)⟩ :: ⟨Rect.unit (s := S128x5376) ![0, 832] S128x64.size inb_S128x5376_S128x64_0_832, k0_pay77 (runB.sl.r_42 i arg1 harg1 arg2 harg2 arg3 harg3 arg5 harg5 x)⟩ :: ⟨Rect.unit (s := S128x5376) ![0, 768] S128x64.size inb_S128x5376_S128x64_0_768, k0_pay75 (runB.sl.r_42 i arg1 harg1 arg2 harg2 arg3 harg3 arg5 harg5 x)⟩ :: ⟨Rect.unit (s := S128x5376) ![0, 704] S128x64.size inb_S128x5376_S128x64_0_704, k0_pay73 (runB.sl.r_42 i arg1 harg1 arg2 harg2 arg3 harg3 arg5 harg5 x)⟩ :: ⟨Rect.unit (s := S128x5376) ![0, 640] S128x64.size inb_S128x5376_S128x64_0_640, k0_pay71 (runB.sl.r_42 i arg1 harg1 arg2 harg2 arg3 harg3 arg5 harg5 x)⟩ :: ⟨Rect.unit (s := S128x5376) ![0, 576] S128x64.size inb_S128x5376_S128x64_0_576, k0_pay69 (runB.sl.r_42 i arg1 harg1 arg2 harg2 arg3 harg3 arg5 harg5 x)⟩ :: ⟨Rect.unit (s := S128x5376) ![0, 512] S128x64.size inb_S128x5376_S128x64_0_512, (runB.sl.r_43 i arg1 harg1 arg2 harg2 arg3 harg3 arg5 harg5 x)⟩ :: ⟨Rect.unit (s := S128x5376) ![0, 448] S128x64.size inb_S128x5376_S128x64_0_448, k0_pay47 (runB.sl.r_22 i arg1 harg1 arg2 harg2 arg3 harg3 arg5 harg5 x)⟩ :: ⟨Rect.unit (s := S128x5376) ![0, 384] S128x64.size inb_S128x5376_S128x64_0_384, k0_pay44 (runB.sl.r_22 i arg1 harg1 arg2 harg2 arg3 harg3 arg5 harg5 x)⟩ :: ⟨Rect.unit (s := S128x5376) ![0, 320] S128x64.size inb_S128x5376_S128x64_0_320, k0_pay42 (runB.sl.r_22 i arg1 harg1 arg2 harg2 arg3 harg3 arg5 harg5 x)⟩ :: ⟨Rect.unit (s := S128x5376) ![0, 256] S128x64.size inb_S128x5376_S128x64_0_256, k0_pay40 (runB.sl.r_23 i arg1 harg1 arg2 harg2 arg3 harg3 arg5 harg5 x)⟩ :: ⟨Rect.unit (s := S128x5376) ![0, 192] S128x64.size inb_S128x5376_S128x64_0_192, k0_pay37 (runB.sl.r_22 i arg1 harg1 arg2 harg2 arg3 harg3 arg5 harg5 x)⟩ :: ⟨Rect.unit (s := S128x5376) ![0, 128] S128x64.size inb_S128x5376_S128x64_0_128, k0_pay35 (runB.sl.r_22 i arg1 harg1 arg2 harg2 arg3 harg3 arg5 harg5 x)⟩ :: ⟨Rect.unit (s := S128x5376) ![0, 64] S128x64.size inb_S128x5376_S128x64_0_64, k0_pay33 (runB.sl.r_8 arg1 harg1 arg2 harg2 x) (runB.sl.r_15 i arg1 harg1 arg2 harg2 arg5 harg5 x) (runB.sl.r_18 arg1 harg1 arg2 harg2 arg3 harg3 x) (runB.sl.r_19 i arg1 harg1 arg2 harg2 arg3 harg3 arg5 harg5 x)⟩ :: ⟨Rect.unit (s := S128x5376) ![0, 0] S128x64.size inb_S128x5376_S128x64_0_0, k0_pay31 (runB.sl.r_8 arg1 harg1 arg2 harg2 x) (runB.sl.r_15 i arg1 harg1 arg2 harg2 arg5 harg5 x) (runB.sl.r_18 arg1 harg1 arg2 harg2 arg3 harg3 x) (runB.sl.r_19 i arg1 harg1 arg2 harg2 arg3 harg3 arg5 harg5 x)⟩ :: ⟨Rect.unit (s := S128x5376) ![0, 1280] S128x1024.size inb_S128x5376_S128x1024_0_1280, k0_pay7 (runB.sl.r_6 arg1 harg1 arg3 harg3 arg4 harg4 x)⟩ :: L)
      (fun _ j => j < 1024 ∨ 1280 ≤ j) fun q j => ((pendS eps Z D K G B W b n q j : ℝ) : EReal) := by
  have h0 := b_r22 H hi harg1 harg2 harg3 harg5
  have h1 := b_r42 H hi harg1 harg2 harg3 harg5
  have hmx := b_r61 H harg1 harg6 harg7 harg8 harg9
  have hu := R2_ld0 (c := 2304) (l := 128) (k := 1024) harg1 H.x0 inb_S128x5376_S128x1024_0_2304
  have hgt := R2_ld0 (c := 4352) (l := 128) (k := 1024) harg1 H.x0 inb_S128x5376_S128x1024_0_4352
  have hdc := R2_ld0 (c := 1024) (l := 128) (k := 1024) harg3 H.x2 inb_S128x2048_S128x1024_0_1024
  refine Reads.mono ((Reads.cons (Reads.cons (Reads.cons (Reads.cons (Reads.cons (Reads.cons (Reads.cons (Reads.cons (Reads.cons (Reads.cons (Reads.cons (Reads.cons (Reads.cons (Reads.cons (Reads.cons (Reads.cons (Reads.cons (Reads.cons (Reads.cons (Reads.cons Reads.none fun i j => ?_) fun i j => ?_) fun i j => ?_) fun i j => ?_) fun i j => ?_) fun i j => ?_) fun i j => ?_) fun i j => ?_) fun i j => ?_) fun i j => ?_) fun i j => ?_) fun i j => ?_) fun i j => ?_) fun i j => ?_) fun i j => ?_) fun i j => ?_) fun i j => ?_) fun i j => ?_) fun i j => ?_) fun i j => ?_)) fun i j hi hj h => by omega
  · have hj := j.isLt
    rw [Nat.zero_add, pendS, if_neg (by omega), if_pos (by omega), show 1280 + (j : ℕ) - 1280 = j by omega, show (1280 + (j : ℕ)) % 64 = j % 64 by omega]
    exact pend_pay7 Z D K n (R2_ld0 harg1 H.x0 _) (R2_ld00 harg3 H.x2 _) (R2_ld00 harg4 H.x3 _) i j
  · exact gq_w Z D K G B W b n 0 0 rfl (by decide) (by decide) h0 slices_S64x1024_o0_0_S64x128 i j
  · exact gq_w Z D K G B W b n 0 1 rfl (by decide) (by decide) h0 slices_S64x1024_o0_128_S64x128 i j
  · exact gq_w Z D K G B W b n 0 2 rfl (by decide) (by decide) h0 slices_S64x1024_o0_256_S64x128 i j
  · exact gq_w Z D K G B W b n 0 3 rfl (by decide) (by decide) h0 slices_S64x1024_o0_384_S64x128 i j
  · exact gq_w Z D K G B W b n 0 4 rfl (by decide) (by decide) h0 slices_S64x1024_o0_512_S64x128 i j
  · exact gq_w Z D K G B W b n 0 5 rfl (by decide) (by decide) h0 slices_S64x1024_o0_640_S64x128 i j
  · exact gq_w Z D K G B W b n 0 6 rfl (by decide) (by decide) h0 slices_S64x1024_o0_768_S64x128 i j
  · exact gq_w Z D K G B W b n 0 7 rfl (by decide) (by decide) h0 slices_S64x1024_o0_896_S64x128 i j
  · exact gq_w Z D K G B W b n 1 0 rfl (by decide) (by decide) h1 slices_S64x1024_o0_0_S64x128 i j
  · exact gq_w Z D K G B W b n 1 1 rfl (by decide) (by decide) h1 slices_S64x1024_o0_128_S64x128 i j
  · exact gq_w Z D K G B W b n 1 2 rfl (by decide) (by decide) h1 slices_S64x1024_o0_256_S64x128 i j
  · exact gq_w Z D K G B W b n 1 3 rfl (by decide) (by decide) h1 slices_S64x1024_o0_384_S64x128 i j
  · exact gq_w Z D K G B W b n 1 4 rfl (by decide) (by decide) h1 slices_S64x1024_o0_512_S64x128 i j
  · exact gq_w Z D K G B W b n 1 5 rfl (by decide) (by decide) h1 slices_S64x1024_o0_640_S64x128 i j
  · exact gq_w Z D K G B W b n 1 6 rfl (by decide) (by decide) h1 slices_S64x1024_o0_768_S64x128 i j
  · exact gq_w Z D K G B W b n 1 7 rfl (by decide) (by decide) h1 slices_S64x1024_o0_896_S64x128 i j
  · have hj := j.isLt
    rw [Nat.zero_add, pendS, if_neg (by omega), if_neg (by omega), if_pos (by omega), show 2304 + (j : ℕ) - 2304 = j by omega]
    exact pend_pay103 Z D G B W b n hgt hdc hmx i j
  · have hj := j.isLt
    rw [Nat.zero_add, pendS, if_neg (by omega), if_neg (by omega), if_neg (by omega), if_neg (by omega), show 4352 + (j : ℕ) - 4352 = j by omega]
    exact pend_pay104 Z D G B W b n hu hgt hdc hmx i j
  · have hj := j.isLt
    rw [Nat.zero_add, pendS, if_neg (by omega), if_neg (by omega), if_neg (by omega), if_pos (by omega), show 3328 + (j : ℕ) - 3328 = j by omega]
    exact gz_pay146 Z D G W n (b_r46 H harg1) (b_r47 H harg1) (b_r48 H harg6) (b_r76 H harg1 harg3 harg8) i j

end

end Cert.Mix

end
-- ==== Proof.Steps.lean ====
module

public import proofs.«01_k».proof.Proof.Pieces

@[expose] public section

set_option maxRecDepth 16384

noncomputable section

/-! One point of the grid: what the buffers hold after it, given what they held before it. -/

namespace Cert.Mix

open Idealize.ShloMosaic Cert.KernelIdeal Cert.KernelIdeal.Gen Cert.KernelIdeal.Hand

/-- The sum over the blocks up to block `n`. -/
def acc (f : ℕ → ℝ) (n : ℕ) : ℝ := ∑ m ∈ Finset.range (n + 1), f m

theorem acc_zero (f : ℕ → ℝ) : acc f 0 = 0 + f 0 := by
  unfold acc; rw [Finset.sum_range_one, zero_add]

theorem acc_succ (f : ℕ → ℝ) {n : ℕ} (hn : 0 < n) : acc f n = acc f (n - 1) + f n := by
  obtain ⟨m, rfl⟩ : ∃ m, n = m + 1 := ⟨n - 1, by omega⟩
  exact Finset.sum_range_succ f (m + 1)

section

variable (Z D : ℕ → ℕ → ℝ) (K G B : ℕ → ℝ) (W : ℕ → ℕ → ℕ → ℝ) (b : ℕ → ℕ → ℝ) (n : ℕ)

/-- What the scratch buffers hold after block `n`. -/
structure Carry (b16 : Vec Ideal S128x5376 .bf16) (b18 : Vec Ideal S128x256 .f32) (b19 : Vec Ideal S1x128 .f32)
    (b20 : Vec Ideal S128x128 .f32) : Prop where
  c16 : ∀ (q : Fin 128) (j : Fin 5376), (j : ℕ) < 1024 ∨ 1280 ≤ (j : ℕ) → b16 (ix2 q j) = ((pendS eps Z D K G B W b n q j : ℝ) : EReal)
  c18 : R2 b18 fun q j => gkv Z D K n (128 + q) j
  c19 : ∀ (i : Fin 1) (j : Fin 128), (j : ℕ) < 16 → b19 (ix2 i j) = ((acc (fun m => gsink Z D K m j) n : ℝ) : EReal)
  c20 : ∀ (t : Fin 128) (j : Fin 128), (j : ℕ) < 8 → b20 (ix2 t j) = ((acc (fun m => gb Z D m j t) n : ℝ) : EReal)

/-- What the sums that are results hold after block `n`. -/
structure Sums (b12 b13 : Vec Ideal S1x1024 .f32) (b14 : Vec Ideal S8x128x128 .f32) : Prop where
  s12 : R2 b12 fun _ c => acc (fun m => glg eps Z D W m c) n
  s13 : R2 b13 fun _ c => acc (fun m => glb Z D W m c) n
  s14 : R3 b14 fun g t s => acc (fun m => gw eps Z D G B m g t s) n

end

section

variable {N M l k c : ℕ} {sig : RefSig} {κ : Kind} {sp : Space}

/-- A load from the part of a whole buffer that is known. -/
theorem R2_part {m : Memref sig κ sp ⟨2, ![N, M]⟩ .f32} (h : m.IsWhole) {X : Vec Ideal ⟨2, ![N, M]⟩ .f32} {a : ℕ → ℕ → ℝ} {P : ℕ → Prop}
    (hX : ∀ (i : Fin N) (j : Fin M), P j → X (ix2 i j) = ((a i j : ℝ) : EReal))
    (inb : ∀ a, (![0, c] : Fin 2 → ℕ) a + (![l, k] : Fin 2 → ℕ) a ≤ (⟨2, ![N, M]⟩ : Shape).size a) (hP : ∀ j, j < k → P (c + j)) :
    R2 (View.readAt (Elt Ideal) m.view (Rect.unit (s := ⟨2, ![N, M]⟩) ![0, c] ![l, k] inb).toLoadRect (h.unread X)) fun i j => a i (c + j) := by
  intro i j
  refine (ld_apply (Val := Elt Ideal) h X inb i j).trans ((hX _ _ (hP j j.isLt)).trans ?_)
  show ((a (0 + i) (c + j) : ℝ) : EReal) = _
  rw [Nat.zero_add]

theorem col_part {m : Memref sig κ sp ⟨2, ![N, M]⟩ .f32} (h : m.IsWhole) {X : Vec Ideal ⟨2, ![N, M]⟩ .f32} {a : ℕ → ℕ → ℝ} {P : ℕ → Prop}
    (hX : ∀ (i : Fin N) (j : Fin M), P j → X (ix2 i j) = ((a i j : ℝ) : EReal))
    (inb : ∀ a, (![0, c] : Fin 2 → ℕ) a + (![l, 1] : Fin 2 → ℕ) a ≤ (⟨2, ![N, M]⟩ : Shape).size a) (hP : P c) :
    R2 (View.readAt (Elt Ideal) m.view (Rect.unit (s := ⟨2, ![N, M]⟩) ![0, c] ![l, 1] inb).toLoadRect (h.unread X)) fun i _ => a i c :=
  (R2_part h hX inb fun j hj => (Nat.lt_one_iff.mp hj) ▸ hP).congr fun i j _ hj => congrArg (a i) (by omega)

/-- A load from the columns that no store after the zeros has touched. -/
theorem zero_load {v : View sig κ sp ⟨2, ![N, M]⟩ .f32} {L : List (View.Piece (Elt Ideal) ⟨2, ![N, M]⟩ .f32)}
    {inb : ∀ a, (![0, c] : Fin 2 → ℕ) a + (![l, k] : Fin 2 → ℕ) a ≤ (⟨2, ![N, M]⟩ : Shape).size a}
    (h : Reads v v.junk L (fun _ j => c ≤ j) fun _ _ => ((0 : ℝ) : EReal)) :
    R2 (v.readCov L (Rect.unit (s := ⟨2, ![N, M]⟩) ![0, c] ![l, k] inb).toLoadRect) fun _ _ => 0 :=
  fun i j => h.load (fun _ j _ _ => Nat.le_add_right c j) i j

theorem zero_load3 {v : View sig κ sp ⟨3, ![N, M, l]⟩ .f32} {L : List (View.Piece (Elt Ideal) ⟨3, ![N, M, l]⟩ .f32)} {r : ℕ}
    {inb : ∀ a, (![r, 0, 0] : Fin 3 → ℕ) a + (![1, M, l] : Fin 3 → ℕ) a ≤ (⟨3, ![N, M, l]⟩ : Shape).size a}
    (h : Reads3 v v.junk L (fun p => r ≤ p) fun _ _ _ => ((0 : ℝ) : EReal)) :
    R3 (v.readCov L (Rect.unit (s := ⟨3, ![N, M, l]⟩) ![r, 0, 0] ![1, M, l] inb).toLoadRect) fun _ _ _ => 0 :=
  fun p i j => h.load (le_refl r) p i j

/-- One store over a whole buffer. -/
theorem reads_whole {e : EltTy} {v : View sig κ sp ⟨2, ![N, M]⟩ e} {f : v.ty.Contents (Elt Ideal)} {L : List (View.Piece (Elt Ideal) ⟨2, ![N, M]⟩ e)}
    {inb : ∀ a, (![0, 0] : Fin 2 → ℕ) a + (![N, M] : Fin 2 → ℕ) a ≤ (⟨2, ![N, M]⟩ : Shape).size a}
    {w : (⟨2, ![N, M]⟩ : Shape).Idx → Elt Ideal e} {g : ℕ → ℕ → Elt Ideal e} (hw : ∀ i j, w (ix2 i j) = g i j) :
    Reads v f (⟨Rect.unit ![0, 0] ![N, M] inb, w⟩ :: L) (fun _ _ => True) g :=
  Reads.mono (Reads.cons Reads.none fun i j => by rw [hw, Nat.zero_add, Nat.zero_add]) fun i j hi hj _ => by omega

theorem reads_whole2 {v : View sig κ sp ⟨2, ![N, M]⟩ .f32} {f : v.ty.Contents (Elt Ideal)} {L : List (View.Piece (Elt Ideal) ⟨2, ![N, M]⟩ .f32)}
    {inb : ∀ a, (![0, 0] : Fin 2 → ℕ) a + (![N, M] : Fin 2 → ℕ) a ≤ (⟨2, ![N, M]⟩ : Shape).size a}
    {w : Vec Ideal ⟨2, ![N, M]⟩ .f32} {a : ℕ → ℕ → ℝ} (hw : R2 w a) :
    Reads v f (⟨Rect.unit ![0, 0] ![N, M] inb, w⟩ :: L) (fun _ _ => True) fun i j => ((a i j : ℝ) : EReal) := reads_whole hw

theorem zero_pay140 : R2 (k0_pay140 (F := Ideal)) fun _ _ => 0 := by
  intro i j
  pointwise [k0_pay140]
  rfl

theorem zero_pay141 : R2 (k0_pay141 (F := Ideal)) fun _ _ => 0 := by
  intro i j
  pointwise [k0_pay141]
  rfl

theorem zero_pay142 : R2 (k0_pay142 (F := Ideal)) fun _ _ => 0 := by
  intro i j
  pointwise [k0_pay142]
  rfl

theorem zero_pay143 : R2 (k0_pay143 (F := Ideal)) fun _ _ => 0 := by
  intro i j
  pointwise [k0_pay143]
  rfl

theorem zero_pay144 : R3 (k0_pay144 (F := Ideal)) fun _ _ _ => 0 := by
  intro i j k
  pointwise [k0_pay144]
  rfl

/-- Zeros stored over a whole buffer. -/
theorem reads_zero {v : View sig κ sp ⟨2, ![N, M]⟩ .f32} {f : v.ty.Contents (Elt Ideal)} {L : List (View.Piece (Elt Ideal) ⟨2, ![N, M]⟩ .f32)}
    {inb : ∀ a, (![0, 0] : Fin 2 → ℕ) a + (![N, M] : Fin 2 → ℕ) a ≤ (⟨2, ![N, M]⟩ : Shape).size a} {P : ℕ → ℕ → Prop}
    {w : Vec Ideal ⟨2, ![N, M]⟩ .f32} (hw : R2 w fun _ _ => 0) :
    Reads v f (⟨Rect.unit ![0, 0] ![N, M] inb, w⟩ :: L) P fun _ _ => ((0 : ℝ) : EReal) :=
  Reads.mono (reads_whole2 hw) fun _ _ _ _ _ => trivial

theorem reads_zero3 {v : View sig κ sp ⟨3, ![N, M, l]⟩ .f32} {f : v.ty.Contents (Elt Ideal)} {L : List (View.Piece (Elt Ideal) ⟨3, ![N, M, l]⟩ .f32)}
    {inb : ∀ a, (![0, 0, 0] : Fin 3 → ℕ) a + (![N, M, l] : Fin 3 → ℕ) a ≤ (⟨3, ![N, M, l]⟩ : Shape).size a} {P : ℕ → Prop}
    {w : Vec Ideal ⟨3, ![N, M, l]⟩ .f32} (hw : R3 w fun _ _ _ => 0) :
    Reads3 v f (⟨Rect.unit ![0, 0, 0] ![N, M, l] inb, w⟩ :: L) P fun _ _ _ => ((0 : ℝ) : EReal) := by
  intro p i j _
  rw [View.read_writes_cons_unit_of_mem v f inb w L (ix3 p i j) (ix3 p i j) rfl]
  · exact hw p i j
  · intro a
    fin_cases a <;> exact (Nat.zero_add _).symm

end

variable {Z D : ℕ → ℕ → ℝ} {K G B : ℕ → ℝ} {W : ℕ → ℕ → ℕ → ℝ} {b : ℕ → ℕ → ℝ} {n : ℕ} {x : Ins Ideal} {bb : Bufs Ideal}

section

variable (c : Dev nD) {i : grid0.Coords}
  {arg1 : Memref sig .tc .vmem S128x5376 .f32} (harg1 : arg1.IsWhole)
  {arg2 : Memref sig .tc .vmem S128x256 .f32} (harg2 : arg2.IsWhole)
  {arg3 : Memref sig .tc .vmem S128x2048 .f32} (harg3 : arg3.IsWhole)
  {arg4 : Memref sig .tc .vmem S128x1024 .f32} (harg4 : arg4.IsWhole)
  {arg5 : Memref sig .tc .vmem S1x16 .f32} (harg5 : arg5.IsWhole)
  {arg6 : Memref sig .tc .vmem S1x1024 .f32} (harg6 : arg6.IsWhole)
  {arg7 : Memref sig .tc .vmem S1x1024 .f32} (harg7 : arg7.IsWhole)
  {arg8 : Memref sig .tc .vmem S8x128x128 .f32} (harg8 : arg8.IsWhole)
  {arg9 : Memref sig .tc .vmem S128x8 .f32} (harg9 : arg9.IsWhole)
  {arg10 : Memref sig .tc .vmem S128x5376 .bf16} (harg10 : arg10.IsWhole)
  {arg11 : Memref sig .tc .vmem S1x16 .f32} (harg11 : arg11.IsWhole)
  {arg12 : Memref sig .tc .vmem S1x1024 .f32} (harg12 : arg12.IsWhole)
  {arg13 : Memref sig .tc .vmem S1x1024 .f32} (harg13 : arg13.IsWhole)
  {arg14 : Memref sig .tc .vmem S8x128x128 .f32} (harg14 : arg14.IsWhole)
  {arg15 : Memref sig .tc .vmem S8x128 .f32} (harg15 : arg15.IsWhole)
  {arg16 : Memref sig .tc .vmem S128x5376 .bf16} (harg16 : arg16.IsWhole)
  {arg17 : Memref sig .tc .vmem S256x256 .f32} (harg17 : arg17.IsWhole)
  {arg18 : Memref sig .tc .vmem S128x256 .f32} (harg18 : arg18.IsWhole)
  {arg19 : Memref sig .tc .vmem S1x128 .f32} (harg19 : arg19.IsWhole)
  {arg20 : Memref sig .tc .vmem S128x128 .f32} (harg20 : arg20.IsWhole)

theorem pay147_eq {v w : Vec Ideal S128x256 .f32} {a a' : ℕ → ℕ → ℝ} (h : R2 v a) (h' : R2 w a') : R2 (k0_pay147 v w) fun i j => a i j + a' i j := by
  intro i j
  unfold R2 at *
  pointwise [k0_pay147, h, h']
  rw [EReal.coe_add]

theorem pay148_eq {v : Vec Ideal S128x256 .f32} {a : ℕ → ℕ → ℝ} (h : R2 v a) : R2 (k0_pay148 v) a := by
  intro i j
  unfold R2 at *
  pointwise [k0_pay148, h]

/-- A load from the gradients of the keys and values. -/
theorem kv_load (H : Holds Z D K G B W b n x) (hi : ((i 0 : Fin _) : ℕ) = n) {κ : Kind} {sp : Space} {v : View sig κ sp S256x256 .f32} {r : ℕ}
    {inb : ∀ a, (![r, 0] : Fin 2 → ℕ) a + (![128, 256] : Fin 2 → ℕ) a ≤ (⟨2, ![256, 256]⟩ : Shape).size a} :
    R2 (v.readCov (runB.sl.H17_4 i arg1 harg1 arg2 harg2 arg3 harg3 arg5 harg5 x) (Rect.unit (s := ⟨2, ![256, 256]⟩) ![r, 0] ![128, 256] inb).toLoadRect) fun q j => gkv Z D K n (r + q) j := by
  intro q j
  refine ((reads_kv H hi harg1 harg2 harg3 harg5).load (fun _ _ _ _ => trivial) q j).trans ?_
  show ((gkv Z D K n (r + q) (0 + j) : ℝ) : EReal) = _
  rw [Nat.zero_add]

/-- What the first output block holds: the columns of the block before, and the keys and values the next one adds to. -/
theorem reads_dz {v : View sig .tc .vmem S128x5376 .bf16} {f : v.ty.Contents (Elt Ideal)} {L : List (View.Piece (Elt Ideal) S128x5376 .bf16)} {m : ℕ}
    {w0 : Vec Ideal S128x1024 .bf16} {w1 : Vec Ideal S128x4096 .bf16} {w2 : Vec Ideal S128x256 .bf16}
    (h0 : R2 w0 fun q j => pendS eps Z D K G B W b m q j) (h1 : R2 w1 fun q j => pendS eps Z D K G B W b m q (1280 + j))
    (h2 : R2 w2 fun q j => gkv Z D K m (128 + q) j + (if m < 15 then gkv Z D K (m + 1) q j else 0)) :
    Reads v f (⟨Rect.unit (s := S128x5376) ![0, 1024] S128x256.size inb_S128x5376_S128x256_0_1024, w2⟩
      :: ⟨Rect.unit (s := S128x5376) ![0, 1280] S128x4096.size inb_S128x5376_S128x4096_0_1280, w1⟩
      :: ⟨Rect.unit (s := S128x5376) ![0, 0] S128x1024.size inb_S128x5376_S128x1024_0_0, w0⟩ :: L) (fun _ _ => True)
      fun q j => ((dzS eps Z D K G B W b m q j : ℝ) : EReal) := by
  refine Reads.mono (Reads.cons (Reads.cons (Reads.cons Reads.none fun q j => ?_) fun q j => ?_) fun q j => ?_) fun i j hi hj _ => by omega
  · have hj := j.isLt
    rw [Nat.zero_add, Nat.zero_add, dzS, if_neg (by omega)]
    exact h0 q j
  · rw [Nat.zero_add, dzS, if_neg (by omega)]
    exact h1 q j
  · have hj := j.isLt
    rw [Nat.zero_add, dzS, if_pos (by omega), show 1024 + (j : ℕ) - 1024 = j by omega]
    exact h2 q j

/-- A load from the columns kept from the block before. -/
theorem pend_load {c16 : Vec Ideal S128x5376 .bf16} {m : ℕ}
    (h : ∀ (q : Fin 128) (j : Fin 5376), (j : ℕ) < 1024 ∨ 1280 ≤ (j : ℕ) → c16 (ix2 q j) = ((pendS eps Z D K G B W b m q j : ℝ) : EReal)) {l o : ℕ}
    {inb : ∀ a, (![0, o] : Fin 2 → ℕ) a + (![128, l] : Fin 2 → ℕ) a ≤ (⟨2, ![128, 5376]⟩ : Shape).size a} (ho : o + l ≤ 1024 ∨ 1280 ≤ o) :
    R2 (View.readAt (Elt Ideal) arg16.view (Rect.unit (s := ⟨2, ![128, 5376]⟩) ![0, o] ![128, l] inb).toLoadRect (harg16.unread c16))
      fun q j => pendS eps Z D K G B W b m q (o + j) := by
  intro q j
  have hj := j.isLt
  refine (ld_apply (Val := Elt Ideal) harg16 c16 inb q j).trans ((h _ _ ?_).trans ?_)
  · show o + (j : ℕ) < 1024 ∨ 1280 ≤ o + (j : ℕ)
    omega
  · show ((pendS eps Z D K G B W b m (0 + q) (o + j) : ℝ) : EReal) = _
    rw [Nat.zero_add]

/-! ### A point between the first and the last -/

section

variable (H : Holds Z D K G B W b n x) (hi : ((i 0 : Fin _) : ℕ) = n) (hn : 0 < n)
  (hc0 : ¬cond0_0 i) (hc1 : ¬cond0_1 i) (hc2 : cond0_2 i) (hc3 : ¬cond0_3 i)

include H hi hn in
theorem stepB_carry (hC : Carry Z D K G B W b (n - 1) bb.b16 bb.b18 bb.b19 bb.b20) :
    Carry Z D K G B W b n (bb.after arg10 arg11 arg12 arg13 arg14 arg15 arg16 arg17 arg18 arg19 arg20 harg10 harg11 harg12 harg13 harg14 harg15 harg16 harg17 harg18 harg19 harg20 (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b16 (bb.after arg10 arg11 arg12 arg13 arg14 arg15 arg16 arg17 arg18 arg19 arg20 harg10 harg11 harg12 harg13 harg14 harg15 harg16 harg17 harg18 harg19 harg20 (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b18 (bb.after arg10 arg11 arg12 arg13 arg14 arg15 arg16 arg17 arg18 arg19 arg20 harg10 harg11 harg12 harg13 harg14 harg15 harg16 harg17 harg18 harg19 harg20 (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b19 (bb.after arg10 arg11 arg12 arg13 arg14 arg15 arg16 arg17 arg18 arg19 arg20 harg10 harg11 harg12 harg13 harg14 harg15 harg16 harg17 harg18 harg19 harg20 (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b20 where
  c16 := fun q j hj => reads_pend H hi harg1 harg2 harg3 harg4 harg5 harg6 harg7 harg8 harg9 q j hj
  c18 := fun q j => reads_whole2 (pay148_eq (kv_load harg1 harg2 harg3 harg5 H hi (r := 128))) q j trivial
  c19 := fun q j hj => by
    rw [acc_succ _ hn]
    have h : Reads arg19.view (harg19.unread bb.b19) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1.p19 (fun _ j => j < 16)
        fun _ j => ((acc (fun m => gsink Z D K m j) (n - 1) + gsink Z D K n j : ℝ) : EReal) := by
      refine reads_sink (L := []) H hi harg1 harg2 harg3 harg5 (fun j => acc (fun m => gsink Z D K m j) (n - 1)) ?_ ?_ ?_ ?_ ?_ ?_ ?_ ?_ ?_ ?_ ?_ ?_ ?_ ?_ ?_ ?_
      all_goals exact col_part (P := fun j => j < 16) (a := fun _ j => acc (fun m => gsink Z D K m j) (n - 1)) harg19 hC.c19 _ (by decide)
    exact h q j hj
  c20 := fun q j hj => by
    rw [acc_succ _ hn]
    have h : Reads arg20.view (harg20.unread bb.b20) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1.p20 (fun _ j => j < 8)
        fun t j => ((acc (fun m => gb Z D m j t) (n - 1) + gb Z D n j t : ℝ) : EReal) := by
      refine reads_bias (L := []) H hi harg1 harg3 (fun t j => acc (fun m => gb Z D m j t) (n - 1)) ?_ ?_ ?_ ?_ ?_ ?_ ?_ ?_
      all_goals exact col_part (P := fun j => j < 8) (a := fun t j => acc (fun m => gb Z D m j t) (n - 1)) harg20 hC.c20 _ (by decide)
    exact h q j hj

include H hi hn in
theorem stepB_sums (hS : Sums Z D G B W (n - 1) bb.b12 bb.b13 bb.b14) : Sums Z D G B W n (bb.after arg10 arg11 arg12 arg13 arg14 arg15 arg16 arg17 arg18 arg19 arg20 harg10 harg11 harg12 harg13 harg14 harg15 harg16 harg17 harg18 harg19 harg20 (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b12 (bb.after arg10 arg11 arg12 arg13 arg14 arg15 arg16 arg17 arg18 arg19 arg20 harg10 harg11 harg12 harg13 harg14 harg15 harg16 harg17 harg18 harg19 harg20 (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b13 (bb.after arg10 arg11 arg12 arg13 arg14 arg15 arg16 arg17 arg18 arg19 arg20 harg10 harg11 harg12 harg13 harg14 harg15 harg16 harg17 harg18 harg19 harg20 (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b14 where
  s12 := fun q j => by
    refine Eq.trans ?_ (congrArg (fun y : ℝ => (y : EReal)) (acc_succ (fun m => glg eps Z D W m j) hn).symm)
    exact reads_whole2 (glg_pay136 Z D W n (b_r76 H harg1 harg3 harg8) (b_r47 H harg1) (R2_ld00 harg12 hS.s12 _)) q j trivial
  s13 := fun q j => by
    refine Eq.trans ?_ (congrArg (fun y : ℝ => (y : EReal)) (acc_succ (fun m => glb Z D W m j) hn).symm)
    exact reads_whole2 (glb_pay137 Z D W n (b_r76 H harg1 harg3 harg8) (R2_ld00 harg13 hS.s13 _)) q j trivial
  s14 := fun p t u => by
    refine Eq.trans ?_ (congrArg (fun y : ℝ => (y : EReal)) (acc_succ (fun m => gw eps Z D G B m p t u) hn).symm)
    have h : Reads3 arg14.view (harg14.unread bb.b14) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1.p14 (fun _ => True)
        fun g t s => ((acc (fun m => gw eps Z D G B m g t s) (n - 1) + gw eps Z D G B n g t s : ℝ) : EReal) := by
      refine reads_weight (L := []) H hi harg1 harg3 harg6 harg7 (fun g t s => acc (fun m => gw eps Z D G B m g t s) (n - 1)) ?_ ?_ ?_ ?_ ?_ ?_ ?_ ?_
      all_goals exact R3_ld harg14 hS.s14 _
    exact h p t u trivial

include H hi hn in
theorem stepB_dz (h15 : n < 16) (hC : Carry Z D K G B W b (n - 1) bb.b16 bb.b18 bb.b19 bb.b20) :
    R2 (bb.after arg10 arg11 arg12 arg13 arg14 arg15 arg16 arg17 arg18 arg19 arg20 harg10 harg11 harg12 harg13 harg14 harg15 harg16 harg17 harg18 harg19 harg20 (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b10 fun q j => dzS eps Z D K G B W b (n - 1) q j := by
  intro q j
  refine reads_dz (L := []) ((pend_load harg16 hC.c16 (Or.inl (le_refl _))).congr fun q j _ _ => ?_) (pend_load harg16 hC.c16 (Or.inr (le_refl _)))
    ((pay147_eq (R2_ld00 harg18 hC.c18 _) (kv_load harg1 harg2 harg3 harg5 H hi (r := 0))).congr fun q j _ _ => ?_) q j trivial
  · rw [Nat.zero_add]
  · rw [if_pos (by omega), Nat.sub_add_cancel hn, Nat.zero_add]

end

/-! ### The first point -/

section

variable (H : Holds Z D K G B W b 0 x) (hi : ((i 0 : Fin _) : ℕ) = 0)
  (hc0 : cond0_0 i) (hc1 : ¬cond0_1 i) (hc2 : cond0_2 i) (hc3 : ¬cond0_3 i)

include H hi in
theorem stepA_carry : Carry Z D K G B W b 0 (bb.after arg10 arg11 arg12 arg13 arg14 arg15 arg16 arg17 arg18 arg19 arg20 harg10 harg11 harg12 harg13 harg14 harg15 harg16 harg17 harg18 harg19 harg20 (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b16 (bb.after arg10 arg11 arg12 arg13 arg14 arg15 arg16 arg17 arg18 arg19 arg20 harg10 harg11 harg12 harg13 harg14 harg15 harg16 harg17 harg18 harg19 harg20 (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b18 (bb.after arg10 arg11 arg12 arg13 arg14 arg15 arg16 arg17 arg18 arg19 arg20 harg10 harg11 harg12 harg13 harg14 harg15 harg16 harg17 harg18 harg19 harg20 (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b19 (bb.after arg10 arg11 arg12 arg13 arg14 arg15 arg16 arg17 arg18 arg19 arg20 harg10 harg11 harg12 harg13 harg14 harg15 harg16 harg17 harg18 harg19 harg20 (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b20 where
  c16 := fun q j hj => reads_pend H hi harg1 harg2 harg3 harg4 harg5 harg6 harg7 harg8 harg9 q j hj
  c18 := fun q j => reads_whole2 (pay148_eq (kv_load harg1 harg2 harg3 harg5 H hi (r := 128))) q j trivial
  c19 := fun q j hj => by
    rw [acc_zero]
    have h : Reads arg19.view (harg19.unread bb.b19) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1.p19 (fun _ j => j < 16)
        fun _ j => ((0 + gsink Z D K 0 j : ℝ) : EReal) := by
      refine reads_sink (L := runA.sl.H19_1) H hi harg1 harg2 harg3 harg5 (fun _ => 0) ?_ ?_ ?_ ?_ ?_ ?_ ?_ ?_ ?_ ?_ ?_ ?_ ?_ ?_ ?_ ?_
      all_goals
       refine zero_load ?_
       repeat first
         | exact reads_zero zero_pay140
         | refine Reads.skip ?_ fun i j _ _ h => by omega
    exact h q j hj
  c20 := fun q j hj => by
    rw [acc_zero]
    have h : Reads arg20.view (harg20.unread bb.b20) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1.p20 (fun _ j => j < 8)
        fun t j => ((0 + gb Z D 0 j t : ℝ) : EReal) := by
      refine reads_bias (L := runA.sl.H20_1) H hi harg1 harg3 (fun _ _ => 0) ?_ ?_ ?_ ?_ ?_ ?_ ?_ ?_
      all_goals
       refine zero_load ?_
       repeat first
         | exact reads_zero zero_pay141
         | refine Reads.skip ?_ fun i j _ _ h => by omega
    exact h q j hj

theorem fill14 {κ : Kind} {sp : Space} {v : View sig κ sp S8x128x128 .f32} {f : v.ty.Contents (Elt Ideal)} (P : ℕ → Prop) :
    Reads3 v f runA.sl.H14_1 P fun _ _ _ => ((0 : ℝ) : EReal) := reads_zero3 zero_pay144

include H hi in
theorem stepA_sums : Sums Z D G B W 0 (bb.after arg10 arg11 arg12 arg13 arg14 arg15 arg16 arg17 arg18 arg19 arg20 harg10 harg11 harg12 harg13 harg14 harg15 harg16 harg17 harg18 harg19 harg20 (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b12 (bb.after arg10 arg11 arg12 arg13 arg14 arg15 arg16 arg17 arg18 arg19 arg20 harg10 harg11 harg12 harg13 harg14 harg15 harg16 harg17 harg18 harg19 harg20 (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b13 (bb.after arg10 arg11 arg12 arg13 arg14 arg15 arg16 arg17 arg18 arg19 arg20 harg10 harg11 harg12 harg13 harg14 harg15 harg16 harg17 harg18 harg19 harg20 (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b14 where
  s12 := fun q j => by
    refine Eq.trans ?_ (congrArg (fun y : ℝ => (y : EReal)) (acc_zero fun m => glg eps Z D W m j).symm)
    refine reads_whole2 (glg_pay136 Z D W 0 (b_r76 H harg1 harg3 harg8) (b_r47 H harg1) (a := fun _ => 0) ?_) q j trivial
    refine zero_load ?_
    exact reads_zero zero_pay142
  s13 := fun q j => by
    refine Eq.trans ?_ (congrArg (fun y : ℝ => (y : EReal)) (acc_zero fun m => glb Z D W m j).symm)
    refine reads_whole2 (glb_pay137 Z D W 0 (b_r76 H harg1 harg3 harg8) (a := fun _ => 0) ?_) q j trivial
    refine zero_load ?_
    exact reads_zero zero_pay143
  s14 := fun p t u => by
    refine Eq.trans ?_ (congrArg (fun y : ℝ => (y : EReal)) (acc_zero fun m => gw eps Z D G B m p t u).symm)
    have h : Reads3 arg14.view (harg14.unread bb.b14) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1.p14 (fun _ => True)
        fun g t s => ((0 + gw eps Z D G B 0 g t s : ℝ) : EReal) := by
      refine reads_weight (L := runA.sl.H14_1) H hi harg1 harg3 harg6 harg7 (fun _ _ _ => 0) ?_ ?_ ?_ ?_ ?_ ?_ ?_ ?_
      all_goals refine zero_load3 ?_
      · exact fill14 _
      · exact Reads3.skip (fill14 _) fun p h => by omega
      · exact Reads3.skip (Reads3.skip (fill14 _) fun p h => by omega) fun p h => by omega
      · exact Reads3.skip (Reads3.skip (Reads3.skip (fill14 _) fun p h => by omega) fun p h => by omega) fun p h => by omega
      · exact Reads3.skip (Reads3.skip (Reads3.skip (Reads3.skip (fill14 _) fun p h => by omega) fun p h => by omega) fun p h => by omega) fun p h => by omega
      · exact Reads3.skip (Reads3.skip (Reads3.skip (Reads3.skip (Reads3.skip (fill14 _) fun p h => by omega) fun p h => by omega) fun p h => by omega) fun p h => by omega) fun p h => by omega
      · exact Reads3.skip (Reads3.skip (Reads3.skip (Reads3.skip (Reads3.skip (Reads3.skip (fill14 _) fun p h => by omega) fun p h => by omega) fun p h => by omega) fun p h => by omega) fun p h => by omega) fun p h => by omega
      · exact Reads3.skip (Reads3.skip (Reads3.skip (Reads3.skip (Reads3.skip (Reads3.skip (Reads3.skip (fill14 _) fun p h => by omega) fun p h => by omega) fun p h => by omega) fun p h => by omega) fun p h => by omega) fun p h => by omega) fun p h => by omega
    exact h p t u trivial

end

/-! ### The last point -/

section

variable (hc0 : ¬cond0_0 i) (hc1 : cond0_1 i) (hc2 : ¬cond0_2 i) (hc3 : cond0_3 i)

theorem zero_pay145 : R2 (k0_pay145 (F := Ideal)) fun _ _ => 0 := by
  intro i j
  pointwise [k0_pay145]
  rfl

theorem pay149_eq {v : Vec Ideal S128x128 .f32} {s : ℕ → ℕ → ℝ}
    (h : ∀ (t j : Fin 128), (j : ℕ) < 8 → v (ix2 t j) = ((s t j : ℝ) : EReal)) : R2 (k0_pay149 v) fun g t => s t g := by
  intro g t
  have hg := g.isLt
  have h' := h t ⟨g, by omega⟩ hg
  pointwise [k0_pay149]
  exact h'

theorem stepC_dz (hC : Carry Z D K G B W b 15 bb.b16 bb.b18 bb.b19 bb.b20) :
    R2 (bb.after arg10 arg11 arg12 arg13 arg14 arg15 arg16 arg17 arg18 arg19 arg20 harg10 harg11 harg12 harg13 harg14 harg15 harg16 harg17 harg18 harg19 harg20 (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b10 fun q j => dzS eps Z D K G B W b 15 q j := by
  intro q j
  refine reads_dz (L := []) ((pend_load harg16 hC.c16 (Or.inl (le_refl _))).congr fun q j _ _ => ?_) (pend_load harg16 hC.c16 (Or.inr (le_refl _)))
    ((pay147_eq (R2_ld00 harg18 hC.c18 _) (zero_load (reads_zero zero_pay145))).congr fun q j _ _ => ?_) q j trivial
  · rw [Nat.zero_add]
  · rw [if_neg (by decide)]

theorem stepC_sink (hC : Carry Z D K G B W b 15 bb.b16 bb.b18 bb.b19 bb.b20) :
    R2 (bb.after arg10 arg11 arg12 arg13 arg14 arg15 arg16 arg17 arg18 arg19 arg20 harg10 harg11 harg12 harg13 harg14 harg15 harg16 harg17 harg18 harg19 harg20 (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b11 fun _ j => acc (fun m => gsink Z D K m j) 15 := by
  intro q j
  refine reads_whole2 (a := fun _ j => acc (fun m => gsink Z D K m j) 15) (L := []) (w := _)
    ((R2_part (P := fun j => j < 16) (a := fun _ j => acc (fun m => gsink Z D K m j) 15) harg19 hC.c19 _ fun j hj => by omega).congr
      fun i j _ _ => by rw [Nat.zero_add]) q j trivial

theorem stepC_bias (hC : Carry Z D K G B W b 15 bb.b16 bb.b18 bb.b19 bb.b20) :
    R2 (bb.after arg10 arg11 arg12 arg13 arg14 arg15 arg16 arg17 arg18 arg19 arg20 harg10 harg11 harg12 harg13 harg14 harg15 harg16 harg17 harg18 harg19 harg20 (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b15 fun g t => acc (fun m => gb Z D m g t) 15 := by
  intro q j
  refine reads_whole2 (pay149_eq (s := fun t j => acc (fun m => gb Z D m j t) 15) fun t j hj => ?_) q j trivial
  refine (ld_apply (Val := Elt Ideal) harg20 bb.b20 _ t j).trans ((hC.c20 _ _ ?_).trans ?_)
  · show 0 + (j : ℕ) < 8
    omega
  · show ((acc (fun m => gb Z D m (0 + j) (0 + t)) 15 : ℝ) : EReal) = _
    rw [Nat.zero_add, Nat.zero_add]

theorem stepC_sums (hS : Sums Z D G B W 15 bb.b12 bb.b13 bb.b14) : Sums Z D G B W 15 (bb.after arg10 arg11 arg12 arg13 arg14 arg15 arg16 arg17 arg18 arg19 arg20 harg10 harg11 harg12 harg13 harg14 harg15 harg16 harg17 harg18 harg19 harg20 (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b12 (bb.after arg10 arg11 arg12 arg13 arg14 arg15 arg16 arg17 arg18 arg19 arg20 harg10 harg11 harg12 harg13 harg14 harg15 harg16 harg17 harg18 harg19 harg20 (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b13 (bb.after arg10 arg11 arg12 arg13 arg14 arg15 arg16 arg17 arg18 arg19 arg20 harg10 harg11 harg12 harg13 harg14 harg15 harg16 harg17 harg18 harg19 harg20 (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b14 where
  s12 := by rw [show (bb.after arg10 arg11 arg12 arg13 arg14 arg15 arg16 arg17 arg18 arg19 arg20 harg10 harg11 harg12 harg13 harg14 harg15 harg16 harg17 harg18 harg19 harg20 (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b12 = bb.b12 from harg12.read_unread _]; exact hS.s12
  s13 := by rw [show (bb.after arg10 arg11 arg12 arg13 arg14 arg15 arg16 arg17 arg18 arg19 arg20 harg10 harg11 harg12 harg13 harg14 harg15 harg16 harg17 harg18 harg19 harg20 (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b13 = bb.b13 from harg13.read_unread _]; exact hS.s13
  s14 := by rw [show (bb.after arg10 arg11 arg12 arg13 arg14 arg15 arg16 arg17 arg18 arg19 arg20 harg10 harg11 harg12 harg13 harg14 harg15 harg16 harg17 harg18 harg19 harg20 (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x bb hc0 hc1 hc2 hc3).1).b14 = bb.b14 from harg14.read_unread _]; exact hS.s14

end

end

end Cert.Mix

end
-- ==== Proof.Results.lean ====
module

public import proofs.«01_k».proof.Proof.Launch
public import proofs.«01_k».proof.Proof.Base
public import Idealize.ShloMosaic.Lib.Pipeline.ArrRel

/-!
# What the results hold after the run

Every element of a result is an element of a block which the plan (`Plan`, Launch.lean) says something about.
-/

@[expose] public section

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat RDat)
open Cert.KernelIdeal Cert.KernelIdeal.Gen

variable {F : FTy → Type} [FloatOps F]
variable (m : (ℓ : Loc nD τ sig) → Buf (Elt F) ℓ) (ρ : Dev nD → PrngReg) (P : Plan F)

/-- The six results agree, element by element, with blocks the plan speaks of. -/
structure Plan.Results (dz : Vec F S2048x5376 .bf16) (sink : Vec F S1x16 .f32) (sumG sumB : Vec F S1x1024 .f32)
    (sumW : Vec F S8x128x128 .f32) (bias : Vec F S8x128 .f32) : Prop where
  dz : ∀ i : S2048x5376.Idx, ∃ (n : ℕ) (X : Vec F S128x5376 .bf16) (q : Fin 128) (j : Fin 5376),
    n < 16 ∧ P.dz n X ∧ (i 0 : ℕ) = 128 * n + q ∧ (i 1 : ℕ) = j ∧ dz i = X (ix2 q j)
  sink : ∀ i, ∃ X, P.sink X ∧ sink i = X i
  sumG : ∀ i, ∃ X, P.sumG 15 X ∧ sumG i = X i
  sumB : ∀ i, ∃ X, P.sumB 15 X ∧ sumB i = X i
  sumW : ∀ i, ∃ X, P.sumW 15 X ∧ sumW i = X i
  bias : ∀ i, ∃ X, P.bias X ∧ bias i = X i

theorem flush0_9 : ∀ t : Fin cfg0.N, (cfg0.win 9).flush t = true → 1 ≤ t.val :=
  (by decide +kernel : ∀ t : Fin grid0.N, win0_9.flush t = true → 1 ≤ t.val)

theorem index0_9 : ∀ t : Fin cfg0.N, win0_9.index t 0 = t.val - 1 ∧ win0_9.index t 1 = 0 :=
  (by decide +kernel : ∀ t : Fin grid0.N, win0_9.index t 0 = t.val - 1 ∧ win0_9.index t 1 = 0)

/-- The last point. -/
abbrev t16 : Fin cfg0.N := ⟨16, lt_of_lt_of_eq (by norm_num : 16 < 17) (show cfg0.N = 17 from N_0).symm⟩

theorem whole0_10 : (cfg0.win 10).WholeAt t16 := (by decide +kernel : win0_10.WholeAt (G := grid0) t16)
theorem whole0_11 : (cfg0.win 11).WholeAt t16 := (by decide +kernel : win0_11.WholeAt (G := grid0) t16)
theorem whole0_12 : (cfg0.win 12).WholeAt t16 := (by decide +kernel : win0_12.WholeAt (G := grid0) t16)
theorem whole0_13 : (cfg0.win 13).WholeAt t16 := (by decide +kernel : win0_13.WholeAt (G := grid0) t16)
theorem whole0_14 : (cfg0.win 14).WholeAt t16 := (by decide +kernel : win0_14.WholeAt (G := grid0) t16)

set_option maxHeartbeats 2000000 in
theorem results_of (c : Dev nD) (r : PUnit × MemSt nD τ sig (Elt F))
    (h : Pipeline.RDat.FramePost (cfgs 0) (rdat m P) (V m) r) :
    P.Results (r.2.mem ((c.tc : Thread nD τ).loc main_v78_0)) (r.2.mem ((c.tc : Thread nD τ).loc main_v78_1))
      (r.2.mem ((c.tc : Thread nD τ).loc main_v78_2)) (r.2.mem ((c.tc : Thread nD τ).loc main_v78_3))
      (r.2.mem ((c.tc : Thread nD τ).loc main_v78_4)) (r.2.mem ((c.tc : Thread nD τ).loc main_v78_5)) := by
  obtain ⟨after, hL, hA⟩ := Pipeline.RDat.FramePost.exists_exact h c
  have hR : ∀ w u, marks w = true → (cfg0.win w).flush u = true → Rel P w u (after w u) := fun w u hm hf =>
    (dats m P 0 c).toRRel_leaves hm (hL w u hf)
  constructor
  · intro i
    rw [show r.2.mem ((c.tc : Thread nD τ).loc main_v78_0) = _ from hA 9]
    refine ((rdat m P c).withAfter after).arrAt_forall_of_covers 9 (fun i v => ∃ (n : ℕ) (X : Vec F S128x5376 .bf16) (q : Fin 128) (j : Fin 5376),
      n < 16 ∧ P.dz n X ∧ (i 0 : ℕ) = 128 * n + q ∧ (i 1 : ℕ) = j ∧ v = X (ix2 q j)) (by decide +kernel) (fun t hf y => ?_) i
    have h1 := flush0_9 t hf
    have hN : t.val < 17 := lt_of_lt_of_eq t.isLt (show cfg0.N = 17 from N_0)
    refine ⟨t.val - 1, after 9 t, y 0, y 1, by omega, hR 9 t rfl hf h1, ?_, ?_, ?_⟩
    · refine (win0_9.rect_emb_val t y 0).trans ?_
      rw [(index0_9 t).1]
      exact congrArg (· + (y 0 : ℕ)) (Nat.mul_comm _ _)
    · refine (win0_9.rect_emb_val t y 1).trans ?_
      rw [(index0_9 t).2]
      exact (congrArg (· + (y 1 : ℕ)) (Nat.zero_mul _)).trans (Nat.zero_add _)
    · show after 9 t _ = after 9 t _
      congr 1
      funext a
      match a with
      | ⟨0, _⟩ => rfl
      | ⟨1, _⟩ => rfl
  · exact fun i => ⟨after 10 t16, hR 10 t16 rfl ((flush0_10 t16).mpr rfl) rfl,
      (congrFun (hA 10) i).trans (((rdat m P c).withAfter after).arrAt_emb_eq_after_last 10 t16 whole0_10 i)⟩
  · exact fun i => ⟨after 11 t16, hR 11 t16 rfl ((flush0_11 t16).mpr rfl),
      (congrFun (hA 11) i).trans (((rdat m P c).withAfter after).arrAt_emb_eq_after_last 11 t16 whole0_11 i)⟩
  · exact fun i => ⟨after 12 t16, hR 12 t16 rfl ((flush0_12 t16).mpr rfl),
      (congrFun (hA 12) i).trans (((rdat m P c).withAfter after).arrAt_emb_eq_after_last 12 t16 whole0_12 i)⟩
  · exact fun i => ⟨after 13 t16, hR 13 t16 rfl ((flush0_13 t16).mpr rfl),
      (congrFun (hA 13) i).trans (((rdat m P c).withAfter after).arrAt_emb_eq_after_last 13 t16 whole0_13 i)⟩
  · exact fun i => ⟨after 14 t16, hR 14 t16 rfl ((flush0_14 t16).mpr rfl) rfl,
      (congrFun (hA 14) i).trans (((rdat m P c).withAfter after).arrAt_emb_eq_after_last 14 t16 whole0_14 i)⟩

/-- The arguments as launched. -/
def Kept (c : Dev nD) (r : PUnit × MemSt nD τ sig (Elt F)) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

set_option maxHeartbeats 2000000 in
theorem kept_of (c : Dev nD) (r : PUnit × MemSt nD τ sig (Elt F))
    (h : Pipeline.RDat.FramePost (cfgs 0) (rdat m P) (V m) r) : Kept m c r :=
  ⟨(Pipeline.RDat.FramePost.arr_in h c 1 rfl).trans ((A_eq m P c 1).trans (V_main_arg0 m c)),
    (Pipeline.RDat.FramePost.arr_in h c 2 rfl).trans ((A_eq m P c 2).trans (V_main_arg1 m c)),
    (Pipeline.RDat.FramePost.arr_in h c 4 rfl).trans ((A_eq m P c 4).trans (V_main_arg2 m c)),
    (Pipeline.RDat.FramePost.arr_in h c 5 rfl).trans ((A_eq m P c 5).trans (V_main_arg3 m c)),
    (Pipeline.RDat.FramePost.arr_in h c 6 rfl).trans ((A_eq m P c 6).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- What the run leaves under a sound plan: the results, the arguments, the semaphores. -/
theorem run_results (hP : ∀ c, P.Sound m c) :
    θ_run defs (onTc (τ := τ) (main (F := F))) ⟨m, fun _ => 0, ρ⟩ (fun r => (∀ c : Dev nD,
      P.Results (r.2.mem ((c.tc : Thread nD τ).loc main_v78_0)) (r.2.mem ((c.tc : Thread nD τ).loc main_v78_1))
        (r.2.mem ((c.tc : Thread nD τ).loc main_v78_2)) (r.2.mem ((c.tc : Thread nD τ).loc main_v78_3))
        (r.2.mem ((c.tc : Thread nD τ).loc main_v78_4)) (r.2.mem ((c.tc : Thread nD τ).loc main_v78_5))
      ∧ Kept m c r) ∧ r.2.sem = fun _ => 0) :=
  (θ_run defs _ _).mono (fun r h => ⟨fun c => ⟨results_of m P c r h.1, kept_of m P c r h.1⟩, h.2⟩) (run_main m P ρ hP)

/-- The plan that says nothing. -/
def Plan.trivial : Plan F where
  carry _ _ _ _ _ := True
  sumG _ _ := True
  sumB _ _ := True
  sumW _ _ := True
  dz _ _ := True
  sink _ := True
  bias _ := True

theorem Plan.trivial_left (n : ℕ) (b : Bufs F) : (Plan.trivial (F := F)).Left n b where
  carry _ := ⟨⟩
  sumG := ⟨⟩
  sumB := ⟨⟩
  sumW := ⟨⟩
  dz _ := ⟨⟩
  sink _ := ⟨⟩
  bias _ := ⟨⟩

theorem Plan.trivial_sound (c : Dev nD) : (Plan.trivial (F := F)).Sound m c where
  first _ _ _ _ _ _ _ := Plan.trivial_left _ _
  middle _ _ _ _ _ _ _ _ _ := Plan.trivial_left _ _
  last _ _ _ _ _ _ _ _ := Plan.trivial_left _ _

/-- The frame: the run ends, the arguments unchanged and the semaphores at zero. -/
theorem run_frame :
    θ_run defs (onTc (τ := τ) (main (F := F))) ⟨m, fun _ => 0, ρ⟩ (fun r => (∀ c : Dev nD, Kept m c r) ∧ r.2.sem = fun _ => 0) :=
  (θ_run defs _ _).mono (fun r h => ⟨fun c => (h.1 c).2, h.2⟩) (run_results m ρ Plan.trivial (Plan.trivial_sound m))

end Cert.KernelIdeal.Hand

end
-- ==== Proof.Value.lean ====
module

public import proofs.«01_k».proof.Proof.Inputs
public import proofs.«01_k».proof.Proof.Steps
public import proofs.«01_k».proof.Proof.Results

/-! The statements about the buffers which the kernel's grid points preserve, at real numbers, and what the run leaves. -/

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen Cert.Mix

variable (Z D : ℕ → ℕ → ℝ) (K G B : ℕ → ℝ) (W : ℕ → ℕ → ℕ → ℝ) (b : ℕ → ℕ → ℝ)

/-- The kernel's buffers hold the numbers of the specification. -/
def plan : Plan Ideal where
  carry n b16 b18 b19 b20 := Carry Z D K G B W b n b16 b18 b19 b20
  sumG n X := R2 X fun _ j => acc (fun m => glg eps Z D W m j) n
  sumB n X := R2 X fun _ j => acc (fun m => glb Z D W m j) n
  sumW n X := R3 X fun g t s => acc (fun m => gw eps Z D G B m g t s) n
  dz n X := R2 X fun q j => dzS eps Z D K G B W b n q j
  sink X := R2 X fun _ j => acc (fun m => gsink Z D K m j) 15
  bias X := R2 X fun g t => acc (fun m => gb Z D m g t) 15

variable {Z D K G B W b} {m : (ℓ : Loc nD τ sig) → Buf (Elt Ideal) ℓ} {c : Dev nD} (H : Real m c Z D K G B W b)

theorem coords0 : ∀ t : Fin cfg0.N, ((grid0.coords t 0 : Fin _) : ℕ) = t.val :=
  (by decide +kernel : ∀ t : Fin grid0.N, ((grid0.coords t 0 : Fin _) : ℕ) = t.val)

include H in
theorem sound : (plan Z D K G B W b).Sound m c where
  first t bb h0 h1 h2 h3 ht := by
    have Ht := holds H t (by omega)
    have hi := coords0 t
    generalize insAt m c t = x at Ht ⊢
    rw [ht] at Ht hi ⊢
    unfold afterA
    have hS := stepA_sums (bb := bb) c (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (Memref.isWhole_whole cc0_scratch4) Ht hi h0 h1 h2 h3
    exact ⟨fun _ => stepA_carry (bb := bb) c (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (Memref.isWhole_whole cc0_scratch4) Ht hi h0 h1 h2 h3,
      hS.s12, hS.s13, hS.s14, fun h => absurd h (by omega), fun h => absurd h (by omega), fun h => absurd h (by omega)⟩
  middle t bb h0 h1 h2 h3 hp ht hf := by
    have Ht := holds H t ht
    have hi := coords0 t
    generalize insAt m c t = x at Ht ⊢
    unfold afterB
    have hS := stepB_sums (bb := bb) c (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (Memref.isWhole_whole cc0_scratch4) Ht hi hp h0 h1 h2 h3 ⟨hf.sumG, hf.sumB, hf.sumW⟩
    rw [← Nat.min_eq_left (show t.val ≤ 15 by omega)] at hS
    exact ⟨fun _ => stepB_carry (bb := bb) c (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (Memref.isWhole_whole cc0_scratch4) Ht hi hp h0 h1 h2 h3 hf.carry,
      hS.s12, hS.s13, hS.s14,
      fun _ => stepB_dz (bb := bb) c (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (Memref.isWhole_whole cc0_scratch4) Ht hi hp h0 h1 h2 h3 ht hf.carry,
      fun h => absurd h (by omega), fun h => absurd h (by omega)⟩
  last t bb h0 h1 h2 h3 ht hf := by
    generalize insAt m c t = x
    rw [ht] at hf ⊢
    unfold afterC
    have hS := stepC_sums (x := x) (bb := bb) c (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (Memref.isWhole_whole cc0_scratch4) h0 h1 h2 h3 ⟨hf.sumG, hf.sumB, hf.sumW⟩
    exact ⟨fun h => absurd h (by omega), hS.s12, hS.s13, hS.s14,
      fun _ => stepC_dz (x := x) (bb := bb) c (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (Memref.isWhole_whole cc0_scratch4) h0 h1 h2 h3 hf.carry,
      fun _ => stepC_sink (x := x) (bb := bb) c (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (Memref.isWhole_whole cc0_scratch4) h0 h1 h2 h3 hf.carry,
      fun _ => stepC_bias (x := x) (bb := bb) c (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (Memref.isWhole_whole cc0_scratch4) h0 h1 h2 h3 hf.carry⟩

end Cert.KernelIdeal.Hand

end
-- ==== Proof.Same.lean ====
module

public import proofs.«01_k».proof.Proof.Value

/-! The kernel's results are the reference's. -/

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen Cert.Mix
open Cert.ReferenceIdeal.Read

variable {Z D : ℕ → ℕ → ℝ} {K G B : ℕ → ℝ} {W : ℕ → ℕ → ℕ → ℝ} {b : ℕ → ℕ → ℝ}
  {dz : Vec Ideal S2048x5376 .bf16} {sink : Vec Ideal S1x16 .f32} {sumG sumB : Vec Ideal S1x1024 .f32}
  {sumW : Vec Ideal S8x128x128 .f32} {bias : Vec Ideal S8x128 .f32}
  (h : (plan Z D K G B W b).Results dz sink sumG sumB sumW bias)

/-- The sum over the blocks, as the kernel and as the reference have it. -/
theorem acc_all (f : ℕ → ℝ) : acc f 15 = ∑ n : Fin 16, f n := Finset.sum_range f

/-- Two arrays that hold the same numbers are the same. -/
theorem R2.ext {p q : ℕ} {v w : (⟨2, ![p, q]⟩ : Shape).Idx → EReal} {a : ℕ → ℕ → ℝ} (hv : R2 v a) (hw : R2 w a) : v = w :=
  funext fun i => (R2.at hv i rfl rfl).trans (R2.at hw i rfl rfl).symm

theorem R3.ext {p q l : ℕ} {v w : (⟨3, ![p, q, l]⟩ : Shape).Idx → EReal} {a : ℕ → ℕ → ℕ → ℝ} (hv : R3 v a) (hw : R3 w a) : v = w :=
  funext fun i => (R3.at hv i rfl rfl rfl).trans (R3.at hw i rfl rfl rfl).symm

include h

theorem res_dz : R2 dz fun r j => dzS eps Z D K G B W b (r / 128) (r % 128) j := fun r j => by
  obtain ⟨n, X, q, k, hn, hX, h0, h1, e⟩ := h.dz (ix2 r j)
  refine e.trans ((hX q k).trans ?_)
  have h0' : (r : ℕ) = 128 * n + q := h0
  have h1' : (j : ℕ) = k := h1
  have hq := q.isLt
  show ((dzS eps Z D K G B W b n q k : ℝ) : EReal) = ((dzS eps Z D K G B W b (r / 128) (r % 128) j : ℝ) : EReal)
  rw [show (r : ℕ) / 128 = n by omega, show (r : ℕ) % 128 = q by omega, h1']

theorem res_sink : R2 sink fun _ j => ∑ n : Fin 16, gsink Z D K n j := fun r j => by
  obtain ⟨X, hX, e⟩ := h.sink (ix2 r j)
  exact e.trans ((hX r j).trans (congrArg (fun y : ℝ => (y : EReal)) (acc_all fun n => gsink Z D K n j)))

theorem res_sumG : R2 sumG fun _ j => ∑ n : Fin 16, glg eps Z D W n j := fun r j => by
  obtain ⟨X, hX, e⟩ := h.sumG (ix2 r j)
  exact e.trans ((hX r j).trans (congrArg (fun y : ℝ => (y : EReal)) (acc_all fun n => glg eps Z D W n j)))

theorem res_sumB : R2 sumB fun _ j => ∑ n : Fin 16, glb Z D W n j := fun r j => by
  obtain ⟨X, hX, e⟩ := h.sumB (ix2 r j)
  exact e.trans ((hX r j).trans (congrArg (fun y : ℝ => (y : EReal)) (acc_all fun n => glb Z D W n j)))

theorem res_sumW : R3 sumW fun g t s => ∑ n : Fin 16, gw eps Z D G B n g t s := fun g t s => by
  obtain ⟨X, hX, e⟩ := h.sumW (ix3 g t s)
  exact e.trans ((hX g t s).trans (congrArg (fun y : ℝ => (y : EReal)) (acc_all fun n => gw eps Z D G B n g t s)))

theorem res_bias : R2 bias fun g t => ∑ n : Fin 16, gb Z D n g t := fun r j => by
  obtain ⟨X, hX, e⟩ := h.bias (ix2 r j)
  exact e.trans ((hX r j).trans (congrArg (fun y : ℝ => (y : EReal)) (acc_all fun n => gb Z D n r j)))

variable {x0 : FVec Ideal S2048x5376 .f32} {x1 : FVec Ideal S2048x2048 .f32} {x2 : FVec Ideal S1x16 .f32} {x3 x4 : FVec Ideal S1x1024 .f32}
  {x5 : FVec Ideal S1x8x128x128 .f32} {x6 : FVec Ideal S1x8x128 .f32} (H : Args Z D K G B W b x0 x1 x2 x3 x4 x5 x6)

include H

theorem results_eq : dz = val_main_v278 (F := Ideal) x0 x1 x2 x3 x4 x5 x6 ∧ sink = val_main_v268 (F := Ideal) x0 x1 x2
    ∧ sumG = val_main_v208 (F := Ideal) x0 x1 x5 ∧ sumB = val_main_v207 (F := Ideal) x0 x1 x5
    ∧ sumW = val_main_v279 (F := Ideal) x0 x1 x3 x4 ∧ bias = val_main_v280 (F := Ideal) x0 x1 :=
  ⟨R2.ext (res_dz h) (r_v278 H), R2.ext (res_sink h) (r_v268 H), R2.ext (res_sumG h) (r_v208 H), R2.ext (res_sumB h) (r_v207 H),
    R3.ext (res_sumW h) (r_v279 H), R2.ext (res_bias h) (r_v280 H)⟩

end Cert.KernelIdeal.Hand

end
-- ==== Proof.Transfer.lean ====
module

public import proofs.«01_k».proof.Defs

/-!
# The kernel as printed and the kernel of the ideal claims are one program

No rewrite is applied between the two, so that they agree at the machine's floats definition by definition.
-/

@[expose] public section

set_option maxRecDepth 16384
set_option maxHeartbeats 0

noncomputable section

namespace Cert.Transfer

open Idealize Idealize.ShloMosaic

variable [h1 : Cert.Kernel.Facts] [h2 : Cert.KernelIdeal.Facts]

theorem body_eq : @Cert.Kernel.cc0_mixer_bwd Bits _ h1 = @Cert.KernelIdeal.cc0_mixer_bwd Bits _ h2 := rfl

theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) =>
    dsimp only
    rw [body_eq]
    rfl

theorem defs_eq : Cert.Kernel.defs (F := Bits) = Cert.KernelIdeal.defs (F := Bits) :=
  congrArg (Pipeline.defs (Cert.Kernel.pcfgs (F := Bits))) defs₀_eq

theorem part0_eq : Cert.Kernel.main_part0 (F := Bits) = Cert.KernelIdeal.main_part0 (F := Bits) := rfl
theorem part1_eq : Cert.Kernel.main_part1 (F := Bits) = Cert.KernelIdeal.main_part1 (F := Bits) := rfl

theorem main_eq : Cert.Kernel.main (F := Bits) = Cert.KernelIdeal.main (F := Bits) := by
  funext d
  unfold Cert.Kernel.main Cert.KernelIdeal.main
  rw [part0_eq, part1_eq]
  rfl

end Cert.Transfer

end
-- ==== Proof.WOutGrad.lean ====
/- The gradient of the output projection's matrix: each grid point writes a block of rows of the product, and the blocks together are the product. -/
module

public import proofs.«01_k».proof.Proof.Consts
public import Idealize.ShloMosaic.Lib.Pipeline.ValueKit
public import proofs.«01_k».proof.Proof.Gen.WOutGradIdeal.Value
public import proofs.«01_k».proof.Proof.Gen.WOutGradReferenceIdeal.Read

@[expose] public section

set_option maxRecDepth 16384

noncomputable section

namespace Cert.WOutGradIdeal.Hand

open Idealize.ShloMosaic Idealize.ShloMosaic.TcCoe Idealize.SL.Sem
open Cert.WOutGradIdeal Cert.WOutGradIdeal.Gen Cert.Mix

theorem zeros : (![0, 0] : Fin 2 → Nat) = fun _ => 0 := funext fun a => by fin_cases a <;> rfl

theorem index : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

variable (m : (ℓ : Loc nD τ sig) → Buf (Elt Ideal) ℓ)

/-- A block of the product is the product of the blocks. -/
theorem pay (x : Vec Ideal S2048x512 .bf16) (y : Vec Ideal S2048x2048 .bf16) (i : S512x2048.Idx) :
    k0_pay1 x y i = ∑ k : Fin 2048, x (ix2 k (i 0)) * y (ix2 k (i 1)) := by
  pointwise [k0_pay1]

theorem reference (x y : Vec Ideal S2048x2048 .bf16) (i : S2048x2048.Idx) :
    Cert.WOutGradReferenceIdeal.Read.val_main_v6 (F := Ideal) x y i = ∑ k : Fin 2048, x (ix2 k (i 0)) * y (ix2 k (i 1)) := by
  rw [Cert.WOutGradReferenceIdeal.Read.val_main_v6_apply, Cert.WOutGradReferenceIdeal.Read.val_main_v5_apply,
    Cert.WOutGradReferenceIdeal.Read.val_main_v4_apply]
  refine Finset.sum_congr rfl fun k _ => (mul_comm _ _).trans (congrArg₂ (· * ·) ?_ ?_)
  · exact congrArg x (funext fun a => by fin_cases a <;> rfl)
  · exact congrArg y (funext fun a => by fin_cases a <;> rfl)

theorem result (c : Dev nD) (X Y G : Vec Ideal S2048x2048 .bf16) (hX : m ((c : Thread nD τ).loc main_arg0) = X)
    (hY : m ((c : Thread nD τ).loc main_arg1) = Y) (hG : ∀ i, G i = ∑ k : Fin 2048, X (ix2 k (i 0)) * Y (ix2 k (i 1))) :
    (dats m 0 c).arrAt 2 cfg0.N = G := by
  subst hX hY
  refine (dats m 0 c).arrAt_eq_of_covers 2 G (by decide +kernel) (fun t hf y => ?_)
  blk_simp
  rw [after0_2, out0_2, View.canon_unit_zero zeros, View.ld_unit_zero zeros, View.ld_unit_zero zeros, hG]
  refine (pay _ _ y).trans (Finset.sum_congr rfl fun k _ => congrArg₂ (· * ·) ?_ ?_)
  · blk_ext [iblk, V, index t]
  · blk_ext [iblk, V, index t]

end Cert.WOutGradIdeal.Hand

end
-- ==== Proof.OutProjGrad.lean ====
/- The gradient of the output projection's input: each grid point writes a block of rows of the product, and the blocks together are the product. -/
module

public import proofs.«01_k».proof.Proof.Consts
public import Idealize.ShloMosaic.Lib.Pipeline.ValueKit
public import proofs.«01_k».proof.Proof.Gen.OutProjGradIdeal.Value
public import proofs.«01_k».proof.Proof.Gen.OutProjGradReferenceIdeal.Read

@[expose] public section

set_option maxRecDepth 16384

noncomputable section

namespace Cert.OutProjGradIdeal.Hand

open Idealize.ShloMosaic Idealize.ShloMosaic.TcCoe Idealize.SL.Sem
open Cert.OutProjGradIdeal Cert.OutProjGradIdeal.Gen Cert.Mix

theorem zeros : (![0, 0] : Fin 2 → Nat) = fun _ => 0 := funext fun a => by fin_cases a <;> rfl

theorem index : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

variable (m : (ℓ : Loc nD τ sig) → Buf (Elt Ideal) ℓ)

/-- A block of the product is the product of the blocks. -/
theorem pay (x : Vec Ideal S256x2048 .bf16) (y : Vec Ideal S2048x2048 .bf16) (i : S256x2048.Idx) :
    k0_pay1 x y i = ∑ k : Fin 2048, x (ix2 (i 0) k) * y (ix2 (i 1) k) := by
  pointwise [k0_pay1]

theorem reference (x y : Vec Ideal S2048x2048 .bf16) (i : S2048x2048.Idx) :
    Cert.OutProjGradReferenceIdeal.Read.val_main_v4 (F := Ideal) x y i = ∑ k : Fin 2048, x (ix2 (i 0) k) * y (ix2 (i 1) k) := by
  rw [Cert.OutProjGradReferenceIdeal.Read.val_main_v4_apply]
  refine Finset.sum_congr rfl fun k _ => congrArg₂ (· * ·) ?_ ?_
  · exact congrArg x (funext fun a => by fin_cases a <;> rfl)
  · exact congrArg y (funext fun a => by fin_cases a <;> rfl)

theorem result (c : Dev nD) (X Y : Vec Ideal S2048x2048 .bf16) (G : Vec Ideal S2048x2048 .f32) (hX : m ((c : Thread nD τ).loc main_arg0) = X)
    (hY : m ((c : Thread nD τ).loc main_arg1) = Y) (hG : ∀ i, G i = ∑ k : Fin 2048, X (ix2 (i 0) k) * Y (ix2 (i 1) k)) :
    (dats m 0 c).arrAt 2 cfg0.N = G := by
  subst hX hY
  refine (dats m 0 c).arrAt_eq_of_covers 2 G (by decide +kernel) (fun t hf y => ?_)
  blk_simp
  rw [after0_2, hG, outsAt0]
  frame_out
  refine (pay _ _ y).trans (Finset.sum_congr rfl fun k _ => congrArg₂ (· * ·) ?_ ?_)
  · blk_ext [iblk, V, index t]
  · blk_ext [iblk, V, index t]

end Cert.OutProjGradIdeal.Hand

end
-- ==== Proof.InProjOdd.lean ====
/- The odd column blocks of the input projection: each grid point writes a block of the product, and the other column blocks keep what they held. -/
module

public import proofs.«01_k».proof.Proof.Consts
public import Idealize.ShloMosaic.Lib.Pipeline.ValueKit
public import proofs.«01_k».proof.Proof.Gen.InProjOddIdeal.Value
public import proofs.«01_k».proof.Proof.Gen.InProjOddReferenceIdeal.Read

@[expose] public section

set_option maxRecDepth 16384

noncomputable section

namespace Cert.InProjOddIdeal.Hand

open Idealize.ShloMosaic Idealize.ShloMosaic.TcCoe Idealize.SL.Sem
open Cert.InProjOddIdeal Cert.InProjOddIdeal.Gen Cert.Mix

theorem zeros : (![0, 0] : Fin 2 → Nat) = fun _ => 0 := funext fun a => by fin_cases a <;> rfl

theorem index : ∀ t : Fin cfg0.N, win0_0.index t = ![(grid0.coords t 0).val, 0] ∧ win0_1.index t = ![2 * (grid0.coords t 1).val + 1, 0]
    ∧ win0_2.index t = ![(grid0.coords t 0).val, 2 * (grid0.coords t 1).val + 1] :=
  (by decide +kernel : ∀ t : Fin grid0.N, win0_0.index t = ![(grid0.coords t 0).val, 0] ∧ win0_1.index t = ![2 * (grid0.coords t 1).val + 1, 0]
    ∧ win0_2.index t = ![(grid0.coords t 0).val, 2 * (grid0.coords t 1).val + 1])

variable (m : (ℓ : Loc nD τ sig) → Buf (Elt Ideal) ℓ)

/-- A block of the product is the product of the blocks. -/
theorem pay (x : Vec Ideal S1024x2048 .bf16) (y : Vec Ideal S768x2048 .bf16) (i : S1024x768.Idx) :
    k0_pay1 x y i = ∑ k : Fin 2048, x (ix2 (i 0) k) * y (ix2 (i 1) k) := by
  pointwise [k0_pay1]

/-- The sign of a word, read as a signed number. -/
def sgn (w : BitVec 32) : BitVec 32 := if w = 0 then 0 else if w.msb then -1 else 1

open Cert.InProjOddReferenceIdeal.Read in
theorem sign_columns (i : Cert.InProjOddReferenceIdeal.S5376.Idx) : val_main_call0_v3 (F := Ideal) i = sgn (val_main_v0 (F := Ideal) i) := rfl

open Cert.InProjOddReferenceIdeal.Read in
theorem sign_width (i : Cert.InProjOddReferenceIdeal.S_.Idx) : val_main_call0_v4 (F := Ideal) i = sgn (val_main_call0_v0 (F := Ideal) i) := rfl

open Cert.InProjOddReferenceIdeal.Read in
/-- The columns which the reference takes from the product: those of the odd blocks. -/
theorem mask (i : S2048x5376.Idx) : val_main_call2_v0 (F := Ideal) i = if (i 1 : ℕ) / 768 % 2 = 1 then 1#1 else 0#1 := by
  simp only [val_main_v0_apply, val_main_c_apply, val_main_call0_v0_apply, val_main_call0_v1_apply, val_main_call0_v2_apply, val_main_call0_v5_apply, val_main_call0_v6_apply, val_main_call0_v7_apply, val_main_call0_v8_apply, val_main_call0_c_apply, val_main_call0_v9_apply, val_main_call0_v10_apply, val_main_call0_v11_apply, val_main_call0_c_0_apply, val_main_call0_v12_apply, val_main_call0_v13_apply, val_main_v1_apply, val_main_c_0_apply, val_main_call1_v0_apply, val_main_call1_c_apply, val_main_call1_v1_apply, val_main_call1_c_0_apply, val_main_call1_v2_apply, val_main_call1_v3_apply, val_main_call1_v4_apply, val_main_call1_c_1_apply, val_main_call1_v5_apply, val_main_call1_v6_apply, val_main_call1_c_2_apply, val_main_call1_v7_apply, val_main_call1_v8_apply, val_main_call1_c_3_apply, val_main_call1_v9_apply, val_main_call1_v10_apply, val_main_call1_v11_apply, val_main_call1_v12_apply, val_main_call1_v13_apply, val_main_call1_v14_apply, val_main_v2_apply, val_main_c_1_apply, val_main_v3_apply, val_main_v4_apply, val_main_v5_apply, val_main_call2_v0_apply, sign_columns, sign_width]
  have hn : (i 1 : ℕ) < 5376 := (i 1).isLt
  generalize (i 1 : ℕ) = n at hn ⊢
  revert n
  decide +kernel

theorem reference (x : Vec Ideal S2048x2048 .bf16) (y : Vec Ideal S5376x2048 .bf16) (z : Vec Ideal S2048x5376 .f32) (i : S2048x5376.Idx) :
    Cert.InProjOddReferenceIdeal.Read.val_main_v10 (F := Ideal) x y z i
      = if (i 1 : ℕ) / 768 % 2 = 1 then ∑ k : Fin 2048, x (ix2 (i 0) k) * y (ix2 (i 1) k) else z i := by
  rw [Cert.InProjOddReferenceIdeal.Read.val_main_v10_apply, mask]
  split_ifs with h
  · refine (Cert.InProjOddReferenceIdeal.Read.val_main_v9_apply x y i).trans (Finset.sum_congr rfl fun k _ => congrArg₂ (· * ·) ?_ ?_)
    · exact congrArg x (funext fun a => by fin_cases a <;> rfl)
    · rw [Cert.InProjOddReferenceIdeal.Read.val_main_v8_apply]
      exact congrArg y (funext fun a => by fin_cases a <;> rfl)
  · rfl

theorem result (c : Dev nD) (X : Vec Ideal S2048x2048 .bf16) (Y : Vec Ideal S5376x2048 .bf16) (Z G : Vec Ideal S2048x5376 .f32)
    (hX : m ((c : Thread nD τ).loc main_arg0) = X) (hY : m ((c : Thread nD τ).loc main_arg1) = Y) (hZ : m ((c : Thread nD τ).loc main_arg2) = Z)
    (hG : ∀ i, G i = if (i 1 : ℕ) / 768 % 2 = 1 then ∑ k : Fin 2048, X (ix2 (i 0) k) * Y (ix2 (i 1) k) else Z i) :
    (dats m 0 c).arrAt 2 cfg0.N = G := by
  subst hX hY hZ
  refine (dats m 0 c).arrAt_eq_of_coversWhere_of_agree 2 G (fun b => b 1 % 2 = 1) (by decide +kernel) (fun t hf y => ?_) (fun j hj => ?_)
  · blk_simp
    have h1 := win0_2.rect_emb_val t y 1
    rw [(index t).2.2] at h1
    have hy : (y 1 : ℕ) < 768 := (y 1).isLt
    have h1' : (((win0_2.blk t).view.emb y 1 : Fin _) : ℕ) = (2 * (grid0.coords t 1).val + 1) * 768 + (y 1 : ℕ) := h1
    rw [after0_2, hG, outsAt0, if_pos (by omega)]
    frame_out
    refine (pay _ _ y).trans (Finset.sum_congr rfl fun k _ => congrArg₂ (· * ·) ?_ ?_)
    · blk_ext [iblk, V, index t]
    · blk_ext [iblk, V, index t]
  · blk_simp [Pipeline.Window.cell_apply] at hj
    exact (hG j).trans (if_neg hj)  |>.symm

end Cert.InProjOddIdeal.Hand

end
-- ==== Proof.Norm.lean ====
/- The derivative of the reciprocal root mean square, over the extended reals. -/
module

public import proofs.«01_k».proof.Proof.Consts
public import Idealize.ShloMosaic.Lib.Pipeline.ValueKit

@[expose] public section

noncomputable section

namespace Cert.Mix

open Idealize.ShloMosaic

theorem half_twice (a : EReal) : ((-(1 / 2) : ℝ) : EReal) * a + ((-(1 / 2) : ℝ) : EReal) * a = -a := by
  induction a using EReal.rec with
  | bot => rw [EReal.coe_mul_bot_of_neg (by norm_num)]; rfl
  | top => rw [EReal.coe_mul_top_of_neg (by norm_num)]; rfl
  | coe a => rw [← EReal.coe_mul, ← EReal.coe_add, ← EReal.coe_neg]; congr 1; ring

theorem rsqrt_div {v : EReal} (h : 0 < v) : Ideal.div (Ideal.rsqrt v) v = Ideal.rsqrt v * (Ideal.rsqrt v * Ideal.rsqrt v) := by
  induction v using EReal.rec with
  | bot => exact absurd h (by simp)
  | top => rw [Ideal.rsqrt_top, zero_mul, Ideal.div, if_neg (by simp), zero_mul]
  | coe v =>
    have hv : 0 < v := EReal.coe_pos.mp h
    rw [rsqrt_real hv, div_real hv.ne', ← EReal.coe_mul, ← EReal.coe_mul]
    congr 1
    rw [← mul_inv, Real.mul_self_sqrt hv.le, div_eq_mul_inv]

theorem sq_nonneg (a : EReal) : 0 ≤ a * a := by
  induction a using EReal.rec with
  | bot => simp
  | top => simp
  | coe a => exact_mod_cast mul_self_nonneg a

theorem mean_pos (x : Fin 2048 → EReal) :
    0 < Ideal.div (∑ k, x k * x k) (Ideal.ofBits FTy.f32 0x45000000#32) + Ideal.ofBits FTy.f32 0x358637BD#32 := by
  rw [bits_2048, bits_eps, Ideal.div_coe (by norm_num)]
  have h1 : (0 : EReal) ≤ ∑ k, x k * x k := Finset.sum_nonneg fun k _ => sq_nonneg _
  have h2 : (0 : EReal) ≤ (∑ k, x k * x k) * (((1 / 2048 : ℝ)) : EReal) := mul_nonneg h1 (EReal.coe_nonneg.mpr (by norm_num))
  exact lt_of_lt_of_le (EReal.coe_pos.mpr eps_pos) (le_add_of_nonneg_left h2)

/-- The reciprocal root mean square of a row. -/
def rinv (x : Fin 2048 → EReal) : EReal :=
  Ideal.rsqrt (Ideal.div (∑ k, x k * x k) (Ideal.ofBits FTy.f32 0x45000000#32) + Ideal.ofBits FTy.f32 0x358637BD#32)

/-- The derivative of the mean square, taken twice with its factors in the order of the product rule. -/
theorem mean_grad (x : Fin 2048 → EReal) (T y : EReal) :
    y * Ideal.div (T * (((-(1 / 2) : ℝ) : EReal) * Ideal.div (rinv x) (Ideal.div (∑ k, x k * x k) (Ideal.ofBits FTy.f32 0x45000000#32)
        + Ideal.ofBits FTy.f32 0x358637BD#32))) (Ideal.ofBits FTy.f32 0x45000000#32)
      + Ideal.div (T * (((-(1 / 2) : ℝ) : EReal) * Ideal.div (rinv x) (Ideal.div (∑ k, x k * x k) (Ideal.ofBits FTy.f32 0x45000000#32)
        + Ideal.ofBits FTy.f32 0x358637BD#32))) (Ideal.ofBits FTy.f32 0x45000000#32) * y
      = -(y * rinv x * (rinv x * rinv x * Ideal.div T (Ideal.ofBits FTy.f32 0x45000000#32))) := by
  have h : Ideal.div (rinv x) (Ideal.div (∑ k, x k * x k) (Ideal.ofBits FTy.f32 0x45000000#32)
        + Ideal.ofBits FTy.f32 0x358637BD#32) = rinv x * (rinv x * rinv x) := rsqrt_div (mean_pos x)
  rw [h, ← half_twice, bits_2048, Ideal.div_coe (by norm_num), Ideal.div_coe (by norm_num)]
  generalize rinv x = r
  generalize ((-(1 / 2) : ℝ) : EReal) = a
  generalize ((1 / 2048 : ℝ) : EReal) = b
  have e : y * (T * (a * (r * (r * r))) * b) = a * (y * r * (r * r * (T * b))) := by ac_rfl
  rw [mul_comm _ y, e]

end Cert.Mix

end
-- ==== Proof.InProjGrad.lean ====
/- The backward pass of the modulated norm and of the input projection: each grid point writes a block of rows of the gradient, and adds its rows' share to the gradients of the shift, the scale and the norm's gain. -/
module

public import proofs.«01_k».proof.Proof.Norm
public import Idealize.ShloMosaic.Lib.Pipeline.ValueKit
public import proofs.«01_k».proof.Proof.Gen.InProjGradIdeal.Value
public import proofs.«01_k».proof.Proof.Gen.InProjGradReferenceIdeal.Read

@[expose] public section

set_option maxRecDepth 16384

noncomputable section

namespace Cert.InProjGradIdeal.Hand

open Idealize.ShloMosaic Idealize.ShloMosaic.TcCoe Idealize.SL.Sem
open Cert.InProjGradIdeal Cert.InProjGradIdeal.Gen Cert.Mix

/-! ### A row of the gradients -/

/-- A row times the matrix. -/
def dh (z : Fin 5376 → EReal) (w : Vec Ideal S5376x2048 .bf16) (j : Fin 2048) : EReal := ∑ k : Fin 5376, z k * w (ix2 k j)

/-- The gradient of the norm's row: of the residual `e`, from the gradient `d` of the modulated norm of `x`, with gain `g` and scale `s`. -/
def gx (e d x g s : Fin 2048 → EReal) (j : Fin 2048) : EReal :=
  e j + rinv x * (d j * (1 + s j) * g j)
    - x j * rinv x * (rinv x * rinv x * Ideal.div (∑ k, d k * (1 + s k) * g k * x k) (Ideal.ofBits FTy.f32 0x45000000#32))

theorem dh_congr {z z' : Fin 5376 → EReal} {w w' : Vec Ideal S5376x2048 .bf16} {j j' : Fin 2048} (hz : ∀ k, z k = z' k)
    (hw : ∀ k l, w (ix2 k l) = w' (ix2 k l)) (hj : j = j') : dh z w j = dh z' w' j' := by
  subst hj
  exact Finset.sum_congr rfl fun k _ => congrArg₂ (· * ·) (hz k) (hw k j)

theorem gx_congr {e d x g s e' d' x' g' s' : Fin 2048 → EReal} {j j' : Fin 2048} (he : ∀ k, e k = e' k) (hd : ∀ k, d k = d' k) (hx : ∀ k, x k = x' k)
    (hg : ∀ k, g k = g' k) (hs : ∀ k, s k = s' k) (hj : j = j') : gx e d x g s j = gx e' d' x' g' s' j' := by
  rw [funext he, funext hd, funext hx, funext hg, funext hs, hj]

variable (m : (ℓ : Loc nD τ sig) → Buf (Elt Ideal) ℓ)

/-! ### The body's payloads -/

theorem dh_pay (z : Vec Ideal S256x5376 .bf16) (w : Vec Ideal S5376x2048 .bf16) (i : S256x2048.Idx) :
    k0_pay7 z w i = dh (fun k => z (ix2 (i 0) k)) w (i 1) := by
  unfold dh
  pointwise [k0_pay7]

theorem rinv_pay (x : Vec Ideal S256x2048 .f32) (i : S256x1.Idx) : k0_pay8 x i = rinv fun k => x (ix2 (i 0) k) := by
  unfold rinv
  pointwise [k0_pay8]

theorem xn_pay (x : Vec Ideal S256x2048 .f32) (i : S256x2048.Idx) : k0_pay9 x i = x i * rinv fun k => x (ix2 (i 0) k) := by
  pointwise [k0_pay9, rinv_pay]

theorem dhs_pay (d : FVec Ideal S256x2048 .f32) (s : Vec Ideal S1x2048 .f32) (i : S256x2048.Idx) :
    k0_pay1 d s i = d i * (1 + s (ix2 0 (i 1))) := by
  pointwise [k0_pay1]

theorem gx_pay (z : Vec Ideal S256x5376 .bf16) (w : Vec Ideal S5376x2048 .bf16) (x e : Vec Ideal S256x2048 .f32) (g s : Vec Ideal S1x2048 .f32)
    (i : S256x2048.Idx) :
    k0_pay3 (k0_pay7 z w) x g (k0_pay8 x) (k0_pay9 x) s e i
      = gx (fun j => e (ix2 (i 0) j)) (dh (fun k => z (ix2 (i 0) k)) w) (fun j => x (ix2 (i 0) j)) (fun j => g (ix2 0 j)) (fun j => s (ix2 0 j)) (i 1) := by
  unfold gx
  pointwise [k0_pay3, dhs_pay, xn_pay, rinv_pay, dh_pay]

theorem shift_pay (z : Vec Ideal S256x5376 .bf16) (w : Vec Ideal S5376x2048 .bf16) (a : Vec Ideal S1x2048 .f32) (i : S1x2048.Idx) :
    k0_pay10 z w a i = a i + ∑ p : Fin 256, dh (fun k => z (ix2 p k)) w (i 1) := by
  pointwise [k0_pay10, dh_pay]

theorem scale_pay (z : Vec Ideal S256x5376 .bf16) (w : Vec Ideal S5376x2048 .bf16) (x : Vec Ideal S256x2048 .f32) (g a : Vec Ideal S1x2048 .f32) (i : S1x2048.Idx) :
    k0_pay11 z w x g a i = a i + ∑ p : Fin 256, dh (fun k => z (ix2 p k)) w (i 1) * (x (ix2 p (i 1)) * rinv (fun k => x (ix2 p k)) * g (ix2 0 (i 1))) := by
  pointwise [k0_pay11, dh_pay, xn_pay]

theorem gain_pay (z : Vec Ideal S256x5376 .bf16) (w : Vec Ideal S5376x2048 .bf16) (x : Vec Ideal S256x2048 .f32) (s a : Vec Ideal S1x2048 .f32) (i : S1x2048.Idx) :
    k0_pay2 (k0_pay7 z w) (k0_pay9 x) s a i
      = a i + ∑ p : Fin 256, dh (fun k => z (ix2 p k)) w (i 1) * (1 + s (ix2 0 (i 1))) * (x (ix2 p (i 1)) * rinv (fun k => x (ix2 p k))) := by
  pointwise [k0_pay2, dhs_pay, dh_pay, xn_pay]

/-- The scale's columns of the modulation. -/
theorem scale_ld (M : Vec Ideal S1x6144 .f32) (j : Fin 2048) :
    View.ld M (Rect.unit ![0, 2048] ![1, 2048] inb_S1x6144_S1x2048_0_2048) (ix2 0 j) = M (ix2 0 ⟨2048 + j, by omega⟩) :=
  View.ld_unit_apply_of M _ _ _ _ _ (fun a => by fin_cases a <;> rfl)

theorem zero_pay4 (i : S1x2048.Idx) : k0_pay4 (F := Ideal) i = 0 := by pointwise [k0_pay4]
theorem zero_pay5 (i : S1x2048.Idx) : k0_pay5 (F := Ideal) i = 0 := by pointwise [k0_pay5]
theorem zero_pay6 (i : S1x2048.Idx) : k0_pay6 (F := Ideal) i = 0 := by pointwise [k0_pay6]

/-! ### The results -/

theorem index : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] :=
  (by decide +kernel : ∀ t : Fin grid0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0])

section

variable (c : Dev nD) (Z : Vec Ideal S2048x5376 .bf16) (W : Vec Ideal S5376x2048 .bf16) (X E G : Vec Ideal S2048x2048 .f32) (N B : Vec Ideal S1x2048 .f32)
  (M : Vec Ideal S1x6144 .f32) (hZ : m ((c : Thread nD τ).loc main_arg0) = Z) (hW : m ((c : Thread nD τ).loc main_arg1) = W)
  (hX : m ((c : Thread nD τ).loc main_arg2) = X) (hE : m ((c : Thread nD τ).loc main_arg3) = E) (hN : m ((c : Thread nD τ).loc main_arg4) = N)
  (hM : m ((c : Thread nD τ).loc main_arg5) = M)

include hZ hW hX hE hN hM in
theorem result_gx (hG : ∀ i, G i = gx (fun j => E (ix2 (i 0) j)) (dh (fun k => Z (ix2 (i 0) k)) W) (fun j => X (ix2 (i 0) j)) (fun j => N (ix2 0 j))
      (fun j => M (ix2 0 ⟨2048 + j, by omega⟩)) (i 1)) :
    (dats m 0 c).arrAt 6 cfg0.N = G := by
  subst hZ hW hX hE hN hM
  refine (dats m 0 c).arrAt_eq_of_covers 6 G (by decide +kernel) (fun t hf y => ?_)
  blk_simp
  rw [after0_6, hG]
  have key : (outsAt0 m c t.val t.isLt).1 = k0_pay3 (k0_pay7 (iblk m c 0 t) (iblk m c 1 t)) (iblk m c 2 t) (iblk m c 4 t) (k0_pay8 (iblk m c 2 t))
      (k0_pay9 (iblk m c 2 t)) (View.ld (iblk m c 5 t) (Rect.unit ![0, 2048] ![1, 2048] inb_S1x6144_S1x2048_0_2048)) (iblk m c 3 t) := by
    by_cases h : t.val % 8 = 0
    · rw [outsAt0_A m c t h]
      frame_out
      rfl
    · rw [outsAt0_B m c t h]
      frame_out
      rfl
  refine (congrFun key y).trans ((gx_pay _ _ _ _ _ _ y).trans
    (gx_congr (fun j => ?_) (fun j => dh_congr (fun k => ?_) (fun k l => ?_) rfl) (fun j => ?_) (fun j => ?_) (fun j => ?_) ?_))
  · blk_ext [iblk, V, index t]
  · blk_ext [iblk, V, index t]
  · blk_ext [iblk, V, index t]
  · blk_ext [iblk, V, index t]
  · blk_ext [iblk, V, index t]
  · refine (scale_ld _ j).trans ?_
    blk_ext [iblk, V, index t]
  · refine Fin.ext ?_
    have h1 := win0_6.rect_emb_val t y 1
    rw [(index t).2.2.2.2.2.2] at h1
    exact ((Nat.zero_add _).symm.trans (congrArg (· + (y 1 : ℕ)) (Nat.zero_mul _).symm)).trans h1.symm

include hZ hW in
theorem result_shift (hB : ∀ i, B i = ∑ p : Fin 2048, dh (fun k => Z (ix2 p k)) W (i 1)) :
    (dats m 0 c).arrAt 7 cfg0.N = B := by
  subst hZ hW
  refine (dats m 0 c).arrAt_eq_of_after_last 7 t0_7 (by decide +kernel) _ fun j => ?_
  blk_simp
  rw [after0_7, hB]
  refine (Pipeline.eq_sum_fin_of_reset_step_apply_last (fun n h => (outsAt0 m c n h).2.1) 8 (fun _ => 0) _
    (fun t h j => by rw [outsAt0_A m c t h]; frame_out; exact (shift_pay _ _ _ j).trans (congrArg (· + _) (zero_pay4 j)))
    (fun t h j => by rw [outsAt0_B m c t h]; frame_out; exact shift_pay _ _ _ j) (by decide) t0_7 rfl j).trans ?_
  rw [zero_add]
  refine Fin.sum_mul_add_congr fun t p hl => dh_congr (fun k => ?_) (fun k l => ?_) rfl
  · blk_ext [iblk, V, index t]
  · blk_ext [iblk, V, index t]

include hZ hW hX hN in
theorem result_scale (hB : ∀ i, B i = ∑ p : Fin 2048, dh (fun k => Z (ix2 p k)) W (i 1) * (X (ix2 p (i 1)) * rinv (fun k => X (ix2 p k)) * N (ix2 0 (i 1)))) :
    (dats m 0 c).arrAt 8 cfg0.N = B := by
  subst hZ hW hX hN
  refine (dats m 0 c).arrAt_eq_of_after_last 8 t0_7 (by decide +kernel) _ fun j => ?_
  blk_simp
  rw [after0_8, hB]
  refine (Pipeline.eq_sum_fin_of_reset_step_apply_last (fun n h => (outsAt0 m c n h).2.2.1) 8 (fun _ => 0) _
    (fun t h j => by rw [outsAt0_A m c t h]; frame_out; exact (scale_pay _ _ _ _ _ j).trans (congrArg (· + _) (zero_pay5 j)))
    (fun t h j => by rw [outsAt0_B m c t h]; frame_out; exact scale_pay _ _ _ _ _ j) (by decide) t0_7 rfl j).trans ?_
  rw [zero_add]
  refine Fin.sum_mul_add_congr fun t p hl => congrArg₂ (· * ·) (dh_congr (fun k => ?_) (fun k l => ?_) rfl)
    (congrArg₂ (· * ·) (congrArg₂ (· * ·) ?_ (congrArg rinv (funext fun k => ?_))) ?_)
  · blk_ext [iblk, V, index t]
  · blk_ext [iblk, V, index t]
  · blk_ext [iblk, V, index t]
  · blk_ext [iblk, V, index t]
  · blk_ext [iblk, V, index t]

include hZ hW hX hM in
theorem result_gain (hB : ∀ i, B i = ∑ p : Fin 2048, dh (fun k => Z (ix2 p k)) W (i 1) * (1 + M (ix2 0 ⟨2048 + (i 1 : ℕ), by have := (i 1).isLt; simp at this; omega⟩))
      * (X (ix2 p (i 1)) * rinv (fun k => X (ix2 p k)))) :
    (dats m 0 c).arrAt 9 cfg0.N = B := by
  subst hZ hW hX hM
  refine (dats m 0 c).arrAt_eq_of_after_last 9 t0_7 (by decide +kernel) _ fun j => ?_
  blk_simp
  rw [after0_9, hB]
  refine (Pipeline.eq_sum_fin_of_reset_step_apply_last (fun n h => (outsAt0 m c n h).2.2.2) 8 (fun _ => 0) _
    (fun t h j => by rw [outsAt0_A m c t h]; frame_out; exact (gain_pay _ _ _ _ _ j).trans (congrArg (· + _) (zero_pay6 j)))
    (fun t h j => by rw [outsAt0_B m c t h]; frame_out; exact gain_pay _ _ _ _ _ j) (by decide) t0_7 rfl j).trans ?_
  rw [zero_add]
  refine Fin.sum_mul_add_congr fun t p hl => congrArg₂ (· * ·) (congrArg₂ (· * ·) (dh_congr (fun k => ?_) (fun k l => ?_) rfl)
    (congrArg (1 + ·) ((scale_ld _ _).trans ?_))) (congrArg₂ (· * ·) ?_ (congrArg rinv (funext fun k => ?_)))
  · blk_ext [iblk, V, index t]
  · blk_ext [iblk, V, index t]
  · blk_ext [iblk, V, index t]
  · blk_ext [iblk, V, index t]
  · blk_ext [iblk, V, index t]

end

/-! ### The reference's stages -/

section

open Cert.InProjGradReferenceIdeal.Read

variable (Z : Vec Ideal S2048x5376 .bf16) (W : Vec Ideal S5376x2048 .bf16) (X E : Vec Ideal S2048x2048 .f32) (N : Vec Ideal S1x2048 .f32)
  (M : Vec Ideal S1x6144 .f32)

theorem ref_dh (i : S2048x2048.Idx) : val_main_v30 (F := Ideal) Z W i = dh (fun k => Z (ix2 (i 0) k)) W (i 1) := by
  rw [val_main_v30_apply]
  refine Finset.sum_congr rfl fun k _ => congrArg₂ (· * ·) ?_ ?_
  · exact congrArg Z (funext fun a => by fin_cases a <;> rfl)
  · rw [val_main_v27_apply]
    exact congrArg W (funext fun a => by fin_cases a <;> rfl)

theorem ref_mean (i : (⟨2, ![2048, 1]⟩ : Shape).Idx) : val_main_v10 (F := Ideal) X i
    = Ideal.div (∑ k, X (ix2 (i 0) k) * X (ix2 (i 0) k)) (Ideal.ofBits FTy.f32 0x45000000#32) + Ideal.ofBits FTy.f32 0x358637BD#32 := by
  rw [val_main_v10_apply, val_main_v8_apply, val_main_v6_apply, val_main_v5_apply, val_main_v7_apply, val_main_v9_apply, val_main_cst_apply,
    val_main_cst_0_apply, val_main_cst_1_apply, Ideal.ofBits_def, bits_zero, zero_add]
  refine congrArg₂ (· + ·) (congrArg₂ Ideal.div (Finset.sum_congr rfl fun k _ => ?_) rfl) rfl
  rw [val_main_v4_apply]
  have e : idx_main_v5 (idx_main_v6 i) k = ix2 (i 0) k := funext fun a => by fin_cases a <;> rfl
  rw [e]; rfl

theorem ref_rinv (i : (⟨2, ![2048, 1]⟩ : Shape).Idx) : val_main_v11 (F := Ideal) X i = rinv fun k => X (ix2 (i 0) k) := by
  rw [val_main_v11_apply, ref_mean]; rfl

theorem ref_xn (i : S2048x2048.Idx) : val_main_v16 (F := Ideal) X i = X i * rinv fun k => X (ix2 (i 0) k) := by
  rw [val_main_v16_apply, val_main_v15_apply, ref_rinv]; rfl

theorem ref_gain (i : S2048x2048.Idx) : val_main_v18 (F := Ideal) N i = N (ix2 0 (i 1)) := by
  rw [val_main_v18_apply, val_main_v17_apply, val_main_v3_apply]
  refine congrArg N (funext fun a => ?_)
  fin_cases a
  · rfl
  · exact Fin.ext (Nat.mod_eq_of_lt (i 1).isLt)

theorem ref_scale (i : S2048x2048.Idx) : val_main_v36 (F := Ideal) M i = 1 + M (ix2 0 ⟨2048 + (i 1 : ℕ), by have := (i 1).isLt; simp at this; omega⟩) := by
  rw [val_main_v36_apply, val_main_v21_apply, val_main_v20_apply, val_main_v1_apply, val_main_cst_3_apply, Ideal.ofBits_def, bits_one]
  exact congrArg (1 + M ·) (funext fun a => by fin_cases a <;> rfl)

theorem ref_dhs (i : S2048x2048.Idx) : val_main_v37 (F := Ideal) Z W M i = dh (fun k => Z (ix2 (i 0) k)) W (i 1)
    * (1 + M (ix2 0 ⟨2048 + (i 1 : ℕ), by have := (i 1).isLt; simp at this; omega⟩)) := by
  rw [val_main_v37_apply, ref_dh, ref_scale]; rfl

theorem ref_dxn (i : S2048x2048.Idx) : val_main_v42 (F := Ideal) Z W N M i = dh (fun k => Z (ix2 (i 0) k)) W (i 1)
    * (1 + M (ix2 0 ⟨2048 + (i 1 : ℕ), by have := (i 1).isLt; simp at this; omega⟩)) * N (ix2 0 (i 1)) := by
  rw [val_main_v42_apply, ref_dhs, val_main_v41_apply, ← val_main_v18_apply, ref_gain]; rfl

theorem reference_shift (i : S1x2048.Idx) : val_main_v32 (F := Ideal) Z W i = ∑ p : Fin 2048, dh (fun k => Z (ix2 p k)) W (i 1) := by
  rw [val_main_v32_apply, val_main_v31_apply, val_main_cst_4_apply, Ideal.ofBits_def, bits_zero, zero_add]
  refine Finset.sum_congr rfl fun p _ => ?_
  rw [ref_dh]
  exact dh_congr (fun k => rfl) (fun k l => rfl) (Fin.ext (by have h0 : (i 0).val < 1 := (i 0).isLt; show (i 0).val * 2048 + (i 1).val = (i 1).val; omega))

theorem reference_scale (i : S1x2048.Idx) : val_main_v35 (F := Ideal) Z W X N i
    = ∑ p : Fin 2048, dh (fun k => Z (ix2 p k)) W (i 1) * (X (ix2 p (i 1)) * rinv (fun k => X (ix2 p k)) * N (ix2 0 (i 1))) := by
  rw [val_main_v35_apply, val_main_v34_apply, val_main_cst_5_apply, Ideal.ofBits_def, bits_zero, zero_add]
  refine Finset.sum_congr rfl fun p _ => ?_
  have e : idx_main_v34 (idx_main_v35 i) p = ix2 (n0 := 2048) (n1 := 2048) p (i 1) := funext fun a => by
    fin_cases a
    · rfl
    · exact Fin.ext (by have h0 : (i 0).val < 1 := (i 0).isLt; show (i 0).val * 2048 + (i 1).val = (i 1).val; omega)
  rw [val_main_v33_apply, e, ref_dh, val_main_v19_apply, ref_xn, ref_gain]
  exact mul_comm _ _

theorem reference_gain (i : S1x2048.Idx) : val_main_v58 (F := Ideal) Z W X M i
    = ∑ p : Fin 2048, dh (fun k => Z (ix2 p k)) W (i 1) * (1 + M (ix2 0 ⟨2048 + (i 1 : ℕ), by have := (i 1).isLt; simp at this; omega⟩))
      * (X (ix2 p (i 1)) * rinv (fun k => X (ix2 p k))) := by
  rw [val_main_v58_apply, val_main_v43_apply, val_main_cst_7_apply, Ideal.ofBits_def, bits_zero, zero_add, Fin.sum_univ_one,
    val_main_v40_apply, val_main_v39_apply, val_main_cst_6_apply, Ideal.ofBits_def, bits_zero, zero_add]
  refine Finset.sum_congr rfl fun p _ => ?_
  have e : idx_main_v39 (idx_main_v40 (idx_main_v43 (idx_main_v58 i) 0)) p = ix2 (n0 := 2048) (n1 := 2048) p (i 1) := funext fun a => by
    fin_cases a
    · rfl
    · exact Fin.ext (by show 0 * 2048 + (i 1).val = (i 1).val; omega)
  rw [val_main_v38_apply, e, ref_dhs, ref_xn]
  exact mul_comm _ _

theorem reference_gx (i : S2048x2048.Idx) : val_main_v59 (F := Ideal) Z W X E N M i
    = gx (fun j => E (ix2 (i 0) j)) (dh (fun k => Z (ix2 (i 0) k)) W) (fun j => X (ix2 (i 0) j)) (fun j => N (ix2 0 j))
      (fun j => M (ix2 0 ⟨2048 + j, by omega⟩)) (i 1) := by
  have h1 : val_main_v45 (F := Ideal) Z W X N M (idx_main_v46 (idx_main_v52 (idx_main_v53 i) 0))
      = ∑ k, dh (fun k => Z (ix2 (i 0) k)) W k * (1 + M (ix2 0 ⟨2048 + k, by omega⟩)) * N (ix2 0 k) * X (ix2 (i 0) k) := by
    rw [val_main_v45_apply, val_main_cst_8_apply, Ideal.ofBits_def, bits_zero, zero_add]
    refine Finset.sum_congr rfl fun p _ => ?_
    have e : idx_main_v45 (idx_main_v46 (idx_main_v52 (idx_main_v53 i) 0)) p = ix2 (n0 := 2048) (n1 := 2048) (i 0) p := funext fun a => by
      fin_cases a
      · exact Fin.ext (by show (i 0).val * 1 + 0 = (i 0).val; omega)
      · rfl
    rw [val_main_v44_apply, e, ref_dxn]
    exact mul_comm _ _
  have h2 : val_main_v53 (F := Ideal) Z W X N M i = Ideal.div ((∑ k, dh (fun k => Z (ix2 (i 0) k)) W k * (1 + M (ix2 0 ⟨2048 + k, by omega⟩)) * N (ix2 0 k) * X (ix2 (i 0) k))
      * (((-(1 / 2) : ℝ) : EReal) * Ideal.div (rinv fun k => X (ix2 (i 0) k)) (Ideal.div (∑ k, X (ix2 (i 0) k) * X (ix2 (i 0) k)) (Ideal.ofBits FTy.f32 0x45000000#32)
        + Ideal.ofBits FTy.f32 0x358637BD#32))) (Ideal.ofBits FTy.f32 0x45000000#32) := by
    rw [val_main_v53_apply, val_main_v52_apply, val_main_cst_10_apply, Ideal.ofBits_def, bits_zero, zero_add, Fin.sum_univ_one,
      val_main_v51_apply, val_main_v50_apply, val_main_cst_9_apply, val_main_v49_apply, val_main_v46_apply, h1,
      val_main_v14_apply, val_main_v13_apply, val_main_cst_2_apply, Ideal.ofBits_def, bits_neg_half, val_main_v12_apply, ref_mean, ref_rinv]
    rfl
  rw [val_main_v59_apply, val_main_v57_apply, val_main_v55_apply, val_main_v54_apply, val_main_v56_apply, val_main_v48_apply, val_main_v47_apply,
    ref_rinv, ref_dxn, h2]
  have h3 := mean_grad (fun k => X (ix2 (i 0) k)) (∑ k, dh (fun k => Z (ix2 (i 0) k)) W k * (1 + M (ix2 0 ⟨2048 + k, by omega⟩)) * N (ix2 0 k) * X (ix2 (i 0) k)) (X (ix2 (i 0) (i 1)))
  have e : ix2 (n0 := 2048) (n1 := 2048) (i 0) (i 1) = i := funext fun a => by fin_cases a <;> rfl
  rw [e] at h3
  have h4 : ∀ a b u v w : EReal, a + (b * u + v + w) = a + u * b + (v + w) := fun a b u v w => by rw [mul_comm b u, add_assoc, add_assoc]
  refine (h4 _ _ _ _ _).trans ?_
  refine (congrArg₂ (· + ·) ?_ (h3.trans ?_)).trans (sub_eq_add_neg _ _).symm
  · exact congrArg₂ (· + ·) (congrArg E e.symm) rfl
  · exact congrArg (fun y => -(X y * _ * _)) e.symm

end

end Cert.InProjGradIdeal.Hand

end
-- ==== Proof.LossHead.lean ====
/- The output projection with the gated residual, the final norm and the loss: each grid point writes blocks of rows of the two gradients, and adds its rows' share to the gradients of the gain and of the gate, and to the loss. -/
module

public import proofs.«01_k».proof.Proof.Norm
public import Idealize.ShloMosaic.Lib.Pipeline.ValueKit
public import proofs.«01_k».proof.Proof.Gen.LossHeadIdeal.Value
public import proofs.«01_k».proof.Proof.Gen.LossHeadReferenceIdeal.Read

@[expose] public section

set_option maxRecDepth 16384

noncomputable section

namespace Cert.LossHeadIdeal.Hand

open Idealize.ShloMosaic Idealize.ShloMosaic.TcCoe Idealize.SL.Sem
open Cert.LossHeadIdeal Cert.LossHeadIdeal.Gen Cert.Mix

/-! ### A row of the residual, of its error and of the gradients -/

section

variable (c : Fin 2048 → EReal) (w : Vec Ideal S2048x2048 .bf16) (x g f t : Fin 2048 → EReal)

/-- A row times the matrix. -/
def yv (j : Fin 2048) : EReal := ∑ k : Fin 2048, c k * w (ix2 k j)

/-- The gated residual. -/
def x1 (j : Fin 2048) : EReal := x j + g j * yv c w j

/-- The reciprocal root mean square of the residual. -/
def rr : EReal := rinv (x1 c w x g)

/-- The error: the normed residual with gain `f`, less the target `t`. -/
def err (j : Fin 2048) : EReal := x1 c w x g j * rr c w x g * f j - t j

/-- The gradient of the mean square error. -/
def dout (j : Fin 2048) : EReal := err c w x g f t j * Ideal.ofBits FTy.f32 0x3A000000#32

/-- The gradient of the residual. -/
def dx (j : Fin 2048) : EReal :=
  rr c w x g * (dout c w x g f t j * f j)
    - x1 c w x g j * rr c w x g * (rr c w x g * rr c w x g * Ideal.div (∑ k, dout c w x g f t k * f k * x1 c w x g k) (Ideal.ofBits FTy.f32 0x45000000#32))

/-- The gradient of the product. -/
def dy (j : Fin 2048) : EReal := g j * dx c w x g f t j

/-- A row's share of the gradient of the gain. -/
def dgain (j : Fin 2048) : EReal := dout c w x g f t j * (x1 c w x g j * rr c w x g)

/-- A row's share of the gradient of the gate. -/
def dgate (j : Fin 2048) : EReal := dx c w x g f t j * yv c w j

/-- A row's mean square error. -/
def mse (_ : Fin 1) : EReal := Ideal.div (∑ k, err c w x g f t k * err c w x g f t k) (Ideal.ofBits FTy.f32 0x45000000#32)

end

theorem row_congr {J : Type} (Φ : (Fin 2048 → EReal) → Vec Ideal S2048x2048 .bf16 → (Fin 2048 → EReal) → (Fin 2048 → EReal) → (Fin 2048 → EReal) → (Fin 2048 → EReal) → J → EReal)
    {c x g f t c' x' g' f' t' : Fin 2048 → EReal} {w w' : Vec Ideal S2048x2048 .bf16} {j j' : J} (hc : ∀ k, c k = c' k)
    (hw : ∀ k l, w (ix2 k l) = w' (ix2 k l)) (hx : ∀ k, x k = x' k) (hg : ∀ k, g k = g' k) (hf : ∀ k, f k = f' k) (ht : ∀ k, t k = t' k) (hj : j = j') :
    Φ c w x g f t j = Φ c' w' x' g' f' t' j' := by
  have e : w = w' := funext fun i => by
    have h : ix2 (n0 := 2048) (n1 := 2048) (i 0) (i 1) = i := funext fun a => by fin_cases a <;> rfl
    have := hw (i 0) (i 1)
    rwa [h] at this
  rw [funext hc, funext hx, funext hg, funext hf, funext ht, e, hj]

variable (m : (ℓ : Loc nD τ sig) → Buf (Elt Ideal) ℓ)

/-! ### The body's payloads -/

section

variable (c : Vec Ideal S256x2048 .bf16) (w : Vec Ideal S2048x2048 .bf16) (x t : Vec Ideal S256x2048 .f32) (g f : Vec Ideal S1x2048 .f32)

theorem yv_pay (i : S256x2048.Idx) : k0_pay4 c w i = yv (fun k => c (ix2 (i 0) k)) w (i 1) := by
  unfold yv
  pointwise [k0_pay4]

theorem x1_pay (i : S256x2048.Idx) : k0_pay5 g c w x i = x1 (fun k => c (ix2 (i 0) k)) w (fun k => x (ix2 (i 0) k)) (fun k => g (ix2 0 k)) (i 1) := by
  unfold x1
  pointwise [k0_pay5, yv_pay]

theorem rr_pay (i : S256x1.Idx) : k0_pay6 g c w x i = rr (fun k => c (ix2 (i 0) k)) w (fun k => x (ix2 (i 0) k)) (fun k => g (ix2 0 k)) := by
  unfold rr rinv
  pointwise [k0_pay6, x1_pay]

theorem xr_pay (i : S256x2048.Idx) : k0_pay7 g c w x i
    = x1 (fun k => c (ix2 (i 0) k)) w (fun k => x (ix2 (i 0) k)) (fun k => g (ix2 0 k)) (i 1) * rr (fun k => c (ix2 (i 0) k)) w (fun k => x (ix2 (i 0) k)) (fun k => g (ix2 0 k)) := by
  pointwise [k0_pay7, x1_pay, rr_pay]

theorem err_pay (i : S256x2048.Idx) : k0_pay8 g f c w x t i
    = err (fun k => c (ix2 (i 0) k)) w (fun k => x (ix2 (i 0) k)) (fun k => g (ix2 0 k)) (fun k => f (ix2 0 k)) (fun k => t (ix2 (i 0) k)) (i 1) := by
  unfold err
  pointwise [k0_pay8, xr_pay]

theorem dout_pay (i : S256x2048.Idx) : k0_pay9 g f c w x t i
    = dout (fun k => c (ix2 (i 0) k)) w (fun k => x (ix2 (i 0) k)) (fun k => g (ix2 0 k)) (fun k => f (ix2 0 k)) (fun k => t (ix2 (i 0) k)) (i 1) := by
  unfold dout
  pointwise [k0_pay9, err_pay]

theorem gy_pay (i : S256x2048.Idx) : k0_pay10 g f c w x t i
    = dout (fun k => c (ix2 (i 0) k)) w (fun k => x (ix2 (i 0) k)) (fun k => g (ix2 0 k)) (fun k => f (ix2 0 k)) (fun k => t (ix2 (i 0) k)) (i 1) * f (ix2 0 (i 1)) := by
  pointwise [k0_pay10, dout_pay]

theorem dx_pay (i : S256x2048.Idx) :
    k0_pay15 (k0_pay7 g c w x) (k0_pay11 g f c w x t) (k0_pay12 g c w x) (k0_pay13 g f c w x t) k0_pay14 i
      = dx (fun k => c (ix2 (i 0) k)) w (fun k => x (ix2 (i 0) k)) (fun k => g (ix2 0 k)) (fun k => f (ix2 0 k)) (fun k => t (ix2 (i 0) k)) (i 1) := by
  unfold dx
  pointwise [k0_pay15, k0_pay11, k0_pay12, k0_pay13, k0_pay14, xr_pay, x1_pay, rr_pay, gy_pay]

theorem dy_pay (i : S256x2048.Idx) :
    k0_pay16 g (k0_pay7 g c w x) (k0_pay11 g f c w x t) (k0_pay12 g c w x) (k0_pay13 g f c w x t) k0_pay14 i
      = dy (fun k => c (ix2 (i 0) k)) w (fun k => x (ix2 (i 0) k)) (fun k => g (ix2 0 k)) (fun k => f (ix2 0 k)) (fun k => t (ix2 (i 0) k)) (i 1) := by
  unfold dy
  pointwise [k0_pay16, dx_pay]

theorem dgain_pay (a : Vec Ideal S1x2048 .f32) (i : S1x2048.Idx) :
    k0_pay17 (k0_pay7 g c w x) (k0_pay9 g f c w x t) a i = a i + ∑ p : Fin 256,
      dgain (fun k => c (ix2 p k)) w (fun k => x (ix2 p k)) (fun k => g (ix2 0 k)) (fun k => f (ix2 0 k)) (fun k => t (ix2 p k)) (i 1) := by
  unfold dgain
  pointwise [k0_pay17, dout_pay, xr_pay]

theorem dgate_pay (a : Vec Ideal S1x2048 .f32) (i : S1x2048.Idx) :
    k0_pay18 (k0_pay4 c w) (k0_pay7 g c w x) (k0_pay11 g f c w x t) (k0_pay12 g c w x) (k0_pay13 g f c w x t) k0_pay14 a i = a i + ∑ p : Fin 256,
      dgate (fun k => c (ix2 p k)) w (fun k => x (ix2 p k)) (fun k => g (ix2 0 k)) (fun k => f (ix2 0 k)) (fun k => t (ix2 p k)) (i 1) := by
  unfold dgate
  pointwise [k0_pay18, dx_pay, yv_pay]

theorem loss_pay (a : Vec Ideal S1x1 .f32) (i : S1x1.Idx) :
    k0_pay19 (k0_pay8 g f c w x t) a i = a i + Ideal.ofBits FTy.f32 0x3F000000#32 * ∑ p : Fin 256,
      mse (fun k => c (ix2 p k)) w (fun k => x (ix2 p k)) (fun k => g (ix2 0 k)) (fun k => f (ix2 0 k)) (fun k => t (ix2 p k)) 0 := by
  unfold mse
  pointwise [k0_pay19, err_pay]

theorem zero_pay1 (i : S1x2048.Idx) : k0_pay1 (F := Ideal) i = 0 := by pointwise [k0_pay1]
theorem zero_pay2 (i : S1x2048.Idx) : k0_pay2 (F := Ideal) i = 0 := by pointwise [k0_pay2]
theorem zero_pay3 (i : S1x1.Idx) : k0_pay3 (F := Ideal) i = 0 := by pointwise [k0_pay3]

end

/-- The gate's columns of the modulation. -/
theorem gate_ld (M : Vec Ideal S1x6144 .f32) (j : Fin 2048) :
    View.ld M (Rect.unit ![0, 4096] ![1, 2048] inb_S1x6144_S1x2048_0_4096) (ix2 0 j) = M (ix2 0 ⟨4096 + j, by omega⟩) :=
  View.ld_unit_apply_of M _ _ _ _ _ (fun a => by fin_cases a <;> rfl)

/-! ### The results -/

theorem index : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] :=
  (by decide +kernel : ∀ t : Fin grid0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0])

/-- A nonnegative number times a sum. -/
theorem mul_sum {n : ℕ} (a : EReal) (h : 0 ≤ a) (h' : a ≠ ⊤) (f : Fin n → EReal) : ∑ k, a * f k = a * ∑ k, f k := by
  induction n with
  | zero => simp
  | succ n ih => rw [Fin.sum_univ_succ, Fin.sum_univ_succ, ih, EReal.left_distrib_of_nonneg_of_ne_top h h']

section

variable (c : Dev nD) (C : Vec Ideal S2048x2048 .bf16) (W : Vec Ideal S2048x2048 .bf16) (X T : Vec Ideal S2048x2048 .f32) (M : Vec Ideal S1x6144 .f32)
  (F B : Vec Ideal S1x2048 .f32) (hC : m ((c : Thread nD τ).loc main_arg0) = C) (hW : m ((c : Thread nD τ).loc main_arg1) = W)
  (hX : m ((c : Thread nD τ).loc main_arg2) = X) (hT : m ((c : Thread nD τ).loc main_arg3) = T) (hM : m ((c : Thread nD τ).loc main_arg4) = M)
  (hF : m ((c : Thread nD τ).loc main_arg5) = F)

include hC hW hX hT hM hF in
theorem result_dx (G : Vec Ideal S2048x2048 .f32)
    (hG : ∀ i, G i = dx (fun k => C (ix2 (i 0) k)) W (fun k => X (ix2 (i 0) k)) (fun k => M (ix2 0 ⟨4096 + k, by omega⟩)) (fun k => F (ix2 0 k)) (fun k => T (ix2 (i 0) k)) (i 1)) :
    (dats m 0 c).arrAt 6 cfg0.N = G := by
  subst hC hW hX hT hM hF
  refine (dats m 0 c).arrAt_eq_of_covers 6 G (by decide +kernel) (fun t hf y => ?_)
  blk_simp
  rw [after0_6, hG]
  have key : (outsAt0 m c t.val t.isLt).1 = k0_pay15 (k0_pay7 (View.ld (iblk m c 4 t) (Rect.unit ![0, 4096] ![1, 2048] inb_S1x6144_S1x2048_0_4096)) (iblk m c 0 t) (iblk m c 1 t) (iblk m c 2 t)) (k0_pay11 (View.ld (iblk m c 4 t) (Rect.unit ![0, 4096] ![1, 2048] inb_S1x6144_S1x2048_0_4096)) (iblk m c 5 t) (iblk m c 0 t) (iblk m c 1 t) (iblk m c 2 t) (iblk m c 3 t)) (k0_pay12 (View.ld (iblk m c 4 t) (Rect.unit ![0, 4096] ![1, 2048] inb_S1x6144_S1x2048_0_4096)) (iblk m c 0 t) (iblk m c 1 t) (iblk m c 2 t)) (k0_pay13 (View.ld (iblk m c 4 t) (Rect.unit ![0, 4096] ![1, 2048] inb_S1x6144_S1x2048_0_4096)) (iblk m c 5 t) (iblk m c 0 t) (iblk m c 1 t) (iblk m c 2 t) (iblk m c 3 t)) k0_pay14 := by
    by_cases h : t.val % 8 = 0
    · rw [outsAt0_A m c t h]
      frame_out
      rfl
    · rw [outsAt0_B m c t h]
      frame_out
      rfl
  refine (congrFun key y).trans ((dx_pay _ _ _ _ _ _ y).trans
    (row_congr dx (fun k => ?_) (fun k l => ?_) (fun k => ?_) (fun k => ?_) (fun k => ?_) (fun k => ?_) ?_))
  · blk_ext [iblk, V, index t]
  · blk_ext [iblk, V, index t]
  · blk_ext [iblk, V, index t]
  · refine (gate_ld _ k).trans ?_
    blk_ext [iblk, V, index t]
  · blk_ext [iblk, V, index t]
  · blk_ext [iblk, V, index t]
  · refine Fin.ext ?_
    have h1 := win0_6.rect_emb_val t y 1
    rw [(index t).2.2.2.2.2.2.1] at h1
    exact ((Nat.zero_add _).symm.trans (congrArg (· + (y 1 : ℕ)) (Nat.zero_mul _).symm)).trans h1.symm

include hC hW hX hT hM hF in
theorem result_dy (G : Vec Ideal S2048x2048 .bf16)
    (hG : ∀ i, G i = dy (fun k => C (ix2 (i 0) k)) W (fun k => X (ix2 (i 0) k)) (fun k => M (ix2 0 ⟨4096 + k, by omega⟩)) (fun k => F (ix2 0 k)) (fun k => T (ix2 (i 0) k)) (i 1)) :
    (dats m 0 c).arrAt 7 cfg0.N = G := by
  subst hC hW hX hT hM hF
  refine (dats m 0 c).arrAt_eq_of_covers 7 G (by decide +kernel) (fun t hf y => ?_)
  blk_simp
  rw [after0_7, hG]
  have key : (outsAt0 m c t.val t.isLt).2.1 = k0_pay16 (View.ld (iblk m c 4 t) (Rect.unit ![0, 4096] ![1, 2048] inb_S1x6144_S1x2048_0_4096)) (k0_pay7 (View.ld (iblk m c 4 t) (Rect.unit ![0, 4096] ![1, 2048] inb_S1x6144_S1x2048_0_4096)) (iblk m c 0 t) (iblk m c 1 t) (iblk m c 2 t)) (k0_pay11 (View.ld (iblk m c 4 t) (Rect.unit ![0, 4096] ![1, 2048] inb_S1x6144_S1x2048_0_4096)) (iblk m c 5 t) (iblk m c 0 t) (iblk m c 1 t) (iblk m c 2 t) (iblk m c 3 t)) (k0_pay12 (View.ld (iblk m c 4 t) (Rect.unit ![0, 4096] ![1, 2048] inb_S1x6144_S1x2048_0_4096)) (iblk m c 0 t) (iblk m c 1 t) (iblk m c 2 t)) (k0_pay13 (View.ld (iblk m c 4 t) (Rect.unit ![0, 4096] ![1, 2048] inb_S1x6144_S1x2048_0_4096)) (iblk m c 5 t) (iblk m c 0 t) (iblk m c 1 t) (iblk m c 2 t) (iblk m c 3 t)) k0_pay14 := by
    by_cases h : t.val % 8 = 0
    · rw [outsAt0_A m c t h]
      frame_out
      rfl
    · rw [outsAt0_B m c t h]
      frame_out
      rfl
  refine (congrFun key y).trans ((dy_pay _ _ _ _ _ _ y).trans
    (row_congr dy (fun k => ?_) (fun k l => ?_) (fun k => ?_) (fun k => ?_) (fun k => ?_) (fun k => ?_) ?_))
  · blk_ext [iblk, V, index t]
  · blk_ext [iblk, V, index t]
  · blk_ext [iblk, V, index t]
  · refine (gate_ld _ k).trans ?_
    blk_ext [iblk, V, index t]
  · blk_ext [iblk, V, index t]
  · blk_ext [iblk, V, index t]
  · refine Fin.ext ?_
    have h1 := win0_7.rect_emb_val t y 1
    rw [(index t).2.2.2.2.2.2.2] at h1
    exact ((Nat.zero_add _).symm.trans (congrArg (· + (y 1 : ℕ)) (Nat.zero_mul _).symm)).trans h1.symm

include hC hW hX hT hM hF in
theorem result_dgain (hB : ∀ i, B i = ∑ p : Fin 2048, dgain (fun k => C (ix2 p k)) W (fun k => X (ix2 p k)) (fun k => M (ix2 0 ⟨4096 + k, by omega⟩)) (fun k => F (ix2 0 k)) (fun k => T (ix2 p k)) (i 1)) :
    (dats m 0 c).arrAt 8 cfg0.N = B := by
  subst hC hW hX hT hM hF
  refine (dats m 0 c).arrAt_eq_of_after_last 8 t0_7 (by decide +kernel) _ fun j => ?_
  blk_simp
  rw [after0_8, hB]
  refine (Pipeline.eq_sum_fin_of_reset_step_apply_last (fun n h => (outsAt0 m c n h).2.2.1) 8 (fun _ => 0) _
    (fun t h j => by rw [outsAt0_A m c t h]; frame_out; exact (dgain_pay _ _ _ _ _ _ _ j).trans (congrArg (· + _) (zero_pay1 j)))
    (fun t h j => by rw [outsAt0_B m c t h]; frame_out; exact dgain_pay _ _ _ _ _ _ _ j) (by decide) t0_7 rfl j).trans ?_
  rw [zero_add]
  refine Fin.sum_mul_add_congr fun t p hl => row_congr dgain (fun k => ?_) (fun k l => ?_) (fun k => ?_) (fun k => ?_) (fun k => ?_) (fun k => ?_) rfl
  · blk_ext [iblk, V, index t]
  · blk_ext [iblk, V, index t]
  · blk_ext [iblk, V, index t]
  · refine (gate_ld _ k).trans ?_
    blk_ext [iblk, V, index t]
  · blk_ext [iblk, V, index t]
  · blk_ext [iblk, V, index t]

include hC hW hX hT hM hF in
theorem result_dgate (hB : ∀ i, B i = ∑ p : Fin 2048, dgate (fun k => C (ix2 p k)) W (fun k => X (ix2 p k)) (fun k => M (ix2 0 ⟨4096 + k, by omega⟩)) (fun k => F (ix2 0 k)) (fun k => T (ix2 p k)) (i 1)) :
    (dats m 0 c).arrAt 9 cfg0.N = B := by
  subst hC hW hX hT hM hF
  refine (dats m 0 c).arrAt_eq_of_after_last 9 t0_7 (by decide +kernel) _ fun j => ?_
  blk_simp
  rw [after0_9, hB]
  refine (Pipeline.eq_sum_fin_of_reset_step_apply_last (fun n h => (outsAt0 m c n h).2.2.2.1) 8 (fun _ => 0) _
    (fun t h j => by rw [outsAt0_A m c t h]; frame_out; exact (dgate_pay _ _ _ _ _ _ _ j).trans (congrArg (· + _) (zero_pay2 j)))
    (fun t h j => by rw [outsAt0_B m c t h]; frame_out; exact dgate_pay _ _ _ _ _ _ _ j) (by decide) t0_7 rfl j).trans ?_
  rw [zero_add]
  refine Fin.sum_mul_add_congr fun t p hl => row_congr dgate (fun k => ?_) (fun k l => ?_) (fun k => ?_) (fun k => ?_) (fun k => ?_) (fun k => ?_) rfl
  · blk_ext [iblk, V, index t]
  · blk_ext [iblk, V, index t]
  · blk_ext [iblk, V, index t]
  · refine (gate_ld _ k).trans ?_
    blk_ext [iblk, V, index t]
  · blk_ext [iblk, V, index t]
  · blk_ext [iblk, V, index t]

include hC hW hX hT hM hF in
theorem result_loss (L : Vec Ideal S1x1 .f32) (hL : ∀ i, L i = Ideal.ofBits FTy.f32 0x3F000000#32 * ∑ p : Fin 2048, mse (fun k => C (ix2 p k)) W (fun k => X (ix2 p k)) (fun k => M (ix2 0 ⟨4096 + k, by omega⟩)) (fun k => F (ix2 0 k)) (fun k => T (ix2 p k)) 0) :
    (dats m 0 c).arrAt 10 cfg0.N = L := by
  subst hC hW hX hT hM hF
  refine (dats m 0 c).arrAt_eq_of_after_last 10 t0_7 (by decide +kernel) _ fun j => ?_
  blk_simp
  rw [after0_10, hL]
  refine (Pipeline.eq_sum_fin_of_reset_step_apply_last (fun n h => (outsAt0 m c n h).2.2.2.2) 8 (fun _ => 0) _
    (fun t h j => by rw [outsAt0_A m c t h]; frame_out; exact (loss_pay _ _ _ _ _ _ _ j).trans (congrArg (· + _) (zero_pay3 j)))
    (fun t h j => by rw [outsAt0_B m c t h]; frame_out; exact loss_pay _ _ _ _ _ _ _ j) (by decide) t0_7 rfl j).trans ?_
  rw [zero_add]
  refine (mul_sum _ (by rw [bits_half]; exact EReal.coe_nonneg.mpr (by norm_num)) (by rw [bits_half]; exact EReal.coe_ne_top _) _).trans (congrArg _ ?_)
  refine Fin.sum_mul_add_congr fun t p hl => row_congr mse (fun k => ?_) (fun k l => ?_) (fun k => ?_) (fun k => ?_) (fun k => ?_) (fun k => ?_) rfl
  · blk_ext [iblk, V, index t]
  · blk_ext [iblk, V, index t]
  · blk_ext [iblk, V, index t]
  · refine (gate_ld _ k).trans ?_
    blk_ext [iblk, V, index t]
  · blk_ext [iblk, V, index t]
  · blk_ext [iblk, V, index t]

end

/-! ### The reference's stages -/

section

open Cert.LossHeadReferenceIdeal.Read

variable (C : Vec Ideal S2048x2048 .bf16) (W : Vec Ideal S2048x2048 .bf16) (X T : Vec Ideal S2048x2048 .f32) (M : Vec Ideal S1x6144 .f32)
  (F : Vec Ideal S1x2048 .f32)

theorem ref_gate (i : S2048x2048.Idx) : val_main_v4 (F := Ideal) M i = M (ix2 0 ⟨4096 + (i 1 : ℕ), by have := (i 1).isLt; simp at this; omega⟩) := by
  rw [val_main_v4_apply, val_main_v0_apply]
  exact congrArg M (funext fun a => by fin_cases a <;> rfl)

theorem ref_yv (i : S2048x2048.Idx) : val_main_v3 (F := Ideal) C W i = yv (fun k => C (ix2 (i 0) k)) W (i 1) := by
  rw [val_main_v3_apply]
  refine Finset.sum_congr rfl fun k _ => congrArg₂ (· * ·) ?_ ?_
  · exact congrArg C (funext fun a => by fin_cases a <;> rfl)
  · exact congrArg W (funext fun a => by fin_cases a <;> rfl)

theorem ref_x1 (i : S2048x2048.Idx) : val_main_v6 (F := Ideal) C W X M i = x1 (fun k => C (ix2 (i 0) k)) W (fun k => X (ix2 (i 0) k)) (fun k => M (ix2 0 ⟨4096 + k, by omega⟩)) (i 1) := by
  have e : ix2 (n0 := 2048) (n1 := 2048) (i 0) (i 1) = i := funext fun a => by fin_cases a <;> rfl
  rw [val_main_v6_apply, val_main_v5_apply, ref_gate, ref_yv]
  exact congrArg₂ (· + ·) (congrArg X e.symm) rfl

theorem ref_mean (i : (⟨2, ![2048, 1]⟩ : Shape).Idx) : val_main_v14 (F := Ideal) C W X M i
    = Ideal.div (∑ k, x1 (fun k => C (ix2 (i 0) k)) W (fun k => X (ix2 (i 0) k)) (fun k => M (ix2 0 ⟨4096 + k, by omega⟩)) k * x1 (fun k => C (ix2 (i 0) k)) W (fun k => X (ix2 (i 0) k)) (fun k => M (ix2 0 ⟨4096 + k, by omega⟩)) k) (Ideal.ofBits FTy.f32 0x45000000#32) + Ideal.ofBits FTy.f32 0x358637BD#32 := by
  rw [val_main_v14_apply, val_main_v12_apply, val_main_v10_apply, val_main_v9_apply, val_main_v11_apply, val_main_v13_apply, val_main_cst_apply,
    val_main_cst_0_apply, val_main_cst_1_apply, Ideal.ofBits_def, bits_zero, zero_add]
  refine congrArg₂ (· + ·) (congrArg₂ Ideal.div (Finset.sum_congr rfl fun k _ => ?_) rfl) rfl
  rw [val_main_v8_apply, ref_x1]; rfl

theorem ref_rr (i : (⟨2, ![2048, 1]⟩ : Shape).Idx) : val_main_v15 (F := Ideal) C W X M i = rr (fun k => C (ix2 (i 0) k)) W (fun k => X (ix2 (i 0) k)) (fun k => M (ix2 0 ⟨4096 + k, by omega⟩)) := by
  rw [val_main_v15_apply, ref_mean]; rfl

theorem ref_xr (i : S2048x2048.Idx) : val_main_v20 (F := Ideal) C W X M i = x1 (fun k => C (ix2 (i 0) k)) W (fun k => X (ix2 (i 0) k)) (fun k => M (ix2 0 ⟨4096 + k, by omega⟩)) (i 1) * rr (fun k => C (ix2 (i 0) k)) W (fun k => X (ix2 (i 0) k)) (fun k => M (ix2 0 ⟨4096 + k, by omega⟩)) := by
  rw [val_main_v20_apply, val_main_v19_apply, ref_rr, ref_x1]; rfl

theorem ref_gain (i : S2048x2048.Idx) : val_main_v22 (F := Ideal) F i = F (ix2 0 (i 1)) := by
  rw [val_main_v22_apply, val_main_v21_apply, val_main_v7_apply]
  refine congrArg F (funext fun a => ?_)
  fin_cases a
  · rfl
  · exact Fin.ext (Nat.mod_eq_of_lt (i 1).isLt)

theorem ref_err (i : S2048x2048.Idx) : val_main_v24 (F := Ideal) C W X T M F i = err (fun k => C (ix2 (i 0) k)) W (fun k => X (ix2 (i 0) k)) (fun k => M (ix2 0 ⟨4096 + k, by omega⟩)) (fun k => F (ix2 0 k)) (fun k => T (ix2 (i 0) k)) (i 1) := by
  have e : ix2 (n0 := 2048) (n1 := 2048) (i 0) (i 1) = i := funext fun a => by fin_cases a <;> rfl
  rw [val_main_v24_apply, val_main_v23_apply, ref_xr, ref_gain]
  exact congrArg₂ (· - ·) rfl (congrArg T e.symm)

theorem scale_err (e : EReal) : Ideal.div (Ideal.ofBits FTy.f32 0x3F000000#32 * Ideal.ofBits FTy.f32 0x3F800000#32) (Ideal.ofBits FTy.f32 0x45000000#32)
    * (Ideal.ofBits FTy.f32 0x40000000#32 * e) = e * Ideal.ofBits FTy.f32 0x3A000000#32 := by
  rw [bits_half, bits_one, bits_2048, bits_two, bits_2048th, mul_one, Ideal.div_coe (by norm_num), ← mul_assoc, ← EReal.coe_mul, ← EReal.coe_mul, mul_comm]
  norm_num

theorem ref_dout (i : S2048x2048.Idx) : val_main_v38 (F := Ideal) C W X T M F i = dout (fun k => C (ix2 (i 0) k)) W (fun k => X (ix2 (i 0) k)) (fun k => M (ix2 0 ⟨4096 + k, by omega⟩)) (fun k => F (ix2 0 k)) (fun k => T (ix2 (i 0) k)) (i 1) := by
  rw [val_main_v38_apply, val_main_v37_apply, val_main_v36_apply, val_main_v34_apply, val_main_v33_apply, val_main_v35_apply, val_main_v27_apply,
    val_main_v26_apply, val_main_cst_3_apply, val_main_cst_8_apply, val_main_cst_9_apply, val_main_cst_10_apply, ref_err]
  exact scale_err _

theorem ref_gy (i : S2048x2048.Idx) : val_main_v43 (F := Ideal) C W X T M F i = dout (fun k => C (ix2 (i 0) k)) W (fun k => X (ix2 (i 0) k)) (fun k => M (ix2 0 ⟨4096 + k, by omega⟩)) (fun k => F (ix2 0 k)) (fun k => T (ix2 (i 0) k)) (i 1) * F (ix2 0 (i 1)) := by
  rw [val_main_v43_apply, ref_dout, val_main_v42_apply, ← val_main_v22_apply, ref_gain]; rfl

theorem reference_dx (i : S2048x2048.Idx) : val_main_v58 (F := Ideal) C W X T M F i = dx (fun k => C (ix2 (i 0) k)) W (fun k => X (ix2 (i 0) k)) (fun k => M (ix2 0 ⟨4096 + k, by omega⟩)) (fun k => F (ix2 0 k)) (fun k => T (ix2 (i 0) k)) (i 1) := by
  have h1 : val_main_v46 (F := Ideal) C W X T M F (idx_main_v47 (idx_main_v53 (idx_main_v54 i) 0))
      = ∑ k, dout (fun k => C (ix2 (i 0) k)) W (fun k => X (ix2 (i 0) k)) (fun k => M (ix2 0 ⟨4096 + k, by omega⟩)) (fun k => F (ix2 0 k)) (fun k => T (ix2 (i 0) k)) k * F (ix2 0 k) * x1 (fun k => C (ix2 (i 0) k)) W (fun k => X (ix2 (i 0) k)) (fun k => M (ix2 0 ⟨4096 + k, by omega⟩)) k := by
    rw [val_main_v46_apply, val_main_cst_13_apply, Ideal.ofBits_def, bits_zero, zero_add]
    refine Finset.sum_congr rfl fun p _ => ?_
    have e : idx_main_v46 (idx_main_v47 (idx_main_v53 (idx_main_v54 i) 0)) p = ix2 (n0 := 2048) (n1 := 2048) (i 0) p := funext fun a => by
      fin_cases a
      · exact Fin.ext (by show (i 0).val * 1 + 0 = (i 0).val; omega)
      · rfl
    rw [val_main_v45_apply, e, ref_gy, ref_x1]
    exact mul_comm _ _
  have h2 : val_main_v54 (F := Ideal) C W X T M F i = Ideal.div ((∑ k, dout (fun k => C (ix2 (i 0) k)) W (fun k => X (ix2 (i 0) k)) (fun k => M (ix2 0 ⟨4096 + k, by omega⟩)) (fun k => F (ix2 0 k)) (fun k => T (ix2 (i 0) k)) k * F (ix2 0 k) * x1 (fun k => C (ix2 (i 0) k)) W (fun k => X (ix2 (i 0) k)) (fun k => M (ix2 0 ⟨4096 + k, by omega⟩)) k)
      * (((-(1 / 2) : ℝ) : EReal) * Ideal.div (rinv (x1 (fun k => C (ix2 (i 0) k)) W (fun k => X (ix2 (i 0) k)) (fun k => M (ix2 0 ⟨4096 + k, by omega⟩)))) (Ideal.div (∑ k, x1 (fun k => C (ix2 (i 0) k)) W (fun k => X (ix2 (i 0) k)) (fun k => M (ix2 0 ⟨4096 + k, by omega⟩)) k * x1 (fun k => C (ix2 (i 0) k)) W (fun k => X (ix2 (i 0) k)) (fun k => M (ix2 0 ⟨4096 + k, by omega⟩)) k) (Ideal.ofBits FTy.f32 0x45000000#32)
        + Ideal.ofBits FTy.f32 0x358637BD#32))) (Ideal.ofBits FTy.f32 0x45000000#32) := by
    rw [val_main_v54_apply, val_main_v53_apply, val_main_cst_15_apply, Ideal.ofBits_def, bits_zero, zero_add, Fin.sum_univ_one,
      val_main_v52_apply, val_main_v51_apply, val_main_cst_14_apply, val_main_v50_apply, val_main_v47_apply, h1,
      val_main_v18_apply, val_main_v17_apply, val_main_cst_2_apply, Ideal.ofBits_def, bits_neg_half, val_main_v16_apply, ref_mean, ref_rr]
    rfl
  rw [val_main_v58_apply, val_main_v56_apply, val_main_v55_apply, val_main_v57_apply, val_main_v49_apply, val_main_v48_apply,
    ref_rr, ref_gy, ref_x1, h2]
  have h3 := mean_grad (x1 (fun k => C (ix2 (i 0) k)) W (fun k => X (ix2 (i 0) k)) (fun k => M (ix2 0 ⟨4096 + k, by omega⟩))) (∑ k, dout (fun k => C (ix2 (i 0) k)) W (fun k => X (ix2 (i 0) k)) (fun k => M (ix2 0 ⟨4096 + k, by omega⟩)) (fun k => F (ix2 0 k)) (fun k => T (ix2 (i 0) k)) k * F (ix2 0 k) * x1 (fun k => C (ix2 (i 0) k)) W (fun k => X (ix2 (i 0) k)) (fun k => M (ix2 0 ⟨4096 + k, by omega⟩)) k) (x1 (fun k => C (ix2 (i 0) k)) W (fun k => X (ix2 (i 0) k)) (fun k => M (ix2 0 ⟨4096 + k, by omega⟩)) (i 1))
  have h4 : ∀ b u v w : EReal, b * u + v + w = u * b + (v + w) := fun b u v w => by rw [mul_comm b u, add_assoc]
  refine (h4 _ _ _ _).trans ?_
  exact (congrArg₂ (· + ·) rfl h3).trans (sub_eq_add_neg _ _).symm

theorem reference_dy (i : S2048x2048.Idx) : val_main_v65 (F := Ideal) C W X T M F i = dy (fun k => C (ix2 (i 0) k)) W (fun k => X (ix2 (i 0) k)) (fun k => M (ix2 0 ⟨4096 + k, by omega⟩)) (fun k => F (ix2 0 k)) (fun k => T (ix2 (i 0) k)) (i 1) := by
  rw [val_main_v65_apply, val_main_v61_apply, val_main_v60_apply, ← val_main_v4_apply, ref_gate, reference_dx]; rfl

theorem reference_dgain (i : S1x2048.Idx) : val_main_v59 (F := Ideal) C W X T M F i = ∑ p : Fin 2048, dgain (fun k => C (ix2 p k)) W (fun k => X (ix2 p k)) (fun k => M (ix2 0 ⟨4096 + k, by omega⟩)) (fun k => F (ix2 0 k)) (fun k => T (ix2 p k)) (i 1) := by
  rw [val_main_v59_apply, val_main_v44_apply, val_main_cst_12_apply, Ideal.ofBits_def, bits_zero, zero_add, Fin.sum_univ_one,
    val_main_v41_apply, val_main_v40_apply, val_main_cst_11_apply, Ideal.ofBits_def, bits_zero, zero_add]
  refine Finset.sum_congr rfl fun p _ => ?_
  have e : idx_main_v40 (idx_main_v41 (idx_main_v44 (idx_main_v59 i) 0)) p = ix2 (n0 := 2048) (n1 := 2048) p (i 1) := funext fun a => by
    fin_cases a
    · rfl
    · exact Fin.ext (by show 0 * 2048 + (i 1).val = (i 1).val; omega)
  rw [val_main_v39_apply, e, ref_dout, ref_xr]
  exact mul_comm _ _

theorem reference_dgate (i : S1x2048.Idx) : val_main_v64 (F := Ideal) C W X T M F i = ∑ p : Fin 2048, dgate (fun k => C (ix2 p k)) W (fun k => X (ix2 p k)) (fun k => M (ix2 0 ⟨4096 + k, by omega⟩)) (fun k => F (ix2 0 k)) (fun k => T (ix2 p k)) (i 1) := by
  rw [val_main_v64_apply, val_main_v63_apply, val_main_cst_16_apply, Ideal.ofBits_def, bits_zero, zero_add]
  refine Finset.sum_congr rfl fun p _ => ?_
  have e : idx_main_v63 (idx_main_v64 i) p = ix2 (n0 := 2048) (n1 := 2048) p (i 1) := funext fun a => by
    fin_cases a
    · rfl
    · exact Fin.ext (by have h0 : (i 0).val < 1 := (i 0).isLt; show (i 0).val * 2048 + (i 1).val = (i 1).val; omega)
  rw [val_main_v62_apply, e, reference_dx, ref_yv]
  rfl

theorem reference_loss (i : S1x1.Idx) : val_main_v66 (F := Ideal) C W X T M F i
    = Ideal.ofBits FTy.f32 0x3F000000#32 * ∑ p : Fin 2048, mse (fun k => C (ix2 p k)) W (fun k => X (ix2 p k)) (fun k => M (ix2 0 ⟨4096 + k, by omega⟩)) (fun k => F (ix2 0 k)) (fun k => T (ix2 p k)) 0 := by
  have h : ∀ k, val_main_v66 (F := Ideal) C W X T M F i = val_main_v32 (F := Ideal) C W X T M F k := fun k =>
    (congrArg (val_main_v32 (F := Ideal) C W X T M F) (funext fun a => a.elim0) : _ = val_main_v32 (F := Ideal) C W X T M F k)
  rw [h (fun a => a.elim0), val_main_v32_apply, val_main_cst_7_apply, val_main_v31_apply, val_main_cst_6_apply, Ideal.ofBits_def, Ideal.ofBits_def, bits_zero, zero_add]
  refine congrArg (Ideal.ofBits FTy.f32 0x3F000000#32 * ·) ((sum_idx1 _).trans (Finset.sum_congr rfl fun p _ => ?_))
  rw [val_main_v30_apply, val_main_v28_apply, val_main_v29_apply, val_main_cst_4_apply, val_main_cst_5_apply, Ideal.ofBits_def, Ideal.ofBits_def, bits_zero, zero_add]
  refine congrArg₂ Ideal.div (Finset.sum_congr rfl fun k _ => ?_) rfl
  rw [val_main_v25_apply, ref_err]
  rfl

end

end Cert.LossHeadIdeal.Hand

end
-- ==== Proof.Adam.lean ====
/- The optimiser's step of one number. -/
module

public import Idealize.ShloMosaic.Lib.Pipeline.ValueKit

@[expose] public section

noncomputable section

namespace Cert.Step

open Idealize.ShloMosaic

/-- The first moment after the step, from the gradient and the moment before. -/
def mom (g m : EReal) : EReal :=
  Ideal.ofBits FTy.f32 0x3F666666#32 * m + Ideal.ofBits FTy.f32 0x3DCCCCCD#32 * g

/-- The second moment after the step. -/
def vel (g v : EReal) : EReal :=
  Ideal.ofBits FTy.f32 0x3F7FBE77#32 * v + Ideal.ofBits FTy.f32 0x3A83126F#32 * (g * g)

/-- What the step adds to the weight. -/
def delta (w g m v : EReal) : EReal :=
  Ideal.ofBits FTy.f32 0xBA83126F#32 * (Ideal.div (Ideal.div (mom g m) (Ideal.ofBits FTy.f32 0x3F26BD02#32))
    (Ideal.sqrt (Ideal.div (vel g v) (Ideal.ofBits FTy.f32 0x3C231ACC#32)) + Ideal.ofBits FTy.f32 0x322BCC77#32)
    + Ideal.ofBits FTy.f32 0x3C23D70A#32 * w)

end Cert.Step

end
-- ==== Proof.AdamOut.lean ====
/- The optimiser's step of a device's rows of w_out: each grid point writes a block of rows of the gradient, of the step and of the two moments. -/
module

public import proofs.«01_k».proof.Proof.Adam
public import Idealize.ShloMosaic.Lib.Pipeline.ValueKit
public import proofs.«01_k».proof.Proof.Gen.AdamOutIdeal.Value
public import proofs.«01_k».proof.Proof.Gen.AdamOutReferenceIdeal.Read

@[expose] public section

set_option maxRecDepth 16384

noncomputable section

namespace Cert.AdamOutIdeal.Hand

open Idealize.ShloMosaic Idealize.ShloMosaic.TcCoe Idealize.SL.Sem
open Cert.AdamOutIdeal Cert.AdamOutIdeal.Gen Cert.Step

theorem zeros : (![0, 0] : Fin 2 → Nat) = fun _ => 0 := funext fun a => by fin_cases a <;> rfl

theorem index : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0])

variable (m : (ℓ : Loc nD τ sig) → Buf (Elt Ideal) ℓ)

theorem pay_mom (g q : Vec Ideal S256x2048 .f32) (i : S256x2048.Idx) : k0_pay1 g q i = mom (g i) (q i) := rfl

theorem pay_vel (g v : Vec Ideal S256x2048 .f32) (i : S256x2048.Idx) : k0_pay2 g v i = vel (g i) (v i) := rfl

theorem pay_delta (g w q v : Vec Ideal S256x2048 .f32) (i : S256x2048.Idx) : k0_pay3 g w q v i = delta (w i) (g i) (q i) (v i) := rfl

variable (c : Dev nD) (W D M Q G : Vec Ideal S512x2048 .f32) (hW : m ((c : Thread nD τ).loc main_arg0) = W) (hD : m ((c : Thread nD τ).loc main_arg1) = D)
  (hM : m ((c : Thread nD τ).loc main_arg2) = M) (hQ : m ((c : Thread nD τ).loc main_arg3) = Q)

include hD in
theorem result_grad (hG : ∀ i, G i = D i) : (dats m 0 c).arrAt 4 cfg0.N = G := by
  subst hD
  refine (dats m 0 c).arrAt_eq_of_covers 4 G (by decide +kernel) (fun t hf y => ?_)
  blk_simp
  rw [after0_4, hG, outsAt0]
  frame_out
  blk_ext [iblk, V, index t]

include hW hD hM hQ in
theorem result_delta (hG : ∀ i, G i = delta (W i) (D i) (M i) (Q i)) : (dats m 0 c).arrAt 5 cfg0.N = G := by
  subst hW hD hM hQ
  refine (dats m 0 c).arrAt_eq_of_covers 5 G (by decide +kernel) (fun t hf y => ?_)
  blk_simp
  rw [after0_5, hG, outsAt0]
  frame_out
  refine (pay_delta _ _ _ _ y).trans ?_
  congr 1
  all_goals blk_ext [iblk, V, index t]

include hD hM in
theorem result_mom (hG : ∀ i, G i = mom (D i) (M i)) : (dats m 0 c).arrAt 6 cfg0.N = G := by
  subst hD hM
  refine (dats m 0 c).arrAt_eq_of_covers 6 G (by decide +kernel) (fun t hf y => ?_)
  blk_simp
  rw [after0_6, hG, outsAt0]
  frame_out
  refine (pay_mom _ _ y).trans ?_
  congr 1
  all_goals blk_ext [iblk, V, index t]

include hD hQ in
theorem result_vel (hG : ∀ i, G i = vel (D i) (Q i)) : (dats m 0 c).arrAt 7 cfg0.N = G := by
  subst hD hQ
  refine (dats m 0 c).arrAt_eq_of_covers 7 G (by decide +kernel) (fun t hf y => ?_)
  blk_simp
  rw [after0_7, hG, outsAt0]
  frame_out
  refine (pay_vel _ _ y).trans ?_
  congr 1
  all_goals blk_ext [iblk, V, index t]

open Cert.AdamOutReferenceIdeal.Read

theorem reference_mom (D M : Vec Ideal S512x2048 .f32) (i : S512x2048.Idx) : val_main_v4 (F := Ideal) D M i = mom (D i) (M i) := by
  rw [val_main_v4_apply, val_main_v1_apply, val_main_v3_apply, val_main_v0_apply, val_main_v2_apply]
  rfl

theorem reference_vel (D Q : Vec Ideal S512x2048 .f32) (i : S512x2048.Idx) : val_main_v10 (F := Ideal) D Q i = vel (D i) (Q i) := by
  rw [val_main_v10_apply, val_main_v6_apply, val_main_v9_apply, val_main_v5_apply, val_main_v8_apply]
  rfl

theorem reference_delta (W D M Q : Vec Ideal S512x2048 .f32) (i : S512x2048.Idx) :
    val_main_v23 (F := Ideal) W D M Q i = delta (W i) (D i) (M i) (Q i) := by
  rw [val_main_v23_apply, val_main_v22_apply, val_main_v21_apply, val_main_v18_apply, val_main_v12_apply, val_main_v11_apply, val_main_v17_apply,
    val_main_v15_apply, val_main_v14_apply, val_main_v13_apply, val_main_v16_apply, val_main_v20_apply, val_main_v19_apply, reference_mom, reference_vel]
  rfl

end Cert.AdamOutIdeal.Hand

end
-- ==== Proof.AdamIn.lean ====
/- The optimiser's step of a device's rows of w_in, transposed: each grid point writes a block of rows of the gradient, of the step and of the two moments. -/
module

public import proofs.«01_k».proof.Proof.Adam
public import Idealize.ShloMosaic.Lib.Pipeline.ValueKit
public import proofs.«01_k».proof.Proof.Gen.AdamInIdeal.Value
public import proofs.«01_k».proof.Proof.Gen.AdamInReferenceIdeal.Read

@[expose] public section

set_option maxRecDepth 16384

noncomputable section

namespace Cert.AdamInIdeal.Hand

open Idealize.ShloMosaic Idealize.ShloMosaic.TcCoe Idealize.SL.Sem
open Cert.AdamInIdeal Cert.AdamInIdeal.Gen Cert.Step

theorem zeros : (![0, 0] : Fin 2 → Nat) = fun _ => 0 := funext fun a => by fin_cases a <;> rfl

theorem index : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0])

variable (m : (ℓ : Loc nD τ sig) → Buf (Elt Ideal) ℓ)

theorem pay_mom (g q : Vec Ideal S336x2048 .f32) (i : S336x2048.Idx) : k0_pay1 g q i = mom (g i) (q i) := rfl

theorem pay_vel (g v : Vec Ideal S336x2048 .f32) (i : S336x2048.Idx) : k0_pay2 g v i = vel (g i) (v i) := rfl

theorem pay_delta (g w q v : Vec Ideal S336x2048 .f32) (i : S336x2048.Idx) : k0_pay3 g w q v i = delta (w i) (g i) (q i) (v i) := rfl

variable (c : Dev nD) (W D M Q G : Vec Ideal S1344x2048 .f32) (hW : m ((c : Thread nD τ).loc main_arg0) = W) (hD : m ((c : Thread nD τ).loc main_arg1) = D)
  (hM : m ((c : Thread nD τ).loc main_arg2) = M) (hQ : m ((c : Thread nD τ).loc main_arg3) = Q)

include hD in
theorem result_grad (hG : ∀ i, G i = D i) : (dats m 0 c).arrAt 4 cfg0.N = G := by
  subst hD
  refine (dats m 0 c).arrAt_eq_of_covers 4 G (by decide +kernel) (fun t hf y => ?_)
  blk_simp
  rw [after0_4, hG, outsAt0]
  frame_out
  blk_ext [iblk, V, index t]

include hW hD hM hQ in
theorem result_delta (hG : ∀ i, G i = delta (W i) (D i) (M i) (Q i)) : (dats m 0 c).arrAt 5 cfg0.N = G := by
  subst hW hD hM hQ
  refine (dats m 0 c).arrAt_eq_of_covers 5 G (by decide +kernel) (fun t hf y => ?_)
  blk_simp
  rw [after0_5, hG, outsAt0]
  frame_out
  refine (pay_delta _ _ _ _ y).trans ?_
  congr 1
  all_goals blk_ext [iblk, V, index t]

include hD hM in
theorem result_mom (hG : ∀ i, G i = mom (D i) (M i)) : (dats m 0 c).arrAt 6 cfg0.N = G := by
  subst hD hM
  refine (dats m 0 c).arrAt_eq_of_covers 6 G (by decide +kernel) (fun t hf y => ?_)
  blk_simp
  rw [after0_6, hG, outsAt0]
  frame_out
  refine (pay_mom _ _ y).trans ?_
  congr 1
  all_goals blk_ext [iblk, V, index t]

include hD hQ in
theorem result_vel (hG : ∀ i, G i = vel (D i) (Q i)) : (dats m 0 c).arrAt 7 cfg0.N = G := by
  subst hD hQ
  refine (dats m 0 c).arrAt_eq_of_covers 7 G (by decide +kernel) (fun t hf y => ?_)
  blk_simp
  rw [after0_7, hG, outsAt0]
  frame_out
  refine (pay_vel _ _ y).trans ?_
  congr 1
  all_goals blk_ext [iblk, V, index t]

open Cert.AdamInReferenceIdeal.Read

theorem reference_mom (D M : Vec Ideal S1344x2048 .f32) (i : S1344x2048.Idx) : val_main_v4 (F := Ideal) D M i = mom (D i) (M i) := by
  rw [val_main_v4_apply, val_main_v1_apply, val_main_v3_apply, val_main_v0_apply, val_main_v2_apply]
  rfl

theorem reference_vel (D Q : Vec Ideal S1344x2048 .f32) (i : S1344x2048.Idx) : val_main_v10 (F := Ideal) D Q i = vel (D i) (Q i) := by
  rw [val_main_v10_apply, val_main_v6_apply, val_main_v9_apply, val_main_v5_apply, val_main_v8_apply]
  rfl

theorem reference_delta (W D M Q : Vec Ideal S1344x2048 .f32) (i : S1344x2048.Idx) :
    val_main_v23 (F := Ideal) W D M Q i = delta (W i) (D i) (M i) (Q i) := by
  rw [val_main_v23_apply, val_main_v22_apply, val_main_v21_apply, val_main_v18_apply, val_main_v12_apply, val_main_v11_apply, val_main_v17_apply,
    val_main_v15_apply, val_main_v14_apply, val_main_v13_apply, val_main_v16_apply, val_main_v20_apply, val_main_v19_apply, reference_mom, reference_vel]
  rfl

end Cert.AdamInIdeal.Hand

end
-- ==== Proof.AdamAda.lean ====
/- The optimiser's step of a device's columns of the modulation's weights: each grid point writes a block of rows of the gradient (the product of the conditioning with the modulation's gradients, over the batch), of the step and of the two moments. -/
module

public import proofs.«01_k».proof.Proof.Adam
public import Idealize.ShloMosaic.Lib.Pipeline.ValueKit
public import proofs.«01_k».proof.Proof.Gen.AdamAdaIdeal.Value
public import proofs.«01_k».proof.Proof.Gen.AdamAdaReferenceIdeal.Read

@[expose] public section

set_option maxRecDepth 16384

noncomputable section

namespace Cert.AdamAdaIdeal.Hand

open Idealize.ShloMosaic Idealize.ShloMosaic.TcCoe Idealize.SL.Sem
open Cert.AdamAdaIdeal Cert.AdamAdaIdeal.Gen Cert.Step

theorem zeros : (![0, 0] : Fin 2 → Nat) = fun _ => 0 := funext fun a => by fin_cases a <;> rfl

theorem index : ∀ t : Fin cfg0.N, win0_0.index t = ![0, t.val] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![0, t.val] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0])

variable (m : (ℓ : Loc nD τ sig) → Buf (Elt Ideal) ℓ)

/-- The gradient of one weight: the sum over the batch. -/
def grad {n k : ℕ} (x : (⟨2, ![8, n]⟩ : Shape).Idx → EReal) (y : (⟨2, ![8, k]⟩ : Shape).Idx → EReal) (a : Fin n) (b : Fin k) : EReal :=
  ∑ p : Fin 8, x (ix2 p a) * y (ix2 p b)

theorem pay_grad (x : Vec Ideal S8x256 .f32) (y : Vec Ideal S8x1536 .f32) (i : S256x1536.Idx) : k0_pay1 x y i = grad x y (i 0) (i 1) := by
  unfold grad
  pointwise [k0_pay1]

theorem pay_mom (x : Vec Ideal S8x256 .f32) (y : Vec Ideal S8x1536 .f32) (q : Vec Ideal S256x1536 .f32) (i : S256x1536.Idx) :
    k0_pay2 x y q i = mom (grad x y (i 0) (i 1)) (q i) := by
  rw [← pay_grad]
  rfl

theorem pay_vel (x : Vec Ideal S8x256 .f32) (y : Vec Ideal S8x1536 .f32) (v : Vec Ideal S256x1536 .f32) (i : S256x1536.Idx) :
    k0_pay3 x y v i = vel (grad x y (i 0) (i 1)) (v i) := by
  rw [← pay_grad]
  rfl

theorem pay_delta (x : Vec Ideal S8x256 .f32) (y : Vec Ideal S8x1536 .f32) (w q v : Vec Ideal S256x1536 .f32) (i : S256x1536.Idx) :
    k0_pay4 x y w q v i = delta (w i) (grad x y (i 0) (i 1)) (q i) (v i) := by
  rw [← pay_grad]
  rfl

variable (c : Dev nD) (C : Vec Ideal S8x2048 .f32) (D : Vec Ideal S8x1536 .f32) (W M Q G : Vec Ideal S2048x1536 .f32) (hC : m ((c : Thread nD τ).loc main_arg0) = C)
  (hD : m ((c : Thread nD τ).loc main_arg1) = D) (hW : m ((c : Thread nD τ).loc main_arg2) = W)
  (hM : m ((c : Thread nD τ).loc main_arg3) = M) (hQ : m ((c : Thread nD τ).loc main_arg4) = Q)

theorem delta_congr {w w' g g' q q' v v' : EReal} (hw : w = w') (hg : g = g') (hq : q = q') (hv : v = v') : delta w g q v = delta w' g' q' v' := by
  rw [hw, hg, hq, hv]

include hC hD in
theorem result_grad (hG : ∀ i, G i = grad C D (i 0) (i 1)) : (dats m 0 c).arrAt 5 cfg0.N = G := by
  subst hC hD
  refine (dats m 0 c).arrAt_eq_of_covers 5 G (by decide +kernel) (fun t hf y => ?_)
  blk_simp
  rw [after0_5, out0_5, View.canon_unit_zero zeros, View.ld_unit_zero zeros, View.ld_unit_zero zeros, hG]
  refine (pay_grad _ _ y).trans (Finset.sum_congr rfl fun k _ => congrArg₂ (· * ·) ?_ ?_)
  · blk_ext [iblk, V, index t]
  · blk_ext [iblk, V, index t]

include hC hD hW hM hQ in
theorem result_delta (hG : ∀ i, G i = delta (W i) (grad C D (i 0) (i 1)) (M i) (Q i)) : (dats m 0 c).arrAt 6 cfg0.N = G := by
  subst hC hD hW hM hQ
  refine (dats m 0 c).arrAt_eq_of_covers 6 G (by decide +kernel) (fun t hf y => ?_)
  blk_simp
  rw [after0_6, out0_6, View.canon_unit_zero zeros, View.ld_unit_zero zeros, View.ld_unit_zero zeros, View.ld_unit_zero zeros, View.ld_unit_zero zeros, View.ld_unit_zero zeros, hG]
  refine (pay_delta _ _ _ _ _ y).trans (delta_congr ?_ (Finset.sum_congr rfl fun k _ => congrArg₂ (· * ·) ?_ ?_) ?_ ?_)
  · blk_ext [iblk, V, index t]
  · blk_ext [iblk, V, index t]
  · blk_ext [iblk, V, index t]
  · blk_ext [iblk, V, index t]
  · blk_ext [iblk, V, index t]

include hC hD hM in
theorem result_mom (hG : ∀ i, G i = mom (grad C D (i 0) (i 1)) (M i)) : (dats m 0 c).arrAt 7 cfg0.N = G := by
  subst hC hD hM
  refine (dats m 0 c).arrAt_eq_of_covers 7 G (by decide +kernel) (fun t hf y => ?_)
  blk_simp
  rw [after0_7, out0_7, View.canon_unit_zero zeros, View.ld_unit_zero zeros, View.ld_unit_zero zeros, View.ld_unit_zero zeros, hG]
  refine (pay_mom _ _ _ y).trans (congrArg₂ mom (Finset.sum_congr rfl fun k _ => congrArg₂ (· * ·) ?_ ?_) ?_)
  · blk_ext [iblk, V, index t]
  · blk_ext [iblk, V, index t]
  · blk_ext [iblk, V, index t]

include hC hD hQ in
theorem result_vel (hG : ∀ i, G i = vel (grad C D (i 0) (i 1)) (Q i)) : (dats m 0 c).arrAt 8 cfg0.N = G := by
  subst hC hD hQ
  refine (dats m 0 c).arrAt_eq_of_covers 8 G (by decide +kernel) (fun t hf y => ?_)
  blk_simp
  rw [after0_8, out0_8, View.canon_unit_zero zeros, View.ld_unit_zero zeros, View.ld_unit_zero zeros, View.ld_unit_zero zeros, hG]
  refine (pay_vel _ _ _ y).trans (congrArg₂ vel (Finset.sum_congr rfl fun k _ => congrArg₂ (· * ·) ?_ ?_) ?_)
  · blk_ext [iblk, V, index t]
  · blk_ext [iblk, V, index t]
  · blk_ext [iblk, V, index t]

open Cert.AdamAdaReferenceIdeal.Read

theorem reference_grad (C : Vec Ideal S8x2048 .f32) (D : Vec Ideal S8x1536 .f32) (i : S2048x1536.Idx) :
    val_main_v2 (F := Ideal) C D i = grad C D (i 0) (i 1) := by
  rw [val_main_v2_apply, val_main_v1_apply]
  refine Finset.sum_congr rfl fun k _ => (mul_comm _ _).trans (congrArg₂ (· * ·) ?_ ?_)
  · exact congrArg C (funext fun a => by fin_cases a <;> rfl)
  · exact congrArg D (funext fun a => by fin_cases a <;> rfl)

theorem reference_mom (C : Vec Ideal S8x2048 .f32) (D : Vec Ideal S8x1536 .f32) (M : Vec Ideal S2048x1536 .f32) (i : S2048x1536.Idx) :
    val_main_v7 (F := Ideal) C D M i = mom (grad C D (i 0) (i 1)) (M i) := by
  rw [val_main_v7_apply, val_main_v4_apply, val_main_v6_apply, val_main_v3_apply, val_main_v5_apply, reference_grad]
  rfl

theorem reference_vel (C : Vec Ideal S8x2048 .f32) (D : Vec Ideal S8x1536 .f32) (Q : Vec Ideal S2048x1536 .f32) (i : S2048x1536.Idx) :
    val_main_v13 (F := Ideal) C D Q i = vel (grad C D (i 0) (i 1)) (Q i) := by
  rw [val_main_v13_apply, val_main_v9_apply, val_main_v12_apply, val_main_v8_apply, val_main_v11_apply, val_main_v10_apply, reference_grad]
  rfl

theorem reference_delta (C : Vec Ideal S8x2048 .f32) (D : Vec Ideal S8x1536 .f32) (W M Q : Vec Ideal S2048x1536 .f32) (i : S2048x1536.Idx) :
    val_main_v26 (F := Ideal) C D W M Q i = delta (W i) (grad C D (i 0) (i 1)) (M i) (Q i) := by
  rw [val_main_v26_apply, val_main_v25_apply, val_main_v24_apply, val_main_v21_apply, val_main_v15_apply, val_main_v14_apply, val_main_v20_apply,
    val_main_v18_apply, val_main_v17_apply, val_main_v16_apply, val_main_v19_apply, val_main_v23_apply, val_main_v22_apply, reference_mom, reference_vel]
  rfl

end Cert.AdamAdaIdeal.Hand

end
-- ==== Proof.lean ====
module

public import proofs.«01_k».proof.Defs
public import proofs.«01_k».proof.Proof.Gen.Kernel
public import proofs.«01_k».proof.Proof.Gen.Pre_finite
public import proofs.«01_k».proof.Proof.Gen.ReferenceIdeal.Run
public import proofs.«01_k».proof.Proof.Finite
public import proofs.«01_k».proof.Proof.Same
public import proofs.«01_k».proof.Proof.Transfer
public import proofs.«01_k».proof.Proof.WOutGrad
public import proofs.«01_k».proof.Proof.Gen.WOutGrad.Frame
public import proofs.«01_k».proof.Proof.Gen.WOutGradReferenceIdeal.Run
public import proofs.«01_k».proof.Proof.OutProjGrad
public import proofs.«01_k».proof.Proof.Gen.OutProjGrad.Frame
public import proofs.«01_k».proof.Proof.Gen.OutProjGradReferenceIdeal.Run
public import proofs.«01_k».proof.Proof.InProjOdd
public import proofs.«01_k».proof.Proof.Gen.InProjOdd.Frame
public import proofs.«01_k».proof.Proof.Gen.InProjOddReferenceIdeal.Run
public import proofs.«01_k».proof.Proof.InProjGrad
public import proofs.«01_k».proof.Proof.Gen.InProjGrad.Frame
public import proofs.«01_k».proof.Proof.Gen.InProjGradReferenceIdeal.Run
public import proofs.«01_k».proof.Proof.LossHead
public import proofs.«01_k».proof.Proof.Gen.LossHead.Frame
public import proofs.«01_k».proof.Proof.Gen.LossHeadReferenceIdeal.Run
public import proofs.«01_k».proof.Proof.AdamOut
public import proofs.«01_k».proof.Proof.Gen.AdamOut.Frame
public import proofs.«01_k».proof.Proof.Gen.AdamOutReferenceIdeal.Run
public import proofs.«01_k».proof.Proof.AdamIn
public import proofs.«01_k».proof.Proof.Gen.AdamIn.Frame
public import proofs.«01_k».proof.Proof.Gen.AdamInReferenceIdeal.Run
public import proofs.«01_k».proof.Proof.AdamAda
public import proofs.«01_k».proof.Proof.Gen.AdamAda.Frame
public import proofs.«01_k».proof.Proof.Gen.AdamAdaReferenceIdeal.Run
public import Idealize.ShloMosaic.Lib.Claim

@[expose] public section

set_option maxRecDepth 16384

noncomputable section

namespace Cert.Proof

open Idealize.ShloMosaic Idealize.SL.Sem

theorem frame_p : Cert.quiescent_Kernel := fun m ρ _ =>
  Eq.mpr (congrArg₂ (fun d p => θ_run d (onTc p) ⟨m, fun _ => 0, ρ⟩ _) Cert.Transfer.defs_eq Cert.Transfer.main_eq)
    (Cert.KernelIdeal.Hand.run_frame (F := Bits) m ρ)

theorem frame_i : Cert.quiescent_KernelIdeal := fun m ρ _ => Cert.KernelIdeal.Hand.run_frame m ρ

theorem frame_r : Cert.quiescent_ReferenceIdeal := fun m ρ _ =>
  (θ_run Cert.ReferenceIdeal.defs _ _).mono
    (fun r h => ⟨fun c => (h c).2.2.2.2.2.2, sem_eq_zero_of_no_sems (by decide) r.2⟩) (Cert.ReferenceIdeal.Value.run m ρ)

open Cert.ReferenceIdeal in
/-- Both programs return the arrays of the reference's stages. -/
theorem value : Cert.algebraic_KernelIdeal_ReferenceIdeal_pre_finite := by
  intro m ρ m' ρ' hm hagree
  have hA : ∀ c, ∃ Z D K G B W b, Cert.KernelIdeal.Hand.Real m c Z D K G B W b := fun c =>
    Cert.Mix.args_of_finite _ _ _ _ _ _ _ (fun k => k.elim0) (congrFun (hm c) _)
  obtain ⟨Z, D, K, G, B, W, b, H⟩ := hA 0
  have H' : ∀ c, Cert.KernelIdeal.Hand.Real m c Z D K G B W b := fun c => by rw [Subsingleton.elim c 0]; exact H
  refine ⟨fun c => Read.val_main_v278 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Read.val_main_v268 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Read.val_main_v208 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)),
    fun c => Read.val_main_v207 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)),
    fun c => Read.val_main_v279 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Read.val_main_v280 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    (θ_run Cert.KernelIdeal.defs _ _).mono (fun r h c => ?_)
      (Cert.KernelIdeal.Hand.run_results m ρ (Cert.KernelIdeal.Hand.plan Z D K G B W b) fun c => Cert.KernelIdeal.Hand.sound (H' c)),
    (θ_run Cert.ReferenceIdeal.defs _ _).mono (fun r h c => ?_) (Cert.ReferenceIdeal.Value.run m' ρ')⟩
  · obtain ⟨e0, e1, e2, e3, e4, e5⟩ := Cert.KernelIdeal.Hand.results_eq (h.1 c).1 (H' c)
    exact ⟨e0, e1, e2, e3, e4, e5, (h.1 c).2⟩
  · obtain ⟨a0, a1, a2, a3, a4, a5, a6⟩ := hagree c
    obtain ⟨h0, h1, h2, h3, h4, h5, hk⟩ := h c
    refine ⟨h0.trans ((Read.val_main_v278_eq _).trans ?_), h1.trans ((Read.val_main_v268_eq _).trans ?_), h2.trans ((Read.val_main_v208_eq _).trans ?_),
      h3.trans ((Read.val_main_v207_eq _).trans ?_), h4.trans ((Read.val_main_v279_eq _).trans ?_), h5.trans ((Read.val_main_v280_eq _).trans ?_), hk⟩
    all_goals simp only [StableHlo.launchContents_devRef, a0, a1, a2, a3, a4, a5, a6]

theorem frame_w_out : Cert.quiescent_WOutGradReferenceIdeal := fun m ρ _ =>
  (θ_run Cert.WOutGradReferenceIdeal.defs _ _).mono
    (fun r h => ⟨fun c => (h c).2, sem_eq_zero_of_no_sems (by decide) r.2⟩) (Cert.WOutGradReferenceIdeal.Value.run m ρ)

open Cert.WOutGradReferenceIdeal in
theorem value_w_out : Cert.algebraic_WOutGradIdeal_WOutGradReferenceIdeal := by
  intro m ρ m' ρ' _ hagree
  refine ⟨fun c => Read.val_main_v6 (F := Ideal) (m ((c.tc : Thread Cert.WOutGradIdeal.nD Cert.WOutGradIdeal.τ).loc Cert.WOutGradIdeal.main_arg0)) (m ((c.tc : Thread Cert.WOutGradIdeal.nD Cert.WOutGradIdeal.τ).loc Cert.WOutGradIdeal.main_arg1)),
    (θ_run Cert.WOutGradIdeal.defs _ _).mono (fun r h c => ⟨(h c).1.trans ?_, (h c).2⟩) (Cert.WOutGradIdeal.Value.run_blocks m ρ),
    (θ_run Cert.WOutGradReferenceIdeal.defs _ _).mono (fun r h c => ⟨(h c).1.trans ((Read.val_main_v6_eq _ _).trans ?_), (h c).2⟩) (Cert.WOutGradReferenceIdeal.Value.run m' ρ')⟩
  · exact Cert.WOutGradIdeal.Hand.result m c _ _ _ rfl rfl (Cert.WOutGradIdeal.Hand.reference _ _)
  · obtain ⟨a0, a1⟩ := hagree c
    simp only [a0, a1]

theorem frame_out_proj : Cert.quiescent_OutProjGradReferenceIdeal := fun m ρ _ =>
  (θ_run Cert.OutProjGradReferenceIdeal.defs _ _).mono
    (fun r h => ⟨fun c => (h c).2, sem_eq_zero_of_no_sems (by decide) r.2⟩) (Cert.OutProjGradReferenceIdeal.Value.run m ρ)

open Cert.OutProjGradReferenceIdeal in
theorem value_out_proj : Cert.algebraic_OutProjGradIdeal_OutProjGradReferenceIdeal := by
  intro m ρ m' ρ' _ hagree
  refine ⟨fun c => Read.val_main_v4 (F := Ideal) (m ((c.tc : Thread Cert.OutProjGradIdeal.nD Cert.OutProjGradIdeal.τ).loc Cert.OutProjGradIdeal.main_arg0)) (m ((c.tc : Thread Cert.OutProjGradIdeal.nD Cert.OutProjGradIdeal.τ).loc Cert.OutProjGradIdeal.main_arg1)),
    (θ_run Cert.OutProjGradIdeal.defs _ _).mono (fun r h c => ⟨(h c).1.trans ?_, (h c).2⟩) (Cert.OutProjGradIdeal.Value.run_blocks m ρ),
    (θ_run Cert.OutProjGradReferenceIdeal.defs _ _).mono (fun r h c => ⟨(h c).1.trans ((Read.val_main_v4_eq _ _).trans ?_), (h c).2⟩) (Cert.OutProjGradReferenceIdeal.Value.run m' ρ')⟩
  · exact Cert.OutProjGradIdeal.Hand.result m c _ _ _ rfl rfl (Cert.OutProjGradIdeal.Hand.reference _ _)
  · obtain ⟨a0, a1, a2⟩ := hagree c
    simp only [a0, a1]

theorem frame_in_proj_odd : Cert.quiescent_InProjOddReferenceIdeal := fun m ρ _ =>
  (θ_run Cert.InProjOddReferenceIdeal.defs _ _).mono
    (fun r h => ⟨fun c => (h c).2, sem_eq_zero_of_no_sems (by decide) r.2⟩) (Cert.InProjOddReferenceIdeal.Value.run m ρ)

open Cert.InProjOddReferenceIdeal in
theorem value_in_proj_odd : Cert.algebraic_InProjOddIdeal_InProjOddReferenceIdeal := by
  intro m ρ m' ρ' _ hagree
  refine ⟨fun c => Read.val_main_v10 (F := Ideal) (m ((c.tc : Thread Cert.InProjOddIdeal.nD Cert.InProjOddIdeal.τ).loc Cert.InProjOddIdeal.main_arg0)) (m ((c.tc : Thread Cert.InProjOddIdeal.nD Cert.InProjOddIdeal.τ).loc Cert.InProjOddIdeal.main_arg1)) (m ((c.tc : Thread Cert.InProjOddIdeal.nD Cert.InProjOddIdeal.τ).loc Cert.InProjOddIdeal.main_arg2)),
    (θ_run Cert.InProjOddIdeal.defs _ _).mono (fun r h c => ⟨(h c).1.trans ?_, (h c).2⟩) (Cert.InProjOddIdeal.Value.run_blocks m ρ),
    (θ_run Cert.InProjOddReferenceIdeal.defs _ _).mono (fun r h c => ⟨(h c).1.trans ((Read.val_main_v10_eq _ _).trans ?_), (h c).2⟩) (Cert.InProjOddReferenceIdeal.Value.run m' ρ')⟩
  · exact Cert.InProjOddIdeal.Hand.result m c _ _ _ _ rfl rfl rfl (Cert.InProjOddIdeal.Hand.reference _ _ _)
  · obtain ⟨a0, a1, a2, a3⟩ := hagree c
    simp only [a0, a1, a2]

theorem frame_in_proj : Cert.quiescent_InProjGradReferenceIdeal := fun m ρ _ =>
  (θ_run Cert.InProjGradReferenceIdeal.defs _ _).mono
    (fun r h => ⟨fun c => (h c).2.2.2.2, sem_eq_zero_of_no_sems (by decide) r.2⟩) (Cert.InProjGradReferenceIdeal.Value.run m ρ)

theorem frame_loss_head : Cert.quiescent_LossHeadReferenceIdeal := fun m ρ _ =>
  (θ_run Cert.LossHeadReferenceIdeal.defs _ _).mono
    (fun r h => ⟨fun c => (h c).2.2.2.2.2, sem_eq_zero_of_no_sems (by decide) r.2⟩) (Cert.LossHeadReferenceIdeal.Value.run m ρ)

theorem frame_adam_out : Cert.quiescent_AdamOutReferenceIdeal := fun m ρ _ =>
  (θ_run Cert.AdamOutReferenceIdeal.defs _ _).mono
    (fun r h => ⟨fun c => (h c).2.2.2.2, sem_eq_zero_of_no_sems (by decide) r.2⟩) (Cert.AdamOutReferenceIdeal.Value.run m ρ)

theorem frame_adam_in : Cert.quiescent_AdamInReferenceIdeal := fun m ρ _ =>
  (θ_run Cert.AdamInReferenceIdeal.defs _ _).mono
    (fun r h => ⟨fun c => (h c).2.2.2.2, sem_eq_zero_of_no_sems (by decide) r.2⟩) (Cert.AdamInReferenceIdeal.Value.run m ρ)

theorem frame_adam_ada : Cert.quiescent_AdamAdaReferenceIdeal := fun m ρ _ =>
  (θ_run Cert.AdamAdaReferenceIdeal.defs _ _).mono
    (fun r h => ⟨fun c => (h c).2.2.2.2, sem_eq_zero_of_no_sems (by decide) r.2⟩) (Cert.AdamAdaReferenceIdeal.Value.run m ρ)

open Cert.InProjGradReferenceIdeal in
theorem value_in_proj : Cert.algebraic_InProjGradIdeal_InProjGradReferenceIdeal := by
  intro m ρ m' ρ' _ hagree
  refine ⟨fun c => Read.val_main_v59 (F := Ideal) (m ((c.tc : Thread Cert.InProjGradIdeal.nD Cert.InProjGradIdeal.τ).loc Cert.InProjGradIdeal.main_arg0)) (m ((c.tc : Thread Cert.InProjGradIdeal.nD Cert.InProjGradIdeal.τ).loc Cert.InProjGradIdeal.main_arg1)) (m ((c.tc : Thread Cert.InProjGradIdeal.nD Cert.InProjGradIdeal.τ).loc Cert.InProjGradIdeal.main_arg2)) (m ((c.tc : Thread Cert.InProjGradIdeal.nD Cert.InProjGradIdeal.τ).loc Cert.InProjGradIdeal.main_arg3)) (m ((c.tc : Thread Cert.InProjGradIdeal.nD Cert.InProjGradIdeal.τ).loc Cert.InProjGradIdeal.main_arg4)) (m ((c.tc : Thread Cert.InProjGradIdeal.nD Cert.InProjGradIdeal.τ).loc Cert.InProjGradIdeal.main_arg5)),
    fun c => Read.val_main_v32 (F := Ideal) (m ((c.tc : Thread Cert.InProjGradIdeal.nD Cert.InProjGradIdeal.τ).loc Cert.InProjGradIdeal.main_arg0)) (m ((c.tc : Thread Cert.InProjGradIdeal.nD Cert.InProjGradIdeal.τ).loc Cert.InProjGradIdeal.main_arg1)),
    fun c => Read.val_main_v35 (F := Ideal) (m ((c.tc : Thread Cert.InProjGradIdeal.nD Cert.InProjGradIdeal.τ).loc Cert.InProjGradIdeal.main_arg0)) (m ((c.tc : Thread Cert.InProjGradIdeal.nD Cert.InProjGradIdeal.τ).loc Cert.InProjGradIdeal.main_arg1)) (m ((c.tc : Thread Cert.InProjGradIdeal.nD Cert.InProjGradIdeal.τ).loc Cert.InProjGradIdeal.main_arg2)) (m ((c.tc : Thread Cert.InProjGradIdeal.nD Cert.InProjGradIdeal.τ).loc Cert.InProjGradIdeal.main_arg4)),
    fun c => Read.val_main_v58 (F := Ideal) (m ((c.tc : Thread Cert.InProjGradIdeal.nD Cert.InProjGradIdeal.τ).loc Cert.InProjGradIdeal.main_arg0)) (m ((c.tc : Thread Cert.InProjGradIdeal.nD Cert.InProjGradIdeal.τ).loc Cert.InProjGradIdeal.main_arg1)) (m ((c.tc : Thread Cert.InProjGradIdeal.nD Cert.InProjGradIdeal.τ).loc Cert.InProjGradIdeal.main_arg2)) (m ((c.tc : Thread Cert.InProjGradIdeal.nD Cert.InProjGradIdeal.τ).loc Cert.InProjGradIdeal.main_arg5)),
    (θ_run Cert.InProjGradIdeal.defs _ _).mono (fun r h c => ?_) (Cert.InProjGradIdeal.Value.run_blocks m ρ),
    (θ_run Cert.InProjGradReferenceIdeal.defs _ _).mono (fun r h c => ?_) (Cert.InProjGradReferenceIdeal.Value.run m' ρ')⟩
  · obtain ⟨h0, h1, h2, h3, hk⟩ := h c
    refine ⟨h0.trans ?_, h1.trans ?_, h2.trans ?_, h3.trans ?_, hk⟩
    · exact Cert.InProjGradIdeal.Hand.result_gx (m := m) (c := c) (hZ := rfl) (hW := rfl) (hX := rfl) (hE := rfl) (hN := rfl) (hM := rfl)
        (hG := Cert.InProjGradIdeal.Hand.reference_gx _ _ _ _ _ _)
    · exact Cert.InProjGradIdeal.Hand.result_shift (m := m) (c := c) (hZ := rfl) (hW := rfl)
        (hB := Cert.InProjGradIdeal.Hand.reference_shift _ _)
    · exact Cert.InProjGradIdeal.Hand.result_scale (m := m) (c := c) (hZ := rfl) (hW := rfl) (hX := rfl) (hN := rfl)
        (hB := Cert.InProjGradIdeal.Hand.reference_scale _ _ _ _)
    · exact Cert.InProjGradIdeal.Hand.result_gain (m := m) (c := c) (hZ := rfl) (hW := rfl) (hX := rfl) (hM := rfl)
        (hB := Cert.InProjGradIdeal.Hand.reference_gain _ _ _ _)
  · obtain ⟨a0, a1, a2, a3, a4, a5⟩ := hagree c
    obtain ⟨h0, h1, h2, h3, hk⟩ := h c
    refine ⟨h0.trans ((Read.val_main_v59_eq _ _).trans ?_), h1.trans ((Read.val_main_v32_eq _ _).trans ?_), h2.trans ((Read.val_main_v35_eq _ _ _ _).trans ?_), h3.trans ((Read.val_main_v58_eq _ _ _ _).trans ?_), hk⟩
    all_goals simp only [a0, a1, a2, a3, a4, a5]

open Cert.LossHeadReferenceIdeal in
theorem value_loss_head : Cert.algebraic_LossHeadIdeal_LossHeadReferenceIdeal := by
  intro m ρ m' ρ' _ hagree
  refine ⟨fun c => Read.val_main_v58 (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)),
    fun c => Read.val_main_v65 (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)),
    fun c => Read.val_main_v59 (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)),
    fun c => Read.val_main_v64 (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)),
    fun c => Read.val_main_v66 (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)),
    (θ_run Cert.LossHeadIdeal.defs _ _).mono (fun r h c => ?_) (Cert.LossHeadIdeal.Value.run_blocks m ρ),
    (θ_run Cert.LossHeadReferenceIdeal.defs _ _).mono (fun r h c => ?_) (Cert.LossHeadReferenceIdeal.Value.run m' ρ')⟩
  · obtain ⟨h0, h1, h2, h3, h4, hk⟩ := h c
    refine ⟨h0.trans ?_, h1.trans ?_, h2.trans ?_, h3.trans ?_, h4.trans ?_, hk⟩
    · exact Cert.LossHeadIdeal.Hand.result_dx (m := m) (c := c) (hC := rfl) (hW := rfl) (hX := rfl) (hT := rfl) (hM := rfl) (hF := rfl)
        (hG := Cert.LossHeadIdeal.Hand.reference_dx _ _ _ _ _ _)
    · exact Cert.LossHeadIdeal.Hand.result_dy (m := m) (c := c) (hC := rfl) (hW := rfl) (hX := rfl) (hT := rfl) (hM := rfl) (hF := rfl)
        (hG := Cert.LossHeadIdeal.Hand.reference_dy _ _ _ _ _ _)
    · exact Cert.LossHeadIdeal.Hand.result_dgain (m := m) (c := c) (hC := rfl) (hW := rfl) (hX := rfl) (hT := rfl) (hM := rfl) (hF := rfl)
        (hB := Cert.LossHeadIdeal.Hand.reference_dgain _ _ _ _ _ _)
    · exact Cert.LossHeadIdeal.Hand.result_dgate (m := m) (c := c) (hC := rfl) (hW := rfl) (hX := rfl) (hT := rfl) (hM := rfl) (hF := rfl)
        (hB := Cert.LossHeadIdeal.Hand.reference_dgate _ _ _ _ _ _)
    · exact Cert.LossHeadIdeal.Hand.result_loss (m := m) (c := c) (hC := rfl) (hW := rfl) (hX := rfl) (hT := rfl) (hM := rfl) (hF := rfl)
        (hL := Cert.LossHeadIdeal.Hand.reference_loss _ _ _ _ _ _)
  · obtain ⟨a0, a1, a2, a3, a4, a5⟩ := hagree c
    obtain ⟨h0, h1, h2, h3, h4, hk⟩ := h c
    refine ⟨h0.trans ((Read.val_main_v58_eq _ _).trans ?_), h1.trans ((Read.val_main_v65_eq _ _).trans ?_), h2.trans ((Read.val_main_v59_eq _ _).trans ?_), h3.trans ((Read.val_main_v64_eq _ _).trans ?_), h4.trans ((Read.val_main_v66_eq _ _).trans ?_), hk⟩
    all_goals simp only [a0, a1, a2, a3, a4, a5]

open Cert.AdamOutReferenceIdeal in
theorem value_adam_out : Cert.algebraic_AdamOutIdeal_AdamOutReferenceIdeal := by
  intro m ρ m' ρ' _ hagree
  refine ⟨fun c => m ((c.tc : Thread Cert.AdamOutIdeal.nD Cert.AdamOutIdeal.τ).loc Cert.AdamOutIdeal.main_arg1),
    fun c => Read.val_main_v23 (F := Ideal) (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)),
    fun c => Read.val_main_v4 (F := Ideal) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)),
    fun c => Read.val_main_v10 (F := Ideal) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg3)),
    (θ_run Cert.AdamOutIdeal.defs _ _).mono (fun r h c => ?_) (Cert.AdamOutIdeal.Value.run_blocks m ρ),
    (θ_run Cert.AdamOutReferenceIdeal.defs _ _).mono (fun r h c => ?_) (Cert.AdamOutReferenceIdeal.Value.run m' ρ')⟩
  · obtain ⟨h0, h1, h2, h3, hk⟩ := h c
    refine ⟨h0.trans ?_, h1.trans ?_, h2.trans ?_, h3.trans ?_, hk⟩
    · exact Cert.AdamOutIdeal.Hand.result_grad (m := m) (c := c) (hD := rfl)
        (hG := fun _ => rfl)
    · exact Cert.AdamOutIdeal.Hand.result_delta (m := m) (c := c) (hW := rfl) (hD := rfl) (hM := rfl) (hQ := rfl)
        (hG := Cert.AdamOutIdeal.Hand.reference_delta _ _ _ _)
    · exact Cert.AdamOutIdeal.Hand.result_mom (m := m) (c := c) (hD := rfl) (hM := rfl)
        (hG := Cert.AdamOutIdeal.Hand.reference_mom _ _)
    · exact Cert.AdamOutIdeal.Hand.result_vel (m := m) (c := c) (hD := rfl) (hQ := rfl)
        (hG := Cert.AdamOutIdeal.Hand.reference_vel _ _)
  · obtain ⟨a0, a1, a2, a3, a4⟩ := hagree c
    obtain ⟨h0, h1, h2, h3, hk⟩ := h c
    refine ⟨h0.trans ?_, h1.trans ((Read.val_main_v23_eq _ _ _ _).trans ?_), h2.trans ((Read.val_main_v4_eq _ _).trans ?_), h3.trans ((Read.val_main_v10_eq _ _).trans ?_), hk⟩
    all_goals simp only [a0, a1, a2, a3, a4]

open Cert.AdamInReferenceIdeal in
theorem value_adam_in : Cert.algebraic_AdamInIdeal_AdamInReferenceIdeal := by
  intro m ρ m' ρ' _ hagree
  refine ⟨fun c => m ((c.tc : Thread Cert.AdamInIdeal.nD Cert.AdamInIdeal.τ).loc Cert.AdamInIdeal.main_arg1),
    fun c => Read.val_main_v23 (F := Ideal) (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)),
    fun c => Read.val_main_v4 (F := Ideal) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)),
    fun c => Read.val_main_v10 (F := Ideal) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg3)),
    (θ_run Cert.AdamInIdeal.defs _ _).mono (fun r h c => ?_) (Cert.AdamInIdeal.Value.run_blocks m ρ),
    (θ_run Cert.AdamInReferenceIdeal.defs _ _).mono (fun r h c => ?_) (Cert.AdamInReferenceIdeal.Value.run m' ρ')⟩
  · obtain ⟨h0, h1, h2, h3, hk⟩ := h c
    refine ⟨h0.trans ?_, h1.trans ?_, h2.trans ?_, h3.trans ?_, hk⟩
    · exact Cert.AdamInIdeal.Hand.result_grad (m := m) (c := c) (hD := rfl)
        (hG := fun _ => rfl)
    · exact Cert.AdamInIdeal.Hand.result_delta (m := m) (c := c) (hW := rfl) (hD := rfl) (hM := rfl) (hQ := rfl)
        (hG := Cert.AdamInIdeal.Hand.reference_delta _ _ _ _)
    · exact Cert.AdamInIdeal.Hand.result_mom (m := m) (c := c) (hD := rfl) (hM := rfl)
        (hG := Cert.AdamInIdeal.Hand.reference_mom _ _)
    · exact Cert.AdamInIdeal.Hand.result_vel (m := m) (c := c) (hD := rfl) (hQ := rfl)
        (hG := Cert.AdamInIdeal.Hand.reference_vel _ _)
  · obtain ⟨a0, a1, a2, a3, a4⟩ := hagree c
    obtain ⟨h0, h1, h2, h3, hk⟩ := h c
    refine ⟨h0.trans ?_, h1.trans ((Read.val_main_v23_eq _ _ _ _).trans ?_), h2.trans ((Read.val_main_v4_eq _ _).trans ?_), h3.trans ((Read.val_main_v10_eq _ _).trans ?_), hk⟩
    all_goals simp only [a0, a1, a2, a3, a4]

open Cert.AdamAdaReferenceIdeal in
theorem value_adam_ada : Cert.algebraic_AdamAdaIdeal_AdamAdaReferenceIdeal := by
  intro m ρ m' ρ' _ hagree
  refine ⟨fun c => Read.val_main_v2 (F := Ideal) (m ((c.tc : Thread Cert.AdamAdaIdeal.nD Cert.AdamAdaIdeal.τ).loc Cert.AdamAdaIdeal.main_arg0)) (m ((c.tc : Thread Cert.AdamAdaIdeal.nD Cert.AdamAdaIdeal.τ).loc Cert.AdamAdaIdeal.main_arg1)),
    fun c => Read.val_main_v26 (F := Ideal) (m ((c.tc : Thread Cert.AdamAdaIdeal.nD Cert.AdamAdaIdeal.τ).loc Cert.AdamAdaIdeal.main_arg0)) (m ((c.tc : Thread Cert.AdamAdaIdeal.nD Cert.AdamAdaIdeal.τ).loc Cert.AdamAdaIdeal.main_arg1)) (m ((c.tc : Thread Cert.AdamAdaIdeal.nD Cert.AdamAdaIdeal.τ).loc Cert.AdamAdaIdeal.main_arg2)) (m ((c.tc : Thread Cert.AdamAdaIdeal.nD Cert.AdamAdaIdeal.τ).loc Cert.AdamAdaIdeal.main_arg3)) (m ((c.tc : Thread Cert.AdamAdaIdeal.nD Cert.AdamAdaIdeal.τ).loc Cert.AdamAdaIdeal.main_arg4)),
    fun c => Read.val_main_v7 (F := Ideal) (m ((c.tc : Thread Cert.AdamAdaIdeal.nD Cert.AdamAdaIdeal.τ).loc Cert.AdamAdaIdeal.main_arg0)) (m ((c.tc : Thread Cert.AdamAdaIdeal.nD Cert.AdamAdaIdeal.τ).loc Cert.AdamAdaIdeal.main_arg1)) (m ((c.tc : Thread Cert.AdamAdaIdeal.nD Cert.AdamAdaIdeal.τ).loc Cert.AdamAdaIdeal.main_arg3)),
    fun c => Read.val_main_v13 (F := Ideal) (m ((c.tc : Thread Cert.AdamAdaIdeal.nD Cert.AdamAdaIdeal.τ).loc Cert.AdamAdaIdeal.main_arg0)) (m ((c.tc : Thread Cert.AdamAdaIdeal.nD Cert.AdamAdaIdeal.τ).loc Cert.AdamAdaIdeal.main_arg1)) (m ((c.tc : Thread Cert.AdamAdaIdeal.nD Cert.AdamAdaIdeal.τ).loc Cert.AdamAdaIdeal.main_arg4)),
    (θ_run Cert.AdamAdaIdeal.defs _ _).mono (fun r h c => ?_) (Cert.AdamAdaIdeal.Value.run_blocks m ρ),
    (θ_run Cert.AdamAdaReferenceIdeal.defs _ _).mono (fun r h c => ?_) (Cert.AdamAdaReferenceIdeal.Value.run m' ρ')⟩
  · obtain ⟨h0, h1, h2, h3, hk⟩ := h c
    refine ⟨h0.trans ?_, h1.trans ?_, h2.trans ?_, h3.trans ?_, hk⟩
    · exact Cert.AdamAdaIdeal.Hand.result_grad (m := m) (c := c) (hC := rfl) (hD := rfl)
        (hG := Cert.AdamAdaIdeal.Hand.reference_grad _ _)
    · exact Cert.AdamAdaIdeal.Hand.result_delta (m := m) (c := c) (hC := rfl) (hD := rfl) (hW := rfl) (hM := rfl) (hQ := rfl)
        (hG := Cert.AdamAdaIdeal.Hand.reference_delta _ _ _ _ _)
    · exact Cert.AdamAdaIdeal.Hand.result_mom (m := m) (c := c) (hC := rfl) (hD := rfl) (hM := rfl)
        (hG := Cert.AdamAdaIdeal.Hand.reference_mom _ _ _)
    · exact Cert.AdamAdaIdeal.Hand.result_vel (m := m) (c := c) (hC := rfl) (hD := rfl) (hQ := rfl)
        (hG := Cert.AdamAdaIdeal.Hand.reference_vel _ _ _)
  · obtain ⟨a0, a1, a2, a3, a4⟩ := hagree c
    obtain ⟨h0, h1, h2, h3, hk⟩ := h c
    refine ⟨h0.trans ((Read.val_main_v2_eq _ _).trans ?_), h1.trans ((Read.val_main_v26_eq _ _ _ _ _).trans ?_), h2.trans ((Read.val_main_v7_eq _ _ _).trans ?_), h3.trans ((Read.val_main_v13_eq _ _ _).trans ?_), hk⟩
    all_goals simp only [a0, a1, a2, a3, a4]

theorem claim : Cert.Claim := ⟨Cert.Kernel.Gen.facts, Cert.KernelIdeal.Gen.facts, Cert.ReferenceIdeal.Gen.facts,
  Cert.WOutGrad.Gen.facts, Cert.WOutGradIdeal.Gen.facts, Cert.WOutGradReferenceIdeal.Gen.facts, Cert.OutProjGrad.Gen.facts, Cert.OutProjGradIdeal.Gen.facts, Cert.OutProjGradReferenceIdeal.Gen.facts, Cert.InProjOdd.Gen.facts, Cert.InProjOddIdeal.Gen.facts, Cert.InProjOddReferenceIdeal.Gen.facts, Cert.InProjGrad.Gen.facts, Cert.InProjGradIdeal.Gen.facts, Cert.InProjGradReferenceIdeal.Gen.facts, Cert.LossHead.Gen.facts, Cert.LossHeadIdeal.Gen.facts, Cert.LossHeadReferenceIdeal.Gen.facts, Cert.AdamOut.Gen.facts, Cert.AdamOutIdeal.Gen.facts, Cert.AdamOutReferenceIdeal.Gen.facts, Cert.AdamIn.Gen.facts, Cert.AdamInIdeal.Gen.facts, Cert.AdamInReferenceIdeal.Gen.facts, Cert.AdamAda.Gen.facts, Cert.AdamAdaIdeal.Gen.facts, Cert.AdamAdaReferenceIdeal.Gen.facts,
  Cert.Pre_finite.Gen.facts,
  frame_p, frame_i, fun m ρ _ => frame_i m ρ trivial, frame_r, fun m ρ _ => frame_r m ρ trivial,
  fun m ρ _ => Cert.WOutGrad.Gen.frame m ρ, fun m ρ _ => Cert.WOutGradIdeal.Gen.frame m ρ, frame_w_out, fun m ρ _ => Cert.OutProjGrad.Gen.frame m ρ, fun m ρ _ => Cert.OutProjGradIdeal.Gen.frame m ρ, frame_out_proj, fun m ρ _ => Cert.InProjOdd.Gen.frame m ρ, fun m ρ _ => Cert.InProjOddIdeal.Gen.frame m ρ, frame_in_proj_odd, fun m ρ _ => Cert.InProjGrad.Gen.frame m ρ, fun m ρ _ => Cert.InProjGradIdeal.Gen.frame m ρ, frame_in_proj, fun m ρ _ => Cert.LossHead.Gen.frame m ρ, fun m ρ _ => Cert.LossHeadIdeal.Gen.frame m ρ, frame_loss_head, fun m ρ _ => Cert.AdamOut.Gen.frame m ρ, fun m ρ _ => Cert.AdamOutIdeal.Gen.frame m ρ, frame_adam_out, fun m ρ _ => Cert.AdamIn.Gen.frame m ρ, fun m ρ _ => Cert.AdamInIdeal.Gen.frame m ρ, frame_adam_in, fun m ρ _ => Cert.AdamAda.Gen.frame m ρ, fun m ρ _ => Cert.AdamAdaIdeal.Gen.frame m ρ, frame_adam_ada,
  trivial, value, trivial, value_w_out, trivial, value_out_proj, trivial, value_in_proj_odd, trivial, value_in_proj, trivial, value_loss_head, trivial, value_adam_out, trivial, value_adam_in, trivial, value_adam_ada⟩

end Cert.Proof

end
